-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7x1536x8192 : Shape := ⟨3, ![7, 1536, 8192]⟩
abbrev S7x24x8192x2 : Shape := ⟨4, ![7, 24, 8192, 2]⟩
abbrev S7x24x2x8192 : Shape := ⟨4, ![7, 24, 2, 8192]⟩
abbrev S168x2x8192 : Shape := ⟨3, ![168, 2, 8192]⟩
abbrev S7x4096x3072 : Shape := ⟨3, ![7, 4096, 3072]⟩
abbrev S9x1536x2048 : Shape := ⟨3, ![9, 1536, 2048]⟩
abbrev S8x1024x3072 : Shape := ⟨3, ![8, 1024, 3072]⟩
abbrev S84x2x8192 : Shape := ⟨3, ![84, 2, 8192]⟩
abbrev S9 : Shape := ⟨1, ![9]⟩
abbrev S8 : Shape := ⟨1, ![8]⟩
abbrev S_ : Shape := ⟨0, ![]⟩
abbrev S1 : Shape := ⟨1, ![1]⟩
abbrev S1x1536x2048 : Shape := ⟨3, ![1, 1536, 2048]⟩
abbrev S1536x2048 : Shape := ⟨2, ![1536, 2048]⟩
abbrev S1x1024x3072 : Shape := ⟨3, ![1, 1024, 3072]⟩
abbrev S1024x3072 : Shape := ⟨2, ![1024, 3072]⟩
abbrev S1536x512 : Shape := ⟨2, ![1536, 512]⟩
abbrev S64x128 : Shape := ⟨2, ![64, 128]⟩
abbrev S64x1x128 : Shape := ⟨3, ![64, 1, 128]⟩
abbrev S64x2x128 : Shape := ⟨3, ![64, 2, 128]⟩
abbrev S128x128 : Shape := ⟨2, ![128, 128]⟩
abbrev S32x128 : Shape := ⟨2, ![32, 128]⟩
abbrev S256x3072 : Shape := ⟨2, ![256, 3072]⟩
abbrev S1x64x128 : Shape := ⟨3, ![1, 64, 128]⟩
abbrev S7x8192x24x2 : Shape := ⟨4, ![7, 8192, 24, 2]⟩

abbrev nBuf : Space → Nat
  | .hbm => 8
  | .vmem => 3
  | .smem => 0
  | _ => 0

abbrev bufTy : (tb : Table) → Fin (tcTables nBuf tb) → BufTy
  | .hbm, ⟨0, _⟩ => ⟨S7x1536x8192, .i8⟩
  | .hbm, ⟨1, _⟩ => ⟨S7x24x8192x2, .f32⟩
  | .hbm, ⟨2, _⟩ => ⟨S7x24x2x8192, .f32⟩
  | .hbm, ⟨3, _⟩ => ⟨S168x2x8192, .f32⟩
  | .hbm, ⟨4, _⟩ => ⟨S7x4096x3072, .i8⟩
  | .hbm, ⟨5, _⟩ => ⟨S168x2x8192, .f32⟩
  | .hbm, ⟨6, _⟩ => ⟨S7x24x2x8192, .f32⟩
  | .hbm, ⟨7, _⟩ => ⟨S7x8192x24x2, .f32⟩
  | .local _ .vmem, ⟨0, _⟩ => ⟨S9x1536x2048, .i8⟩
  | .local _ .vmem, ⟨1, _⟩ => ⟨S8x1024x3072, .i8⟩
  | .local _ .vmem, ⟨2, _⟩ => ⟨S84x2x8192, .f32⟩
  | _, _ => ⟨S7x1536x8192, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c4_i32_2 : BitVec 32 := 4#32
  let v5 : BitVec 32 := Scalar.remsi v1 c4_i32_2
  let c2048_i32 : BitVec 32 := 2048#32
  let v6 : BitVec 32 := Scalar.muli v5 c2048_i32
  v6
def k0_off1 (k0_t1 : Fin k0_t1_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c9_i32 : BitVec 32 := 9#32
  let v8 : BitVec 32 := Scalar.remsi v1 c9_i32
  ![v8.toNat]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c9_i32 : BitVec 32 := 9#32
  let v8 : BitVec 32 := Scalar.remsi v1 c9_i32
  let c0_i32_3 : BitVec 32 := 0#32
  let c0_i32_4 : BitVec 32 := 0#32
  ![v8.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c4_i32 : BitVec 32 := 4#32
  let v4 : BitVec 32 := Scalar.divsi v1 c4_i32
  let c0_i32_5 : BitVec 32 := 0#32
  let c4_i32_2 : BitVec 32 := 4#32
  let v5 : BitVec 32 := Scalar.remsi v1 c4_i32_2
  let c2048_i32 : BitVec 32 := 2048#32
  let v6 : BitVec 32 := Scalar.muli v5 c2048_i32
  let v7 : BitVec 32 := v6
  ![v4.toNat, 0, v7.toNat]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let c84_i32 : BitVec 32 := 84#32
  let v2 : BitVec 32 := Scalar.muli arg11 c84_i32
  let c0_i32_6 : BitVec 32 := 0#32
  let c0_i32_7 : BitVec 32 := 0#32
  ![v2.toNat, 0, 0]
@[reducible] def k0_t2_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let c1_i32_10 : BitVec 32 := 1#32
  ⟨v16, v22, c1_i32_10⟩
def k0_mult2 (k0_t1 : Fin k0_t1_loop.trips) (k0_t2 : Fin (k0_t2_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c1_i32_10 : BitVec 32 := 1#32
  let arg12 : BitVec 32 := Scf.iv v16 c1_i32_10 k0_t2
  let c4_i32_33 : BitVec 32 := 4#32
  let v47 : BitVec 32 := Scalar.remsi arg12 c4_i32_33
  let c2048_i32_34 : BitVec 32 := 2048#32
  let v48 : BitVec 32 := Scalar.muli v47 c2048_i32_34
  v48
def k0_off5 (k0_t1 : Fin k0_t1_loop.trips) (k0_t2 : Fin (k0_t2_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c1_i32_10 : BitVec 32 := 1#32
  let arg12 : BitVec 32 := Scf.iv v16 c1_i32_10 k0_t2
  let c9_i32_35 : BitVec 32 := 9#32
  let v50 : BitVec 32 := Scalar.remsi arg12 c9_i32_35
  ![v50.toNat]
def k0_off6 (k0_t1 : Fin k0_t1_loop.trips) (k0_t2 : Fin (k0_t2_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c1_i32_10 : BitVec 32 := 1#32
  let arg12 : BitVec 32 := Scf.iv v16 c1_i32_10 k0_t2
  let c9_i32_35 : BitVec 32 := 9#32
  let v50 : BitVec 32 := Scalar.remsi arg12 c9_i32_35
  let c0_i32_36 : BitVec 32 := 0#32
  let c0_i32_37 : BitVec 32 := 0#32
  ![v50.toNat, 0, 0]
def k0_off7 (k0_t1 : Fin k0_t1_loop.trips) (k0_t2 : Fin (k0_t2_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c1_i32_10 : BitVec 32 := 1#32
  let arg12 : BitVec 32 := Scf.iv v16 c1_i32_10 k0_t2
  let c4_i32_32 : BitVec 32 := 4#32
  let v46 : BitVec 32 := Scalar.divsi arg12 c4_i32_32
  let c0_i32_38 : BitVec 32 := 0#32
  let c4_i32_33 : BitVec 32 := 4#32
  let v47 : BitVec 32 := Scalar.remsi arg12 c4_i32_33
  let c2048_i32_34 : BitVec 32 := 2048#32
  let v48 : BitVec 32 := Scalar.muli v47 c2048_i32_34
  let v49 : BitVec 32 := v48
  ![v46.toNat, 0, v49.toNat]
@[reducible] def k0_t3_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let v19 : BitVec 32 := Scalar.addi v16 v18
  let c1_i32_11 : BitVec 32 := 1#32
  ⟨v22, v19, c1_i32_11⟩
def k0_mult3 (k0_t1 : Fin k0_t1_loop.trips) (k0_t3 : Fin (k0_t3_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let c1_i32_11 : BitVec 32 := 1#32
  let arg12 : BitVec 32 := Scf.iv v22 c1_i32_11 k0_t3
  let c4_i32_33 : BitVec 32 := 4#32
  let v47 : BitVec 32 := Scalar.remsi arg12 c4_i32_33
  let c2048_i32_34 : BitVec 32 := 2048#32
  let v48 : BitVec 32 := Scalar.muli v47 c2048_i32_34
  v48
def k0_off8 (k0_t1 : Fin k0_t1_loop.trips) (k0_t3 : Fin (k0_t3_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let c1_i32_11 : BitVec 32 := 1#32
  let arg12 : BitVec 32 := Scf.iv v22 c1_i32_11 k0_t3
  let c9_i32_35 : BitVec 32 := 9#32
  let v50 : BitVec 32 := Scalar.remsi arg12 c9_i32_35
  ![v50.toNat]
def k0_off9 (k0_t1 : Fin k0_t1_loop.trips) (k0_t3 : Fin (k0_t3_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let c1_i32_11 : BitVec 32 := 1#32
  let arg12 : BitVec 32 := Scf.iv v22 c1_i32_11 k0_t3
  let c9_i32_35 : BitVec 32 := 9#32
  let v50 : BitVec 32 := Scalar.remsi arg12 c9_i32_35
  let c0_i32_36 : BitVec 32 := 0#32
  let c0_i32_37 : BitVec 32 := 0#32
  ![v50.toNat, 0, 0]
def k0_off10 (k0_t1 : Fin k0_t1_loop.trips) (k0_t3 : Fin (k0_t3_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_8 : BitVec 32 := 1#32
  let v16 : BitVec 32 := Scalar.addi v1 c1_i32_8
  let c8_i32 : BitVec 32 := 8#32
  let v17 : BitVec 32 := Scalar.addi v16 c8_i32
  let v18 : BitVec 32 := Scalar.subi v17 v16
  let c1_i32_9 : BitVec 32 := 1#32
  let v20 : BitVec 32 := Scalar.divsi v18 c1_i32_9
  let v21 : BitVec 32 := Scalar.muli v20 c1_i32_9
  let v22 : BitVec 32 := Scalar.addi v16 v21
  let c1_i32_11 : BitVec 32 := 1#32
  let arg12 : BitVec 32 := Scf.iv v22 c1_i32_11 k0_t3
  let c4_i32_32 : BitVec 32 := 4#32
  let v46 : BitVec 32 := Scalar.divsi arg12 c4_i32_32
  let c0_i32_38 : BitVec 32 := 0#32
  let c4_i32_33 : BitVec 32 := 4#32
  let v47 : BitVec 32 := Scalar.remsi arg12 c4_i32_33
  let c2048_i32_34 : BitVec 32 := 2048#32
  let v48 : BitVec 32 := Scalar.muli v47 c2048_i32_34
  let v49 : BitVec 32 := v48
  ![v46.toNat, 0, v49.toNat]
@[reducible] def k0_t4_loop : Scf.Loop 32 :=
  let c0_i32_12 : BitVec 32 := 0#32
  let c14_i32_13 : BitVec 32 := 14#32
  let v23 : BitVec 32 := Scalar.addi c0_i32_12 c14_i32_13
  let c1_i32_14 : BitVec 32 := 1#32
  ⟨c0_i32_12, v23, c1_i32_14⟩
def k0_cond1 (k0_t4 : Fin k0_t4_loop.trips) : BitVec 1 :=
  let c0_i32_12 : BitVec 32 := 0#32
  let c1_i32_14 : BitVec 32 := 1#32
  let arg12 : BitVec 32 := Scf.iv c0_i32_12 c1_i32_14 k0_t4
  let c1_i32_32 : BitVec 32 := 1#32
  let v47 : BitVec 1 := Scalar.cmpi .sge arg12 c1_i32_32
  let c5_i32 : BitVec 32 := 5#32
  let v48 : BitVec 1 := Scalar.cmpi .sle arg12 c5_i32
  let v49 : BitVec 1 := Scalar.andi v47 v48
  let v50 : BitVec 32 := Scalar.extui v49
  let c0_i32_33 : BitVec 32 := 0#32
  let v51 : BitVec 1 := Scalar.cmpi .ne v50 c0_i32_33
  v51

def k0_mult4 (k0_t1 : Fin k0_t1_loop.trips) (k0_t4 : Fin k0_t4_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c9_i32_54 : BitVec 32 := 9#32
  let v76 : BitVec 32 := Scalar.addi v75 c9_i32_54
  let c4_i32_56 : BitVec 32 := 4#32
  let v78 : BitVec 32 := Scalar.remsi v76 c4_i32_56
  let c2048_i32_57 : BitVec 32 := 2048#32
  let v79 : BitVec 32 := Scalar.muli v78 c2048_i32_57
  v79
def k0_off11 (k0_t1 : Fin k0_t1_loop.trips) (k0_t4 : Fin k0_t4_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c9_i32_54 : BitVec 32 := 9#32
  let v76 : BitVec 32 := Scalar.addi v75 c9_i32_54
  let c9_i32_58 : BitVec 32 := 9#32
  let v81 : BitVec 32 := Scalar.remsi v76 c9_i32_58
  ![v81.toNat]
def k0_off12 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c9_i32_54 : BitVec 32 := 9#32
  let v76 : BitVec 32 := Scalar.addi v75 c9_i32_54
  let c9_i32_58 : BitVec 32 := 9#32
  let v81 : BitVec 32 := Scalar.remsi v76 c9_i32_58
  let c0_i32_59 : BitVec 32 := 0#32
  let c0_i32_60 : BitVec 32 := 0#32
  ![v81.toNat, 0, 0]
def k0_off13 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c9_i32_54 : BitVec 32 := 9#32
  let v76 : BitVec 32 := Scalar.addi v75 c9_i32_54
  let c4_i32_55 : BitVec 32 := 4#32
  let v77 : BitVec 32 := Scalar.divsi v76 c4_i32_55
  let c0_i32_61 : BitVec 32 := 0#32
  let c4_i32_56 : BitVec 32 := 4#32
  let v78 : BitVec 32 := Scalar.remsi v76 c4_i32_56
  let c2048_i32_57 : BitVec 32 := 2048#32
  let v79 : BitVec 32 := Scalar.muli v78 c2048_i32_57
  let v80 : BitVec 32 := v79
  ![v77.toNat, 0, v80.toNat]
def k0_cond2 (k0_t4 : Fin k0_t4_loop.trips) : BitVec 1 :=
  let c0_i32_12 : BitVec 32 := 0#32
  let c1_i32_14 : BitVec 32 := 1#32
  let arg12 : BitVec 32 := Scf.iv c0_i32_12 c1_i32_14 k0_t4
  let c8_i32_34 : BitVec 32 := 8#32
  let v52 : BitVec 1 := Scalar.cmpi .eq arg12 c8_i32_34
  let v53 : BitVec 32 := Scalar.extui v52
  let c0_i32_35 : BitVec 32 := 0#32
  let v54 : BitVec 1 := Scalar.cmpi .ne v53 c0_i32_35
  v54

@[reducible] def k0_t5_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let c1_i32_55 : BitVec 32 := 1#32
  ⟨v1, v80, c1_i32_55⟩
def k0_mult5 (k0_t1 : Fin k0_t1_loop.trips) (k0_t5 : Fin (k0_t5_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_55 : BitVec 32 := 1#32
  let arg13 : BitVec 32 := Scf.iv v1 c1_i32_55 k0_t5
  let c4_i32_62 : BitVec 32 := 4#32
  let v84 : BitVec 32 := Scalar.remsi arg13 c4_i32_62
  let c1024_i32_63 : BitVec 32 := 1024#32
  let v85 : BitVec 32 := Scalar.muli v84 c1024_i32_63
  v85
def k0_off14 (k0_t1 : Fin k0_t1_loop.trips) (k0_t5 : Fin (k0_t5_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_55 : BitVec 32 := 1#32
  let arg13 : BitVec 32 := Scf.iv v1 c1_i32_55 k0_t5
  let c8_i32_64 : BitVec 32 := 8#32
  let v87 : BitVec 32 := Scalar.remsi arg13 c8_i32_64
  ![v87.toNat]
def k0_off15 (k0_t1 : Fin k0_t1_loop.trips) (k0_t5 : Fin (k0_t5_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_55 : BitVec 32 := 1#32
  let arg13 : BitVec 32 := Scf.iv v1 c1_i32_55 k0_t5
  let c4_i32_61 : BitVec 32 := 4#32
  let v83 : BitVec 32 := Scalar.divsi arg13 c4_i32_61
  let c4_i32_62 : BitVec 32 := 4#32
  let v84 : BitVec 32 := Scalar.remsi arg13 c4_i32_62
  let c1024_i32_63 : BitVec 32 := 1024#32
  let v85 : BitVec 32 := Scalar.muli v84 c1024_i32_63
  let v86 : BitVec 32 := v85
  let c0_i32_65 : BitVec 32 := 0#32
  ![v83.toNat, v86.toNat, 0]
def k0_off16 (k0_t1 : Fin k0_t1_loop.trips) (k0_t5 : Fin (k0_t5_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c1_i32_55 : BitVec 32 := 1#32
  let arg13 : BitVec 32 := Scf.iv v1 c1_i32_55 k0_t5
  let c8_i32_64 : BitVec 32 := 8#32
  let v87 : BitVec 32 := Scalar.remsi arg13 c8_i32_64
  let c0_i32_66 : BitVec 32 := 0#32
  let c0_i32_67 : BitVec 32 := 0#32
  ![v87.toNat, 0, 0]
@[reducible] def k0_t6_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let v77 : BitVec 32 := Scalar.addi v1 v76
  let c1_i32_56 : BitVec 32 := 1#32
  ⟨v80, v77, c1_i32_56⟩
def k0_mult6 (k0_t1 : Fin k0_t1_loop.trips) (k0_t6 : Fin (k0_t6_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let c1_i32_56 : BitVec 32 := 1#32
  let arg13 : BitVec 32 := Scf.iv v80 c1_i32_56 k0_t6
  let c4_i32_62 : BitVec 32 := 4#32
  let v84 : BitVec 32 := Scalar.remsi arg13 c4_i32_62
  let c1024_i32_63 : BitVec 32 := 1024#32
  let v85 : BitVec 32 := Scalar.muli v84 c1024_i32_63
  v85
def k0_off17 (k0_t1 : Fin k0_t1_loop.trips) (k0_t6 : Fin (k0_t6_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let c1_i32_56 : BitVec 32 := 1#32
  let arg13 : BitVec 32 := Scf.iv v80 c1_i32_56 k0_t6
  let c8_i32_64 : BitVec 32 := 8#32
  let v87 : BitVec 32 := Scalar.remsi arg13 c8_i32_64
  ![v87.toNat]
def k0_off18 (k0_t1 : Fin k0_t1_loop.trips) (k0_t6 : Fin (k0_t6_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let c1_i32_56 : BitVec 32 := 1#32
  let arg13 : BitVec 32 := Scf.iv v80 c1_i32_56 k0_t6
  let c4_i32_61 : BitVec 32 := 4#32
  let v83 : BitVec 32 := Scalar.divsi arg13 c4_i32_61
  let c4_i32_62 : BitVec 32 := 4#32
  let v84 : BitVec 32 := Scalar.remsi arg13 c4_i32_62
  let c1024_i32_63 : BitVec 32 := 1024#32
  let v85 : BitVec 32 := Scalar.muli v84 c1024_i32_63
  let v86 : BitVec 32 := v85
  let c0_i32_65 : BitVec 32 := 0#32
  ![v83.toNat, v86.toNat, 0]
def k0_off19 (k0_t1 : Fin k0_t1_loop.trips) (k0_t6 : Fin (k0_t6_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c8_i32_53 : BitVec 32 := 8#32
  let v75 : BitVec 32 := Scalar.addi v1 c8_i32_53
  let v76 : BitVec 32 := Scalar.subi v75 v1
  let c1_i32_54 : BitVec 32 := 1#32
  let v78 : BitVec 32 := Scalar.divsi v76 c1_i32_54
  let v79 : BitVec 32 := Scalar.muli v78 c1_i32_54
  let v80 : BitVec 32 := Scalar.addi v1 v79
  let c1_i32_56 : BitVec 32 := 1#32
  let arg13 : BitVec 32 := Scf.iv v80 c1_i32_56 k0_t6
  let c8_i32_64 : BitVec 32 := 8#32
  let v87 : BitVec 32 := Scalar.remsi arg13 c8_i32_64
  let c0_i32_66 : BitVec 32 := 0#32
  let c0_i32_67 : BitVec 32 := 0#32
  ![v87.toNat, 0, 0]
def k0_off20 (k0_t1 : Fin k0_t1_loop.trips) : Fin 3 → Nat :=
  let c0_i32 : BitVec 32 := 0#32
  let c1_i32 : BitVec 32 := 1#32
  let arg11 : BitVec 32 := Scf.iv c0_i32 c1_i32 k0_t1
  let c84_i32 : BitVec 32 := 84#32
  let v2 : BitVec 32 := Scalar.muli arg11 c84_i32
  let c0_i32_57 : BitVec 32 := 0#32
  let c0_i32_58 : BitVec 32 := 0#32
  ![v2.toNat, 0, 0]
def k0_cond3 (k0_t4 : Fin k0_t4_loop.trips) : BitVec 1 :=
  let c0_i32_12 : BitVec 32 := 0#32
  let c1_i32_14 : BitVec 32 := 1#32
  let arg12 : BitVec 32 := Scf.iv c0_i32_12 c1_i32_14 k0_t4
  let c8_i32_36 : BitVec 32 := 8#32
  let v55 : BitVec 1 := Scalar.cmpi .sgt arg12 c8_i32_36
  let v56 : BitVec 32 := Scalar.extui v55
  let c0_i32_37 : BitVec 32 := 0#32
  let v57 : BitVec 1 := Scalar.cmpi .ne v56 c0_i32_37
  v57

def k0_mult7 (k0_t1 : Fin k0_t1_loop.trips) (k0_t4 : Fin k0_t4_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c4_i32_55 : BitVec 32 := 4#32
  let v77 : BitVec 32 := Scalar.remsi v75 c4_i32_55
  let c1024_i32_56 : BitVec 32 := 1024#32
  let v78 : BitVec 32 := Scalar.muli v77 c1024_i32_56
  v78
def k0_off21 (k0_t1 : Fin k0_t1_loop.trips) (k0_t4 : Fin k0_t4_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c8_i32_57 : BitVec 32 := 8#32
  let v80 : BitVec 32 := Scalar.remsi v75 c8_i32_57
  ![v80.toNat]
def k0_off22 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c4_i32_54 : BitVec 32 := 4#32
  let v76 : BitVec 32 := Scalar.divsi v75 c4_i32_54
  let c4_i32_55 : BitVec 32 := 4#32
  let v77 : BitVec 32 := Scalar.remsi v75 c4_i32_55
  let c1024_i32_56 : BitVec 32 := 1024#32
  let v78 : BitVec 32 := Scalar.muli v77 c1024_i32_56
  let v79 : BitVec 32 := v78
  let c0_i32_58 : BitVec 32 := 0#32
  ![v76.toNat, v79.toNat, 0]
def k0_off23 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c1_i32_53 : BitVec 32 := 1#32
  let v75 : BitVec 32 := Scalar.subi v46 c1_i32_53
  let c8_i32_57 : BitVec 32 := 8#32
  let v80 : BitVec 32 := Scalar.remsi v75 c8_i32_57
  let c0_i32_59 : BitVec 32 := 0#32
  let c0_i32_60 : BitVec 32 := 0#32
  ![v80.toNat, 0, 0]
def k0_mult8 (k0_t1 : Fin k0_t1_loop.trips) (k0_t4 : Fin k0_t4_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c4_i32_39 : BitVec 32 := 4#32
  let v59 : BitVec 32 := Scalar.remsi v46 c4_i32_39
  let c2048_i32_40 : BitVec 32 := 2048#32
  let v60 : BitVec 32 := Scalar.muli v59 c2048_i32_40
  v60
def k0_off24 (k0_t1 : Fin k0_t1_loop.trips) (k0_t4 : Fin k0_t4_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c9_i32_41 : BitVec 32 := 9#32
  let v62 : BitVec 32 := Scalar.remsi v46 c9_i32_41
  ![v62.toNat]
def k0_off25 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c9_i32_41 : BitVec 32 := 9#32
  let v62 : BitVec 32 := Scalar.remsi v46 c9_i32_41
  let c0_i32_42 : BitVec 32 := 0#32
  let c0_i32_43 : BitVec 32 := 0#32
  ![v62.toNat, 0, 0]
def k0_off26 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c4_i32_38 : BitVec 32 := 4#32
  let v58 : BitVec 32 := Scalar.divsi v46 c4_i32_38
  let c0_i32_44 : BitVec 32 := 0#32
  let c4_i32_39 : BitVec 32 := 4#32
  let v59 : BitVec 32 := Scalar.remsi v46 c4_i32_39
  let c2048_i32_40 : BitVec 32 := 2048#32
  let v60 : BitVec 32 := Scalar.muli v59 c2048_i32_40
  let v61 : BitVec 32 := v60
  ![v58.toNat, 0, v61.toNat]
def k0_cond4 (k0_t4 : Fin k0_t4_loop.trips) : BitVec 1 :=
  let c0_i32_12 : BitVec 32 := 0#32
  let c1_i32_14 : BitVec 32 := 1#32
  let arg12 : BitVec 32 := Scf.iv c0_i32_12 c1_i32_14 k0_t4
  let c8_i32_45 : BitVec 32 := 8#32
  let v69 : BitVec 1 := Scalar.cmpi .sge arg12 c8_i32_45
  let v70 : BitVec 32 := Scalar.extui v69
  let c0_i32_46 : BitVec 32 := 0#32
  let v71 : BitVec 1 := Scalar.cmpi .ne v70 c0_i32_46
  v71

def k0_mult9 (k0_t1 : Fin k0_t1_loop.trips) (k0_t4 : Fin k0_t4_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_53 : BitVec 32 := 8#32
  let v75 : BitVec 32 := Scalar.subi v46 c8_i32_53
  let c4_i32_55 : BitVec 32 := 4#32
  let v77 : BitVec 32 := Scalar.remsi v75 c4_i32_55
  let c1024_i32_56 : BitVec 32 := 1024#32
  let v78 : BitVec 32 := Scalar.muli v77 c1024_i32_56
  v78
def k0_off27 (k0_t1 : Fin k0_t1_loop.trips) (k0_t4 : Fin k0_t4_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_53 : BitVec 32 := 8#32
  let v75 : BitVec 32 := Scalar.subi v46 c8_i32_53
  let c8_i32_57 : BitVec 32 := 8#32
  let v80 : BitVec 32 := Scalar.remsi v75 c8_i32_57
  ![v80.toNat]
def k0_off28 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_53 : BitVec 32 := 8#32
  let v75 : BitVec 32 := Scalar.subi v46 c8_i32_53
  let c4_i32_54 : BitVec 32 := 4#32
  let v76 : BitVec 32 := Scalar.divsi v75 c4_i32_54
  let c4_i32_55 : BitVec 32 := 4#32
  let v77 : BitVec 32 := Scalar.remsi v75 c4_i32_55
  let c1024_i32_56 : BitVec 32 := 1024#32
  let v78 : BitVec 32 := Scalar.muli v77 c1024_i32_56
  let v79 : BitVec 32 := v78
  let c0_i32_58 : BitVec 32 := 0#32
  ![v76.toNat, v79.toNat, 0]
def k0_off29 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_53 : BitVec 32 := 8#32
  let v75 : BitVec 32 := Scalar.subi v46 c8_i32_53
  let c8_i32_57 : BitVec 32 := 8#32
  let v80 : BitVec 32 := Scalar.remsi v75 c8_i32_57
  let c0_i32_59 : BitVec 32 := 0#32
  let c0_i32_60 : BitVec 32 := 0#32
  ![v80.toNat, 0, 0]
@[reducible] def k0_t7_loop : Scf.Loop 32 :=
  let c0_i32_49 : BitVec 32 := 0#32
  let c4_i32_50 : BitVec 32 := 4#32
  let v74 : BitVec 32 := Scalar.addi c0_i32_49 c4_i32_50
  let c1_i32_51 : BitVec 32 := 1#32
  ⟨c0_i32_49, v74, c1_i32_51⟩
def k0_mult10 (k0_t7 : Fin k0_t7_loop.trips) : BitVec 32 :=
  let c0_i32_49 : BitVec 32 := 0#32
  let c1_i32_51 : BitVec 32 := 1#32
  let arg13 : BitVec 32 := Scf.iv c0_i32_49 c1_i32_51 k0_t7
  let c512_i32 : BitVec 32 := 512#32
  let v75 : BitVec 32 := Scalar.muli arg13 c512_i32
  v75
def k0_mult11 (k0_t7 : Fin k0_t7_loop.trips) : BitVec 32 :=
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  v77
def k0_off30 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c9_i32_47 : BitVec 32 := 9#32
  let v72 : BitVec 32 := Scalar.remsi v46 c9_i32_47
  let c0_i32_53 : BitVec 32 := 0#32
  let c0_i32_54 : BitVec 32 := 0#32
  ![v72.toNat, 0, 0]
def k0_off31 (k0_t7 : Fin k0_t7_loop.trips) : Fin 2 → Nat :=
  let c0_i32_55 : BitVec 32 := 0#32
  let c0_i32_49 : BitVec 32 := 0#32
  let c1_i32_51 : BitVec 32 := 1#32
  let arg13 : BitVec 32 := Scf.iv c0_i32_49 c1_i32_51 k0_t7
  let c512_i32 : BitVec 32 := 512#32
  let v75 : BitVec 32 := Scalar.muli arg13 c512_i32
  let v76 : BitVec 32 := v75
  ![0, v76.toNat]
def k0_off32 (k0_t1 : Fin k0_t1_loop.trips) (k0_t4 : Fin k0_t4_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_71 : BitVec 32 := 0#32
  let c0_i32_72 : BitVec 32 := 0#32
  ![v73.toNat, 0, 0]
def k0_off33 (k0_t7 : Fin k0_t7_loop.trips) : Fin 2 → Nat :=
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  let c0_i32_73 : BitVec 32 := 0#32
  ![v78.toNat, 0]
def k0_off34 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  let c0_i32_72 : BitVec 32 := 0#32
  ![v73.toNat, v78.toNat, 0]
def k0_off35 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  let c0_i32_79 : BitVec 32 := 0#32
  ![v73.toNat, Nat.add v78.toNat 64, 0]
def k0_off36 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  let c0_i32_104 : BitVec 32 := 0#32
  ![v73.toNat, Nat.add v78.toNat 128, 0]
def k0_off37 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  let c0_i32_111 : BitVec 32 := 0#32
  ![v73.toNat, Nat.add v78.toNat 192, 0]
def k0_off38 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 128]
def k0_off39 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 128]
def k0_off40 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 128]
def k0_off41 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 128]
def k0_off42 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 256]
def k0_off43 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 256]
def k0_off44 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 256]
def k0_off45 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 256]
def k0_off46 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 384]
def k0_off47 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 384]
def k0_off48 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 384]
def k0_off49 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 384]
def k0_off50 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 512]
def k0_off51 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 512]
def k0_off52 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 512]
def k0_off53 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 512]
def k0_off54 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 640]
def k0_off55 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 640]
def k0_off56 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 640]
def k0_off57 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 640]
def k0_off58 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 768]
def k0_off59 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 768]
def k0_off60 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 768]
def k0_off61 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 768]
def k0_off62 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 896]
def k0_off63 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 896]
def k0_off64 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 896]
def k0_off65 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 896]
def k0_off66 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1024]
def k0_off67 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1024]
def k0_off68 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1024]
def k0_off69 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1024]
def k0_off70 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1152]
def k0_off71 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1152]
def k0_off72 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1152]
def k0_off73 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1152]
def k0_off74 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1280]
def k0_off75 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1280]
def k0_off76 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1280]
def k0_off77 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1280]
def k0_off78 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1408]
def k0_off79 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1408]
def k0_off80 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1408]
def k0_off81 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1408]
def k0_off82 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1536]
def k0_off83 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1536]
def k0_off84 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1536]
def k0_off85 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1536]
def k0_off86 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1664]
def k0_off87 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1664]
def k0_off88 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1664]
def k0_off89 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1664]
def k0_off90 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1792]
def k0_off91 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1792]
def k0_off92 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1792]
def k0_off93 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1792]
def k0_off94 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 1920]
def k0_off95 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 1920]
def k0_off96 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 1920]
def k0_off97 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 1920]
def k0_off98 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2048]
def k0_off99 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2048]
def k0_off100 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2048]
def k0_off101 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2048]
def k0_off102 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2176]
def k0_off103 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2176]
def k0_off104 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2176]
def k0_off105 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2176]
def k0_off106 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2304]
def k0_off107 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2304]
def k0_off108 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2304]
def k0_off109 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2304]
def k0_off110 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2432]
def k0_off111 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2432]
def k0_off112 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2432]
def k0_off113 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2432]
def k0_off114 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2560]
def k0_off115 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2560]
def k0_off116 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2560]
def k0_off117 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2560]
def k0_off118 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2688]
def k0_off119 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2688]
def k0_off120 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2688]
def k0_off121 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2688]
def k0_off122 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2816]
def k0_off123 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2816]
def k0_off124 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2816]
def k0_off125 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2816]
def k0_off126 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, v78.toNat, 2944]
def k0_off127 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 64, 2944]
def k0_off128 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 128, 2944]
def k0_off129 (k0_t1 : Fin k0_t1_loop.trips) (k0_t4 : Fin k0_t4_loop.trips) (k0_t7 : Fin k0_t7_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c0_i32_12 : BitVec 32 := 0#32
  let c1_i32_14 : BitVec 32 := 1#32
  let arg12 : BitVec 32 := Scf.iv c0_i32_12 c1_i32_14 k0_t4
  let v46 : BitVec 32 := Scalar.addi v1 arg12
  let c8_i32_48 : BitVec 32 := 8#32
  let v73 : BitVec 32 := Scalar.remsi v46 c8_i32_48
  let c0_i32_49 : BitVec 32 := 0#32
  let c1_i32_51 : BitVec 32 := 1#32
  let arg13 : BitVec 32 := Scf.iv c0_i32_49 c1_i32_51 k0_t7
  let c256_i32 : BitVec 32 := 256#32
  let v77 : BitVec 32 := Scalar.muli arg13 c256_i32
  let v78 : BitVec 32 := v77
  ![v73.toNat, Nat.add v78.toNat 192, 2944]
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_16 : BitVec 32 := 14#32
  let v24 : BitVec 32 := Scalar.addi v1 c14_i32_16
  let c1_i32_17 : BitVec 32 := 1#32
  let v25 : BitVec 32 := Scalar.subi v24 c1_i32_17
  let c4_i32_19 : BitVec 32 := 4#32
  let v27 : BitVec 32 := Scalar.remsi v25 c4_i32_19
  let c1024_i32 : BitVec 32 := 1024#32
  let v28 : BitVec 32 := Scalar.muli v27 c1024_i32
  v28
def k0_off130 (k0_t1 : Fin k0_t1_loop.trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_16 : BitVec 32 := 14#32
  let v24 : BitVec 32 := Scalar.addi v1 c14_i32_16
  let c1_i32_17 : BitVec 32 := 1#32
  let v25 : BitVec 32 := Scalar.subi v24 c1_i32_17
  let c8_i32_20 : BitVec 32 := 8#32
  let v30 : BitVec 32 := Scalar.remsi v25 c8_i32_20
  ![v30.toNat]
def k0_off131 (k0_t1 : Fin k0_t1_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_16 : BitVec 32 := 14#32
  let v24 : BitVec 32 := Scalar.addi v1 c14_i32_16
  let c1_i32_17 : BitVec 32 := 1#32
  let v25 : BitVec 32 := Scalar.subi v24 c1_i32_17
  let c4_i32_18 : BitVec 32 := 4#32
  let v26 : BitVec 32 := Scalar.divsi v25 c4_i32_18
  let c4_i32_19 : BitVec 32 := 4#32
  let v27 : BitVec 32 := Scalar.remsi v25 c4_i32_19
  let c1024_i32 : BitVec 32 := 1024#32
  let v28 : BitVec 32 := Scalar.muli v27 c1024_i32
  let v29 : BitVec 32 := v28
  let c0_i32_21 : BitVec 32 := 0#32
  ![v26.toNat, v29.toNat, 0]
def k0_off132 (k0_t1 : Fin k0_t1_loop.trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_16 : BitVec 32 := 14#32
  let v24 : BitVec 32 := Scalar.addi v1 c14_i32_16
  let c1_i32_17 : BitVec 32 := 1#32
  let v25 : BitVec 32 := Scalar.subi v24 c1_i32_17
  let c8_i32_20 : BitVec 32 := 8#32
  let v30 : BitVec 32 := Scalar.remsi v25 c8_i32_20
  let c0_i32_22 : BitVec 32 := 0#32
  let c0_i32_23 : BitVec 32 := 0#32
  ![v30.toNat, 0, 0]
@[reducible] def k0_t8_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_30 : BitVec 32 := 1#32
  ⟨v39, v45, c1_i32_30⟩
def k0_mult13 (k0_t1 : Fin k0_t1_loop.trips) (k0_t8 : Fin (k0_t8_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c1_i32_30 : BitVec 32 := 1#32
  let arg12 : BitVec 32 := Scf.iv v39 c1_i32_30 k0_t8
  let c4_i32_33 : BitVec 32 := 4#32
  let v47 : BitVec 32 := Scalar.remsi arg12 c4_i32_33
  let c1024_i32_34 : BitVec 32 := 1024#32
  let v48 : BitVec 32 := Scalar.muli v47 c1024_i32_34
  v48
def k0_off133 (k0_t1 : Fin k0_t1_loop.trips) (k0_t8 : Fin (k0_t8_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c1_i32_30 : BitVec 32 := 1#32
  let arg12 : BitVec 32 := Scf.iv v39 c1_i32_30 k0_t8
  let c8_i32_35 : BitVec 32 := 8#32
  let v50 : BitVec 32 := Scalar.remsi arg12 c8_i32_35
  ![v50.toNat]
def k0_off134 (k0_t1 : Fin k0_t1_loop.trips) (k0_t8 : Fin (k0_t8_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c1_i32_30 : BitVec 32 := 1#32
  let arg12 : BitVec 32 := Scf.iv v39 c1_i32_30 k0_t8
  let c4_i32_32 : BitVec 32 := 4#32
  let v46 : BitVec 32 := Scalar.divsi arg12 c4_i32_32
  let c4_i32_33 : BitVec 32 := 4#32
  let v47 : BitVec 32 := Scalar.remsi arg12 c4_i32_33
  let c1024_i32_34 : BitVec 32 := 1024#32
  let v48 : BitVec 32 := Scalar.muli v47 c1024_i32_34
  let v49 : BitVec 32 := v48
  let c0_i32_36 : BitVec 32 := 0#32
  ![v46.toNat, v49.toNat, 0]
def k0_off135 (k0_t1 : Fin k0_t1_loop.trips) (k0_t8 : Fin (k0_t8_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c1_i32_30 : BitVec 32 := 1#32
  let arg12 : BitVec 32 := Scf.iv v39 c1_i32_30 k0_t8
  let c8_i32_35 : BitVec 32 := 8#32
  let v50 : BitVec 32 := Scalar.remsi arg12 c8_i32_35
  let c0_i32_37 : BitVec 32 := 0#32
  let c0_i32_38 : BitVec 32 := 0#32
  ![v50.toNat, 0, 0]
@[reducible] def k0_t9_loop (k0_t1 : Fin k0_t1_loop.trips) : Scf.Loop 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let v42 : BitVec 32 := Scalar.addi v39 v41
  let c1_i32_31 : BitVec 32 := 1#32
  ⟨v45, v42, c1_i32_31⟩
def k0_mult14 (k0_t1 : Fin k0_t1_loop.trips) (k0_t9 : Fin (k0_t9_loop k0_t1).trips) : BitVec 32 :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg12 : BitVec 32 := Scf.iv v45 c1_i32_31 k0_t9
  let c4_i32_33 : BitVec 32 := 4#32
  let v47 : BitVec 32 := Scalar.remsi arg12 c4_i32_33
  let c1024_i32_34 : BitVec 32 := 1024#32
  let v48 : BitVec 32 := Scalar.muli v47 c1024_i32_34
  v48
def k0_off136 (k0_t1 : Fin k0_t1_loop.trips) (k0_t9 : Fin (k0_t9_loop k0_t1).trips) : Fin 1 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg12 : BitVec 32 := Scf.iv v45 c1_i32_31 k0_t9
  let c8_i32_35 : BitVec 32 := 8#32
  let v50 : BitVec 32 := Scalar.remsi arg12 c8_i32_35
  ![v50.toNat]
def k0_off137 (k0_t1 : Fin k0_t1_loop.trips) (k0_t9 : Fin (k0_t9_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg12 : BitVec 32 := Scf.iv v45 c1_i32_31 k0_t9
  let c4_i32_32 : BitVec 32 := 4#32
  let v46 : BitVec 32 := Scalar.divsi arg12 c4_i32_32
  let c4_i32_33 : BitVec 32 := 4#32
  let v47 : BitVec 32 := Scalar.remsi arg12 c4_i32_33
  let c1024_i32_34 : BitVec 32 := 1024#32
  let v48 : BitVec 32 := Scalar.muli v47 c1024_i32_34
  let v49 : BitVec 32 := v48
  let c0_i32_36 : BitVec 32 := 0#32
  ![v46.toNat, v49.toNat, 0]
def k0_off138 (k0_t1 : Fin k0_t1_loop.trips) (k0_t9 : Fin (k0_t9_loop k0_t1).trips) : Fin 3 → Nat :=
  let c0_i32 : BitVec 32 := 0#32
  let c1_i32 : BitVec 32 := 1#32
  let arg11 : BitVec 32 := Scf.iv c0_i32 c1_i32 k0_t1
  let c14_i32 : BitVec 32 := 14#32
  let v1 : BitVec 32 := Scalar.muli arg11 c14_i32
  let c14_i32_26 : BitVec 32 := 14#32
  let v38 : BitVec 32 := Scalar.addi v1 c14_i32_26
  let c8_i32_27 : BitVec 32 := 8#32
  let v39 : BitVec 32 := Scalar.subi v38 c8_i32_27
  let c8_i32_28 : BitVec 32 := 8#32
  let v40 : BitVec 32 := Scalar.addi v39 c8_i32_28
  let v41 : BitVec 32 := Scalar.subi v40 v39
  let c1_i32_29 : BitVec 32 := 1#32
  let v43 : BitVec 32 := Scalar.divsi v41 c1_i32_29
  let v44 : BitVec 32 := Scalar.muli v43 c1_i32_29
  let v45 : BitVec 32 := Scalar.addi v39 v44
  let c1_i32_31 : BitVec 32 := 1#32
  let arg12 : BitVec 32 := Scf.iv v45 c1_i32_31 k0_t9
  let c8_i32_35 : BitVec 32 := 8#32
  let v50 : BitVec 32 := Scalar.remsi arg12 c8_i32_35
  let c0_i32_37 : BitVec 32 := 0#32
  let c0_i32_38 : BitVec 32 := 0#32
  ![v50.toNat, 0, 0]
-- ==== ReferenceIdeal.lean ====
abbrev S7x1536x8192 : Shape := ⟨3, ![7, 1536, 8192]⟩
abbrev S7x24x8192x2 : Shape := ⟨4, ![7, 24, 8192, 2]⟩
abbrev S_ : Shape := ⟨0, ![]⟩
abbrev S7x1536x4096x2 : Shape := ⟨4, ![7, 1536, 4096, 2]⟩
abbrev S7x1536x4096x1 : Shape := ⟨4, ![7, 1536, 4096, 1]⟩
abbrev S7x1536x4096 : Shape := ⟨3, ![7, 1536, 4096]⟩
abbrev S7x4096x1536x2 : Shape := ⟨4, ![7, 4096, 1536, 2]⟩
abbrev S7x4096x3072 : Shape := ⟨3, ![7, 4096, 3072]⟩
abbrev S7x8192x24x2 : Shape := ⟨4, ![7, 8192, 24, 2]⟩

abbrev nBuf : Space → Nat
  | .hbm => 34
  | .vmem => 0
  | .smem => 0
  | _ => 0

abbrev bufTy : (tb : Table) → Fin (tcTables nBuf tb) → BufTy
  | .hbm, ⟨0, _⟩ => ⟨S7x1536x8192, .i8⟩
  | .hbm, ⟨1, _⟩ => ⟨S7x24x8192x2, .f32⟩
  | .hbm, ⟨2, _⟩ => ⟨S7x1536x8192, .i32⟩
  | .hbm, ⟨3, _⟩ => ⟨S_, .i32⟩
  | .hbm, ⟨4, _⟩ => ⟨S7x1536x8192, .i32⟩
  | .hbm, ⟨5, _⟩ => ⟨S7x1536x8192, .i32⟩
  | .hbm, ⟨6, _⟩ => ⟨S_, .i32⟩
  | .hbm, ⟨7, _⟩ => ⟨S7x1536x8192, .i32⟩
  | .hbm, ⟨8, _⟩ => ⟨S7x1536x8192, .i32⟩
  | .hbm, ⟨9, _⟩ => ⟨S7x1536x4096x2, .i32⟩
  | .hbm, ⟨10, _⟩ => ⟨S7x1536x4096x1, .i32⟩
  | .hbm, ⟨11, _⟩ => ⟨S7x1536x4096, .i32⟩
  | .hbm, ⟨12, _⟩ => ⟨S7x1536x4096x1, .i32⟩
  | .hbm, ⟨13, _⟩ => ⟨S7x1536x4096, .i32⟩
  | .hbm, ⟨14, _⟩ => ⟨S_, .i32⟩
  | .hbm, ⟨15, _⟩ => ⟨S7x1536x4096, .i32⟩
  | .hbm, ⟨16, _⟩ => ⟨S7x1536x4096, .i32⟩
  | .hbm, ⟨17, _⟩ => ⟨S7x1536x4096, .i32⟩
  | .hbm, ⟨18, _⟩ => ⟨S7x1536x4096x2, .i32⟩
  | .hbm, ⟨19, _⟩ => ⟨S7x1536x4096x1, .i32⟩
  | .hbm, ⟨20, _⟩ => ⟨S7x1536x4096, .i32⟩
  | .hbm, ⟨21, _⟩ => ⟨S7x1536x4096x1, .i32⟩
  | .hbm, ⟨22, _⟩ => ⟨S7x1536x4096, .i32⟩
  | .hbm, ⟨23, _⟩ => ⟨S_, .i32⟩
  | .hbm, ⟨24, _⟩ => ⟨S7x1536x4096, .i32⟩
  | .hbm, ⟨25, _⟩ => ⟨S7x1536x4096, .i32⟩
  | .hbm, ⟨26, _⟩ => ⟨S7x1536x4096, .i32⟩
  | .hbm, ⟨27, _⟩ => ⟨S7x1536x4096x1, .i32⟩
  | .hbm, ⟨28, _⟩ => ⟨S7x1536x4096x1, .i32⟩
  | .hbm, ⟨29, _⟩ => ⟨S7x1536x4096x2, .i32⟩
  | .hbm, ⟨30, _⟩ => ⟨S7x4096x1536x2, .i32⟩
  | .hbm, ⟨31, _⟩ => ⟨S7x4096x3072, .i32⟩
  | .hbm, ⟨32, _⟩ => ⟨S7x4096x3072, .i8⟩
  | .hbm, ⟨33, _⟩ => ⟨S7x8192x24x2, .f32⟩
  | _, _ => ⟨S7x1536x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.Kernel.Names.lean ====
/-
  NAMES. The kernel moves 28 blocks of the packed weights through a ring of nine input slots, writes each block's
  repacked form into a ring of eight output slots, and copies it to its place in the result; the scales pass through a
  single buffer in two halves. Here each slice that a copy, a wait, a load or a store names gets one canonical name:
  block, slot or semaphore cell, at the closed form of the offsets the kernel computes.
-/
module

public import proofs.«01_k».proof.Defs
public import proofs.«01_k».proof.Proof.Gen.Kernel.Loops
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev wM : Memref sig .tc .hbm S7x1536x8192 .i8 := Memref.whole main_arg0
abbrev scM : Memref sig .tc .hbm S168x2x8192 .f32 := Memref.whole main_v1
abbrev tM : Memref sig .tc .hbm S7x4096x3072 .i8 := Memref.whole main_v2_0
abbrev tsM : Memref sig .tc .hbm S168x2x8192 .f32 := Memref.whole main_v2_1
abbrev wbM : Memref sig .tc .vmem S9x1536x2048 .i8 := Memref.whole cc0_scratch0
abbrev tbM : Memref sig .tc .vmem S8x1024x3072 .i8 := Memref.whole cc0_scratch1
abbrev sbM : Memref sig .tc .vmem S84x2x8192 .f32 := Memref.whole cc0_scratch2

abbrev iblkOff (b : Fin 28) : Fin 3 → Nat := ![b.val / 4, 0, b.val % 4 * 2048]
theorem iblkOff_inb (b : Fin 28) : ∀ a, iblkOff b a + S1x1536x2048.size a ≤ S7x1536x8192.size a := by
  have := b.isLt; intro a; fin_cases a
  · show b.val / 4 + 1 ≤ 7; omega
  · show 0 + 1536 ≤ 1536; omega
  · show b.val % 4 * 2048 + 2048 ≤ 8192; omega
instance (b : Fin 28) : ClosedOff (iblkOff b) := ⟨iblkOff b, rfl⟩
abbrev oblkOff (b : Fin 28) : Fin 3 → Nat := ![b.val / 4, b.val % 4 * 1024, 0]
theorem oblkOff_inb (b : Fin 28) : ∀ a, oblkOff b a + S1x1024x3072.size a ≤ S7x4096x3072.size a := by
  have := b.isLt; intro a; fin_cases a
  · show b.val / 4 + 1 ≤ 7; omega
  · show b.val % 4 * 1024 + 1024 ≤ 4096; omega
  · show 0 + 3072 ≤ 3072; omega
instance (b : Fin 28) : ClosedOff (oblkOff b) := ⟨oblkOff b, rfl⟩
abbrev islotOff (s : Fin 9) : Fin 3 → Nat := ![s.val, 0, 0]
theorem islotOff_inb (s : Fin 9) : ∀ a, islotOff s a + S1x1536x2048.size a ≤ S9x1536x2048.size a := by
  have := s.isLt; intro a; fin_cases a
  · show s.val + 1 ≤ 9; omega
  · show 0 + 1536 ≤ 1536; omega
  · show 0 + 2048 ≤ 2048; omega
instance (s : Fin 9) : ClosedOff (islotOff s) := ⟨islotOff s, rfl⟩
abbrev oslotOff (s : Fin 8) : Fin 3 → Nat := ![s.val, 0, 0]
theorem oslotOff_inb (s : Fin 8) : ∀ a, oslotOff s a + S1x1024x3072.size a ≤ S8x1024x3072.size a := by
  have := s.isLt; intro a; fin_cases a
  · show s.val + 1 ≤ 8; omega
  · show 0 + 1024 ≤ 1024; omega
  · show 0 + 3072 ≤ 3072; omega
instance (s : Fin 8) : ClosedOff (oslotOff s) := ⟨oslotOff s, rfl⟩
abbrev isemOff (s : Fin 9) : Fin 1 → Nat := ![s.val]
theorem isemOff_inb (s : Fin 9) : ∀ a, isemOff s a + S1.size a ≤ S9.size a := by
  have := s.isLt; intro a; fin_cases a
  · show s.val + 1 ≤ 9; omega
abbrev osemOff (s : Fin 8) : Fin 1 → Nat := ![s.val]
theorem osemOff_inb (s : Fin 8) : ∀ a, osemOff s a + S1.size a ≤ S8.size a := by
  have := s.isLt; intro a; fin_cases a
  · show s.val + 1 ≤ 8; omega
abbrev sblkOff (b : Fin 2) : Fin 3 → Nat := ![b.val * 84, 0, 0]
theorem sblkOff_inb (b : Fin 2) : ∀ a, sblkOff b a + S84x2x8192.size a ≤ S168x2x8192.size a := by
  have := b.isLt; intro a; fin_cases a
  · show b.val * 84 + 84 ≤ 168; omega
  · show 0 + 2 ≤ 2; omega
  · show 0 + 8192 ≤ 8192; omega
instance (b : Fin 2) : ClosedOff (sblkOff b) := ⟨sblkOff b, rfl⟩

/-- Block `b` of the packed weights. -/
def iblk (b : Fin 28) : Memref sig .tc .hbm S1536x2048 .i8 :=
  (wM.slice (Rect.unit (s := S7x1536x8192) (iblkOff b) S1x1536x2048.size (iblkOff_inb b)) (fun _ => rfl)).squeeze S1536x2048 squeezes_S1x1536x2048_S1536x2048
/-- Block `b` of the repacked weights. -/
def oblk (b : Fin 28) : Memref sig .tc .hbm S1024x3072 .i8 :=
  (tM.slice (Rect.unit (s := S7x4096x3072) (oblkOff b) S1x1024x3072.size (oblkOff_inb b)) (fun _ => rfl)).squeeze S1024x3072 squeezes_S1x1024x3072_S1024x3072
/-- Input slot `s`. -/
def islot (s : Fin 9) : Memref sig .tc .vmem S1536x2048 .i8 :=
  (wbM.slice (Rect.unit (s := S9x1536x2048) (islotOff s) S1x1536x2048.size (islotOff_inb s)) (fun _ => rfl)).squeeze S1536x2048 squeezes_S1x1536x2048_S1536x2048
/-- Output slot `s`. -/
def oslot (s : Fin 8) : Memref sig .tc .vmem S1024x3072 .i8 :=
  (tbM.slice (Rect.unit (s := S8x1024x3072) (oslotOff s) S1x1024x3072.size (oslotOff_inb s)) (fun _ => rfl)).squeeze S1024x3072 squeezes_S1x1024x3072_S1024x3072
/-- Input slot `s`'s semaphore. -/
def ism (s : Fin 9) : DmaSems sig S_ := (cc0_scratch3.slice (Rect.unit (s := S9) (isemOff s) S1.size (isemOff_inb s))).squeeze S_ squeezes_S1_S_
/-- Output slot `s`'s semaphore. -/
def osm (s : Fin 8) : DmaSems sig S_ := (cc0_scratch4.slice (Rect.unit (s := S8) (osemOff s) S1.size (osemOff_inb s))).squeeze S_ squeezes_S1_S_
/-- Half `b` of the scales, -/
def sblk (b : Fin 2) : Memref sig .tc .hbm S84x2x8192 .f32 :=
  scM.slice (Rect.unit (s := S168x2x8192) (sblkOff b) S84x2x8192.size (sblkOff_inb b)) (fun _ => rfl)
/-- and of their result. -/
def tsblk (b : Fin 2) : Memref sig .tc .hbm S84x2x8192 .f32 :=
  tsM.slice (Rect.unit (s := S168x2x8192) (sblkOff b) S84x2x8192.size (sblkOff_inb b)) (fun _ => rfl)

theorem ism_congr {off : Fin 1 → Nat} {s : Fin 9} (e : off = isemOff s) (hh) :
    (cc0_scratch3.slice (Rect.unit (s := S9) off S1.size hh)).squeeze S_ squeezes_S1_S_ = ism s :=
  congrArg (fun A : DmaSems sig S1 => A.squeeze S_ squeezes_S1_S_) (SemArray.slice_unit_congr _ e _ _)
theorem osm_congr {off : Fin 1 → Nat} {s : Fin 8} (e : off = osemOff s) (hh) :
    (cc0_scratch4.slice (Rect.unit (s := S8) off S1.size hh)).squeeze S_ squeezes_S1_S_ = osm s :=
  congrArg (fun A : DmaSems sig S1 => A.squeeze S_ squeezes_S1_S_) (SemArray.slice_unit_congr _ e _ _)
theorem islot_congr {off : Fin 3 → Nat} {s : Fin 9} (e : off = islotOff s) (hh hs) :
    (wbM.slice (Rect.unit (s := S9x1536x2048) off S1x1536x2048.size hh) hs).squeeze S1536x2048 squeezes_S1x1536x2048_S1536x2048 = islot s :=
  congrArg (fun M : Memref sig .tc .vmem S1x1536x2048 .i8 => M.squeeze S1536x2048 squeezes_S1x1536x2048_S1536x2048) (Memref.slice_unit_congr _ e _ _ _ _)
theorem oslot_congr {off : Fin 3 → Nat} {s : Fin 8} (e : off = oslotOff s) (hh hs) :
    (tbM.slice (Rect.unit (s := S8x1024x3072) off S1x1024x3072.size hh) hs).squeeze S1024x3072 squeezes_S1x1024x3072_S1024x3072 = oslot s :=
  congrArg (fun M : Memref sig .tc .vmem S1x1024x3072 .i8 => M.squeeze S1024x3072 squeezes_S1x1024x3072_S1024x3072) (Memref.slice_unit_congr _ e _ _ _ _)
theorem iblk_congr {off : Fin 3 → Nat} {b : Fin 28} (e : off = iblkOff b) (hh hs) :
    (wM.slice (Rect.unit (s := S7x1536x8192) off S1x1536x2048.size hh) hs).squeeze S1536x2048 squeezes_S1x1536x2048_S1536x2048 = iblk b :=
  congrArg (fun M : Memref sig .tc .hbm S1x1536x2048 .i8 => M.squeeze S1536x2048 squeezes_S1x1536x2048_S1536x2048) (Memref.slice_unit_congr _ e _ _ _ _)
theorem oblk_congr {off : Fin 3 → Nat} {b : Fin 28} (e : off = oblkOff b) (hh hs) :
    (tM.slice (Rect.unit (s := S7x4096x3072) off S1x1024x3072.size hh) hs).squeeze S1024x3072 squeezes_S1x1024x3072_S1024x3072 = oblk b :=
  congrArg (fun M : Memref sig .tc .hbm S1x1024x3072 .i8 => M.squeeze S1024x3072 squeezes_S1x1024x3072_S1024x3072) (Memref.slice_unit_congr _ e _ _ _ _)

/-! ## The loops' trip counts -/

theorem t1_lt (k : Fin k0_t1_loop.trips) : k.val < 2 := Nat.lt_of_lt_of_eq k.isLt (by decide)
theorem t4_lt (k : Fin k0_t4_loop.trips) : k.val < 14 := Nat.lt_of_lt_of_eq k.isLt (by decide)
theorem t7_lt (k : Fin k0_t7_loop.trips) : k.val < 4 := Nat.lt_of_lt_of_eq k.isLt (by decide)
theorem t1_trips : k0_t1_loop.trips = 2 := by decide
theorem t4_trips : k0_t4_loop.trips = 14 := by decide
theorem t7_trips : k0_t7_loop.trips = 4 := by decide
theorem t2_trips : ∀ t : Fin k0_t1_loop.trips, (k0_t2_loop t).trips = 8 := by decide +kernel
theorem t3_trips : ∀ t : Fin k0_t1_loop.trips, (k0_t3_loop t).trips = 0 := by decide +kernel
theorem t5_trips : ∀ t : Fin k0_t1_loop.trips, (k0_t5_loop t).trips = 8 := by decide +kernel
theorem t6_trips : ∀ t : Fin k0_t1_loop.trips, (k0_t6_loop t).trips = 0 := by decide +kernel
theorem t8_trips : ∀ t : Fin k0_t1_loop.trips, (k0_t8_loop t).trips = 8 := by decide +kernel
theorem t9_trips : ∀ t : Fin k0_t1_loop.trips, (k0_t9_loop t).trips = 0 := by decide +kernel

/-! ## The offsets in closed form -/

theorem off1_eq : ∀ (k0_t1 : Fin k0_t1_loop.trips), k0_off1 k0_t1 = isemOff (Ring.sl 9 (14 * k0_t1.val)) := by decide +kernel
@[sl_canon] theorem nm1 (k0_t1 : Fin k0_t1_loop.trips) (hh) :
    (cc0_scratch3.slice (Rect.unit (s := S9) (k0_off1 k0_t1) S1.size hh)).squeeze S_ squeezes_S1_S_ = ism (Ring.sl 9 (14 * k0_t1.val)) := ism_congr (off1_eq k0_t1) _
theorem off2_eq : ∀ (k0_t1 : Fin k0_t1_loop.trips), k0_off2 k0_t1 = islotOff (Ring.sl 9 (14 * k0_t1.val)) := by decide +kernel
@[sl_canon] theorem nm2 (k0_t1 : Fin k0_t1_loop.trips) (hh hs) :
    (wbM.slice (Rect.unit (s := S9x1536x2048) (k0_off2 k0_t1) S1x1536x2048.size hh) hs).squeeze S1536x2048 squeezes_S1x1536x2048_S1536x2048 = islot (Ring.sl 9 (14 * k0_t1.val)) := islot_congr (off2_eq k0_t1) _ _
theorem off3_eq : ∀ (k0_t1 : Fin k0_t1_loop.trips), k0_off3 k0_t1 = iblkOff (Ring.bk 28 (14 * k0_t1.val)) := by decide +kernel
@[sl_canon] theorem nm3 (k0_t1 : Fin k0_t1_loop.trips) (hh hs) :
    (wM.slice (Rect.unit (s := S7x1536x8192) (k0_off3 k0_t1) S1x1536x2048.size hh) hs).squeeze S1536x2048 squeezes_S1x1536x2048_S1536x2048 = iblk (Ring.bk 28 (14 * k0_t1.val)) := iblk_congr (off3_eq k0_t1) _ _
theorem off5_eq : ∀ (k0_t1 : Fin k0_t1_loop.trips) (k0_t2 : Fin (k0_t2_loop k0_t1).trips), k0_off5 k0_t1 k0_t2 = isemOff (Ring.sl 9 (14 * k0_t1.val + (k0_t2.val + 1))) := by decide +kernel
@[sl_canon] theorem nm5 (k0_t1 : Fin k0_t1_loop.trips) (k0_t2 : Fin (k0_t2_loop k0_t1).trips) (hh) :
    (cc0_scratch3.slice (Rect.unit (s := S9) (k0_off5 k0_t1 k0_t2) S1.size hh)).squeeze S_ squeezes_S1_S_ = ism (Ring.sl 9 (14 * k0_t1.val + (k0_t2.val + 1))) := ism_congr (off5_eq k0_t1 k0_t2) _
theorem off6_eq : ∀ (k0_t1 : Fin k0_t1_loop.trips) (k0_t2 : Fin (k0_t2_loop k0_t1).trips), k0_off6 k0_t1 k0_t2 = islotOff (Ring.sl 9 (14 * k0_t1.val + (k0_t2.val + 1))) := by decide +kernel
@[sl_canon] theorem nm6 (k0_t1 : Fin k0_t1_loop.trips) (k0_t2 : Fin (k0_t2_loop k0_t1).trips) (hh hs) :
    (wbM.slice (Rect.unit (s := S9x1536x2048) (k0_off6 k0_t1 k0_t2) S1x1536x2048.size hh) hs).squeeze S1536x2048 squeezes_S1x1536x2048_S1536x2048 = islot (Ring.sl 9 (14 * k0_t1.val + (k0_t2.val + 1))) := islot_congr (off6_eq k0_t1 k0_t2) _ _
theorem off7_eq : ∀ (k0_t1 : Fin k0_t1_loop.trips) (k0_t2 : Fin (k0_t2_loop k0_t1).trips), k0_off7 k0_t1 k0_t2 = iblkOff (Ring.bk 28 (14 * k0_t1.val + (k0_t2.val + 1))) := by decide +kernel
@[sl_canon] theorem nm7 (k0_t1 : Fin k0_t1_loop.trips) (k0_t2 : Fin (k0_t2_loop k0_t1).trips) (hh hs) :
    (wM.slice (Rect.unit (s := S7x1536x8192) (k0_off7 k0_t1 k0_t2) S1x1536x2048.size hh) hs).squeeze S1536x2048 squeezes_S1x1536x2048_S1536x2048 = iblk (Ring.bk 28 (14 * k0_t1.val + (k0_t2.val + 1))) := iblk_congr (off7_eq k0_t1 k0_t2) _ _
theorem off11_eq : ∀ (k0_t1 : Fin k0_t1_loop.trips) (k0_t4 : Fin k0_t4_loop.trips), k0_cond1 k0_t4 = 1#1 → k0_off11 k0_t1 k0_t4 = isemOff (Ring.sl 9 (14 * k0_t1.val + (k0_t4.val + 8))) := by decide +kernel
@[sl_canon] theorem nm11 (k0_t1 : Fin k0_t1_loop.trips) (k0_t4 : Fin k0_t4_loop.trips) (h : k0_cond1 k0_t4 = 1#1) (hh) :
    (cc0_scratch3.slice (Rect.unit (s := S9) (k0_off11 k0_t1 k0_t4) S1.size hh)).squeeze S_ squeezes_S1_S_ = ism (Ring.sl 9 (14 * k0_t1.val + (k0_t4.val + 8))) := ism_congr (off11_eq k0_t1 k0_t4 h) _
theorem off12_eq : ∀ (k0_t1 : Fin k0_t1_loop.trips) (k0_t4 : Fin k0_t4_loop.trips), k0_cond1 k0_t4 = 1#1 → k0_off12 k0_t1 k0_t4 = islotOff (Ring.sl 9 (14 * k0_t1.val + (k0_t4.val + 8))) := by decide +kernel
@[sl_canon] theorem nm12 (k0_t1 : Fin k0_t1_loop.trips) (k0_t4 : Fin k0_t4_loop.trips) (h : k0_cond1 k0_t4 = 1#1) (hh hs) :
    (wbM.slice (Rect.unit (s := S9x1536x2048) (k0_off12 k0_t1 k0_t4) S1x1536x2048.size hh) hs).squeeze S1536x2048 squeezes_S1x1536x2048_S1536x2048 = islot (Ring.sl 9 (14 * k0_t1.val + (k0_t4.val + 8))) := islot_congr (off12_eq k0_t1 k0_t4 h) _ _
theorem off13_eq : ∀ (k0_t1 : Fin k0_t1_loop.trips) (k0_t4 : Fin k0_t4_loop.trips), k0_cond1 k0_t4 = 1#1 → k0_off13 k0_t1 k0_t4 = iblkOff (Ring.bk 28 (14 * k0_t1.val + (k0_t4.val + 8))) := by decide +kernel
@[sl_canon] theorem nm13 (k0_t1 : Fin k0_t1_loop.trips) (k0_t4 : Fin k0_t4_loop.trips) (h : k0_cond1 k0_t4 = 1#1) (hh hs) :
    (wM.slice (Rect.unit (s := S7x1536x8192) (k0_off13 k0_t1 k0_t4) S1x1536x2048.size hh) hs).squeeze S1536x2048 squeezes_S1x1536x2048_S1536x2048 = iblk (Ring.bk 28 (14 * k0_t1.val + (k0_t4.val + 8))) := iblk_congr (off13_eq k0_t1 k0_t4 h) _ _
theorem off14_eq : ∀ (k0_t1 : Fin k0_t1_loop.trips) (k0_t5 : Fin (k0_t5_loop k0_t1).trips), k0_off14 k0_t1 k0_t5 = osemOff (Ring.sl 8 (14 * k0_t1.val + k0_t5.val)) := by decide +kernel
@[sl_canon] theorem nm14 (k0_t1 : Fin k0_t1_loop.trips) (k0_t5 : Fin (k0_t5_loop k0_t1).trips) (hh) :
    (cc0_scratch4.slice (Rect.unit (s := S8) (k0_off14 k0_t1 k0_t5) S1.size hh)).squeeze S_ squeezes_S1_S_ = osm (Ring.sl 8 (14 * k0_t1.val + k0_t5.val)) := osm_congr (off14_eq k0_t1 k0_t5) _
theorem off15_eq : ∀ (k0_t1 : Fin k0_t1_loop.trips) (k0_t5 : Fin (k0_t5_loop k0_t1).trips), k0_off15 k0_t1 k0_t5 = oblkOff (Ring.bk 28 (14 * k0_t1.val + k0_t5.val)) := by decide +kernel
@[sl_canon] theorem nm15 (k0_t1 : Fin k0_t1_loop.trips) (k0_t5 : Fin (k0_t5_loop k0_t1).trips) (hh hs) :
    (tM.slice (Rect.unit (s := S7x4096x3072) (k0_off15 k0_t1 k0_t5) S1x1024x3072.size hh) hs).squeeze S1024x3072 squeezes_S1x1024x3072_S1024x3072 = oblk (Ring.bk 28 (14 * k0_t1.val + k0_t5.val)) := oblk_congr (off15_eq k0_t1 k0_t5) _ _
theorem off16_eq : ∀ (k0_t1 : Fin k0_t1_loop.trips) (k0_t5 : Fin (k0_t5_loop k0_t1).trips), k0_off16 k0_t1 k0_t5 = oslotOff (Ring.sl 8 (14 * k0_t1.val + k0_t5.val)) := by decide +kernel
@[sl_canon] theorem nm16 (k0_t1 : Fin k0_t1_loop.trips) (k0_t5 : Fin (k0_t5_loop k0_t1).trips) (hh hs) :
    (tbM.slice (Rect.unit (s := S8x1024x3072) (k0_off16 k0_t1 k0_t5) S1x1024x3072.size hh) hs).squeeze S1024x3072 squeezes_S1x1024x3072_S1024x3072 = oslot (Ring.sl 8 (14 * k0_t1.val + k0_t5.val)) := oslot_congr (off16_eq k0_t1 k0_t5) _ _
theorem off21_eq : ∀ (k0_t1 : Fin k0_t1_loop.trips) (k0_t4 : Fin k0_t4_loop.trips), k0_cond3 k0_t4 = 1#1 → k0_off21 k0_t1 k0_t4 = osemOff (Ring.sl 8 (14 * k0_t1.val + (k0_t4.val - 1))) := by decide +kernel
@[sl_canon] theorem nm21 (k0_t1 : Fin k0_t1_loop.trips) (k0_t4 : Fin k0_t4_loop.trips) (h : k0_cond3 k0_t4 = 1#1) (hh) :
    (cc0_scratch4.slice (Rect.unit (s := S8) (k0_off21 k0_t1 k0_t4) S1.size hh)).squeeze S_ squeezes_S1_S_ = osm (Ring.sl 8 (14 * k0_t1.val + (k0_t4.val - 1))) := osm_congr (off21_eq k0_t1 k0_t4 h) _
theorem off22_eq : ∀ (k0_t1 : Fin k0_t1_loop.trips) (k0_t4 : Fin k0_t4_loop.trips), k0_cond3 k0_t4 = 1#1 → k0_off22 k0_t1 k0_t4 = oblkOff (Ring.bk 28 (14 * k0_t1.val + (k0_t4.val - 1))) := by decide +kernel
@[sl_canon] theorem nm22 (k0_t1 : Fin k0_t1_loop.trips) (k0_t4 : Fin k0_t4_loop.trips) (h : k0_cond3 k0_t4 = 1#1) (hh hs) :
    (tM.slice (Rect.unit (s := S7x4096x3072) (k0_off22 k0_t1 k0_t4) S1x1024x3072.size hh) hs).squeeze S1024x3072 squeezes_S1x1024x3072_S1024x3072 = oblk (Ring.bk 28 (14 * k0_t1.val + (k0_t4.val - 1))) := oblk_congr (off22_eq k0_t1 k0_t4 h) _ _
theorem off23_eq : ∀ (k0_t1 : Fin k0_t1_loop.trips) (k0_t4 : Fin k0_t4_loop.trips), k0_cond3 k0_t4 = 1#1 → k0_off23 k0_t1 k0_t4 = oslotOff (Ring.sl 8 (14 * k0_t1.val + (k0_t4.val - 1))) := by decide +kernel
@[sl_canon] theorem nm23 (k0_t1 : Fin k0_t1_loop.trips) (k0_t4 : Fin k0_t4_loop.trips) (h : k0_cond3 k0_t4 = 1#1) (hh hs) :
    (tbM.slice (Rect.unit (s := S8x1024x3072) (k0_off23 k0_t1 k0_t4) S1x1024x3072.size hh) hs).squeeze S1024x3072 squeezes_S1x1024x3072_S1024x3072 = oslot (Ring.sl 8 (14 * k0_t1.val + (k0_t4.val - 1))) := oslot_congr (off23_eq k0_t1 k0_t4 h) _ _
theorem off24_eq : ∀ (k0_t1 : Fin k0_t1_loop.trips) (k0_t4 : Fin k0_t4_loop.trips), k0_off24 k0_t1 k0_t4 = isemOff (Ring.sl 9 (14 * k0_t1.val + k0_t4.val)) := by decide +kernel
@[sl_canon] theorem nm24 (k0_t1 : Fin k0_t1_loop.trips) (k0_t4 : Fin k0_t4_loop.trips) (hh) :
    (cc0_scratch3.slice (Rect.unit (s := S9) (k0_off24 k0_t1 k0_t4) S1.size hh)).squeeze S_ squeezes_S1_S_ = ism (Ring.sl 9 (14 * k0_t1.val + k0_t4.val)) := ism_congr (off24_eq k0_t1 k0_t4) _
theorem off25_eq : ∀ (k0_t1 : Fin k0_t1_loop.trips) (k0_t4 : Fin k0_t4_loop.trips), k0_off25 k0_t1 k0_t4 = islotOff (Ring.sl 9 (14 * k0_t1.val + k0_t4.val)) := by decide +kernel
@[sl_canon] theorem nm25 (k0_t1 : Fin k0_t1_loop.trips) (k0_t4 : Fin k0_t4_loop.trips) (hh hs) :
    (wbM.slice (Rect.unit (s := S9x1536x2048) (k0_off25 k0_t1 k0_t4) S1x1536x2048.size hh) hs).squeeze S1536x2048 squeezes_S1x1536x2048_S1536x2048 = islot (Ring.sl 9 (14 * k0_t1.val + k0_t4.val)) := islot_congr (off25_eq k0_t1 k0_t4) _ _
theorem off26_eq : ∀ (k0_t1 : Fin k0_t1_loop.trips) (k0_t4 : Fin k0_t4_loop.trips), k0_off26 k0_t1 k0_t4 = iblkOff (Ring.bk 28 (14 * k0_t1.val + k0_t4.val)) := by decide +kernel
@[sl_canon] theorem nm26 (k0_t1 : Fin k0_t1_loop.trips) (k0_t4 : Fin k0_t4_loop.trips) (hh hs) :
    (wM.slice (Rect.unit (s := S7x1536x8192) (k0_off26 k0_t1 k0_t4) S1x1536x2048.size hh) hs).squeeze S1536x2048 squeezes_S1x1536x2048_S1536x2048 = iblk (Ring.bk 28 (14 * k0_t1.val + k0_t4.val)) := iblk_congr (off26_eq k0_t1 k0_t4) _ _
theorem off27_eq : ∀ (k0_t1 : Fin k0_t1_loop.trips) (k0_t4 : Fin k0_t4_loop.trips), k0_cond4 k0_t4 = 1#1 → k0_off27 k0_t1 k0_t4 = osemOff (Ring.sl 8 (14 * k0_t1.val + (k0_t4.val - 8))) := by decide +kernel
@[sl_canon] theorem nm27 (k0_t1 : Fin k0_t1_loop.trips) (k0_t4 : Fin k0_t4_loop.trips) (h : k0_cond4 k0_t4 = 1#1) (hh) :
    (cc0_scratch4.slice (Rect.unit (s := S8) (k0_off27 k0_t1 k0_t4) S1.size hh)).squeeze S_ squeezes_S1_S_ = osm (Ring.sl 8 (14 * k0_t1.val + (k0_t4.val - 8))) := osm_congr (off27_eq k0_t1 k0_t4 h) _
theorem off28_eq : ∀ (k0_t1 : Fin k0_t1_loop.trips) (k0_t4 : Fin k0_t4_loop.trips), k0_cond4 k0_t4 = 1#1 → k0_off28 k0_t1 k0_t4 = oblkOff (Ring.bk 28 (14 * k0_t1.val + (k0_t4.val - 8))) := by decide +kernel
@[sl_canon] theorem nm28 (k0_t1 : Fin k0_t1_loop.trips) (k0_t4 : Fin k0_t4_loop.trips) (h : k0_cond4 k0_t4 = 1#1) (hh hs) :
    (tM.slice (Rect.unit (s := S7x4096x3072) (k0_off28 k0_t1 k0_t4) S1x1024x3072.size hh) hs).squeeze S1024x3072 squeezes_S1x1024x3072_S1024x3072 = oblk (Ring.bk 28 (14 * k0_t1.val + (k0_t4.val - 8))) := oblk_congr (off28_eq k0_t1 k0_t4 h) _ _
theorem off29_eq : ∀ (k0_t1 : Fin k0_t1_loop.trips) (k0_t4 : Fin k0_t4_loop.trips), k0_cond4 k0_t4 = 1#1 → k0_off29 k0_t1 k0_t4 = oslotOff (Ring.sl 8 (14 * k0_t1.val + (k0_t4.val - 8))) := by decide +kernel
@[sl_canon] theorem nm29 (k0_t1 : Fin k0_t1_loop.trips) (k0_t4 : Fin k0_t4_loop.trips) (h : k0_cond4 k0_t4 = 1#1) (hh hs) :
    (tbM.slice (Rect.unit (s := S8x1024x3072) (k0_off29 k0_t1 k0_t4) S1x1024x3072.size hh) hs).squeeze S1024x3072 squeezes_S1x1024x3072_S1024x3072 = oslot (Ring.sl 8 (14 * k0_t1.val + (k0_t4.val - 8))) := oslot_congr (off29_eq k0_t1 k0_t4 h) _ _
theorem off30_eq : ∀ (k0_t1 : Fin k0_t1_loop.trips) (k0_t4 : Fin k0_t4_loop.trips), k0_off30 k0_t1 k0_t4 = islotOff (Ring.sl 9 (14 * k0_t1.val + k0_t4.val)) := by decide +kernel
@[sl_canon] theorem nm30 (k0_t1 : Fin k0_t1_loop.trips) (k0_t4 : Fin k0_t4_loop.trips) (hh hs) :
    (wbM.slice (Rect.unit (s := S9x1536x2048) (k0_off30 k0_t1 k0_t4) S1x1536x2048.size hh) hs).squeeze S1536x2048 squeezes_S1x1536x2048_S1536x2048 = islot (Ring.sl 9 (14 * k0_t1.val + k0_t4.val)) := islot_congr (off30_eq k0_t1 k0_t4) _ _
theorem off32_eq : ∀ (k0_t1 : Fin k0_t1_loop.trips) (k0_t4 : Fin k0_t4_loop.trips), k0_off32 k0_t1 k0_t4 = oslotOff (Ring.sl 8 (14 * k0_t1.val + k0_t4.val)) := by decide +kernel
@[sl_canon] theorem nm32 (k0_t1 : Fin k0_t1_loop.trips) (k0_t4 : Fin k0_t4_loop.trips) (hh hs) :
    (tbM.slice (Rect.unit (s := S8x1024x3072) (k0_off32 k0_t1 k0_t4) S1x1024x3072.size hh) hs).squeeze S1024x3072 squeezes_S1x1024x3072_S1024x3072 = oslot (Ring.sl 8 (14 * k0_t1.val + k0_t4.val)) := oslot_congr (off32_eq k0_t1 k0_t4) _ _
theorem off130_eq : ∀ (k0_t1 : Fin k0_t1_loop.trips), k0_off130 k0_t1 = osemOff (Ring.sl 8 (14 * k0_t1.val + 13)) := by decide +kernel
@[sl_canon] theorem nm130 (k0_t1 : Fin k0_t1_loop.trips) (hh) :
    (cc0_scratch4.slice (Rect.unit (s := S8) (k0_off130 k0_t1) S1.size hh)).squeeze S_ squeezes_S1_S_ = osm (Ring.sl 8 (14 * k0_t1.val + 13)) := osm_congr (off130_eq k0_t1) _
theorem off131_eq : ∀ (k0_t1 : Fin k0_t1_loop.trips), k0_off131 k0_t1 = oblkOff (Ring.bk 28 (14 * k0_t1.val + 13)) := by decide +kernel
@[sl_canon] theorem nm131 (k0_t1 : Fin k0_t1_loop.trips) (hh hs) :
    (tM.slice (Rect.unit (s := S7x4096x3072) (k0_off131 k0_t1) S1x1024x3072.size hh) hs).squeeze S1024x3072 squeezes_S1x1024x3072_S1024x3072 = oblk (Ring.bk 28 (14 * k0_t1.val + 13)) := oblk_congr (off131_eq k0_t1) _ _
theorem off132_eq : ∀ (k0_t1 : Fin k0_t1_loop.trips), k0_off132 k0_t1 = oslotOff (Ring.sl 8 (14 * k0_t1.val + 13)) := by decide +kernel
@[sl_canon] theorem nm132 (k0_t1 : Fin k0_t1_loop.trips) (hh hs) :
    (tbM.slice (Rect.unit (s := S8x1024x3072) (k0_off132 k0_t1) S1x1024x3072.size hh) hs).squeeze S1024x3072 squeezes_S1x1024x3072_S1024x3072 = oslot (Ring.sl 8 (14 * k0_t1.val + 13)) := oslot_congr (off132_eq k0_t1) _ _
theorem off133_eq : ∀ (k0_t1 : Fin k0_t1_loop.trips) (k0_t8 : Fin (k0_t8_loop k0_t1).trips), k0_off133 k0_t1 k0_t8 = osemOff (Ring.sl 8 (14 * k0_t1.val + (k0_t8.val + 6))) := by decide +kernel
@[sl_canon] theorem nm133 (k0_t1 : Fin k0_t1_loop.trips) (k0_t8 : Fin (k0_t8_loop k0_t1).trips) (hh) :
    (cc0_scratch4.slice (Rect.unit (s := S8) (k0_off133 k0_t1 k0_t8) S1.size hh)).squeeze S_ squeezes_S1_S_ = osm (Ring.sl 8 (14 * k0_t1.val + (k0_t8.val + 6))) := osm_congr (off133_eq k0_t1 k0_t8) _
theorem off134_eq : ∀ (k0_t1 : Fin k0_t1_loop.trips) (k0_t8 : Fin (k0_t8_loop k0_t1).trips), k0_off134 k0_t1 k0_t8 = oblkOff (Ring.bk 28 (14 * k0_t1.val + (k0_t8.val + 6))) := by decide +kernel
@[sl_canon] theorem nm134 (k0_t1 : Fin k0_t1_loop.trips) (k0_t8 : Fin (k0_t8_loop k0_t1).trips) (hh hs) :
    (tM.slice (Rect.unit (s := S7x4096x3072) (k0_off134 k0_t1 k0_t8) S1x1024x3072.size hh) hs).squeeze S1024x3072 squeezes_S1x1024x3072_S1024x3072 = oblk (Ring.bk 28 (14 * k0_t1.val + (k0_t8.val + 6))) := oblk_congr (off134_eq k0_t1 k0_t8) _ _
theorem off135_eq : ∀ (k0_t1 : Fin k0_t1_loop.trips) (k0_t8 : Fin (k0_t8_loop k0_t1).trips), k0_off135 k0_t1 k0_t8 = oslotOff (Ring.sl 8 (14 * k0_t1.val + (k0_t8.val + 6))) := by decide +kernel
@[sl_canon] theorem nm135 (k0_t1 : Fin k0_t1_loop.trips) (k0_t8 : Fin (k0_t8_loop k0_t1).trips) (hh hs) :
    (tbM.slice (Rect.unit (s := S8x1024x3072) (k0_off135 k0_t1 k0_t8) S1x1024x3072.size hh) hs).squeeze S1024x3072 squeezes_S1x1024x3072_S1024x3072 = oslot (Ring.sl 8 (14 * k0_t1.val + (k0_t8.val + 6))) := oslot_congr (off135_eq k0_t1 k0_t8) _ _

theorem off4_eq : ∀ k0_t1 : Fin k0_t1_loop.trips, k0_off4 k0_t1 = sblkOff (Ring.bk 2 k0_t1.val) := by decide +kernel
theorem off20_eq : ∀ k0_t1 : Fin k0_t1_loop.trips, k0_off20 k0_t1 = sblkOff (Ring.bk 2 k0_t1.val) := by decide +kernel
@[sl_canon] theorem nm4 (k0_t1 : Fin k0_t1_loop.trips) (hh hs) :
    scM.slice (Rect.unit (s := S168x2x8192) (k0_off4 k0_t1) S84x2x8192.size hh) hs = sblk (Ring.bk 2 k0_t1.val) := Memref.slice_unit_congr _ (off4_eq k0_t1) _ _ _ (fun _ => rfl)
@[sl_canon] theorem nm4' (k0_t1 : Fin k0_t1_loop.trips) (hh hs) :
    tsM.slice (Rect.unit (s := S168x2x8192) (k0_off4 k0_t1) S84x2x8192.size hh) hs = tsblk (Ring.bk 2 k0_t1.val) := Memref.slice_unit_congr _ (off4_eq k0_t1) _ _ _ (fun _ => rfl)
@[sl_canon] theorem nm20 (k0_t1 : Fin k0_t1_loop.trips) (hh hs) :
    scM.slice (Rect.unit (s := S168x2x8192) (k0_off20 k0_t1) S84x2x8192.size hh) hs = sblk (Ring.bk 2 k0_t1.val) := Memref.slice_unit_congr _ (off20_eq k0_t1) _ _ _ (fun _ => rfl)
@[sl_canon] theorem nm20' (k0_t1 : Fin k0_t1_loop.trips) (hh hs) :
    tsM.slice (Rect.unit (s := S168x2x8192) (k0_off20 k0_t1) S84x2x8192.size hh) hs = tsblk (Ring.bk 2 k0_t1.val) := Memref.slice_unit_congr _ (off20_eq k0_t1) _ _ _ (fun _ => rfl)

/-! ## Where a repacked tile is stored: rows `256 k + 64 a`, lanes `128 p` of the block's output slot -/

abbrev tOff (s : Fin 8) (k : Nat) (a p : Nat) : Fin 3 → Nat := ![s.val, k * 256 + a * 64, p * 128]
theorem off31_eq : ∀ k0_t7 : Fin k0_t7_loop.trips, k0_off31 k0_t7 = ![0, k0_t7.val * 512] := by decide +kernel
theorem off33_eq : ∀ k0_t7 : Fin k0_t7_loop.trips, k0_off33 k0_t7 = ![k0_t7.val * 256, 0] := by decide +kernel
instance (k0_t7 : Fin k0_t7_loop.trips) : ClosedOff (k0_off31 k0_t7) := ⟨_, off31_eq k0_t7⟩
instance (k0_t7 : Fin k0_t7_loop.trips) : ClosedOff (k0_off33 k0_t7) := ⟨_, off33_eq k0_t7⟩
instance (k0_t1 : Fin k0_t1_loop.trips) (k0_t4 : Fin k0_t4_loop.trips) : ClosedOff (k0_off30 k0_t1 k0_t4) := ⟨_, off30_eq k0_t1 k0_t4⟩
instance (k0_t1 : Fin k0_t1_loop.trips) (k0_t4 : Fin k0_t4_loop.trips) : ClosedOff (k0_off32 k0_t1 k0_t4) := ⟨_, off32_eq k0_t1 k0_t4⟩

theorem tile_slot : ∀ (k0_t1 : Fin k0_t1_loop.trips) (k0_t4 : Fin k0_t4_loop.trips),
    (Scalar.remsi (Scalar.addi (Scalar.muli (Scf.iv 0#32 1#32 k0_t1) 14#32) (Scf.iv 0#32 1#32 k0_t4)) 8#32).toNat = (Ring.sl 8 (14 * k0_t1.val + k0_t4.val)).val := by decide +kernel
theorem tile_row : ∀ k0_t7 : Fin k0_t7_loop.trips, (Scalar.muli (Scf.iv 0#32 1#32 k0_t7) 256#32).toNat = k0_t7.val * 256 := by decide +kernel
theorem tile_off (k0_t1 : Fin k0_t1_loop.trips) (k0_t4 : Fin k0_t4_loop.trips) (k0_t7 : Fin k0_t7_loop.trips) (a p : Nat) :
    (![(Scalar.remsi (Scalar.addi (Scalar.muli (Scf.iv 0#32 1#32 k0_t1) 14#32) (Scf.iv 0#32 1#32 k0_t4)) 8#32).toNat, Nat.add (Scalar.muli (Scf.iv 0#32 1#32 k0_t7) 256#32).toNat a, p] : Fin 3 → Nat)
      = ![(Ring.sl 8 (14 * k0_t1.val + k0_t4.val)).val, k0_t7.val * 256 + a, p] := by rw [tile_slot, tile_row]; rfl
theorem tile_off0 (k0_t1 : Fin k0_t1_loop.trips) (k0_t4 : Fin k0_t4_loop.trips) (k0_t7 : Fin k0_t7_loop.trips) (p : Nat) :
    (![(Scalar.remsi (Scalar.addi (Scalar.muli (Scf.iv 0#32 1#32 k0_t1) 14#32) (Scf.iv 0#32 1#32 k0_t4)) 8#32).toNat, (Scalar.muli (Scf.iv 0#32 1#32 k0_t7) 256#32).toNat, p] : Fin 3 → Nat)
      = ![(Ring.sl 8 (14 * k0_t1.val + k0_t4.val)).val, k0_t7.val * 256 + 0, p] := by rw [tile_slot, tile_row]; rfl
theorem off34_eq (k0_t1 : Fin k0_t1_loop.trips) (k0_t4 : Fin k0_t4_loop.trips) (k0_t7 : Fin k0_t7_loop.trips) : k0_off34 k0_t1 k0_t4 k0_t7 = ![(Ring.sl 8 (14 * k0_t1.val + k0_t4.val)).val, k0_t7.val * 256 + 0, 0] := tile_off0 k0_t1 k0_t4 k0_t7 0
instance (k0_t1 : Fin k0_t1_loop.trips) (k0_t4 : Fin k0_t4_loop.trips) (k0_t7 : Fin k0_t7_loop.trips) : ClosedOff (k0_off34 k0_t1 k0_t4 k0_t7) := ⟨_, off34_eq k0_t1 k0_t4 k0_t7⟩
theorem off35_eq (k0_t1 : Fin k0_t1_loop.trips) (k0_t4 : Fin k0_t4_loop.trips) (k0_t7 : Fin k0_t7_loop.trips) : k0_off35 k0_t1 k0_t4 k0_t7 = ![(Ring.sl 8 (14 * k0_t1.val + k0_t4.val)).val, k0_t7.val * 256 + 64, 0] := tile_off k0_t1 k0_t4 k0_t7 64 0
instance (k0_t1 : Fin k0_t1_loop.trips) (k0_t4 : Fin k0_t4_loop.trips) (k0_t7 : Fin k0_t7_loop.trips) : ClosedOff (k0_off35 k0_t1 k0_t4 k0_t7) := ⟨_, off35_eq k0_t1 k0_t4 k0_t7⟩
theorem off36_eq (k0_t1 : Fin k0_t1_loop.trips) (k0_t4 : Fin k0_t4_loop.trips) (k0_t7 : Fin k0_t7_loop.trips) : k0_off36 k0_t1 k0_t4 k0_t7 = ![(Ring.sl 8 (14 * k0_t1.val + k0_t4.val)).val, k0_t7.val * 256 + 128, 0] := tile_off k0_t1 k0_t4 k0_t7 128 0
instance (k0_t1 : Fin k0_t1_loop.trips) (k0_t4 : Fin k0_t4_loop.trips) (k0_t7 : Fin k0_t7_loop.trips) : ClosedOff (k0_off36 k0_t1 k0_t4 k0_t7) := ⟨_, off36_eq k0_t1 k0_t4 k0_t7⟩
theorem off37_eq (k0_t1 : Fin k0_t1_loop.trips) (k0_t4 : Fin k0_t4_loop.trips) (k0_t7 : Fin k0_t7_loop.trips) : k0_off37 k0_t1 k0_t4 k0_t7 = ![(Ring.sl 8 (14 * k0_t1.val + k0_t4.val)).val, k0_t7.val * 256 + 192, 0] := tile_off k0_t1 k0_t4 k0_t7 192 0
instance (k0_t1 : Fin k0_t1_loop.trips) (k0_t4 : Fin k0_t4_loop.trips) (k0_t7 : Fin k0_t7_loop.trips) : ClosedOff (k0_off37 k0_t1 k0_t4 k0_t7) := ⟨_, off37_eq k0_t1 k0_t4 k0_t7⟩
theorem off38_eq (k0_t1 : Fin k0_t1_loop.trips) (k0_t4 : Fin k0_t4_loop.trips) (k0_t7 : Fin k0_t7_loop.trips) : k0_off38 k0_t1 k0_t4 k0_t7 = ![(Ring.sl 8 (14 * k0_t1.val + k0_t4.val)).val, k0_t7.val * 256 + 0, 128] := tile_off0 k0_t1 k0_t4 k0_t7 128
instance (k0_t1 : Fin k0_t1_loop.trips) (k0_t4 : Fin k0_t4_loop.trips) (k0_t7 : Fin k0_t7_loop.trips) : ClosedOff (k0_off38 k0_t1 k0_t4 k0_t7) := ⟨_, off38_eq k0_t1 k0_t4 k0_t7⟩
theorem off39_eq (k0_t1 : Fin k0_t1_loop.trips) (k0_t4 : Fin k0_t4_loop.trips) (k0_t7 : Fin k0_t7_loop.trips) : k0_off39 k0_t1 k0_t4 k0_t7 = ![(Ring.sl 8 (14 * k0_t1.val + k0_t4.val)).val, k0_t7.val * 256 + 64, 128] := tile_off k0_t1 k0_t4 k0_t7 64 128
instance (k0_t1 : Fin k0_t1_loop.trips) (k0_t4 : Fin k0_t4_loop.trips) (k0_t7 : Fin k0_t7_loop.trips) : ClosedOff (k0_off39 k0_t1 k0_t4 k0_t7) := ⟨_, off39_eq k0_t1 k0_t4 k0_t7⟩
theorem off40_eq (k0_t1 : Fin k0_t1_loop.trips) (k0_t4 : Fin k0_t4_loop.trips) (k0_t7 : Fin k0_t7_loop.trips) : k0_off40 k0_t1 k0_t4 k0_t7 = ![(Ring.sl 8 (14 * k0_t1.val + k0_t4.val)).val, k0_t7.val * 256 + 128, 128] := tile_off k0_t1 k0_t4 k0_t7 128 128
instance (k0_t1 : Fin k0_t1_loop.trips) (k0_t4 : Fin k0_t4_loop.trips) (k0_t7 : Fin k0_t7_loop.trips) : ClosedOff (k0_off40 k0_t1 k0_t4 k0_t7) := ⟨_, off40_eq k0_t1 k0_t4 k0_t7⟩
theorem off41_eq (k0_t1 : Fin k0_t1_loop.trips) (k0_t4 : Fin k0_t4_loop.trips) (k0_t7 : Fin k0_t7_loop.trips) : k0_off41 k0_t1 k0_t4 k0_t7 = ![(Ring.sl 8 (14 * k0_t1.val + k0_t4.val)).val, k0_t7.val * 256 + 192, 128] := tile_off k0_t1 k0_t4 k0_t7 192 128
instance (k0_t1 : Fin k0_t1_loop.trips) (k0_t4 : Fin k0_t4_loop.trips) (k0_t7 : Fin k0_t7_loop.trips) : ClosedOff (k0_off41 k0_t1 k0_t4 k0_t7) := ⟨_, off41_eq k0_t1 k0_t4 k0_t7⟩
theorem off42_eq (k0_t1 : Fin k0_t1_loop.trips) (k0_t4 : Fin k0_t4_loop.trips) (k0_t7 : Fin k0_t7_loop.trips) : k0_off42 k0_t1 k0_t4 k0_t7 = ![(Ring.sl 8 (14 * k0_t1.val + k0_t4.val)).val, k0_t7.val * 256 + 0, 256] := tile_off0 k0_t1 k0_t4 k0_t7 256
instance (k0_t1 : Fin k0_t1_loop.trips) (k0_t4 : Fin k0_t4_loop.trips) (k0_t7 : Fin k0_t7_loop.trips) : ClosedOff (k0_off42 k0_t1 k0_t4 k0_t7) := ⟨_, off42_eq k0_t1 k0_t4 k0_t7⟩
theorem off43_eq (k0_t1 : Fin k0_t1_loop.trips) (k0_t4 : Fin k0_t4_loop.trips) (k0_t7 : Fin k0_t7_loop.trips) : k0_off43 k0_t1 k0_t4 k0_t7 = ![(Ring.sl 8 (14 * k0_t1.val + k0_t4.val)).val, k0_t7.val * 256 + 64, 256] := tile_off k0_t1 k0_t4 k0_t7 64 256
instance (k0_t1 : Fin k0_t1_loop.trips) (k0_t4 : Fin k0_t4_loop.trips) (k0_t7 : Fin k0_t7_loop.trips) : ClosedOff (k0_off43 k0_t1 k0_t4 k0_t7) := ⟨_, off43_eq k0_t1 k0_t4 k0_t7⟩
theorem off44_eq (k0_t1 : Fin k0_t1_loop.trips) (k0_t4 : Fin k0_t4_loop.trips) (k0_t7 : Fin k0_t7_loop.trips) : k0_off44 k0_t1 k0_t4 k0_t7 = ![(Ring.sl 8 (14 * k0_t1.val + k0_t4.val)).val, k0_t7.val * 256 + 128, 256] := tile_off k0_t1 k0_t4 k0_t7 128 256
instance (k0_t1 : Fin k0_t1_loop.trips) (k0_t4 : Fin k0_t4_loop.trips) (k0_t7 : Fin k0_t7_loop.trips) : ClosedOff (k0_off44 k0_t1 k0_t4 k0_t7) := ⟨_, off44_eq k0_t1 k0_t4 k0_t7⟩
theorem off45_eq (k0_t1 : Fin k0_t1_loop.trips) (k0_t4 : Fin k0_t4_loop.trips) (k0_t7 : Fin k0_t7_loop.trips) : k0_off45 k0_t1 k0_t4 k0_t7 = ![(Ring.sl 8 (14 * k0_t1.val + k0_t4.val)).val, k0_t7.val * 256 + 192, 256] := tile_off k0_t1 k0_t4 k0_t7 192 256
instance (k0_t1 : Fin k0_t1_loop.trips) (k0_t4 : Fin k0_t4_loop.trips) (k0_t7 : Fin k0_t7_loop.trips) : ClosedOff (k0_off45 k0_t1 k0_t4 k0_t7) := ⟨_, off45_eq k0_t1 k0_t4 k0_t7⟩
theorem off46_eq (k0_t1 : Fin k0_t1_loop.trips) (k0_t4 : Fin k0_t4_loop.trips) (k0_t7 : Fin k0_t7_loop.trips) : k0_off46 k0_t1 k0_t4 k0_t7 = ![(Ring.sl 8 (14 * k0_t1.val + k0_t4.val)).val, k0_t7.val * 256 + 0, 384] := tile_off0 k0_t1 k0_t4 k0_t7 384
instance (k0_t1 : Fin k0_t1_loop.trips) (k0_t4 : Fin k0_t4_loop.trips) (k0_t7 : Fin k0_t7_loop.trips) : ClosedOff (k0_off46 k0_t1 k0_t4 k0_t7) := ⟨_, off46_eq k0_t1 k0_t4 k0_t7⟩
theorem off47_eq (k0_t1 : Fin k0_t1_loop.trips) (k0_t4 : Fin k0_t4_loop.trips) (k0_t7 : Fin k0_t7_loop.trips) : k0_off47 k0_t1 k0_t4 k0_t7 = ![(Ring.sl 8 (14 * k0_t1.val + k0_t4.val)).val, k0_t7.val * 256 + 64, 384] := tile_off k0_t1 k0_t4 k0_t7 64 384
instance (k0_t1 : Fin k0_t1_loop.trips) (k0_t4 : Fin k0_t4_loop.trips) (k0_t7 : Fin k0_t7_loop.trips) : ClosedOff (k0_off47 k0_t1 k0_t4 k0_t7) := ⟨_, off47_eq k0_t1 k0_t4 k0_t7⟩
theorem off48_eq (k0_t1 : Fin k0_t1_loop.trips) (k0_t4 : Fin k0_t4_loop.trips) (k0_t7 : Fin k0_t7_loop.trips) : k0_off48 k0_t1 k0_t4 k0_t7 = ![(Ring.sl 8 (14 * k0_t1.val + k0_t4.val)).val, k0_t7.val * 256 + 128, 384] := tile_off k0_t1 k0_t4 k0_t7 128 384
instance (k0_t1 : Fin k0_t1_loop.trips) (k0_t4 : Fin k0_t4_loop.trips) (k0_t7 : Fin k0_t7_loop.trips) : ClosedOff (k0_off48 k0_t1 k0_t4 k0_t7) := ⟨_, off48_eq k0_t1 k0_t4 k0_t7⟩
theorem off49_eq (k0_t1 : Fin k0_t1_loop.trips) (k0_t4 : Fin k0_t4_loop.trips) (k0_t7 : Fin k0_t7_loop.trips) : k0_off49 k0_t1 k0_t4 k0_t7 = ![(Ring.sl 8 (14 * k0_t1.val + k0_t4.val)).val, k0_t7.val * 256 + 192, 384] := tile_off k0_t1 k0_t4 k0_t7 192 384
instance (k0_t1 : Fin k0_t1_loop.trips) (k0_t4 : Fin k0_t4_loop.trips) (k0_t7 : Fin k0_t7_loop.trips) : ClosedOff (k0_off49 k0_t1 k0_t4 k0_t7) := ⟨_, off49_eq k0_t1 k0_t4 k0_t7⟩
theorem off50_eq (k0_t1 : Fin k0_t1_loop.trips) (k0_t4 : Fin k0_t4_loop.trips) (k0_t7 : Fin k0_t7_loop.trips) : k0_off50 k0_t1 k0_t4 k0_t7 = ![(Ring.sl 8 (14 * k0_t1.val + k0_t4.val)).val, k0_t7.val * 256 + 0, 512] := tile_off0 k0_t1 k0_t4 k0_t7 512
instance (k0_t1 : Fin k0_t1_loop.trips) (k0_t4 : Fin k0_t4_loop.trips) (k0_t7 : Fin k0_t7_loop.trips) : ClosedOff (k0_off50 k0_t1 k0_t4 k0_t7) := ⟨_, off50_eq k0_t1 k0_t4 k0_t7⟩
theorem off51_eq (k0_t1 : Fin k0_t1_loop.trips) (k0_t4 : Fin k0_t4_loop.trips) (k0_t7 : Fin k0_t7_loop.trips) : k0_off51 k0_t1 k0_t4 k0_t7 = ![(Ring.sl 8 (14 * k0_t1.val + k0_t4.val)).val, k0_t7.val * 256 + 64, 512] := tile_off k0_t1 k0_t4 k0_t7 64 512
instance (k0_t1 : Fin k0_t1_loop.trips) (k0_t4 : Fin k0_t4_loop.trips) (k0_t7 : Fin k0_t7_loop.trips) : ClosedOff (k0_off51 k0_t1 k0_t4 k0_t7) := ⟨_, off51_eq k0_t1 k0_t4 k0_t7⟩
theorem off52_eq (k0_t1 : Fin k0_t1_loop.trips) (k0_t4 : Fin k0_t4_loop.trips) (k0_t7 : Fin k0_t7_loop.trips) : k0_off52 k0_t1 k0_t4 k0_t7 = ![(Ring.sl 8 (14 * k0_t1.val + k0_t4.val)).val, k0_t7.val * 256 + 128, 512] := tile_off k0_t1 k0_t4 k0_t7 128 512
instance (k0_t1 : Fin k0_t1_loop.trips) (k0_t4 : Fin k0_t4_loop.trips) (k0_t7 : Fin k0_t7_loop.trips) : ClosedOff (k0_off52 k0_t1 k0_t4 k0_t7) := ⟨_, off52_eq k0_t1 k0_t4 k0_t7⟩
theorem off53_eq (k0_t1 : Fin k0_t1_loop.trips) (k0_t4 : Fin k0_t4_loop.trips) (k0_t7 : Fin k0_t7_loop.trips) : k0_off53 k0_t1 k0_t4 k0_t7 = ![(Ring.sl 8 (14 * k0_t1.val + k0_t4.val)).val, k0_t7.val * 256 + 192, 512] := tile_off k0_t1 k0_t4 k0_t7 192 512
instance (k0_t1 : Fin k0_t1_loop.trips) (k0_t4 : Fin k0_t4_loop.trips) (k0_t7 : Fin k0_t7_loop.trips) : ClosedOff (k0_off53 k0_t1 k0_t4 k0_t7) := ⟨_, off53_eq k0_t1 k0_t4 k0_t7⟩
theorem off54_eq (k0_t1 : Fin k0_t1_loop.trips) (k0_t4 : Fin k0_t4_loop.trips) (k0_t7 : Fin k0_t7_loop.trips) : k0_off54 k0_t1 k0_t4 k0_t7 = ![(Ring.sl 8 (14 * k0_t1.val + k0_t4.val)).val, k0_t7.val * 256 + 0, 640] := tile_off0 k0_t1 k0_t4 k0_t7 640
instance (k0_t1 : Fin k0_t1_loop.trips) (k0_t4 : Fin k0_t4_loop.trips) (k0_t7 : Fin k0_t7_loop.trips) : ClosedOff (k0_off54 k0_t1 k0_t4 k0_t7) := ⟨_, off54_eq k0_t1 k0_t4 k0_t7⟩
theorem off55_eq (k0_t1 : Fin k0_t1_loop.trips) (k0_t4 : Fin k0_t4_loop.trips) (k0_t7 : Fin k0_t7_loop.trips) : k0_off55 k0_t1 k0_t4 k0_t7 = ![(Ring.sl 8 (14 * k0_t1.val + k0_t4.val)).val, k0_t7.val * 256 + 64, 640] := tile_off k0_t1 k0_t4 k0_t7 64 640
instance (k0_t1 : Fin k0_t1_loop.trips) (k0_t4 : Fin k0_t4_loop.trips) (k0_t7 : Fin k0_t7_loop.trips) : ClosedOff (k0_off55 k0_t1 k0_t4 k0_t7) := ⟨_, off55_eq k0_t1 k0_t4 k0_t7⟩
theorem off56_eq (k0_t1 : Fin k0_t1_loop.trips) (k0_t4 : Fin k0_t4_loop.trips) (k0_t7 : Fin k0_t7_loop.trips) : k0_off56 k0_t1 k0_t4 k0_t7 = ![(Ring.sl 8 (14 * k0_t1.val + k0_t4.val)).val, k0_t7.val * 256 + 128, 640] := tile_off k0_t1 k0_t4 k0_t7 128 640
instance (k0_t1 : Fin k0_t1_loop.trips) (k0_t4 : Fin k0_t4_loop.trips) (k0_t7 : Fin k0_t7_loop.trips) : ClosedOff (k0_off56 k0_t1 k0_t4 k0_t7) := ⟨_, off56_eq k0_t1 k0_t4 k0_t7⟩
theorem off57_eq (k0_t1 : Fin k0_t1_loop.trips) (k0_t4 : Fin k0_t4_loop.trips) (k0_t7 : Fin k0_t7_loop.trips) : k0_off57 k0_t1 k0_t4 k0_t7 = ![(Ring.sl 8 (14 * k0_t1.val + k0_t4.val)).val, k0_t7.val * 256 + 192, 640] := tile_off k0_t1 k0_t4 k0_t7 192 640
instance (k0_t1 : Fin k0_t1_loop.trips) (k0_t4 : Fin k0_t4_loop.trips) (k0_t7 : Fin k0_t7_loop.trips) : ClosedOff (k0_off57 k0_t1 k0_t4 k0_t7) := ⟨_, off57_eq k0_t1 k0_t4 k0_t7⟩
theorem off58_eq (k0_t1 : Fin k0_t1_loop.trips) (k0_t4 : Fin k0_t4_loop.trips) (k0_t7 : Fin k0_t7_loop.trips) : k0_off58 k0_t1 k0_t4 k0_t7 = ![(Ring.sl 8 (14 * k0_t1.val + k0_t4.val)).val, k0_t7.val * 256 + 0, 768] := tile_off0 k0_t1 k0_t4 k0_t7 768
instance (k0_t1 : Fin k0_t1_loop.trips) (k0_t4 : Fin k0_t4_loop.trips) (k0_t7 : Fin k0_t7_loop.trips) : ClosedOff (k0_off58 k0_t1 k0_t4 k0_t7) := ⟨_, off58_eq k0_t1 k0_t4 k0_t7⟩
theorem off59_eq (k0_t1 : Fin k0_t1_loop.trips) (k0_t4 : Fin k0_t4_loop.trips) (k0_t7 : Fin k0_t7_loop.trips) : k0_off59 k0_t1 k0_t4 k0_t7 = ![(Ring.sl 8 (14 * k0_t1.val + k0_t4.val)).val, k0_t7.val * 256 + 64, 768] := tile_off k0_t1 k0_t4 k0_t7 64 768
instance (k0_t1 : Fin k0_t1_loop.trips) (k0_t4 : Fin k0_t4_loop.trips) (k0_t7 : Fin k0_t7_loop.trips) : ClosedOff (k0_off59 k0_t1 k0_t4 k0_t7) := ⟨_, off59_eq k0_t1 k0_t4 k0_t7⟩
theorem off60_eq (k0_t1 : Fin k0_t1_loop.trips) (k0_t4 : Fin k0_t4_loop.trips) (k0_t7 : Fin k0_t7_loop.trips) : k0_off60 k0_t1 k0_t4 k0_t7 = ![(Ring.sl 8 (14 * k0_t1.val + k0_t4.val)).val, k0_t7.val * 256 + 128, 768] := tile_off k0_t1 k0_t4 k0_t7 128 768
instance (k0_t1 : Fin k0_t1_loop.trips) (k0_t4 : Fin k0_t4_loop.trips) (k0_t7 : Fin k0_t7_loop.trips) : ClosedOff (k0_off60 k0_t1 k0_t4 k0_t7) := ⟨_, off60_eq k0_t1 k0_t4 k0_t7⟩
theorem off61_eq (k0_t1 : Fin k0_t1_loop.trips) (k0_t4 : Fin k0_t4_loop.trips) (k0_t7 : Fin k0_t7_loop.trips) : k0_off61 k0_t1 k0_t4 k0_t7 = ![(Ring.sl 8 (14 * k0_t1.val + k0_t4.val)).val, k0_t7.val * 256 + 192, 768] := tile_off k0_t1 k0_t4 k0_t7 192 768
instance (k0_t1 : Fin k0_t1_loop.trips) (k0_t4 : Fin k0_t4_loop.trips) (k0_t7 : Fin k0_t7_loop.trips) : ClosedOff (k0_off61 k0_t1 k0_t4 k0_t7) := ⟨_, off61_eq k0_t1 k0_t4 k0_t7⟩
theorem off62_eq (k0_t1 : Fin k0_t1_loop.trips) (k0_t4 : Fin k0_t4_loop.trips) (k0_t7 : Fin k0_t7_loop.trips) : k0_off62 k0_t1 k0_t4 k0_t7 = ![(Ring.sl 8 (14 * k0_t1.val + k0_t4.val)).val, k0_t7.val * 256 + 0, 896] := tile_off0 k0_t1 k0_t4 k0_t7 896
instance (k0_t1 : Fin k0_t1_loop.trips) (k0_t4 : Fin k0_t4_loop.trips) (k0_t7 : Fin k0_t7_loop.trips) : ClosedOff (k0_off62 k0_t1 k0_t4 k0_t7) := ⟨_, off62_eq k0_t1 k0_t4 k0_t7⟩
theorem off63_eq (k0_t1 : Fin k0_t1_loop.trips) (k0_t4 : Fin k0_t4_loop.trips) (k0_t7 : Fin k0_t7_loop.trips) : k0_off63 k0_t1 k0_t4 k0_t7 = ![(Ring.sl 8 (14 * k0_t1.val + k0_t4.val)).val, k0_t7.val * 256 + 64, 896] := tile_off k0_t1 k0_t4 k0_t7 64 896
instance (k0_t1 : Fin k0_t1_loop.trips) (k0_t4 : Fin k0_t4_loop.trips) (k0_t7 : Fin k0_t7_loop.trips) : ClosedOff (k0_off63 k0_t1 k0_t4 k0_t7) := ⟨_, off63_eq k0_t1 k0_t4 k0_t7⟩
theorem off64_eq (k0_t1 : Fin k0_t1_loop.trips) (k0_t4 : Fin k0_t4_loop.trips) (k0_t7 : Fin k0_t7_loop.trips) : k0_off64 k0_t1 k0_t4 k0_t7 = ![(Ring.sl 8 (14 * k0_t1.val + k0_t4.val)).val, k0_t7.val * 256 + 128, 896] := tile_off k0_t1 k0_t4 k0_t7 128 896
instance (k0_t1 : Fin k0_t1_loop.trips) (k0_t4 : Fin k0_t4_loop.trips) (k0_t7 : Fin k0_t7_loop.trips) : ClosedOff (k0_off64 k0_t1 k0_t4 k0_t7) := ⟨_, off64_eq k0_t1 k0_t4 k0_t7⟩
theorem off65_eq (k0_t1 : Fin k0_t1_loop.trips) (k0_t4 : Fin k0_t4_loop.trips) (k0_t7 : Fin k0_t7_loop.trips) : k0_off65 k0_t1 k0_t4 k0_t7 = ![(Ring.sl 8 (14 * k0_t1.val + k0_t4.val)).val, k0_t7.val * 256 + 192, 896] := tile_off k0_t1 k0_t4 k0_t7 192 896
instance (k0_t1 : Fin k0_t1_loop.trips) (k0_t4 : Fin k0_t4_loop.trips) (k0_t7 : Fin k0_t7_loop.trips) : ClosedOff (k0_off65 k0_t1 k0_t4 k0_t7) := ⟨_, off65_eq k0_t1 k0_t4 k0_t7⟩
theorem off66_eq (k0_t1 : Fin k0_t1_loop.trips) (k0_t4 : Fin k0_t4_loop.trips) (k0_t7 : Fin k0_t7_loop.trips) : k0_off66 k0_t1 k0_t4 k0_t7 = ![(Ring.sl 8 (14 * k0_t1.val + k0_t4.val)).val, k0_t7.val * 256 + 0, 1024] := tile_off0 k0_t1 k0_t4 k0_t7 1024
instance (k0_t1 : Fin k0_t1_loop.trips) (k0_t4 : Fin k0_t4_loop.trips) (k0_t7 : Fin k0_t7_loop.trips) : ClosedOff (k0_off66 k0_t1 k0_t4 k0_t7) := ⟨_, off66_eq k0_t1 k0_t4 k0_t7⟩
theorem off67_eq (k0_t1 : Fin k0_t1_loop.trips) (k0_t4 : Fin k0_t4_loop.trips) (k0_t7 : Fin k0_t7_loop.trips) : k0_off67 k0_t1 k0_t4 k0_t7 = ![(Ring.sl 8 (14 * k0_t1.val + k0_t4.val)).val, k0_t7.val * 256 + 64, 1024] := tile_off k0_t1 k0_t4 k0_t7 64 1024
instance (k0_t1 : Fin k0_t1_loop.trips) (k0_t4 : Fin k0_t4_loop.trips) (k0_t7 : Fin k0_t7_loop.trips) : ClosedOff (k0_off67 k0_t1 k0_t4 k0_t7) := ⟨_, off67_eq k0_t1 k0_t4 k0_t7⟩
theorem off68_eq (k0_t1 : Fin k0_t1_loop.trips) (k0_t4 : Fin k0_t4_loop.trips) (k0_t7 : Fin k0_t7_loop.trips) : k0_off68 k0_t1 k0_t4 k0_t7 = ![(Ring.sl 8 (14 * k0_t1.val + k0_t4.val)).val, k0_t7.val * 256 + 128, 1024] := tile_off k0_t1 k0_t4 k0_t7 128 1024
instance (k0_t1 : Fin k0_t1_loop.trips) (k0_t4 : Fin k0_t4_loop.trips) (k0_t7 : Fin k0_t7_loop.trips) : ClosedOff (k0_off68 k0_t1 k0_t4 k0_t7) := ⟨_, off68_eq k0_t1 k0_t4 k0_t7⟩
theorem off69_eq (k0_t1 : Fin k0_t1_loop.trips) (k0_t4 : Fin k0_t4_loop.trips) (k0_t7 : Fin k0_t7_loop.trips) : k0_off69 k0_t1 k0_t4 k0_t7 = ![(Ring.sl 8 (14 * k0_t1.val + k0_t4.val)).val, k0_t7.val * 256 + 192, 1024] := tile_off k0_t1 k0_t4 k0_t7 192 1024
instance (k0_t1 : Fin k0_t1_loop.trips) (k0_t4 : Fin k0_t4_loop.trips) (k0_t7 : Fin k0_t7_loop.trips) : ClosedOff (k0_off69 k0_t1 k0_t4 k0_t7) := ⟨_, off69_eq k0_t1 k0_t4 k0_t7⟩
theorem off70_eq (k0_t1 : Fin k0_t1_loop.trips) (k0_t4 : Fin k0_t4_loop.trips) (k0_t7 : Fin k0_t7_loop.trips) : k0_off70 k0_t1 k0_t4 k0_t7 = ![(Ring.sl 8 (14 * k0_t1.val + k0_t4.val)).val, k0_t7.val * 256 + 0, 1152] := tile_off0 k0_t1 k0_t4 k0_t7 1152
instance (k0_t1 : Fin k0_t1_loop.trips) (k0_t4 : Fin k0_t4_loop.trips) (k0_t7 : Fin k0_t7_loop.trips) : ClosedOff (k0_off70 k0_t1 k0_t4 k0_t7) := ⟨_, off70_eq k0_t1 k0_t4 k0_t7⟩
theorem off71_eq (k0_t1 : Fin k0_t1_loop.trips) (k0_t4 : Fin k0_t4_loop.trips) (k0_t7 : Fin k0_t7_loop.trips) : k0_off71 k0_t1 k0_t4 k0_t7 = ![(Ring.sl 8 (14 * k0_t1.val + k0_t4.val)).val, k0_t7.val * 256 + 64, 1152] := tile_off k0_t1 k0_t4 k0_t7 64 1152
instance (k0_t1 : Fin k0_t1_loop.trips) (k0_t4 : Fin k0_t4_loop.trips) (k0_t7 : Fin k0_t7_loop.trips) : ClosedOff (k0_off71 k0_t1 k0_t4 k0_t7) := ⟨_, off71_eq k0_t1 k0_t4 k0_t7⟩
theorem off72_eq (k0_t1 : Fin k0_t1_loop.trips) (k0_t4 : Fin k0_t4_loop.trips) (k0_t7 : Fin k0_t7_loop.trips) : k0_off72 k0_t1 k0_t4 k0_t7 = ![(Ring.sl 8 (14 * k0_t1.val + k0_t4.val)).val, k0_t7.val * 256 + 128, 1152] := tile_off k0_t1 k0_t4 k0_t7 128 1152
instance (k0_t1 : Fin k0_t1_loop.trips) (k0_t4 : Fin k0_t4_loop.trips) (k0_t7 : Fin k0_t7_loop.trips) : ClosedOff (k0_off72 k0_t1 k0_t4 k0_t7) := ⟨_, off72_eq k0_t1 k0_t4 k0_t7⟩
theorem off73_eq (k0_t1 : Fin k0_t1_loop.trips) (k0_t4 : Fin k0_t4_loop.trips) (k0_t7 : Fin k0_t7_loop.trips) : k0_off73 k0_t1 k0_t4 k0_t7 = ![(Ring.sl 8 (14 * k0_t1.val + k0_t4.val)).val, k0_t7.val * 256 + 192, 1152] := tile_off k0_t1 k0_t4 k0_t7 192 1152
instance (k0_t1 : Fin k0_t1_loop.trips) (k0_t4 : Fin k0_t4_loop.trips) (k0_t7 : Fin k0_t7_loop.trips) : ClosedOff (k0_off73 k0_t1 k0_t4 k0_t7) := ⟨_, off73_eq k0_t1 k0_t4 k0_t7⟩
theorem off74_eq (k0_t1 : Fin k0_t1_loop.trips) (k0_t4 : Fin k0_t4_loop.trips) (k0_t7 : Fin k0_t7_loop.trips) : k0_off74 k0_t1 k0_t4 k0_t7 = ![(Ring.sl 8 (14 * k0_t1.val + k0_t4.val)).val, k0_t7.val * 256 + 0, 1280] := tile_off0 k0_t1 k0_t4 k0_t7 1280
instance (k0_t1 : Fin k0_t1_loop.trips) (k0_t4 : Fin k0_t4_loop.trips) (k0_t7 : Fin k0_t7_loop.trips) : ClosedOff (k0_off74 k0_t1 k0_t4 k0_t7) := ⟨_, off74_eq k0_t1 k0_t4 k0_t7⟩
theorem off75_eq (k0_t1 : Fin k0_t1_loop.trips) (k0_t4 : Fin k0_t4_loop.trips) (k0_t7 : Fin k0_t7_loop.trips) : k0_off75 k0_t1 k0_t4 k0_t7 = ![(Ring.sl 8 (14 * k0_t1.val + k0_t4.val)).val, k0_t7.val * 256 + 64, 1280] := tile_off k0_t1 k0_t4 k0_t7 64 1280
instance (k0_t1 : Fin k0_t1_loop.trips) (k0_t4 : Fin k0_t4_loop.trips) (k0_t7 : Fin k0_t7_loop.trips) : ClosedOff (k0_off75 k0_t1 k0_t4 k0_t7) := ⟨_, off75_eq k0_t1 k0_t4 k0_t7⟩
theorem off76_eq (k0_t1 : Fin k0_t1_loop.trips) (k0_t4 : Fin k0_t4_loop.trips) (k0_t7 : Fin k0_t7_loop.trips) : k0_off76 k0_t1 k0_t4 k0_t7 = ![(Ring.sl 8 (14 * k0_t1.val + k0_t4.val)).val, k0_t7.val * 256 + 128, 1280] := tile_off k0_t1 k0_t4 k0_t7 128 1280
instance (k0_t1 : Fin k0_t1_loop.trips) (k0_t4 : Fin k0_t4_loop.trips) (k0_t7 : Fin k0_t7_loop.trips) : ClosedOff (k0_off76 k0_t1 k0_t4 k0_t7) := ⟨_, off76_eq k0_t1 k0_t4 k0_t7⟩
theorem off77_eq (k0_t1 : Fin k0_t1_loop.trips) (k0_t4 : Fin k0_t4_loop.trips) (k0_t7 : Fin k0_t7_loop.trips) : k0_off77 k0_t1 k0_t4 k0_t7 = ![(Ring.sl 8 (14 * k0_t1.val + k0_t4.val)).val, k0_t7.val * 256 + 192, 1280] := tile_off k0_t1 k0_t4 k0_t7 192 1280
instance (k0_t1 : Fin k0_t1_loop.trips) (k0_t4 : Fin k0_t4_loop.trips) (k0_t7 : Fin k0_t7_loop.trips) : ClosedOff (k0_off77 k0_t1 k0_t4 k0_t7) := ⟨_, off77_eq k0_t1 k0_t4 k0_t7⟩
theorem off78_eq (k0_t1 : Fin k0_t1_loop.trips) (k0_t4 : Fin k0_t4_loop.trips) (k0_t7 : Fin k0_t7_loop.trips) : k0_off78 k0_t1 k0_t4 k0_t7 = ![(Ring.sl 8 (14 * k0_t1.val + k0_t4.val)).val, k0_t7.val * 256 + 0, 1408] := tile_off0 k0_t1 k0_t4 k0_t7 1408
instance (k0_t1 : Fin k0_t1_loop.trips) (k0_t4 : Fin k0_t4_loop.trips) (k0_t7 : Fin k0_t7_loop.trips) : ClosedOff (k0_off78 k0_t1 k0_t4 k0_t7) := ⟨_, off78_eq k0_t1 k0_t4 k0_t7⟩
theorem off79_eq (k0_t1 : Fin k0_t1_loop.trips) (k0_t4 : Fin k0_t4_loop.trips) (k0_t7 : Fin k0_t7_loop.trips) : k0_off79 k0_t1 k0_t4 k0_t7 = ![(Ring.sl 8 (14 * k0_t1.val + k0_t4.val)).val, k0_t7.val * 256 + 64, 1408] := tile_off k0_t1 k0_t4 k0_t7 64 1408
instance (k0_t1 : Fin k0_t1_loop.trips) (k0_t4 : Fin k0_t4_loop.trips) (k0_t7 : Fin k0_t7_loop.trips) : ClosedOff (k0_off79 k0_t1 k0_t4 k0_t7) := ⟨_, off79_eq k0_t1 k0_t4 k0_t7⟩
theorem off80_eq (k0_t1 : Fin k0_t1_loop.trips) (k0_t4 : Fin k0_t4_loop.trips) (k0_t7 : Fin k0_t7_loop.trips) : k0_off80 k0_t1 k0_t4 k0_t7 = ![(Ring.sl 8 (14 * k0_t1.val + k0_t4.val)).val, k0_t7.val * 256 + 128, 1408] := tile_off k0_t1 k0_t4 k0_t7 128 1408
instance (k0_t1 : Fin k0_t1_loop.trips) (k0_t4 : Fin k0_t4_loop.trips) (k0_t7 : Fin k0_t7_loop.trips) : ClosedOff (k0_off80 k0_t1 k0_t4 k0_t7) := ⟨_, off80_eq k0_t1 k0_t4 k0_t7⟩
theorem off81_eq (k0_t1 : Fin k0_t1_loop.trips) (k0_t4 : Fin k0_t4_loop.trips) (k0_t7 : Fin k0_t7_loop.trips) : k0_off81 k0_t1 k0_t4 k0_t7 = ![(Ring.sl 8 (14 * k0_t1.val + k0_t4.val)).val, k0_t7.val * 256 + 192, 1408] := tile_off k0_t1 k0_t4 k0_t7 192 1408
instance (k0_t1 : Fin k0_t1_loop.trips) (k0_t4 : Fin k0_t4_loop.trips) (k0_t7 : Fin k0_t7_loop.trips) : ClosedOff (k0_off81 k0_t1 k0_t4 k0_t7) := ⟨_, off81_eq k0_t1 k0_t4 k0_t7⟩
theorem off82_eq (k0_t1 : Fin k0_t1_loop.trips) (k0_t4 : Fin k0_t4_loop.trips) (k0_t7 : Fin k0_t7_loop.trips) : k0_off82 k0_t1 k0_t4 k0_t7 = ![(Ring.sl 8 (14 * k0_t1.val + k0_t4.val)).val, k0_t7.val * 256 + 0, 1536] := tile_off0 k0_t1 k0_t4 k0_t7 1536
instance (k0_t1 : Fin k0_t1_loop.trips) (k0_t4 : Fin k0_t4_loop.trips) (k0_t7 : Fin k0_t7_loop.trips) : ClosedOff (k0_off82 k0_t1 k0_t4 k0_t7) := ⟨_, off82_eq k0_t1 k0_t4 k0_t7⟩
theorem off83_eq (k0_t1 : Fin k0_t1_loop.trips) (k0_t4 : Fin k0_t4_loop.trips) (k0_t7 : Fin k0_t7_loop.trips) : k0_off83 k0_t1 k0_t4 k0_t7 = ![(Ring.sl 8 (14 * k0_t1.val + k0_t4.val)).val, k0_t7.val * 256 + 64, 1536] := tile_off k0_t1 k0_t4 k0_t7 64 1536
instance (k0_t1 : Fin k0_t1_loop.trips) (k0_t4 : Fin k0_t4_loop.trips) (k0_t7 : Fin k0_t7_loop.trips) : ClosedOff (k0_off83 k0_t1 k0_t4 k0_t7) := ⟨_, off83_eq k0_t1 k0_t4 k0_t7⟩
theorem off84_eq (k0_t1 : Fin k0_t1_loop.trips) (k0_t4 : Fin k0_t4_loop.trips) (k0_t7 : Fin k0_t7_loop.trips) : k0_off84 k0_t1 k0_t4 k0_t7 = ![(Ring.sl 8 (14 * k0_t1.val + k0_t4.val)).val, k0_t7.val * 256 + 128, 1536] := tile_off k0_t1 k0_t4 k0_t7 128 1536
instance (k0_t1 : Fin k0_t1_loop.trips) (k0_t4 : Fin k0_t4_loop.trips) (k0_t7 : Fin k0_t7_loop.trips) : ClosedOff (k0_off84 k0_t1 k0_t4 k0_t7) := ⟨_, off84_eq k0_t1 k0_t4 k0_t7⟩
theorem off85_eq (k0_t1 : Fin k0_t1_loop.trips) (k0_t4 : Fin k0_t4_loop.trips) (k0_t7 : Fin k0_t7_loop.trips) : k0_off85 k0_t1 k0_t4 k0_t7 = ![(Ring.sl 8 (14 * k0_t1.val + k0_t4.val)).val, k0_t7.val * 256 + 192, 1536] := tile_off k0_t1 k0_t4 k0_t7 192 1536
instance (k0_t1 : Fin k0_t1_loop.trips) (k0_t4 : Fin k0_t4_loop.trips) (k0_t7 : Fin k0_t7_loop.trips) : ClosedOff (k0_off85 k0_t1 k0_t4 k0_t7) := ⟨_, off85_eq k0_t1 k0_t4 k0_t7⟩
theorem off86_eq (k0_t1 : Fin k0_t1_loop.trips) (k0_t4 : Fin k0_t4_loop.trips) (k0_t7 : Fin k0_t7_loop.trips) : k0_off86 k0_t1 k0_t4 k0_t7 = ![(Ring.sl 8 (14 * k0_t1.val + k0_t4.val)).val, k0_t7.val * 256 + 0, 1664] := tile_off0 k0_t1 k0_t4 k0_t7 1664
instance (k0_t1 : Fin k0_t1_loop.trips) (k0_t4 : Fin k0_t4_loop.trips) (k0_t7 : Fin k0_t7_loop.trips) : ClosedOff (k0_off86 k0_t1 k0_t4 k0_t7) := ⟨_, off86_eq k0_t1 k0_t4 k0_t7⟩
theorem off87_eq (k0_t1 : Fin k0_t1_loop.trips) (k0_t4 : Fin k0_t4_loop.trips) (k0_t7 : Fin k0_t7_loop.trips) : k0_off87 k0_t1 k0_t4 k0_t7 = ![(Ring.sl 8 (14 * k0_t1.val + k0_t4.val)).val, k0_t7.val * 256 + 64, 1664] := tile_off k0_t1 k0_t4 k0_t7 64 1664
instance (k0_t1 : Fin k0_t1_loop.trips) (k0_t4 : Fin k0_t4_loop.trips) (k0_t7 : Fin k0_t7_loop.trips) : ClosedOff (k0_off87 k0_t1 k0_t4 k0_t7) := ⟨_, off87_eq k0_t1 k0_t4 k0_t7⟩
theorem off88_eq (k0_t1 : Fin k0_t1_loop.trips) (k0_t4 : Fin k0_t4_loop.trips) (k0_t7 : Fin k0_t7_loop.trips) : k0_off88 k0_t1 k0_t4 k0_t7 = ![(Ring.sl 8 (14 * k0_t1.val + k0_t4.val)).val, k0_t7.val * 256 + 128, 1664] := tile_off k0_t1 k0_t4 k0_t7 128 1664
instance (k0_t1 : Fin k0_t1_loop.trips) (k0_t4 : Fin k0_t4_loop.trips) (k0_t7 : Fin k0_t7_loop.trips) : ClosedOff (k0_off88 k0_t1 k0_t4 k0_t7) := ⟨_, off88_eq k0_t1 k0_t4 k0_t7⟩
theorem off89_eq (k0_t1 : Fin k0_t1_loop.trips) (k0_t4 : Fin k0_t4_loop.trips) (k0_t7 : Fin k0_t7_loop.trips) : k0_off89 k0_t1 k0_t4 k0_t7 = ![(Ring.sl 8 (14 * k0_t1.val + k0_t4.val)).val, k0_t7.val * 256 + 192, 1664] := tile_off k0_t1 k0_t4 k0_t7 192 1664
instance (k0_t1 : Fin k0_t1_loop.trips) (k0_t4 : Fin k0_t4_loop.trips) (k0_t7 : Fin k0_t7_loop.trips) : ClosedOff (k0_off89 k0_t1 k0_t4 k0_t7) := ⟨_, off89_eq k0_t1 k0_t4 k0_t7⟩
theorem off90_eq (k0_t1 : Fin k0_t1_loop.trips) (k0_t4 : Fin k0_t4_loop.trips) (k0_t7 : Fin k0_t7_loop.trips) : k0_off90 k0_t1 k0_t4 k0_t7 = ![(Ring.sl 8 (14 * k0_t1.val + k0_t4.val)).val, k0_t7.val * 256 + 0, 1792] := tile_off0 k0_t1 k0_t4 k0_t7 1792
instance (k0_t1 : Fin k0_t1_loop.trips) (k0_t4 : Fin k0_t4_loop.trips) (k0_t7 : Fin k0_t7_loop.trips) : ClosedOff (k0_off90 k0_t1 k0_t4 k0_t7) := ⟨_, off90_eq k0_t1 k0_t4 k0_t7⟩
theorem off91_eq (k0_t1 : Fin k0_t1_loop.trips) (k0_t4 : Fin k0_t4_loop.trips) (k0_t7 : Fin k0_t7_loop.trips) : k0_off91 k0_t1 k0_t4 k0_t7 = ![(Ring.sl 8 (14 * k0_t1.val + k0_t4.val)).val, k0_t7.val * 256 + 64, 1792] := tile_off k0_t1 k0_t4 k0_t7 64 1792
instance (k0_t1 : Fin k0_t1_loop.trips) (k0_t4 : Fin k0_t4_loop.trips) (k0_t7 : Fin k0_t7_loop.trips) : ClosedOff (k0_off91 k0_t1 k0_t4 k0_t7) := ⟨_, off91_eq k0_t1 k0_t4 k0_t7⟩
theorem off92_eq (k0_t1 : Fin k0_t1_loop.trips) (k0_t4 : Fin k0_t4_loop.trips) (k0_t7 : Fin k0_t7_loop.trips) : k0_off92 k0_t1 k0_t4 k0_t7 = ![(Ring.sl 8 (14 * k0_t1.val + k0_t4.val)).val, k0_t7.val * 256 + 128, 1792] := tile_off k0_t1 k0_t4 k0_t7 128 1792
instance (k0_t1 : Fin k0_t1_loop.trips) (k0_t4 : Fin k0_t4_loop.trips) (k0_t7 : Fin k0_t7_loop.trips) : ClosedOff (k0_off92 k0_t1 k0_t4 k0_t7) := ⟨_, off92_eq k0_t1 k0_t4 k0_t7⟩
theorem off93_eq (k0_t1 : Fin k0_t1_loop.trips) (k0_t4 : Fin k0_t4_loop.trips) (k0_t7 : Fin k0_t7_loop.trips) : k0_off93 k0_t1 k0_t4 k0_t7 = ![(Ring.sl 8 (14 * k0_t1.val + k0_t4.val)).val, k0_t7.val * 256 + 192, 1792] := tile_off k0_t1 k0_t4 k0_t7 192 1792
instance (k0_t1 : Fin k0_t1_loop.trips) (k0_t4 : Fin k0_t4_loop.trips) (k0_t7 : Fin k0_t7_loop.trips) : ClosedOff (k0_off93 k0_t1 k0_t4 k0_t7) := ⟨_, off93_eq k0_t1 k0_t4 k0_t7⟩
theorem off94_eq (k0_t1 : Fin k0_t1_loop.trips) (k0_t4 : Fin k0_t4_loop.trips) (k0_t7 : Fin k0_t7_loop.trips) : k0_off94 k0_t1 k0_t4 k0_t7 = ![(Ring.sl 8 (14 * k0_t1.val + k0_t4.val)).val, k0_t7.val * 256 + 0, 1920] := tile_off0 k0_t1 k0_t4 k0_t7 1920
instance (k0_t1 : Fin k0_t1_loop.trips) (k0_t4 : Fin k0_t4_loop.trips) (k0_t7 : Fin k0_t7_loop.trips) : ClosedOff (k0_off94 k0_t1 k0_t4 k0_t7) := ⟨_, off94_eq k0_t1 k0_t4 k0_t7⟩
theorem off95_eq (k0_t1 : Fin k0_t1_loop.trips) (k0_t4 : Fin k0_t4_loop.trips) (k0_t7 : Fin k0_t7_loop.trips) : k0_off95 k0_t1 k0_t4 k0_t7 = ![(Ring.sl 8 (14 * k0_t1.val + k0_t4.val)).val, k0_t7.val * 256 + 64, 1920] := tile_off k0_t1 k0_t4 k0_t7 64 1920
instance (k0_t1 : Fin k0_t1_loop.trips) (k0_t4 : Fin k0_t4_loop.trips) (k0_t7 : Fin k0_t7_loop.trips) : ClosedOff (k0_off95 k0_t1 k0_t4 k0_t7) := ⟨_, off95_eq k0_t1 k0_t4 k0_t7⟩
theorem off96_eq (k0_t1 : Fin k0_t1_loop.trips) (k0_t4 : Fin k0_t4_loop.trips) (k0_t7 : Fin k0_t7_loop.trips) : k0_off96 k0_t1 k0_t4 k0_t7 = ![(Ring.sl 8 (14 * k0_t1.val + k0_t4.val)).val, k0_t7.val * 256 + 128, 1920] := tile_off k0_t1 k0_t4 k0_t7 128 1920
instance (k0_t1 : Fin k0_t1_loop.trips) (k0_t4 : Fin k0_t4_loop.trips) (k0_t7 : Fin k0_t7_loop.trips) : ClosedOff (k0_off96 k0_t1 k0_t4 k0_t7) := ⟨_, off96_eq k0_t1 k0_t4 k0_t7⟩
theorem off97_eq (k0_t1 : Fin k0_t1_loop.trips) (k0_t4 : Fin k0_t4_loop.trips) (k0_t7 : Fin k0_t7_loop.trips) : k0_off97 k0_t1 k0_t4 k0_t7 = ![(Ring.sl 8 (14 * k0_t1.val + k0_t4.val)).val, k0_t7.val * 256 + 192, 1920] := tile_off k0_t1 k0_t4 k0_t7 192 1920
instance (k0_t1 : Fin k0_t1_loop.trips) (k0_t4 : Fin k0_t4_loop.trips) (k0_t7 : Fin k0_t7_loop.trips) : ClosedOff (k0_off97 k0_t1 k0_t4 k0_t7) := ⟨_, off97_eq k0_t1 k0_t4 k0_t7⟩
theorem off98_eq (k0_t1 : Fin k0_t1_loop.trips) (k0_t4 : Fin k0_t4_loop.trips) (k0_t7 : Fin k0_t7_loop.trips) : k0_off98 k0_t1 k0_t4 k0_t7 = ![(Ring.sl 8 (14 * k0_t1.val + k0_t4.val)).val, k0_t7.val * 256 + 0, 2048] := tile_off0 k0_t1 k0_t4 k0_t7 2048
instance (k0_t1 : Fin k0_t1_loop.trips) (k0_t4 : Fin k0_t4_loop.trips) (k0_t7 : Fin k0_t7_loop.trips) : ClosedOff (k0_off98 k0_t1 k0_t4 k0_t7) := ⟨_, off98_eq k0_t1 k0_t4 k0_t7⟩
theorem off99_eq (k0_t1 : Fin k0_t1_loop.trips) (k0_t4 : Fin k0_t4_loop.trips) (k0_t7 : Fin k0_t7_loop.trips) : k0_off99 k0_t1 k0_t4 k0_t7 = ![(Ring.sl 8 (14 * k0_t1.val + k0_t4.val)).val, k0_t7.val * 256 + 64, 2048] := tile_off k0_t1 k0_t4 k0_t7 64 2048
instance (k0_t1 : Fin k0_t1_loop.trips) (k0_t4 : Fin k0_t4_loop.trips) (k0_t7 : Fin k0_t7_loop.trips) : ClosedOff (k0_off99 k0_t1 k0_t4 k0_t7) := ⟨_, off99_eq k0_t1 k0_t4 k0_t7⟩
theorem off100_eq (k0_t1 : Fin k0_t1_loop.trips) (k0_t4 : Fin k0_t4_loop.trips) (k0_t7 : Fin k0_t7_loop.trips) : k0_off100 k0_t1 k0_t4 k0_t7 = ![(Ring.sl 8 (14 * k0_t1.val + k0_t4.val)).val, k0_t7.val * 256 + 128, 2048] := tile_off k0_t1 k0_t4 k0_t7 128 2048
instance (k0_t1 : Fin k0_t1_loop.trips) (k0_t4 : Fin k0_t4_loop.trips) (k0_t7 : Fin k0_t7_loop.trips) : ClosedOff (k0_off100 k0_t1 k0_t4 k0_t7) := ⟨_, off100_eq k0_t1 k0_t4 k0_t7⟩
theorem off101_eq (k0_t1 : Fin k0_t1_loop.trips) (k0_t4 : Fin k0_t4_loop.trips) (k0_t7 : Fin k0_t7_loop.trips) : k0_off101 k0_t1 k0_t4 k0_t7 = ![(Ring.sl 8 (14 * k0_t1.val + k0_t4.val)).val, k0_t7.val * 256 + 192, 2048] := tile_off k0_t1 k0_t4 k0_t7 192 2048
instance (k0_t1 : Fin k0_t1_loop.trips) (k0_t4 : Fin k0_t4_loop.trips) (k0_t7 : Fin k0_t7_loop.trips) : ClosedOff (k0_off101 k0_t1 k0_t4 k0_t7) := ⟨_, off101_eq k0_t1 k0_t4 k0_t7⟩
theorem off102_eq (k0_t1 : Fin k0_t1_loop.trips) (k0_t4 : Fin k0_t4_loop.trips) (k0_t7 : Fin k0_t7_loop.trips) : k0_off102 k0_t1 k0_t4 k0_t7 = ![(Ring.sl 8 (14 * k0_t1.val + k0_t4.val)).val, k0_t7.val * 256 + 0, 2176] := tile_off0 k0_t1 k0_t4 k0_t7 2176
instance (k0_t1 : Fin k0_t1_loop.trips) (k0_t4 : Fin k0_t4_loop.trips) (k0_t7 : Fin k0_t7_loop.trips) : ClosedOff (k0_off102 k0_t1 k0_t4 k0_t7) := ⟨_, off102_eq k0_t1 k0_t4 k0_t7⟩
theorem off103_eq (k0_t1 : Fin k0_t1_loop.trips) (k0_t4 : Fin k0_t4_loop.trips) (k0_t7 : Fin k0_t7_loop.trips) : k0_off103 k0_t1 k0_t4 k0_t7 = ![(Ring.sl 8 (14 * k0_t1.val + k0_t4.val)).val, k0_t7.val * 256 + 64, 2176] := tile_off k0_t1 k0_t4 k0_t7 64 2176
instance (k0_t1 : Fin k0_t1_loop.trips) (k0_t4 : Fin k0_t4_loop.trips) (k0_t7 : Fin k0_t7_loop.trips) : ClosedOff (k0_off103 k0_t1 k0_t4 k0_t7) := ⟨_, off103_eq k0_t1 k0_t4 k0_t7⟩
theorem off104_eq (k0_t1 : Fin k0_t1_loop.trips) (k0_t4 : Fin k0_t4_loop.trips) (k0_t7 : Fin k0_t7_loop.trips) : k0_off104 k0_t1 k0_t4 k0_t7 = ![(Ring.sl 8 (14 * k0_t1.val + k0_t4.val)).val, k0_t7.val * 256 + 128, 2176] := tile_off k0_t1 k0_t4 k0_t7 128 2176
instance (k0_t1 : Fin k0_t1_loop.trips) (k0_t4 : Fin k0_t4_loop.trips) (k0_t7 : Fin k0_t7_loop.trips) : ClosedOff (k0_off104 k0_t1 k0_t4 k0_t7) := ⟨_, off104_eq k0_t1 k0_t4 k0_t7⟩
theorem off105_eq (k0_t1 : Fin k0_t1_loop.trips) (k0_t4 : Fin k0_t4_loop.trips) (k0_t7 : Fin k0_t7_loop.trips) : k0_off105 k0_t1 k0_t4 k0_t7 = ![(Ring.sl 8 (14 * k0_t1.val + k0_t4.val)).val, k0_t7.val * 256 + 192, 2176] := tile_off k0_t1 k0_t4 k0_t7 192 2176
instance (k0_t1 : Fin k0_t1_loop.trips) (k0_t4 : Fin k0_t4_loop.trips) (k0_t7 : Fin k0_t7_loop.trips) : ClosedOff (k0_off105 k0_t1 k0_t4 k0_t7) := ⟨_, off105_eq k0_t1 k0_t4 k0_t7⟩
theorem off106_eq (k0_t1 : Fin k0_t1_loop.trips) (k0_t4 : Fin k0_t4_loop.trips) (k0_t7 : Fin k0_t7_loop.trips) : k0_off106 k0_t1 k0_t4 k0_t7 = ![(Ring.sl 8 (14 * k0_t1.val + k0_t4.val)).val, k0_t7.val * 256 + 0, 2304] := tile_off0 k0_t1 k0_t4 k0_t7 2304
instance (k0_t1 : Fin k0_t1_loop.trips) (k0_t4 : Fin k0_t4_loop.trips) (k0_t7 : Fin k0_t7_loop.trips) : ClosedOff (k0_off106 k0_t1 k0_t4 k0_t7) := ⟨_, off106_eq k0_t1 k0_t4 k0_t7⟩
theorem off107_eq (k0_t1 : Fin k0_t1_loop.trips) (k0_t4 : Fin k0_t4_loop.trips) (k0_t7 : Fin k0_t7_loop.trips) : k0_off107 k0_t1 k0_t4 k0_t7 = ![(Ring.sl 8 (14 * k0_t1.val + k0_t4.val)).val, k0_t7.val * 256 + 64, 2304] := tile_off k0_t1 k0_t4 k0_t7 64 2304
instance (k0_t1 : Fin k0_t1_loop.trips) (k0_t4 : Fin k0_t4_loop.trips) (k0_t7 : Fin k0_t7_loop.trips) : ClosedOff (k0_off107 k0_t1 k0_t4 k0_t7) := ⟨_, off107_eq k0_t1 k0_t4 k0_t7⟩
theorem off108_eq (k0_t1 : Fin k0_t1_loop.trips) (k0_t4 : Fin k0_t4_loop.trips) (k0_t7 : Fin k0_t7_loop.trips) : k0_off108 k0_t1 k0_t4 k0_t7 = ![(Ring.sl 8 (14 * k0_t1.val + k0_t4.val)).val, k0_t7.val * 256 + 128, 2304] := tile_off k0_t1 k0_t4 k0_t7 128 2304
instance (k0_t1 : Fin k0_t1_loop.trips) (k0_t4 : Fin k0_t4_loop.trips) (k0_t7 : Fin k0_t7_loop.trips) : ClosedOff (k0_off108 k0_t1 k0_t4 k0_t7) := ⟨_, off108_eq k0_t1 k0_t4 k0_t7⟩
theorem off109_eq (k0_t1 : Fin k0_t1_loop.trips) (k0_t4 : Fin k0_t4_loop.trips) (k0_t7 : Fin k0_t7_loop.trips) : k0_off109 k0_t1 k0_t4 k0_t7 = ![(Ring.sl 8 (14 * k0_t1.val + k0_t4.val)).val, k0_t7.val * 256 + 192, 2304] := tile_off k0_t1 k0_t4 k0_t7 192 2304
instance (k0_t1 : Fin k0_t1_loop.trips) (k0_t4 : Fin k0_t4_loop.trips) (k0_t7 : Fin k0_t7_loop.trips) : ClosedOff (k0_off109 k0_t1 k0_t4 k0_t7) := ⟨_, off109_eq k0_t1 k0_t4 k0_t7⟩
theorem off110_eq (k0_t1 : Fin k0_t1_loop.trips) (k0_t4 : Fin k0_t4_loop.trips) (k0_t7 : Fin k0_t7_loop.trips) : k0_off110 k0_t1 k0_t4 k0_t7 = ![(Ring.sl 8 (14 * k0_t1.val + k0_t4.val)).val, k0_t7.val * 256 + 0, 2432] := tile_off0 k0_t1 k0_t4 k0_t7 2432
instance (k0_t1 : Fin k0_t1_loop.trips) (k0_t4 : Fin k0_t4_loop.trips) (k0_t7 : Fin k0_t7_loop.trips) : ClosedOff (k0_off110 k0_t1 k0_t4 k0_t7) := ⟨_, off110_eq k0_t1 k0_t4 k0_t7⟩
theorem off111_eq (k0_t1 : Fin k0_t1_loop.trips) (k0_t4 : Fin k0_t4_loop.trips) (k0_t7 : Fin k0_t7_loop.trips) : k0_off111 k0_t1 k0_t4 k0_t7 = ![(Ring.sl 8 (14 * k0_t1.val + k0_t4.val)).val, k0_t7.val * 256 + 64, 2432] := tile_off k0_t1 k0_t4 k0_t7 64 2432
instance (k0_t1 : Fin k0_t1_loop.trips) (k0_t4 : Fin k0_t4_loop.trips) (k0_t7 : Fin k0_t7_loop.trips) : ClosedOff (k0_off111 k0_t1 k0_t4 k0_t7) := ⟨_, off111_eq k0_t1 k0_t4 k0_t7⟩
theorem off112_eq (k0_t1 : Fin k0_t1_loop.trips) (k0_t4 : Fin k0_t4_loop.trips) (k0_t7 : Fin k0_t7_loop.trips) : k0_off112 k0_t1 k0_t4 k0_t7 = ![(Ring.sl 8 (14 * k0_t1.val + k0_t4.val)).val, k0_t7.val * 256 + 128, 2432] := tile_off k0_t1 k0_t4 k0_t7 128 2432
instance (k0_t1 : Fin k0_t1_loop.trips) (k0_t4 : Fin k0_t4_loop.trips) (k0_t7 : Fin k0_t7_loop.trips) : ClosedOff (k0_off112 k0_t1 k0_t4 k0_t7) := ⟨_, off112_eq k0_t1 k0_t4 k0_t7⟩
theorem off113_eq (k0_t1 : Fin k0_t1_loop.trips) (k0_t4 : Fin k0_t4_loop.trips) (k0_t7 : Fin k0_t7_loop.trips) : k0_off113 k0_t1 k0_t4 k0_t7 = ![(Ring.sl 8 (14 * k0_t1.val + k0_t4.val)).val, k0_t7.val * 256 + 192, 2432] := tile_off k0_t1 k0_t4 k0_t7 192 2432
instance (k0_t1 : Fin k0_t1_loop.trips) (k0_t4 : Fin k0_t4_loop.trips) (k0_t7 : Fin k0_t7_loop.trips) : ClosedOff (k0_off113 k0_t1 k0_t4 k0_t7) := ⟨_, off113_eq k0_t1 k0_t4 k0_t7⟩
theorem off114_eq (k0_t1 : Fin k0_t1_loop.trips) (k0_t4 : Fin k0_t4_loop.trips) (k0_t7 : Fin k0_t7_loop.trips) : k0_off114 k0_t1 k0_t4 k0_t7 = ![(Ring.sl 8 (14 * k0_t1.val + k0_t4.val)).val, k0_t7.val * 256 + 0, 2560] := tile_off0 k0_t1 k0_t4 k0_t7 2560
instance (k0_t1 : Fin k0_t1_loop.trips) (k0_t4 : Fin k0_t4_loop.trips) (k0_t7 : Fin k0_t7_loop.trips) : ClosedOff (k0_off114 k0_t1 k0_t4 k0_t7) := ⟨_, off114_eq k0_t1 k0_t4 k0_t7⟩
theorem off115_eq (k0_t1 : Fin k0_t1_loop.trips) (k0_t4 : Fin k0_t4_loop.trips) (k0_t7 : Fin k0_t7_loop.trips) : k0_off115 k0_t1 k0_t4 k0_t7 = ![(Ring.sl 8 (14 * k0_t1.val + k0_t4.val)).val, k0_t7.val * 256 + 64, 2560] := tile_off k0_t1 k0_t4 k0_t7 64 2560
instance (k0_t1 : Fin k0_t1_loop.trips) (k0_t4 : Fin k0_t4_loop.trips) (k0_t7 : Fin k0_t7_loop.trips) : ClosedOff (k0_off115 k0_t1 k0_t4 k0_t7) := ⟨_, off115_eq k0_t1 k0_t4 k0_t7⟩
theorem off116_eq (k0_t1 : Fin k0_t1_loop.trips) (k0_t4 : Fin k0_t4_loop.trips) (k0_t7 : Fin k0_t7_loop.trips) : k0_off116 k0_t1 k0_t4 k0_t7 = ![(Ring.sl 8 (14 * k0_t1.val + k0_t4.val)).val, k0_t7.val * 256 + 128, 2560] := tile_off k0_t1 k0_t4 k0_t7 128 2560
instance (k0_t1 : Fin k0_t1_loop.trips) (k0_t4 : Fin k0_t4_loop.trips) (k0_t7 : Fin k0_t7_loop.trips) : ClosedOff (k0_off116 k0_t1 k0_t4 k0_t7) := ⟨_, off116_eq k0_t1 k0_t4 k0_t7⟩
theorem off117_eq (k0_t1 : Fin k0_t1_loop.trips) (k0_t4 : Fin k0_t4_loop.trips) (k0_t7 : Fin k0_t7_loop.trips) : k0_off117 k0_t1 k0_t4 k0_t7 = ![(Ring.sl 8 (14 * k0_t1.val + k0_t4.val)).val, k0_t7.val * 256 + 192, 2560] := tile_off k0_t1 k0_t4 k0_t7 192 2560
instance (k0_t1 : Fin k0_t1_loop.trips) (k0_t4 : Fin k0_t4_loop.trips) (k0_t7 : Fin k0_t7_loop.trips) : ClosedOff (k0_off117 k0_t1 k0_t4 k0_t7) := ⟨_, off117_eq k0_t1 k0_t4 k0_t7⟩
theorem off118_eq (k0_t1 : Fin k0_t1_loop.trips) (k0_t4 : Fin k0_t4_loop.trips) (k0_t7 : Fin k0_t7_loop.trips) : k0_off118 k0_t1 k0_t4 k0_t7 = ![(Ring.sl 8 (14 * k0_t1.val + k0_t4.val)).val, k0_t7.val * 256 + 0, 2688] := tile_off0 k0_t1 k0_t4 k0_t7 2688
instance (k0_t1 : Fin k0_t1_loop.trips) (k0_t4 : Fin k0_t4_loop.trips) (k0_t7 : Fin k0_t7_loop.trips) : ClosedOff (k0_off118 k0_t1 k0_t4 k0_t7) := ⟨_, off118_eq k0_t1 k0_t4 k0_t7⟩
theorem off119_eq (k0_t1 : Fin k0_t1_loop.trips) (k0_t4 : Fin k0_t4_loop.trips) (k0_t7 : Fin k0_t7_loop.trips) : k0_off119 k0_t1 k0_t4 k0_t7 = ![(Ring.sl 8 (14 * k0_t1.val + k0_t4.val)).val, k0_t7.val * 256 + 64, 2688] := tile_off k0_t1 k0_t4 k0_t7 64 2688
instance (k0_t1 : Fin k0_t1_loop.trips) (k0_t4 : Fin k0_t4_loop.trips) (k0_t7 : Fin k0_t7_loop.trips) : ClosedOff (k0_off119 k0_t1 k0_t4 k0_t7) := ⟨_, off119_eq k0_t1 k0_t4 k0_t7⟩
theorem off120_eq (k0_t1 : Fin k0_t1_loop.trips) (k0_t4 : Fin k0_t4_loop.trips) (k0_t7 : Fin k0_t7_loop.trips) : k0_off120 k0_t1 k0_t4 k0_t7 = ![(Ring.sl 8 (14 * k0_t1.val + k0_t4.val)).val, k0_t7.val * 256 + 128, 2688] := tile_off k0_t1 k0_t4 k0_t7 128 2688
instance (k0_t1 : Fin k0_t1_loop.trips) (k0_t4 : Fin k0_t4_loop.trips) (k0_t7 : Fin k0_t7_loop.trips) : ClosedOff (k0_off120 k0_t1 k0_t4 k0_t7) := ⟨_, off120_eq k0_t1 k0_t4 k0_t7⟩
theorem off121_eq (k0_t1 : Fin k0_t1_loop.trips) (k0_t4 : Fin k0_t4_loop.trips) (k0_t7 : Fin k0_t7_loop.trips) : k0_off121 k0_t1 k0_t4 k0_t7 = ![(Ring.sl 8 (14 * k0_t1.val + k0_t4.val)).val, k0_t7.val * 256 + 192, 2688] := tile_off k0_t1 k0_t4 k0_t7 192 2688
instance (k0_t1 : Fin k0_t1_loop.trips) (k0_t4 : Fin k0_t4_loop.trips) (k0_t7 : Fin k0_t7_loop.trips) : ClosedOff (k0_off121 k0_t1 k0_t4 k0_t7) := ⟨_, off121_eq k0_t1 k0_t4 k0_t7⟩
theorem off122_eq (k0_t1 : Fin k0_t1_loop.trips) (k0_t4 : Fin k0_t4_loop.trips) (k0_t7 : Fin k0_t7_loop.trips) : k0_off122 k0_t1 k0_t4 k0_t7 = ![(Ring.sl 8 (14 * k0_t1.val + k0_t4.val)).val, k0_t7.val * 256 + 0, 2816] := tile_off0 k0_t1 k0_t4 k0_t7 2816
instance (k0_t1 : Fin k0_t1_loop.trips) (k0_t4 : Fin k0_t4_loop.trips) (k0_t7 : Fin k0_t7_loop.trips) : ClosedOff (k0_off122 k0_t1 k0_t4 k0_t7) := ⟨_, off122_eq k0_t1 k0_t4 k0_t7⟩
theorem off123_eq (k0_t1 : Fin k0_t1_loop.trips) (k0_t4 : Fin k0_t4_loop.trips) (k0_t7 : Fin k0_t7_loop.trips) : k0_off123 k0_t1 k0_t4 k0_t7 = ![(Ring.sl 8 (14 * k0_t1.val + k0_t4.val)).val, k0_t7.val * 256 + 64, 2816] := tile_off k0_t1 k0_t4 k0_t7 64 2816
instance (k0_t1 : Fin k0_t1_loop.trips) (k0_t4 : Fin k0_t4_loop.trips) (k0_t7 : Fin k0_t7_loop.trips) : ClosedOff (k0_off123 k0_t1 k0_t4 k0_t7) := ⟨_, off123_eq k0_t1 k0_t4 k0_t7⟩
theorem off124_eq (k0_t1 : Fin k0_t1_loop.trips) (k0_t4 : Fin k0_t4_loop.trips) (k0_t7 : Fin k0_t7_loop.trips) : k0_off124 k0_t1 k0_t4 k0_t7 = ![(Ring.sl 8 (14 * k0_t1.val + k0_t4.val)).val, k0_t7.val * 256 + 128, 2816] := tile_off k0_t1 k0_t4 k0_t7 128 2816
instance (k0_t1 : Fin k0_t1_loop.trips) (k0_t4 : Fin k0_t4_loop.trips) (k0_t7 : Fin k0_t7_loop.trips) : ClosedOff (k0_off124 k0_t1 k0_t4 k0_t7) := ⟨_, off124_eq k0_t1 k0_t4 k0_t7⟩
theorem off125_eq (k0_t1 : Fin k0_t1_loop.trips) (k0_t4 : Fin k0_t4_loop.trips) (k0_t7 : Fin k0_t7_loop.trips) : k0_off125 k0_t1 k0_t4 k0_t7 = ![(Ring.sl 8 (14 * k0_t1.val + k0_t4.val)).val, k0_t7.val * 256 + 192, 2816] := tile_off k0_t1 k0_t4 k0_t7 192 2816
instance (k0_t1 : Fin k0_t1_loop.trips) (k0_t4 : Fin k0_t4_loop.trips) (k0_t7 : Fin k0_t7_loop.trips) : ClosedOff (k0_off125 k0_t1 k0_t4 k0_t7) := ⟨_, off125_eq k0_t1 k0_t4 k0_t7⟩
theorem off126_eq (k0_t1 : Fin k0_t1_loop.trips) (k0_t4 : Fin k0_t4_loop.trips) (k0_t7 : Fin k0_t7_loop.trips) : k0_off126 k0_t1 k0_t4 k0_t7 = ![(Ring.sl 8 (14 * k0_t1.val + k0_t4.val)).val, k0_t7.val * 256 + 0, 2944] := tile_off0 k0_t1 k0_t4 k0_t7 2944
instance (k0_t1 : Fin k0_t1_loop.trips) (k0_t4 : Fin k0_t4_loop.trips) (k0_t7 : Fin k0_t7_loop.trips) : ClosedOff (k0_off126 k0_t1 k0_t4 k0_t7) := ⟨_, off126_eq k0_t1 k0_t4 k0_t7⟩
theorem off127_eq (k0_t1 : Fin k0_t1_loop.trips) (k0_t4 : Fin k0_t4_loop.trips) (k0_t7 : Fin k0_t7_loop.trips) : k0_off127 k0_t1 k0_t4 k0_t7 = ![(Ring.sl 8 (14 * k0_t1.val + k0_t4.val)).val, k0_t7.val * 256 + 64, 2944] := tile_off k0_t1 k0_t4 k0_t7 64 2944
instance (k0_t1 : Fin k0_t1_loop.trips) (k0_t4 : Fin k0_t4_loop.trips) (k0_t7 : Fin k0_t7_loop.trips) : ClosedOff (k0_off127 k0_t1 k0_t4 k0_t7) := ⟨_, off127_eq k0_t1 k0_t4 k0_t7⟩
theorem off128_eq (k0_t1 : Fin k0_t1_loop.trips) (k0_t4 : Fin k0_t4_loop.trips) (k0_t7 : Fin k0_t7_loop.trips) : k0_off128 k0_t1 k0_t4 k0_t7 = ![(Ring.sl 8 (14 * k0_t1.val + k0_t4.val)).val, k0_t7.val * 256 + 128, 2944] := tile_off k0_t1 k0_t4 k0_t7 128 2944
instance (k0_t1 : Fin k0_t1_loop.trips) (k0_t4 : Fin k0_t4_loop.trips) (k0_t7 : Fin k0_t7_loop.trips) : ClosedOff (k0_off128 k0_t1 k0_t4 k0_t7) := ⟨_, off128_eq k0_t1 k0_t4 k0_t7⟩
theorem off129_eq (k0_t1 : Fin k0_t1_loop.trips) (k0_t4 : Fin k0_t4_loop.trips) (k0_t7 : Fin k0_t7_loop.trips) : k0_off129 k0_t1 k0_t4 k0_t7 = ![(Ring.sl 8 (14 * k0_t1.val + k0_t4.val)).val, k0_t7.val * 256 + 192, 2944] := tile_off k0_t1 k0_t4 k0_t7 192 2944
instance (k0_t1 : Fin k0_t1_loop.trips) (k0_t4 : Fin k0_t4_loop.trips) (k0_t7 : Fin k0_t7_loop.trips) : ClosedOff (k0_off129 k0_t1 k0_t4 k0_t7) := ⟨_, off129_eq k0_t1 k0_t4 k0_t7⟩

end Cert.Proof.KernelP
-- ==== Proof.Kernel.Pieces.lean ====
/-
  PIECES. What the run holds of each buffer: blocks of the arrays in HBM, slots of the two rings, semaphore cells at
  zero, and copies in flight. A block of the packed weights and the output block the kernel makes of it are related by
  `tile`: byte `(i, j)` of the output joins the four-bit codes at row `j / 2`, columns `2 i` and `2 i + 1` of the
  input block (the low codes for even `j`, the high codes for odd `j`).
-/
module

public import proofs.«01_k».proof.Proof.Kernel.Names

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

abbrev 𝒱₀ : Variants := Variants.none

/-- The four-bit code of a byte: its low half for an even `j`, its high half for an odd one. -/
def nib (j : Nat) (b : BitVec 8) : BitVec 8 := if j % 2 = 0 then b &&& 15#8 else b >>> 4
/-- Two codes joined, the first in the low half. -/
def join (lo hi : BitVec 8) : BitVec 8 := lo ||| (hi <<< 4)
/-- The index of an input block's element at row `r`, column `q`. -/
def iix (r q : Nat) (hr : r < 1536) (hq : q < 2048) : S1536x2048.Idx
  | ⟨0, _⟩ => ⟨r, hr⟩
  | ⟨1, _⟩ => ⟨q, hq⟩
/-- The output block made of the input block `B`. -/
def tile (B : S1536x2048.Idx → BitVec 8) (i : S1024x3072.Idx) : BitVec 8 :=
  have h0 : (i 0).val < 1024 := (i 0).isLt
  have h1 : (i 1).val < 3072 := (i 1).isLt
  join (nib (i 1).val (B (iix ((i 1).val / 2) (2 * (i 0).val) (by omega) (by omega))))
    (nib (i 1).val (B (iix ((i 1).val / 2) (2 * (i 0).val + 1) (by omega) (by omega))))

section Pieces
variable (c : Dev nD)
  (XA : Buf (Elt F) (wM.view.loc (c : Thread nD τ))) (XS : Buf (Elt F) (scM.view.loc (c : Thread nD τ)))

abbrev ismP (s : Fin 9) : sProp 𝕄 := semVal ((c : Thread nD τ), SemLoc.dma (ism s).sem) 0
abbrev osmP (s : Fin 8) : sProp 𝕄 := semVal ((c : Thread nD τ), SemLoc.dma (osm s).sem) 0
abbrev islotP (s : Fin 9) (f : Buf (Elt F) ((islot s).view.loc (c : Thread nD τ))) : sProp 𝕄 :=
  (islot s).view.loc (c : Thread nD τ) ↦[(islot s).view.set]{fullShare} f
abbrev oslotP (s : Fin 8) (g : Buf (Elt F) ((oslot s).view.loc (c : Thread nD τ))) : sProp 𝕄 :=
  (oslot s).view.loc (c : Thread nD τ) ↦[(oslot s).view.set]{fullShare} g
/-- Block `b` of the packed weights, at the array's contents. -/
abbrev iblkP (b : Fin 28) : sProp 𝕄 := (iblk b).view.loc (c : Thread nD τ) ↦[(iblk b).view.set]{fullShare} XA
abbrev oblkP (b : Fin 28) (x : Buf (Elt F) ((oblk b).view.loc (c : Thread nD τ))) : sProp 𝕄 :=
  (oblk b).view.loc (c : Thread nD τ) ↦[(oblk b).view.set]{fullShare} x
abbrev sblkP (b : Fin 2) : sProp 𝕄 := (sblk b).view.loc (c : Thread nD τ) ↦[(sblk b).view.set]{fullShare} XS
abbrev tsblkP (b : Fin 2) (x : Buf (Elt F) ((tsblk b).view.loc (c : Thread nD τ))) : sProp 𝕄 :=
  (tsblk b).view.loc (c : Thread nD τ) ↦[(tsblk b).view.set]{fullShare} x
abbrev sbufP (f : Buf (Elt F) (sbM.view.loc (c : Thread nD τ))) : sProp 𝕄 := sbM.view.loc (c : Thread nD τ) ↦[sbM.view.set]{fullShare} f
abbrev sinP : sProp 𝕄 := semVal ((c : Thread nD τ), SemLoc.dma cc0_scratch5.sem) 0
abbrev soutP : sProp 𝕄 := semVal ((c : Thread nD τ), SemLoc.dma cc0_scratch6.sem) 0

/-- Input block `b`'s bytes. -/
abbrev inB (b : Fin 28) : S1536x2048.Idx → Elt F .i8 := (iblk b).view.read (Elt F) XA
/-- What the copy of block `b` into slot `s` leaves there. -/
abbrev landI (s : Fin 9) (b : Fin 28) (f : Buf (Elt F) ((islot s).view.loc (c : Thread nD τ))) : Buf (Elt F) ((islot s).view.loc (c : Thread nD τ)) :=
  (islot s).view.writes (Elt F) f [⟨Rect.whole S1536x2048, ReadAs.same.apply ((iblk b).view.read (Elt F) XA)⟩]
/-- What the copy out of slot `s` leaves in block `b`. -/
abbrev landO (s : Fin 8) (b : Fin 28) (g : Buf (Elt F) ((oslot s).view.loc (c : Thread nD τ))) (x : Buf (Elt F) ((oblk b).view.loc (c : Thread nD τ))) : Buf (Elt F) ((oblk b).view.loc (c : Thread nD τ)) :=
  (oblk b).view.writes (Elt F) x [⟨Rect.whole S1024x3072, ReadAs.same.apply ((oslot s).view.read (Elt F) g)⟩]

end Pieces

section Intervals
/-! ## Families over intervals of copy numbers -/
theorem ico_empty (Φ : ℕ → sProp 𝕄) (a : ℕ) : bigSep (Finset.Ico a a) Φ = (BI.emp : sProp 𝕄) := by
  rw [Finset.Ico_self]; exact bigSep_empty
theorem ico_head (Φ : ℕ → sProp 𝕄) {a b : ℕ} (h : a < b) : bigSep (Finset.Ico a b) Φ = iprop(Φ a ∗ bigSep (Finset.Ico (a + 1) b) Φ) := by
  have e : Finset.Ico a b = insert a (Finset.Ico (a + 1) b) := by ext x; simp only [Finset.mem_insert, Finset.mem_Ico]; omega
  rw [e, bigSep_insert (by simp)]; rfl
theorem ico_last (Φ : ℕ → sProp 𝕄) {a b : ℕ} (h : a ≤ b) : bigSep (Finset.Ico a (b + 1)) Φ = iprop(Φ b ∗ bigSep (Finset.Ico a b) Φ) := by
  have e : Finset.Ico a (b + 1) = insert b (Finset.Ico a b) := by ext x; simp only [Finset.mem_insert, Finset.mem_Ico]; omega
  rw [e, bigSep_insert (by simp)]; rfl
end Intervals

end Cert.Proof.KernelP
-- ==== Proof.Kernel.Fam.lean ====
/-
  FAMILIES OF COPIES. The copies of a cycle are numbered `o + j`, `o = 14 * cycle`. A state of a ring is a separating
  product over intervals of `j`: input blocks at home, input copies in flight, landed slots idle; output slots free,
  output slots written, output copies in flight, output blocks done and not yet done.
-/
module

public import proofs.«01_k».proof.Proof.Kernel.Pieces

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Generic
/-- The product of `X (o + j)` over `a ≤ j < b`. -/
def fam (X : ℕ → sProp 𝕄) (o a b : ℕ) : sProp 𝕄 := bigSep (Finset.Ico a b) (fun j => X (o + j))
theorem fam_head (X : ℕ → sProp 𝕄) (o : ℕ) {a b : ℕ} (h : a < b) : fam X o a b ⊢ iprop(X (o + a) ∗ fam X o (a + 1) b) := Entails.of_eq (ico_head _ h)
theorem fam_cons (X : ℕ → sProp 𝕄) (o : ℕ) {a b : ℕ} (h : a < b) : iprop(X (o + a) ∗ fam X o (a + 1) b) ⊢ fam X o a b := Entails.of_eq (ico_head (fun j => X (o + j)) h).symm
theorem fam_snoc (X : ℕ → sProp 𝕄) (o : ℕ) {a b : ℕ} (h : a ≤ b) : iprop(X (o + b) ∗ fam X o a b) ⊢ fam X o a (b + 1) := Entails.of_eq (ico_last (fun j => X (o + j)) h).symm
theorem fam_last (X : ℕ → sProp 𝕄) (o : ℕ) {a b : ℕ} (h : a ≤ b) : fam X o a (b + 1) ⊢ iprop(X (o + b) ∗ fam X o a b) := Entails.of_eq (ico_last _ h)
theorem fam_nil_eq (X : ℕ → sProp 𝕄) (o : ℕ) {a b : ℕ} (h : b ≤ a) : fam X o a b = (BI.emp : sProp 𝕄) := by
  unfold fam; rw [Finset.Ico_eq_empty (by omega)]; exact bigSep_empty
theorem fam_nil (X : ℕ → sProp 𝕄) (o : ℕ) {a b : ℕ} (h : b ≤ a) : (BI.emp : sProp 𝕄) ⊢ fam X o a b := Entails.of_eq (fam_nil_eq X o h).symm
theorem fam_eq (X : ℕ → sProp 𝕄) (o : ℕ) {a b a' b' : ℕ} (ha : a = a') (hb : b = b') : fam X o a b ⊢ fam X o a' b' := by subst ha; subst hb; exact .rfl
theorem fam_split (X : ℕ → sProp 𝕄) (o : ℕ) {a m b : ℕ} (h : a ≤ m) (h' : m ≤ b) : fam X o a b = iprop(fam X o a m ∗ fam X o m b) := by
  unfold fam
  rw [← Finset.Ico_union_Ico_eq_Ico h h', bigSep_union (Finset.Ico_disjoint_Ico_consecutive _ _ _)]; rfl
theorem fam_shift (X : ℕ → sProp 𝕄) (o a k : ℕ) : fam X o a (a + k) = fam X 0 (o + a) (o + a + k) := by
  induction k with
  | zero => rw [fam_nil_eq X o (by omega), fam_nil_eq X 0 (by omega)]
  | succ k ih =>
    have e1 : fam X o a (a + (k + 1)) = iprop(X (o + (a + k)) ∗ fam X o a (a + k)) := ico_last _ (Nat.le_add_right _ _)
    have e2 : fam X 0 (o + a) (o + a + (k + 1)) = iprop(X (0 + (o + a + k)) ∗ fam X 0 (o + a) (o + a + k)) := ico_last _ (Nat.le_add_right _ _)
    rw [e1, e2, ih, show 0 + (o + a + k) = o + (a + k) from by omega]
/-- A family of period `p` is the same from wherever it starts. -/
theorem fam_rot (X : ℕ → sProp 𝕄) {p : ℕ} (hp : 0 < p) (hX : ∀ n, X (n + p) = X n) (o a : ℕ) : fam X o a (a + p) = fam X o 0 p := by
  induction a with
  | zero => rw [Nat.zero_add]
  | succ a ih =>
    have e1 : fam X o a (a + p) = iprop(X (o + a) ∗ fam X o (a + 1) (a + p)) := ico_head _ (by omega)
    have e2 : fam X o (a + 1) (a + p + 1) = iprop(X (o + (a + p)) ∗ fam X o (a + 1) (a + p)) := ico_last _ (by omega)
    rw [show a + 1 + p = a + p + 1 from by omega, e2, ← ih, e1, ← Nat.add_assoc, hX]
/-- A family over an interval from 0 is the product over `Fin N`. -/
theorem fam_fin (X : ℕ → sProp 𝕄) (N : ℕ) : fam X 0 0 N = bigSep (Finset.univ : Finset (Fin N)) (fun b => X b.val) := by
  have h : (Finset.Ico 0 N) = (Finset.univ : Finset (Fin N)).image (fun b : Fin N => b.val) := by
    ext x; simp only [Finset.mem_Ico, Finset.mem_image, Finset.mem_univ, true_and]
    constructor
    · intro hx; exact ⟨⟨x, hx.2⟩, rfl⟩
    · rintro ⟨b, rfl⟩; exact ⟨Nat.zero_le _, b.isLt⟩
  unfold fam
  rw [h]
  have hi : ∀ s : Finset (Fin N), bigSep (s.image (fun b : Fin N => b.val)) (fun j => X (0 + j)) = bigSep s (fun b => X b.val) := by
    intro s
    induction s using Finset.induction_on with
    | empty => rw [Finset.image_empty, BI.bigSep_empty, BI.bigSep_empty]
    | insert a s ha ih =>
      rw [Finset.image_insert, bigSep_insert, bigSep_insert ha, ih, Nat.zero_add]
      intro hm; obtain ⟨b, hb, he⟩ := Finset.mem_image.1 hm
      exact ha ((Fin.ext he : b = a) ▸ hb)
  exact hi _
end Generic

section Fam
variable (c : Dev nD)
  (XA : Buf (Elt F) (wM.view.loc (c : Thread nD τ))) (XS : Buf (Elt F) (scM.view.loc (c : Thread nD τ)))

/-- What output block `b` is to be. -/
abbrev outB (b : Fin 28) : S1024x3072.Idx → Elt F .i8 := tile (inB c XA b)

abbrev hm (n : ℕ) : sProp 𝕄 := iblkP c XA (Ring.bk 28 n)
abbrev idl (n : ℕ) : sProp 𝕄 := iprop(∃ f, islotP c (Ring.sl 9 n) f ∗ ismP c (Ring.sl 9 n))
abbrev fl (n : ℕ) : sProp 𝕄 := iprop(∃ f, Transfers.Flight countersEmb (c : Thread nD τ) (SemLoc.dma (ism (Ring.sl 9 n)).sem) () 98304
  iprop(islotP c (Ring.sl 9 n) (landI c XA (Ring.sl 9 n) (Ring.bk 28 n) f) ∗ iblkP c XA (Ring.bk 28 n)))
abbrev fro (n : ℕ) : sProp 𝕄 := iprop(∃ g, oslotP c (Ring.sl 8 n) g ∗ osmP c (Ring.sl 8 n))
abbrev wr (n : ℕ) : sProp 𝕄 := iprop(∃ g, oslotP c (Ring.sl 8 n) g ∗ osmP c (Ring.sl 8 n)
  ∗ ⌜(oslot (Ring.sl 8 n)).view.read (Elt F) g = outB c XA (Ring.bk 28 n)⌝)
abbrev flO (n : ℕ) : sProp 𝕄 := iprop(∃ g x, Transfers.Flight countersEmb (c : Thread nD τ) (SemLoc.dma (osm (Ring.sl 8 n)).sem) () 98304
  iprop(oblkP c (Ring.bk 28 n) (landO c (Ring.sl 8 n) (Ring.bk 28 n) g x) ∗ oslotP c (Ring.sl 8 n) g)
  ∗ ⌜(oslot (Ring.sl 8 n)).view.read (Elt F) g = outB c XA (Ring.bk 28 n)⌝)
abbrev nd (n : ℕ) : sProp 𝕄 := iprop(∃ x, oblkP c (Ring.bk 28 n) x)
abbrev dn (n : ℕ) : sProp 𝕄 := iprop(∃ x, oblkP c (Ring.bk 28 n) x ∗ ⌜(oblk (Ring.bk 28 n)).view.read (Elt F) x = outB c XA (Ring.bk 28 n)⌝)
abbrev ow : sProp 𝕄 := iprop(∃ W, owes (c : Thread nD τ) 0 W)
end Fam

theorem read_landI (c : Dev nD) (XA : Buf (Elt F) (wM.view.loc (c : Thread nD τ))) (s b f) :
    (islot s).view.read (Elt F) (landI c XA s b f) = inB c XA b := View.read_writes_whole ..
theorem read_landO (c : Dev nD) (s b g x) :
    (oblk b).view.read (Elt F) (landO (F := F) c s b g x) = (oslot s).view.read (Elt F) g := View.read_writes_whole ..

end Cert.Proof.KernelP
-- ==== Proof.Kernel.Small.lean ====
/-
  THE THREE COPY LOOPS. The loop that starts the copies of the first blocks in, the loop that starts the first copies
  out, and the loop that awaits the last copies out: one trip of each, against families of blocks and slots.
-/
module

public import proofs.«01_k».proof.Proof.Kernel.Fam

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Small
variable (c : Dev nD) (XA : Buf (Elt F) (wM.view.loc (c : Thread nD τ)))

/-- Slots recur after nine copies in, after eight copies out. -/
theorem idl_per (n : ℕ) : idl (F := F) c (n + 9) = idl c n := by
  have e : Ring.sl 9 (n + 9) = Ring.sl 9 n := Ring.sl_add 9 n
  unfold idl; rw [e]
theorem fro_per (n : ℕ) : fro (F := F) c (n + 8) = fro c n := by
  have e : Ring.sl 8 (n + 8) = Ring.sl 8 n := Ring.sl_add 8 n
  unfold fro; rw [e]
theorem idl_next (o k : ℕ) (h : 1 ≤ k) : idl (F := F) c (o + (k - 1)) ⊢ idl c (o + (k + 8)) := by
  rw [show o + (k + 8) = o + (k - 1) + 9 from by omega, idl_per]
theorem fro_next (o k : ℕ) (h : 8 ≤ k) : fro (F := F) c (o + (k - 8)) ⊢ fro c (o + k) := by
  rw [show o + k = o + (k - 8) + 8 from by omega, fro_per]

/-- Before trip `k` of the loop that starts the copies in. -/
def t2Inv (o k : ℕ) (_ : Unit) : sProp 𝕄 :=
  iprop(ow c ∗ fam (idl c) o (k + 1) 9 ∗ fam (hm c XA) o (k + 1) 14 ∗ fam (fl c XA) o 0 (k + 1))
abbrev t2B (k0_t1 : Fin k0_t1_loop.trips) (k : Fin (k0_t2_loop k0_t1).trips) (acc : Unit) : Prog (TpuEff nD τ sig (Elt F) Λ₀ .tc) Unit :=
  k0_t2_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k acc
theorem t2_step (k0_t1 : Fin k0_t1_loop.trips) (k : Fin (k0_t2_loop k0_t1).trips) (acc : Unit) :
    t2Inv c XA (14 * k0_t1.val) k.val acc ⊢ wp frame (wpE (defs₀ (F := F)) 𝒱₀ (c : Thread nD τ) none) Set.univ (t2B k0_t1 k acc) (t2Inv c XA (14 * k0_t1.val) (k.val + 1)) := by
  have hk : k.val < 8 := Nat.lt_of_lt_of_eq k.isLt (t2_trips k0_t1)
  unfold t2Inv
  iintro ⟨⟨%W, Hw⟩, Hi, Hh, Hf⟩
  ihave Hi' := fam_head (idl c) (14 * k0_t1.val) (show k.val + 1 < 9 by omega) $$ Hi
  icases Hi' with ⟨⟨%f, Hs, Hc⟩, Hi⟩
  ihave Hh' := fam_head (hm c XA) (14 * k0_t1.val) (show k.val + 1 < 14 by omega) $$ Hh
  icases Hh' with ⟨Hb, Hh⟩
  dsimp only [t2B]
  sl_unfold [k0_t2_body]
  sl_exec
  sl_step
  isplitl [Hw]; · iexists _; iexact Hw
  isplitl [Hi]; · iexact Hi
  isplitl [Hh]; · iexact Hh
  iapply (fam_snoc (fl c XA) (14 * k0_t1.val) (Nat.zero_le (k.val + 1)))
  isplitl [Hc]
  · iexists f; iexact Hc
  · iexact Hf

/-- Before trip `k` of the loop that starts the first copies out. -/
def t5Inv (o k : ℕ) (_ : Unit) : sProp 𝕄 :=
  iprop(ow c ∗ fam (wr c XA) o k 8 ∗ fam (nd c) o k 14 ∗ fam (flO c XA) o 0 k)
abbrev t5B (k0_t1 : Fin k0_t1_loop.trips) (k0_t4 : Fin k0_t4_loop.trips) (k0_h2 : k0_cond2 k0_t4 = 1#1) (k : Fin (k0_t5_loop k0_t1).trips) (acc : Unit) : Prog (TpuEff nD τ sig (Elt F) Λ₀ .tc) Unit :=
  k0_t5_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k0_t4 k0_h2 k acc
theorem t5_step (k0_t1 : Fin k0_t1_loop.trips) (k0_t4 : Fin k0_t4_loop.trips) (k0_h2 : k0_cond2 k0_t4 = 1#1) (k : Fin (k0_t5_loop k0_t1).trips) (acc : Unit) :
    t5Inv c XA (14 * k0_t1.val) k.val acc ⊢ wp frame (wpE (defs₀ (F := F)) 𝒱₀ (c : Thread nD τ) none) Set.univ (t5B k0_t1 k0_t4 k0_h2 k acc) (t5Inv c XA (14 * k0_t1.val) (k.val + 1)) := by
  have hk : k.val < 8 := Nat.lt_of_lt_of_eq k.isLt (t5_trips k0_t1)
  unfold t5Inv
  iintro ⟨⟨%W, Hw⟩, Hi, Hh, Hf⟩
  ihave Hi' := fam_head (wr c XA) (14 * k0_t1.val) (show k.val < 8 by omega) $$ Hi
  icases Hi' with ⟨⟨%g, Hs, Hc, %he⟩, Hi⟩
  ihave Hh' := fam_head (nd c) (14 * k0_t1.val) (show k.val < 14 by omega) $$ Hh
  icases Hh' with ⟨⟨%x, Hb⟩, Hh⟩
  dsimp only [t5B]
  sl_unfold [k0_t5_body]
  sl_exec
  sl_step
  isplitl [Hw]; · iexists _; iexact Hw
  isplitl [Hi]; · iexact Hi
  isplitl [Hh]; · iexact Hh
  iapply (fam_snoc (flO c XA) (14 * k0_t1.val) (Nat.zero_le k.val))
  isplitl [Hc]
  · iexists g; iexists x
    isplitl [Hc]; · iexact Hc
    ipureintro; exact he
  · iexact Hf

/-- Before trip `k` of the loop that awaits the last copies out. -/
def t8Inv (o k : ℕ) (_ : Unit) : sProp 𝕄 :=
  iprop(ow c ∗ fam (flO c XA) o (k + 6) 14 ∗ fam (fro c) o 6 (k + 6) ∗ fam (dn c XA) o 0 (k + 6))
abbrev t8B (k0_t1 : Fin k0_t1_loop.trips) (k : Fin (k0_t8_loop k0_t1).trips) (acc : Unit) : Prog (TpuEff nD τ sig (Elt F) Λ₀ .tc) Unit :=
  k0_t8_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 k0_t1 k acc
theorem t8_step (k0_t1 : Fin k0_t1_loop.trips) (k : Fin (k0_t8_loop k0_t1).trips) (acc : Unit) :
    t8Inv c XA (14 * k0_t1.val) k.val acc ⊢ wp frame (wpE (defs₀ (F := F)) 𝒱₀ (c : Thread nD τ) none) Set.univ (t8B k0_t1 k acc) (t8Inv c XA (14 * k0_t1.val) (k.val + 1)) := by
  have hk : k.val < 8 := Nat.lt_of_lt_of_eq k.isLt (t8_trips k0_t1)
  unfold t8Inv
  iintro ⟨⟨%W, Hw⟩, Hi, Hh, Hf⟩
  ihave Hi' := fam_head (flO c XA) (14 * k0_t1.val) (show k.val + 6 < 14 by omega) $$ Hi
  icases Hi' with ⟨⟨%g, %x, Hc, %he⟩, Hi⟩
  dsimp only [t8B]
  sl_unfold [k0_t8_body]
  sl_exec
  sl_step
  rw [show k.val + 1 + 6 = k.val + 6 + 1 from by omega]
  isplitl [Hw]; · iexists _; iexact Hw
  isplitl [Hi]; · iexact Hi
  isplitl [Hh Hc Hc_src]
  · iapply (fam_snoc (fro c) (14 * k0_t1.val) (show 6 ≤ k.val + 6 by omega))
    isplitl [Hc Hc_src]
    · iexists g
      isplitl [Hc_src]; · iexact Hc_src
      iexact Hc
    · iexact Hh
  iapply (fam_snoc (dn c XA) (14 * k0_t1.val) (Nat.zero_le (k.val + 6)))
  isplitl [Hc_dst]
  · iexists _
    isplitl [Hc_dst]; · iexact Hc_dst
    ipureintro; exact (read_landO ..).trans he
  · iexact Hf
end Small

end Cert.Proof.KernelP
-- ==== Proof.Kernel.Pay.lean ====
/-
  THE TILE'S ARITHMETIC. A tile takes 64 rows of 128 packed bytes twice, `x` and `y`, 128 columns apart, and stores two
  tiles of 64 rows: `pLo` from `x`, `pHi` from `y`. Read at an index, each is two codes of its source joined.
-/
module

public import Idealize.ShloMosaic.Lib.PointwiseCore
public import Idealize.ShloMosaic.Lib.BitcastFour
public import proofs.«01_k».proof.Proof.Kernel.Pieces

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

set_option maxRecDepth 16384

/-- The first tile's stored value. -/
def pLo (x y : S64x128.Idx → BitVec 8) : S1x64x128.Idx → BitVec 8 := k0_pay4 (F := F) (k0_pay1 (F := F) x) (k0_pay2 (F := F) y)
/-- The second tile's. -/
def pHi (x y : S64x128.Idx → BitVec 8) : S1x64x128.Idx → BitVec 8 := k0_pay6 (F := F) (k0_pay5 (k0_pay1 (F := F) x) (k0_pay2 (F := F) y))

/-- A byte's code as the kernel spells it: the half shifted to the top of a word and back with its sign. -/
def cde (r : ℕ) (b : BitVec 8) : BitVec 32 :=
  if r % 2 < 1 then IntOp.shrsi ArithUnit.vector (IntOp.shli ArithUnit.vector (BitVec.setWidth 32 b) 28#32) 28#32
  else IntOp.shrsi ArithUnit.vector (IntOp.shli ArithUnit.vector (BitVec.setWidth 32 b) 24#32) 28#32

theorem cde0_and : ∀ b : BitVec 8, (BitVec.setWidth 8 (IntOp.shrsi ArithUnit.vector (IntOp.shli ArithUnit.vector (BitVec.setWidth 32 b) 28#32) 28#32)) &&& 15#8 = b &&& 15#8 := by decide +kernel
theorem cde0_shl : ∀ b : BitVec 8, (BitVec.setWidth 8 (IntOp.shrsi ArithUnit.vector (IntOp.shli ArithUnit.vector (BitVec.setWidth 32 b) 28#32) 28#32)) <<< 4 = (b &&& 15#8) <<< 4 := by decide +kernel
theorem cde1_and : ∀ b : BitVec 8, (BitVec.setWidth 8 (IntOp.shrsi ArithUnit.vector (IntOp.shli ArithUnit.vector (BitVec.setWidth 32 b) 24#32) 28#32)) &&& 15#8 = b >>> 4 := by decide +kernel
theorem cde1_shl : ∀ b : BitVec 8, (BitVec.setWidth 8 (IntOp.shrsi ArithUnit.vector (IntOp.shli ArithUnit.vector (BitVec.setWidth 32 b) 24#32) 28#32)) <<< 4 = (b >>> 4) <<< 4 := by decide +kernel
theorem cde_and (r : ℕ) (b : BitVec 8) : BitVec.setWidth 8 (cde r b) &&& 15#8 = nib r b := by
  unfold cde nib
  by_cases h : r % 2 = 0
  · rw [if_pos h, if_pos (by omega)]; exact cde0_and b
  · rw [if_neg h, if_neg (by omega)]; exact cde1_and b
theorem cde_shl (r : ℕ) (b : BitVec 8) : BitVec.setWidth 8 (cde r b) <<< 4 = nib r b <<< 4 := by
  unfold cde nib
  by_cases h : r % 2 = 0
  · rw [if_pos h, if_pos (by omega)]; exact cde0_shl b
  · rw [if_neg h, if_neg (by omega)]; exact cde1_shl b

/-- Two codes packed in a byte. -/
theorem pack_eq (u v : BitVec 8) : BitVec.setWidth 8 (IntOp.ori (IntOp.andi (BitVec.signExtend 32 u) 15#32) (IntOp.shli ArithUnit.vector (BitVec.signExtend 32 v) 4#32))
    = (u &&& 15#8) ||| (v <<< 4) := by
  have e : IntOp.ori (IntOp.andi (BitVec.signExtend 32 u) 15#32) (IntOp.shli ArithUnit.vector (BitVec.signExtend 32 v) 4#32)
      = ((BitVec.signExtend 32 u) &&& 15#32) ||| ((BitVec.signExtend 32 v) <<< 4) := rfl
  rw [e]
  apply BitVec.eq_of_getLsbD_eq
  intro i hi
  interval_cases i <;> simp [BitVec.getLsbD_setWidth, BitVec.getElem_signExtend]
theorem pk_and (u v : BitVec 8) : ((u &&& 15#8) ||| (v <<< 4)) &&& 15#8 = u &&& 15#8 := by
  apply BitVec.eq_of_getLsbD_eq
  intro i hi
  interval_cases i <;> simp
theorem pk_shl (u v : BitVec 8) : ((u &&& 15#8) ||| (v <<< 4)) <<< 4 = u <<< 4 := by
  apply BitVec.eq_of_getLsbD_eq
  intro i hi
  interval_cases i <;> simp
theorem pk_shr (u v : BitVec 8) : ((u &&& 15#8) ||| (v <<< 4)) >>> 4 = v &&& 15#8 := by
  apply BitVec.eq_of_getLsbD_eq
  intro i hi
  interval_cases i <;> simp
theorem sh_and (z : BitVec 8) : (z >>> 4) <<< 4 = (z >>> 4 &&& 15#8) <<< 4 := by
  apply BitVec.eq_of_getLsbD_eq
  intro i hi
  interval_cases i <;> simp
theorem and_shl (z : BitVec 8) : (z &&& 15#8) <<< 4 = z <<< 4 := by
  apply BitVec.eq_of_getLsbD_eq
  intro i hi
  interval_cases i <;> simp

theorem pay1_apply (x : S64x128.Idx → BitVec 8) (r l : Fin 128) :
    k0_pay1 (F := F) x (ix2 r l) = BitVec.setWidth 8 (cde r.val (x (ix2 ⟨r.val / 2, by omega⟩ l))) := by
  pointwise [k0_pay1]; rfl
theorem pay2_apply (x : S64x128.Idx → BitVec 8) (r l : Fin 128) :
    k0_pay2 (F := F) x (ix2 r l) = cde r.val (x (ix2 ⟨r.val / 2, by omega⟩ l)) := by
  pointwise [k0_pay2]; rfl
theorem pay3_apply (x : S128x128.Idx → BitVec 8) (y : S128x128.Idx → BitVec 32) (r l : Fin 128) :
    k0_pay3 x y (ix2 r l) = (x (ix2 l r) &&& 15#8) ||| (BitVec.setWidth 8 (y (ix2 l r)) <<< 4) := by
  rw [← pack_eq]
  pointwise [k0_pay3]
theorem pLo_apply (x y : S64x128.Idx → BitVec 8) (r : Fin 64) (l : Fin 128) :
    pLo (F := F) x y (ix3 0 r l) = join (nib l.val (x (ix2 ⟨l.val / 2, by omega⟩ ⟨2 * r.val, by omega⟩)))
      (nib l.val (x (ix2 ⟨l.val / 2, by omega⟩ ⟨2 * r.val + 1, by omega⟩))) := by
  unfold pLo join
  pointwise [k0_pay4]
  rw [pack_eq, pay3_apply, pay3_apply, pk_and, pk_shl, pay1_apply, pay1_apply, cde_and, cde_shl]
  simp only [Nat.mul_comm r.val 2]

/-- A word of four bytes shifted right by four: each byte's low half is its old high half. -/
theorem hi_bit (z : S128x128.Idx → BitVec 8) (r l : Fin 128) (i : ℕ) (hi : i < 4) :
    (bitcast S128x128 8 (shrui (bitcast S32x128 32 z bitcasts_S128x128_w8_S32x128_w32) (broadcast S32x128 4#32)) bitcasts_S32x128_w32_S128x128_w8 (ix2 r l)).getLsbD i
      = (z (ix2 r l)).getLsbD (i + 4) := by
  have hr := r.isLt
  rw [bitcast_getLsbD _ _ _ i (by omega) (by decide)]
  have es : (bitcasts_S32x128_w32_S128x128_w8).srcIdx (ix2 r l) ((S128x128.row (ix2 r l) * 8 + i) / 32) (fun a ha =>
          (Nat.div_lt_iff_lt_mul (by decide)).2 ((bitcasts_S32x128_w32_S128x128_w8).pos_lt (ix2 r l) i (by omega) a ha)) = (ix2 ⟨r.val / 4, by omega⟩ l : S32x128.Idx) := by
    have e : S128x128.row (ix2 r l) = r.val := rfl
    funext a
    fin_cases a
    · apply Fin.ext; show (S128x128.row (ix2 r l) * 8 + i) / 32 = r.val / 4; rw [e]; omega
    · rfl
  rw [es]
  have e : S128x128.row (ix2 r l) = r.val := rfl
  rw [e]
  have eb : shrui (bitcast S32x128 32 z bitcasts_S128x128_w8_S32x128_w32) (broadcast S32x128 4#32) (ix2 ⟨r.val / 4, by omega⟩ l)
      = (bitcast S32x128 32 z bitcasts_S128x128_w8_S32x128_w32 (ix2 ⟨r.val / 4, by omega⟩ l)) >>> 4 := rfl
  rw [eb, BitVec.getLsbD_ushiftRight]
  refine (bitcast_8_32_getLsbD_ix2 z _ _ _ _ (by omega) r (by show r.val = 4 * (r.val / 4) + _; omega)).trans ?_
  congr 1; omega
theorem hi_and (z : S128x128.Idx → BitVec 8) (r l : Fin 128) :
    bitcast S128x128 8 (shrui (bitcast S32x128 32 z bitcasts_S128x128_w8_S32x128_w32) (broadcast S32x128 4#32)) bitcasts_S32x128_w32_S128x128_w8 (ix2 r l) &&& 15#8
      = z (ix2 r l) >>> 4 := by
  apply BitVec.eq_of_getLsbD_eq
  intro i hi
  rw [BitVec.getLsbD_and, BitVec.getLsbD_ushiftRight]
  by_cases h : i < 4
  · rw [hi_bit z r l i h, Nat.add_comm 4 i]
    interval_cases i <;> simp
  · rw [BitVec.getLsbD_of_ge (z (ix2 r l)) (4 + i) (by omega)]
    interval_cases i <;> simp at h ⊢
theorem pHi_apply (x y : S64x128.Idx → BitVec 8) (r : Fin 64) (l : Fin 128) :
    pHi (F := F) x y (ix3 0 r l) = join (nib l.val (y (ix2 ⟨l.val / 2, by omega⟩ ⟨2 * r.val, by omega⟩)))
      (nib l.val (y (ix2 ⟨l.val / 2, by omega⟩ ⟨2 * r.val + 1, by omega⟩))) := by
  unfold pHi join
  pointwise [k0_pay6, k0_pay5]
  rw [pack_eq, ← and_shl, hi_and, hi_and, pay3_apply, pay3_apply, pk_shr, pk_shr, pay2_apply, pay2_apply, cde_and, cde_and]
  simp only [Nat.mul_comm r.val 2]

end Cert.Proof.KernelP
-- ==== Proof.Kernel.Val.lean ====
/-
  THE VALUES OF A PART. Before part `k`, `q` tiles of it stored (`Upto`): the output slot holds the output block in its
  rows below `256 k`, and in the first `q` tiles of the 256 rows from there; tile `4 p + a` is rows `64 a`, columns
  `128 p`. One store advances `q` by one (`upto_step`), its payload being two codes joined at every index.
-/
module

public import proofs.«01_k».proof.Proof.Kernel.Pay
public import proofs.«01_k».proof.Proof.Kernel.Fam

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Val
variable (c : Dev nD)

/-- The first `k` parts done, and `q` tiles of the next. -/
def Upto (s : Fin 8) (B : S1536x2048.Idx → BitVec 8) (g : Buf (Elt F) ((oslot s).view.loc (c : Thread nD τ))) (k q : ℕ) : Prop :=
  ∀ (i : Fin 1024) (j : Fin 3072), (i.val < 256 * k ∨ (i.val < 256 * (k + 1) ∧ 4 * (j.val / 128) + (i.val - 256 * k) / 64 < q)) →
    (oslot s).view.read (Elt F) g (ix2 i j) = tile B (ix2 i j)

/-- The output slot's element as the ring buffer's. -/
theorem oslot_emb (s : Fin 8) (i : Fin 1024) (j : Fin 3072) : (oslot s).view.emb (ix2 i j) = ix3 (⟨s.val, s.isLt⟩ : Fin 8) i j := by
  have hr : Shape.reshapeEquiv (squeezes_S1x1024x3072_S1024x3072).numel_eq (ix2 i j) = (ix3 (0 : Fin 1) i j : S1x1024x3072.Idx) :=
    Shape.reshapeEquiv_eq_of_rowMajor _ (by
      rw [Shape.rowMajor_val_three, Shape.rowMajor_val_two]
      show ((0 * 1024 + i.val) * 3072 + j.val) = i.val * 3072 + j.val
      omega)
  show (Rect.unit (s := S8x1024x3072) (oslotOff s) S1x1024x3072.size (oslotOff_inb s)).emb (Shape.reshapeEquiv _ (ix2 i j)) = _
  rw [hr]
  funext a
  apply Fin.ext
  fin_cases a
  · show s.val + 1 * 0 = s.val; omega
  · show 0 + 1 * i.val = i.val; omega
  · show 0 + 1 * j.val = j.val; omega

theorem oslot_read (s : Fin 8) (g : Buf (Elt F) ((oslot s).view.loc (c : Thread nD τ))) (i : Fin 1024) (j : Fin 3072) :
    (oslot s).view.read (Elt F) g (ix2 i j) = tbM.view.read (Elt F) g (ix3 (⟨s.val, s.isLt⟩ : Fin 8) i j) := by
  show g ((oslot s).view.emb (ix2 i j)) = _
  rw [oslot_emb]; rfl

theorem upto_step {s : Fin 8} {B : S1536x2048.Idx → BitVec 8} {g : Buf (Elt F) ((oslot s).view.loc (c : Thread nD τ))} {k : ℕ} (p a q : ℕ)
    {off : Fin 3 → ℕ} {inb} (hoff : off = ![s.val, k * 256 + 64 * a, 128 * p]) (hq : q = 4 * p + a) (ha : a < 4) (hp : p < 24) (hk : k < 4) (w : S1x64x128.Idx → BitVec 8)
    (hw : ∀ (r : Fin 64) (l : Fin 128), w (ix3 0 r l) = tile B (ix2 ⟨256 * k + 64 * a + r.val, by omega⟩ ⟨128 * p + l.val, by omega⟩))
    (h : Upto c s B g k q) :
    Upto (F := F) c s B (View.write (Elt F) (tbM.access (Rect.unit (s := S8x1024x3072) off S1x64x128.size inb)) g w Finset.univ) k (q + 1) := by
  subst hoff hq
  intro i j hij
  by_cases hin : 256 * k + 64 * a ≤ i.val ∧ i.val < 256 * k + 64 * a + 64 ∧ 128 * p ≤ j.val ∧ j.val < 128 * p + 128
  · obtain ⟨h1, h2, h3, h4⟩ := hin
    have e : (ix3 (⟨s.val, s.isLt⟩ : Fin 8) i j : S8x1024x3072.Idx)
        = (Rect.unit (s := S8x1024x3072) ![s.val, k * 256 + 64 * a, 128 * p] S1x64x128.size inb).emb (ix3 (0 : Fin 1) (⟨i.val - (256 * k + 64 * a), by omega⟩ : Fin 64) (⟨j.val - 128 * p, by omega⟩ : Fin 128) : S1x64x128.Idx) := by
      funext b
      apply Fin.ext
      fin_cases b
      · show s.val = s.val + 1 * 0; omega
      · show i.val = k * 256 + 64 * a + 1 * (i.val - (256 * k + 64 * a)); omega
      · show j.val = 128 * p + 1 * (j.val - 128 * p); omega
    refine (oslot_read c s _ i j).trans ?_
    refine (congrArg _ e).trans ?_
    refine (View.read_slice_write_emb (v := tbM.view) _ _ _ (Finset.mem_univ _)).trans ?_
    rw [hw]
    congr 1
    funext b
    apply Fin.ext
    fin_cases b
    · show 256 * k + 64 * a + (i.val - (256 * k + 64 * a)) = i.val; omega
    · show 128 * p + (j.val - 128 * p) = j.val; omega
  · have hh : i.val < 256 * k ∨ (i.val < 256 * (k + 1) ∧ 4 * (j.val / 128) + (i.val - 256 * k) / 64 < 4 * p + a) := by
      rcases hij with h1 | ⟨h1, h2⟩
      · exact .inl h1
      · by_cases h3 : i.val < 256 * k
        · exact .inl h3
        · refine .inr ⟨h1, ?_⟩
          rcases Nat.lt_or_ge (4 * (j.val / 128) + (i.val - 256 * k) / 64) (4 * p + a) with h4 | h4
          · exact h4
          · exfalso; apply hin; omega
    rw [← h i j hh]
    refine (oslot_read c s _ i j).trans (Eq.trans ?_ (oslot_read c s g i j).symm)
    refine View.read_slice_write_of_not_mem (v := tbM.view) _ _ _ _ ?_
    intro hm
    obtain ⟨z, -, hz⟩ := Finset.mem_map.1 hm
    have z1 : (z 1).val < 64 := (z 1).isLt
    have z2 : (z 2).val < 128 := (z 2).isLt
    have m1 : k * 256 + 64 * a + 1 * (z 1).val = i.val := congrArg (fun t : S8x1024x3072.Idx => (t 1).val) hz
    have m2 : 128 * p + 1 * (z 2).val = j.val := congrArg (fun t : S8x1024x3072.Idx => (t 2).val) hz
    apply hin
    omega

/-- A tile's load: 64 rows of 128 bytes of the input slot. -/
def ld (s : Fin 9) (k0_t7 : Fin k0_t7_loop.trips) (f : Buf (Elt F) ((islot s).view.loc (c : Thread nD τ))) (r0 c0 : ℕ)
    (inb₁ : ∀ a, k0_off31 k0_t7 a + S1536x512.size a ≤ S1536x2048.size a) (inb₂ : ∀ a, (![r0, c0] : Fin 2 → ℕ) a + S64x128.size a ≤ S1536x512.size a) : S64x128.Idx → BitVec 8 :=
  View.readAt (Elt F) (islot s).view ((Rect.unit (s := S1536x2048) (k0_off31 k0_t7) S1536x512.size inb₁).withinL (Rect.unit (s := S1536x512) ![r0, c0] S64x128.size inb₂).toLoadRect (fun _ => rfl)) f

theorem iix_congr {r q r' q' : ℕ} {hr hq hr' hq'} (h1 : r = r') (h2 : q = q') : iix r q hr hq = iix r' q' hr' hq' := by subst h1 h2; rfl
theorem tile_at (B : S1536x2048.Idx → BitVec 8) (i : Fin 1024) (j : Fin 3072) :
    tile B (ix2 i j) = join (nib j.val (B (iix (j.val / 2) (2 * i.val) (by omega) (by omega)))) (nib j.val (B (iix (j.val / 2) (2 * i.val + 1) (by omega) (by omega)))) := rfl

theorem ld_apply (s : Fin 9) (k0_t7 : Fin k0_t7_loop.trips) (f : Buf (Elt F) ((islot s).view.loc (c : Thread nD τ))) (r0 c0 : ℕ) (inb₁ inb₂)
    (r : Fin 64) (l : Fin 128) (hr : r0 + r.val < 1536) (hc : k0_t7.val * 512 + c0 + l.val < 2048) :
    ld c s k0_t7 f r0 c0 inb₁ inb₂ (ix2 r l) = (islot s).view.read (Elt F) f (iix (r0 + r.val) (k0_t7.val * 512 + c0 + l.val) hr hc) := by
  refine congrArg ((islot s).view.read (Elt F) f) ?_
  funext b
  apply Fin.ext
  fin_cases b
  · show k0_off31 k0_t7 0 + r0 + 1 * r.val = r0 + r.val
    rw [off31_eq]; show 0 + r0 + 1 * r.val = r0 + r.val; omega
  · show k0_off31 k0_t7 1 + c0 + 1 * l.val = k0_t7.val * 512 + c0 + l.val
    rw [off31_eq]; show k0_t7.val * 512 + c0 + 1 * l.val = k0_t7.val * 512 + c0 + l.val; omega

theorem join_tile (s : Fin 9) (k0_t7 : Fin k0_t7_loop.trips) (f : Buf (Elt F) ((islot s).view.loc (c : Thread nD τ))) (p a r0 c0 : ℕ) (hp : p < 24) (ha : a < 4)
    (hr0 : r0 = 64 * p) (hc0 : c0 = 128 * a) (inb₁ inb₂) (r : Fin 64) (l : Fin 128) (h7 : k0_t7.val < 4) :
    join (nib l.val (ld c s k0_t7 f r0 c0 inb₁ inb₂ (ix2 ⟨l.val / 2, by omega⟩ ⟨2 * r.val, by omega⟩)))
      (nib l.val (ld c s k0_t7 f r0 c0 inb₁ inb₂ (ix2 ⟨l.val / 2, by omega⟩ ⟨2 * r.val + 1, by omega⟩)))
      = tile ((islot s).view.read (Elt F) f) (ix2 ⟨256 * k0_t7.val + 64 * a + r.val, by omega⟩ ⟨128 * p + l.val, by omega⟩) := by
  subst hr0 hc0
  have hn : ∀ b, nib (128 * p + l.val) b = nib l.val b := fun b => by unfold nib; rw [show (128 * p + l.val) % 2 = l.val % 2 from by omega]
  rw [ld_apply c s k0_t7 f (64 * p) (128 * a) inb₁ inb₂ ⟨l.val / 2, by omega⟩ ⟨2 * r.val, by omega⟩ (by show 64 * p + l.val / 2 < 1536; omega) (by show k0_t7.val * 512 + 128 * a + 2 * r.val < 2048; omega),
    ld_apply c s k0_t7 f (64 * p) (128 * a) inb₁ inb₂ ⟨l.val / 2, by omega⟩ ⟨2 * r.val + 1, by omega⟩ (by show 64 * p + l.val / 2 < 1536; omega) (by show k0_t7.val * 512 + 128 * a + (2 * r.val + 1) < 2048; omega),
    tile_at, hn, hn]
  exact congrArg₂ (fun u v => join (nib l.val u) (nib l.val v))
    (congrArg _ (iix_congr (by show 64 * p + l.val / 2 = (128 * p + l.val) / 2; omega) (by show k0_t7.val * 512 + 128 * a + 2 * r.val = 2 * (256 * k0_t7.val + 64 * a + r.val); omega)))
    (congrArg _ (iix_congr (by show 64 * p + l.val / 2 = (128 * p + l.val) / 2; omega) (by show k0_t7.val * 512 + 128 * a + (2 * r.val + 1) = 2 * (256 * k0_t7.val + 64 * a + r.val) + 1; omega)))

/-- The first tile of a pair, from its own load. -/
theorem lo_tile (s : Fin 9) (k0_t7 : Fin k0_t7_loop.trips) (h7 : k0_t7.val < 4) (f : Buf (Elt F) ((islot s).view.loc (c : Thread nD τ))) (p a r0 c0 : ℕ) (hp : p < 24) (ha : a < 4)
    (hr0 : r0 = 64 * p) (hc0 : c0 = 128 * a) (inb₁ inb₂) (y : S64x128.Idx → BitVec 8) (r : Fin 64) (l : Fin 128) :
    pLo (F := F) (ld c s k0_t7 f r0 c0 inb₁ inb₂) y (ix3 0 r l)
      = tile ((islot s).view.read (Elt F) f) (ix2 ⟨256 * k0_t7.val + 64 * a + r.val, by omega⟩ ⟨128 * p + l.val, by omega⟩) := by
  rw [pLo_apply]; exact join_tile c s k0_t7 f p a r0 c0 hp ha hr0 hc0 inb₁ inb₂ r l h7
/-- The second. -/
theorem hi_tile (s : Fin 9) (k0_t7 : Fin k0_t7_loop.trips) (h7 : k0_t7.val < 4) (f : Buf (Elt F) ((islot s).view.loc (c : Thread nD τ))) (p a r0 c0 : ℕ) (hp : p < 24) (ha : a < 4)
    (hr0 : r0 = 64 * p) (hc0 : c0 = 128 * a) (inb₁ inb₂) (x : S64x128.Idx → BitVec 8) (r : Fin 64) (l : Fin 128) :
    pHi (F := F) x (ld c s k0_t7 f r0 c0 inb₁ inb₂) (ix3 0 r l)
      = tile ((islot s).view.read (Elt F) f) (ix2 ⟨256 * k0_t7.val + 64 * a + r.val, by omega⟩ ⟨128 * p + l.val, by omega⟩) := by
  rw [pHi_apply]; exact join_tile c s k0_t7 f p a r0 c0 hp ha hr0 hc0 inb₁ inb₂ r l h7

theorem upto_zero (s : Fin 8) (B : S1536x2048.Idx → BitVec 8) (g : Buf (Elt F) ((oslot s).view.loc (c : Thread nD τ))) : Upto c s B g 0 0 := by
  intro i j h; omega
theorem upto_next {s : Fin 8} {B : S1536x2048.Idx → BitVec 8} {g : Buf (Elt F) ((oslot s).view.loc (c : Thread nD τ))} {k : ℕ} (h : Upto c s B g k 96) : Upto c s B g (k + 1) 0 := by
  intro i j hij
  refine h i j ?_
  rcases hij with h1 | ⟨_, h2⟩
  · refine .inr ⟨h1, ?_⟩
    have := i.isLt; have := j.isLt; omega
  · omega
theorem upto_full {s : Fin 8} {B : S1536x2048.Idx → BitVec 8} {g : Buf (Elt F) ((oslot s).view.loc (c : Thread nD τ))} (h : Upto c s B g 4 0) : (oslot s).view.read (Elt F) g = tile B := by
  funext x
  have e : x = ix2 (x 0 : Fin 1024) (x 1 : Fin 3072) := by funext b; fin_cases b <;> rfl
  rw [e]
  exact h (x 0 : Fin 1024) (x 1 : Fin 3072) (.inl (x 0 : Fin 1024).isLt)
end Val

end Cert.Proof.KernelP
-- ==== Proof.Kernel.Part.lean ====
/-
  ONE PART OF A BLOCK. A block is repacked in four parts of 512 input columns, giving 256 output rows each; a part is
  96 tiles. Here one run of a part: from the input slot's contents `f` and an output slot filled up to the part, the
  output slot is filled up to the next part after the part's 96 stores.
-/
module

public import proofs.«01_k».proof.Proof.Kernel.Val

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Part
variable (c : Dev nD) (k0_t1 : Fin k0_t1_loop.trips) (k0_t4 : Fin k0_t4_loop.trips) (k0_t7 : Fin k0_t7_loop.trips)
/-- The region of the part loop. -/
abbrev t7B : Prog (TpuEff nD τ sig (Elt F) Λ₀ .tc) Unit :=
  k0_t7_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k0_t4 k0_t7 ()

set_option maxHeartbeats 0 in
/-- One part's run: the output slot is filled up to the part's last tile. -/
theorem t7Run (f : Buf (Elt F) ((islot (Ring.sl 9 (14 * k0_t1.val + k0_t4.val))).view.loc (c : Thread nD τ)))
    (g : Buf (Elt F) ((oslot (Ring.sl 8 (14 * k0_t1.val + k0_t4.val))).view.loc (c : Thread nD τ)))
    (h : Upto c (Ring.sl 8 (14 * k0_t1.val + k0_t4.val)) ((islot (Ring.sl 9 (14 * k0_t1.val + k0_t4.val))).view.read (Elt F) f) g k0_t7.val 0) :
      iprop(islotP c (Ring.sl 9 (14 * k0_t1.val + k0_t4.val)) f ∗ oslotP c (Ring.sl 8 (14 * k0_t1.val + k0_t4.val)) g)
        ⊢ wp frame (wpE (defs₀ (F := F)) 𝒱₀ (c : Thread nD τ) none) Set.univ (t7B k0_t1 k0_t4 k0_t7)
          (fun _ => iprop(islotP c (Ring.sl 9 (14 * k0_t1.val + k0_t4.val)) f ∗ ∃ g', oslotP c (Ring.sl 8 (14 * k0_t1.val + k0_t4.val)) g'
            ∗ ⌜Upto c (Ring.sl 8 (14 * k0_t1.val + k0_t4.val)) ((islot (Ring.sl 9 (14 * k0_t1.val + k0_t4.val))).view.read (Elt F) f) g' k0_t7.val 96⌝)) := by
    have h7 := t7_lt k0_t7
    have h4 := t4_lt k0_t4
    have h1 := t1_lt k0_t1
    iintro ⟨Hi, Ho⟩
    dsimp only [t7B]
    sl_unfold [k0_t7_body]
    sl_exec
    sl_step
    isplitl [Hi]; · iexact Hi
    iexists _
    isplitl [Ho]; · iexact Ho
    ipureintro
    refine upto_step c 23 3 95 (off129_eq k0_t1 k0_t4 k0_t7) rfl (by decide) (by decide) h7 _ (fun r l => hi_tile c _ k0_t7 h7 f 23 3 1472 384 (by decide) (by decide) rfl rfl _ _ _ r l) ?_
    refine upto_step c 23 2 94 (off128_eq k0_t1 k0_t4 k0_t7) rfl (by decide) (by decide) h7 _ (fun r l => lo_tile c _ k0_t7 h7 f 23 2 1472 256 (by decide) (by decide) rfl rfl _ _ _ r l) ?_
    refine upto_step c 23 1 93 (off127_eq k0_t1 k0_t4 k0_t7) rfl (by decide) (by decide) h7 _ (fun r l => hi_tile c _ k0_t7 h7 f 23 1 1472 128 (by decide) (by decide) rfl rfl _ _ _ r l) ?_
    refine upto_step c 23 0 92 (off126_eq k0_t1 k0_t4 k0_t7) rfl (by decide) (by decide) h7 _ (fun r l => lo_tile c _ k0_t7 h7 f 23 0 1472 0 (by decide) (by decide) rfl rfl _ _ _ r l) ?_
    refine upto_step c 22 3 91 (off125_eq k0_t1 k0_t4 k0_t7) rfl (by decide) (by decide) h7 _ (fun r l => hi_tile c _ k0_t7 h7 f 22 3 1408 384 (by decide) (by decide) rfl rfl _ _ _ r l) ?_
    refine upto_step c 22 2 90 (off124_eq k0_t1 k0_t4 k0_t7) rfl (by decide) (by decide) h7 _ (fun r l => lo_tile c _ k0_t7 h7 f 22 2 1408 256 (by decide) (by decide) rfl rfl _ _ _ r l) ?_
    refine upto_step c 22 1 89 (off123_eq k0_t1 k0_t4 k0_t7) rfl (by decide) (by decide) h7 _ (fun r l => hi_tile c _ k0_t7 h7 f 22 1 1408 128 (by decide) (by decide) rfl rfl _ _ _ r l) ?_
    refine upto_step c 22 0 88 (off122_eq k0_t1 k0_t4 k0_t7) rfl (by decide) (by decide) h7 _ (fun r l => lo_tile c _ k0_t7 h7 f 22 0 1408 0 (by decide) (by decide) rfl rfl _ _ _ r l) ?_
    refine upto_step c 21 3 87 (off121_eq k0_t1 k0_t4 k0_t7) rfl (by decide) (by decide) h7 _ (fun r l => hi_tile c _ k0_t7 h7 f 21 3 1344 384 (by decide) (by decide) rfl rfl _ _ _ r l) ?_
    refine upto_step c 21 2 86 (off120_eq k0_t1 k0_t4 k0_t7) rfl (by decide) (by decide) h7 _ (fun r l => lo_tile c _ k0_t7 h7 f 21 2 1344 256 (by decide) (by decide) rfl rfl _ _ _ r l) ?_
    refine upto_step c 21 1 85 (off119_eq k0_t1 k0_t4 k0_t7) rfl (by decide) (by decide) h7 _ (fun r l => hi_tile c _ k0_t7 h7 f 21 1 1344 128 (by decide) (by decide) rfl rfl _ _ _ r l) ?_
    refine upto_step c 21 0 84 (off118_eq k0_t1 k0_t4 k0_t7) rfl (by decide) (by decide) h7 _ (fun r l => lo_tile c _ k0_t7 h7 f 21 0 1344 0 (by decide) (by decide) rfl rfl _ _ _ r l) ?_
    refine upto_step c 20 3 83 (off117_eq k0_t1 k0_t4 k0_t7) rfl (by decide) (by decide) h7 _ (fun r l => hi_tile c _ k0_t7 h7 f 20 3 1280 384 (by decide) (by decide) rfl rfl _ _ _ r l) ?_
    refine upto_step c 20 2 82 (off116_eq k0_t1 k0_t4 k0_t7) rfl (by decide) (by decide) h7 _ (fun r l => lo_tile c _ k0_t7 h7 f 20 2 1280 256 (by decide) (by decide) rfl rfl _ _ _ r l) ?_
    refine upto_step c 20 1 81 (off115_eq k0_t1 k0_t4 k0_t7) rfl (by decide) (by decide) h7 _ (fun r l => hi_tile c _ k0_t7 h7 f 20 1 1280 128 (by decide) (by decide) rfl rfl _ _ _ r l) ?_
    refine upto_step c 20 0 80 (off114_eq k0_t1 k0_t4 k0_t7) rfl (by decide) (by decide) h7 _ (fun r l => lo_tile c _ k0_t7 h7 f 20 0 1280 0 (by decide) (by decide) rfl rfl _ _ _ r l) ?_
    refine upto_step c 19 3 79 (off113_eq k0_t1 k0_t4 k0_t7) rfl (by decide) (by decide) h7 _ (fun r l => hi_tile c _ k0_t7 h7 f 19 3 1216 384 (by decide) (by decide) rfl rfl _ _ _ r l) ?_
    refine upto_step c 19 2 78 (off112_eq k0_t1 k0_t4 k0_t7) rfl (by decide) (by decide) h7 _ (fun r l => lo_tile c _ k0_t7 h7 f 19 2 1216 256 (by decide) (by decide) rfl rfl _ _ _ r l) ?_
    refine upto_step c 19 1 77 (off111_eq k0_t1 k0_t4 k0_t7) rfl (by decide) (by decide) h7 _ (fun r l => hi_tile c _ k0_t7 h7 f 19 1 1216 128 (by decide) (by decide) rfl rfl _ _ _ r l) ?_
    refine upto_step c 19 0 76 (off110_eq k0_t1 k0_t4 k0_t7) rfl (by decide) (by decide) h7 _ (fun r l => lo_tile c _ k0_t7 h7 f 19 0 1216 0 (by decide) (by decide) rfl rfl _ _ _ r l) ?_
    refine upto_step c 18 3 75 (off109_eq k0_t1 k0_t4 k0_t7) rfl (by decide) (by decide) h7 _ (fun r l => hi_tile c _ k0_t7 h7 f 18 3 1152 384 (by decide) (by decide) rfl rfl _ _ _ r l) ?_
    refine upto_step c 18 2 74 (off108_eq k0_t1 k0_t4 k0_t7) rfl (by decide) (by decide) h7 _ (fun r l => lo_tile c _ k0_t7 h7 f 18 2 1152 256 (by decide) (by decide) rfl rfl _ _ _ r l) ?_
    refine upto_step c 18 1 73 (off107_eq k0_t1 k0_t4 k0_t7) rfl (by decide) (by decide) h7 _ (fun r l => hi_tile c _ k0_t7 h7 f 18 1 1152 128 (by decide) (by decide) rfl rfl _ _ _ r l) ?_
    refine upto_step c 18 0 72 (off106_eq k0_t1 k0_t4 k0_t7) rfl (by decide) (by decide) h7 _ (fun r l => lo_tile c _ k0_t7 h7 f 18 0 1152 0 (by decide) (by decide) rfl rfl _ _ _ r l) ?_
    refine upto_step c 17 3 71 (off105_eq k0_t1 k0_t4 k0_t7) rfl (by decide) (by decide) h7 _ (fun r l => hi_tile c _ k0_t7 h7 f 17 3 1088 384 (by decide) (by decide) rfl rfl _ _ _ r l) ?_
    refine upto_step c 17 2 70 (off104_eq k0_t1 k0_t4 k0_t7) rfl (by decide) (by decide) h7 _ (fun r l => lo_tile c _ k0_t7 h7 f 17 2 1088 256 (by decide) (by decide) rfl rfl _ _ _ r l) ?_
    refine upto_step c 17 1 69 (off103_eq k0_t1 k0_t4 k0_t7) rfl (by decide) (by decide) h7 _ (fun r l => hi_tile c _ k0_t7 h7 f 17 1 1088 128 (by decide) (by decide) rfl rfl _ _ _ r l) ?_
    refine upto_step c 17 0 68 (off102_eq k0_t1 k0_t4 k0_t7) rfl (by decide) (by decide) h7 _ (fun r l => lo_tile c _ k0_t7 h7 f 17 0 1088 0 (by decide) (by decide) rfl rfl _ _ _ r l) ?_
    refine upto_step c 16 3 67 (off101_eq k0_t1 k0_t4 k0_t7) rfl (by decide) (by decide) h7 _ (fun r l => hi_tile c _ k0_t7 h7 f 16 3 1024 384 (by decide) (by decide) rfl rfl _ _ _ r l) ?_
    refine upto_step c 16 2 66 (off100_eq k0_t1 k0_t4 k0_t7) rfl (by decide) (by decide) h7 _ (fun r l => lo_tile c _ k0_t7 h7 f 16 2 1024 256 (by decide) (by decide) rfl rfl _ _ _ r l) ?_
    refine upto_step c 16 1 65 (off99_eq k0_t1 k0_t4 k0_t7) rfl (by decide) (by decide) h7 _ (fun r l => hi_tile c _ k0_t7 h7 f 16 1 1024 128 (by decide) (by decide) rfl rfl _ _ _ r l) ?_
    refine upto_step c 16 0 64 (off98_eq k0_t1 k0_t4 k0_t7) rfl (by decide) (by decide) h7 _ (fun r l => lo_tile c _ k0_t7 h7 f 16 0 1024 0 (by decide) (by decide) rfl rfl _ _ _ r l) ?_
    refine upto_step c 15 3 63 (off97_eq k0_t1 k0_t4 k0_t7) rfl (by decide) (by decide) h7 _ (fun r l => hi_tile c _ k0_t7 h7 f 15 3 960 384 (by decide) (by decide) rfl rfl _ _ _ r l) ?_
    refine upto_step c 15 2 62 (off96_eq k0_t1 k0_t4 k0_t7) rfl (by decide) (by decide) h7 _ (fun r l => lo_tile c _ k0_t7 h7 f 15 2 960 256 (by decide) (by decide) rfl rfl _ _ _ r l) ?_
    refine upto_step c 15 1 61 (off95_eq k0_t1 k0_t4 k0_t7) rfl (by decide) (by decide) h7 _ (fun r l => hi_tile c _ k0_t7 h7 f 15 1 960 128 (by decide) (by decide) rfl rfl _ _ _ r l) ?_
    refine upto_step c 15 0 60 (off94_eq k0_t1 k0_t4 k0_t7) rfl (by decide) (by decide) h7 _ (fun r l => lo_tile c _ k0_t7 h7 f 15 0 960 0 (by decide) (by decide) rfl rfl _ _ _ r l) ?_
    refine upto_step c 14 3 59 (off93_eq k0_t1 k0_t4 k0_t7) rfl (by decide) (by decide) h7 _ (fun r l => hi_tile c _ k0_t7 h7 f 14 3 896 384 (by decide) (by decide) rfl rfl _ _ _ r l) ?_
    refine upto_step c 14 2 58 (off92_eq k0_t1 k0_t4 k0_t7) rfl (by decide) (by decide) h7 _ (fun r l => lo_tile c _ k0_t7 h7 f 14 2 896 256 (by decide) (by decide) rfl rfl _ _ _ r l) ?_
    refine upto_step c 14 1 57 (off91_eq k0_t1 k0_t4 k0_t7) rfl (by decide) (by decide) h7 _ (fun r l => hi_tile c _ k0_t7 h7 f 14 1 896 128 (by decide) (by decide) rfl rfl _ _ _ r l) ?_
    refine upto_step c 14 0 56 (off90_eq k0_t1 k0_t4 k0_t7) rfl (by decide) (by decide) h7 _ (fun r l => lo_tile c _ k0_t7 h7 f 14 0 896 0 (by decide) (by decide) rfl rfl _ _ _ r l) ?_
    refine upto_step c 13 3 55 (off89_eq k0_t1 k0_t4 k0_t7) rfl (by decide) (by decide) h7 _ (fun r l => hi_tile c _ k0_t7 h7 f 13 3 832 384 (by decide) (by decide) rfl rfl _ _ _ r l) ?_
    refine upto_step c 13 2 54 (off88_eq k0_t1 k0_t4 k0_t7) rfl (by decide) (by decide) h7 _ (fun r l => lo_tile c _ k0_t7 h7 f 13 2 832 256 (by decide) (by decide) rfl rfl _ _ _ r l) ?_
    refine upto_step c 13 1 53 (off87_eq k0_t1 k0_t4 k0_t7) rfl (by decide) (by decide) h7 _ (fun r l => hi_tile c _ k0_t7 h7 f 13 1 832 128 (by decide) (by decide) rfl rfl _ _ _ r l) ?_
    refine upto_step c 13 0 52 (off86_eq k0_t1 k0_t4 k0_t7) rfl (by decide) (by decide) h7 _ (fun r l => lo_tile c _ k0_t7 h7 f 13 0 832 0 (by decide) (by decide) rfl rfl _ _ _ r l) ?_
    refine upto_step c 12 3 51 (off85_eq k0_t1 k0_t4 k0_t7) rfl (by decide) (by decide) h7 _ (fun r l => hi_tile c _ k0_t7 h7 f 12 3 768 384 (by decide) (by decide) rfl rfl _ _ _ r l) ?_
    refine upto_step c 12 2 50 (off84_eq k0_t1 k0_t4 k0_t7) rfl (by decide) (by decide) h7 _ (fun r l => lo_tile c _ k0_t7 h7 f 12 2 768 256 (by decide) (by decide) rfl rfl _ _ _ r l) ?_
    refine upto_step c 12 1 49 (off83_eq k0_t1 k0_t4 k0_t7) rfl (by decide) (by decide) h7 _ (fun r l => hi_tile c _ k0_t7 h7 f 12 1 768 128 (by decide) (by decide) rfl rfl _ _ _ r l) ?_
    refine upto_step c 12 0 48 (off82_eq k0_t1 k0_t4 k0_t7) rfl (by decide) (by decide) h7 _ (fun r l => lo_tile c _ k0_t7 h7 f 12 0 768 0 (by decide) (by decide) rfl rfl _ _ _ r l) ?_
    refine upto_step c 11 3 47 (off81_eq k0_t1 k0_t4 k0_t7) rfl (by decide) (by decide) h7 _ (fun r l => hi_tile c _ k0_t7 h7 f 11 3 704 384 (by decide) (by decide) rfl rfl _ _ _ r l) ?_
    refine upto_step c 11 2 46 (off80_eq k0_t1 k0_t4 k0_t7) rfl (by decide) (by decide) h7 _ (fun r l => lo_tile c _ k0_t7 h7 f 11 2 704 256 (by decide) (by decide) rfl rfl _ _ _ r l) ?_
    refine upto_step c 11 1 45 (off79_eq k0_t1 k0_t4 k0_t7) rfl (by decide) (by decide) h7 _ (fun r l => hi_tile c _ k0_t7 h7 f 11 1 704 128 (by decide) (by decide) rfl rfl _ _ _ r l) ?_
    refine upto_step c 11 0 44 (off78_eq k0_t1 k0_t4 k0_t7) rfl (by decide) (by decide) h7 _ (fun r l => lo_tile c _ k0_t7 h7 f 11 0 704 0 (by decide) (by decide) rfl rfl _ _ _ r l) ?_
    refine upto_step c 10 3 43 (off77_eq k0_t1 k0_t4 k0_t7) rfl (by decide) (by decide) h7 _ (fun r l => hi_tile c _ k0_t7 h7 f 10 3 640 384 (by decide) (by decide) rfl rfl _ _ _ r l) ?_
    refine upto_step c 10 2 42 (off76_eq k0_t1 k0_t4 k0_t7) rfl (by decide) (by decide) h7 _ (fun r l => lo_tile c _ k0_t7 h7 f 10 2 640 256 (by decide) (by decide) rfl rfl _ _ _ r l) ?_
    refine upto_step c 10 1 41 (off75_eq k0_t1 k0_t4 k0_t7) rfl (by decide) (by decide) h7 _ (fun r l => hi_tile c _ k0_t7 h7 f 10 1 640 128 (by decide) (by decide) rfl rfl _ _ _ r l) ?_
    refine upto_step c 10 0 40 (off74_eq k0_t1 k0_t4 k0_t7) rfl (by decide) (by decide) h7 _ (fun r l => lo_tile c _ k0_t7 h7 f 10 0 640 0 (by decide) (by decide) rfl rfl _ _ _ r l) ?_
    refine upto_step c 9 3 39 (off73_eq k0_t1 k0_t4 k0_t7) rfl (by decide) (by decide) h7 _ (fun r l => hi_tile c _ k0_t7 h7 f 9 3 576 384 (by decide) (by decide) rfl rfl _ _ _ r l) ?_
    refine upto_step c 9 2 38 (off72_eq k0_t1 k0_t4 k0_t7) rfl (by decide) (by decide) h7 _ (fun r l => lo_tile c _ k0_t7 h7 f 9 2 576 256 (by decide) (by decide) rfl rfl _ _ _ r l) ?_
    refine upto_step c 9 1 37 (off71_eq k0_t1 k0_t4 k0_t7) rfl (by decide) (by decide) h7 _ (fun r l => hi_tile c _ k0_t7 h7 f 9 1 576 128 (by decide) (by decide) rfl rfl _ _ _ r l) ?_
    refine upto_step c 9 0 36 (off70_eq k0_t1 k0_t4 k0_t7) rfl (by decide) (by decide) h7 _ (fun r l => lo_tile c _ k0_t7 h7 f 9 0 576 0 (by decide) (by decide) rfl rfl _ _ _ r l) ?_
    refine upto_step c 8 3 35 (off69_eq k0_t1 k0_t4 k0_t7) rfl (by decide) (by decide) h7 _ (fun r l => hi_tile c _ k0_t7 h7 f 8 3 512 384 (by decide) (by decide) rfl rfl _ _ _ r l) ?_
    refine upto_step c 8 2 34 (off68_eq k0_t1 k0_t4 k0_t7) rfl (by decide) (by decide) h7 _ (fun r l => lo_tile c _ k0_t7 h7 f 8 2 512 256 (by decide) (by decide) rfl rfl _ _ _ r l) ?_
    refine upto_step c 8 1 33 (off67_eq k0_t1 k0_t4 k0_t7) rfl (by decide) (by decide) h7 _ (fun r l => hi_tile c _ k0_t7 h7 f 8 1 512 128 (by decide) (by decide) rfl rfl _ _ _ r l) ?_
    refine upto_step c 8 0 32 (off66_eq k0_t1 k0_t4 k0_t7) rfl (by decide) (by decide) h7 _ (fun r l => lo_tile c _ k0_t7 h7 f 8 0 512 0 (by decide) (by decide) rfl rfl _ _ _ r l) ?_
    refine upto_step c 7 3 31 (off65_eq k0_t1 k0_t4 k0_t7) rfl (by decide) (by decide) h7 _ (fun r l => hi_tile c _ k0_t7 h7 f 7 3 448 384 (by decide) (by decide) rfl rfl _ _ _ r l) ?_
    refine upto_step c 7 2 30 (off64_eq k0_t1 k0_t4 k0_t7) rfl (by decide) (by decide) h7 _ (fun r l => lo_tile c _ k0_t7 h7 f 7 2 448 256 (by decide) (by decide) rfl rfl _ _ _ r l) ?_
    refine upto_step c 7 1 29 (off63_eq k0_t1 k0_t4 k0_t7) rfl (by decide) (by decide) h7 _ (fun r l => hi_tile c _ k0_t7 h7 f 7 1 448 128 (by decide) (by decide) rfl rfl _ _ _ r l) ?_
    refine upto_step c 7 0 28 (off62_eq k0_t1 k0_t4 k0_t7) rfl (by decide) (by decide) h7 _ (fun r l => lo_tile c _ k0_t7 h7 f 7 0 448 0 (by decide) (by decide) rfl rfl _ _ _ r l) ?_
    refine upto_step c 6 3 27 (off61_eq k0_t1 k0_t4 k0_t7) rfl (by decide) (by decide) h7 _ (fun r l => hi_tile c _ k0_t7 h7 f 6 3 384 384 (by decide) (by decide) rfl rfl _ _ _ r l) ?_
    refine upto_step c 6 2 26 (off60_eq k0_t1 k0_t4 k0_t7) rfl (by decide) (by decide) h7 _ (fun r l => lo_tile c _ k0_t7 h7 f 6 2 384 256 (by decide) (by decide) rfl rfl _ _ _ r l) ?_
    refine upto_step c 6 1 25 (off59_eq k0_t1 k0_t4 k0_t7) rfl (by decide) (by decide) h7 _ (fun r l => hi_tile c _ k0_t7 h7 f 6 1 384 128 (by decide) (by decide) rfl rfl _ _ _ r l) ?_
    refine upto_step c 6 0 24 (off58_eq k0_t1 k0_t4 k0_t7) rfl (by decide) (by decide) h7 _ (fun r l => lo_tile c _ k0_t7 h7 f 6 0 384 0 (by decide) (by decide) rfl rfl _ _ _ r l) ?_
    refine upto_step c 5 3 23 (off57_eq k0_t1 k0_t4 k0_t7) rfl (by decide) (by decide) h7 _ (fun r l => hi_tile c _ k0_t7 h7 f 5 3 320 384 (by decide) (by decide) rfl rfl _ _ _ r l) ?_
    refine upto_step c 5 2 22 (off56_eq k0_t1 k0_t4 k0_t7) rfl (by decide) (by decide) h7 _ (fun r l => lo_tile c _ k0_t7 h7 f 5 2 320 256 (by decide) (by decide) rfl rfl _ _ _ r l) ?_
    refine upto_step c 5 1 21 (off55_eq k0_t1 k0_t4 k0_t7) rfl (by decide) (by decide) h7 _ (fun r l => hi_tile c _ k0_t7 h7 f 5 1 320 128 (by decide) (by decide) rfl rfl _ _ _ r l) ?_
    refine upto_step c 5 0 20 (off54_eq k0_t1 k0_t4 k0_t7) rfl (by decide) (by decide) h7 _ (fun r l => lo_tile c _ k0_t7 h7 f 5 0 320 0 (by decide) (by decide) rfl rfl _ _ _ r l) ?_
    refine upto_step c 4 3 19 (off53_eq k0_t1 k0_t4 k0_t7) rfl (by decide) (by decide) h7 _ (fun r l => hi_tile c _ k0_t7 h7 f 4 3 256 384 (by decide) (by decide) rfl rfl _ _ _ r l) ?_
    refine upto_step c 4 2 18 (off52_eq k0_t1 k0_t4 k0_t7) rfl (by decide) (by decide) h7 _ (fun r l => lo_tile c _ k0_t7 h7 f 4 2 256 256 (by decide) (by decide) rfl rfl _ _ _ r l) ?_
    refine upto_step c 4 1 17 (off51_eq k0_t1 k0_t4 k0_t7) rfl (by decide) (by decide) h7 _ (fun r l => hi_tile c _ k0_t7 h7 f 4 1 256 128 (by decide) (by decide) rfl rfl _ _ _ r l) ?_
    refine upto_step c 4 0 16 (off50_eq k0_t1 k0_t4 k0_t7) rfl (by decide) (by decide) h7 _ (fun r l => lo_tile c _ k0_t7 h7 f 4 0 256 0 (by decide) (by decide) rfl rfl _ _ _ r l) ?_
    refine upto_step c 3 3 15 (off49_eq k0_t1 k0_t4 k0_t7) rfl (by decide) (by decide) h7 _ (fun r l => hi_tile c _ k0_t7 h7 f 3 3 192 384 (by decide) (by decide) rfl rfl _ _ _ r l) ?_
    refine upto_step c 3 2 14 (off48_eq k0_t1 k0_t4 k0_t7) rfl (by decide) (by decide) h7 _ (fun r l => lo_tile c _ k0_t7 h7 f 3 2 192 256 (by decide) (by decide) rfl rfl _ _ _ r l) ?_
    refine upto_step c 3 1 13 (off47_eq k0_t1 k0_t4 k0_t7) rfl (by decide) (by decide) h7 _ (fun r l => hi_tile c _ k0_t7 h7 f 3 1 192 128 (by decide) (by decide) rfl rfl _ _ _ r l) ?_
    refine upto_step c 3 0 12 (off46_eq k0_t1 k0_t4 k0_t7) rfl (by decide) (by decide) h7 _ (fun r l => lo_tile c _ k0_t7 h7 f 3 0 192 0 (by decide) (by decide) rfl rfl _ _ _ r l) ?_
    refine upto_step c 2 3 11 (off45_eq k0_t1 k0_t4 k0_t7) rfl (by decide) (by decide) h7 _ (fun r l => hi_tile c _ k0_t7 h7 f 2 3 128 384 (by decide) (by decide) rfl rfl _ _ _ r l) ?_
    refine upto_step c 2 2 10 (off44_eq k0_t1 k0_t4 k0_t7) rfl (by decide) (by decide) h7 _ (fun r l => lo_tile c _ k0_t7 h7 f 2 2 128 256 (by decide) (by decide) rfl rfl _ _ _ r l) ?_
    refine upto_step c 2 1 9 (off43_eq k0_t1 k0_t4 k0_t7) rfl (by decide) (by decide) h7 _ (fun r l => hi_tile c _ k0_t7 h7 f 2 1 128 128 (by decide) (by decide) rfl rfl _ _ _ r l) ?_
    refine upto_step c 2 0 8 (off42_eq k0_t1 k0_t4 k0_t7) rfl (by decide) (by decide) h7 _ (fun r l => lo_tile c _ k0_t7 h7 f 2 0 128 0 (by decide) (by decide) rfl rfl _ _ _ r l) ?_
    refine upto_step c 1 3 7 (off41_eq k0_t1 k0_t4 k0_t7) rfl (by decide) (by decide) h7 _ (fun r l => hi_tile c _ k0_t7 h7 f 1 3 64 384 (by decide) (by decide) rfl rfl _ _ _ r l) ?_
    refine upto_step c 1 2 6 (off40_eq k0_t1 k0_t4 k0_t7) rfl (by decide) (by decide) h7 _ (fun r l => lo_tile c _ k0_t7 h7 f 1 2 64 256 (by decide) (by decide) rfl rfl _ _ _ r l) ?_
    refine upto_step c 1 1 5 (off39_eq k0_t1 k0_t4 k0_t7) rfl (by decide) (by decide) h7 _ (fun r l => hi_tile c _ k0_t7 h7 f 1 1 64 128 (by decide) (by decide) rfl rfl _ _ _ r l) ?_
    refine upto_step c 1 0 4 (off38_eq k0_t1 k0_t4 k0_t7) rfl (by decide) (by decide) h7 _ (fun r l => lo_tile c _ k0_t7 h7 f 1 0 64 0 (by decide) (by decide) rfl rfl _ _ _ r l) ?_
    refine upto_step c 0 3 3 (off37_eq k0_t1 k0_t4 k0_t7) rfl (by decide) (by decide) h7 _ (fun r l => hi_tile c _ k0_t7 h7 f 0 3 0 384 (by decide) (by decide) rfl rfl _ _ _ r l) ?_
    refine upto_step c 0 2 2 (off36_eq k0_t1 k0_t4 k0_t7) rfl (by decide) (by decide) h7 _ (fun r l => lo_tile c _ k0_t7 h7 f 0 2 0 256 (by decide) (by decide) rfl rfl _ _ _ r l) ?_
    refine upto_step c 0 1 1 (off35_eq k0_t1 k0_t4 k0_t7) rfl (by decide) (by decide) h7 _ (fun r l => hi_tile c _ k0_t7 h7 f 0 1 0 128 (by decide) (by decide) rfl rfl _ _ _ r l) ?_
    refine upto_step c 0 0 0 (off34_eq k0_t1 k0_t4 k0_t7) rfl (by decide) (by decide) h7 _ (fun r l => lo_tile c _ k0_t7 h7 f 0 0 0 0 (by decide) (by decide) rfl rfl _ _ _ r l) ?_
    exact h
end Part

end Cert.Proof.KernelP
-- ==== Proof.Kernel.Cycle.lean ====
/-
  THE STATE OF A CYCLE. A cycle of fourteen blocks copies each block in, repacks it and copies it out; copies in run
  ahead of the repacking and copies out behind it. Here what is held before step `k` of a cycle.
-/
module

public import proofs.«01_k».proof.Proof.Kernel.Small
public import proofs.«01_k».proof.Proof.Kernel.Part

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Cycle
variable (c : Dev nD) (XA : Buf (Elt F) (wM.view.loc (c : Thread nD τ))) (XS : Buf (Elt F) (scM.view.loc (c : Thread nD τ)))

/-- Copies in started before step `k`. -/
def hiN (k : ℕ) : ℕ := min 14 (max 9 (k + 8))
/-- Copies out started before step `k`. -/
def stN (k : ℕ) : ℕ := if k ≤ 8 then 0 else k - 1

/-- The blocks and slots of the cycle whose first block is `o`, before step `k`: `hi` copies in started, slots from
    `lo` on not yet in use again, `st` copies out started, `wt` of them awaited. -/
def cyc (o k hi lo st wt : ℕ) : sProp 𝕄 :=
  iprop(ow c ∗ fam (hm c XA) o 0 k ∗ fam (hm c XA) o hi 14 ∗ fam (fl c XA) o k hi ∗ fam (idl c) o lo k ∗ fam (fro c) o k 8
    ∗ fam (wr c XA) o st k ∗ fam (flO c XA) o wt st ∗ fam (dn c XA) o 0 wt ∗ fam (nd c) o st 14)

/-- What the copy of the scales into the buffer leaves there. -/
abbrev landS (b : Fin 2) (f : Buf (Elt F) (sbM.view.loc (c : Thread nD τ))) : Buf (Elt F) (sbM.view.loc (c : Thread nD τ)) :=
  sbM.view.writes (Elt F) f [⟨Rect.whole S84x2x8192, ReadAs.same.apply ((sblk b).view.read (Elt F) XS)⟩]
/-- What the copy of the buffer out leaves in the result. -/
abbrev landT (b : Fin 2) (f : Buf (Elt F) (sbM.view.loc (c : Thread nD τ))) (x : Buf (Elt F) ((tsblk b).view.loc (c : Thread nD τ))) : Buf (Elt F) ((tsblk b).view.loc (c : Thread nD τ)) :=
  (tsblk b).view.writes (Elt F) x [⟨Rect.whole S84x2x8192, ReadAs.same.apply (sbM.view.read (Elt F) f)⟩]
/-- The scales' copy in on its way. -/
abbrev sIn (b : Fin 2) : sProp 𝕄 := iprop(∃ f, Transfers.Flight countersEmb (c : Thread nD τ) (SemLoc.dma cc0_scratch5.sem) () 172032
  iprop(sbufP c (landS c XS b f) ∗ sblkP c XS b))
/-- The scales' copy out on its way. -/
abbrev sOut (b : Fin 2) : sProp 𝕄 := iprop(∃ f x, Transfers.Flight countersEmb (c : Thread nD τ) (SemLoc.dma cc0_scratch6.sem) () 172032
  iprop(tsblkP c b (landT c b f x) ∗ sbufP c f) ∗ ⌜sbM.view.read (Elt F) f = (sblk b).view.read (Elt F) XS⌝)
/-- The scales before the middle of the cycle, and after it. -/
def scA (b : Fin 2) : sProp 𝕄 := iprop(sIn c XS b ∗ (∃ x, tsblkP c b x) ∗ soutP c)
def scB (b : Fin 2) : sProp 𝕄 := iprop(sOut c XS b ∗ sblkP c XS b ∗ sinP c)

/-- Before trip `k` of the part loop. -/
def t7Inv (k0_t1 : Fin k0_t1_loop.trips) (k0_t4 : Fin k0_t4_loop.trips) (f : Buf (Elt F) ((islot (Ring.sl 9 (14 * k0_t1.val + k0_t4.val))).view.loc (c : Thread nD τ)))
    (k : ℕ) (_ : Unit) : sProp 𝕄 :=
  iprop(islotP c (Ring.sl 9 (14 * k0_t1.val + k0_t4.val)) f ∗ ∃ g, oslotP c (Ring.sl 8 (14 * k0_t1.val + k0_t4.val)) g
    ∗ ⌜Upto c (Ring.sl 8 (14 * k0_t1.val + k0_t4.val)) ((islot (Ring.sl 9 (14 * k0_t1.val + k0_t4.val))).view.read (Elt F) f) g k 0⌝)
theorem t7_run (k0_t1 : Fin k0_t1_loop.trips) (k0_t4 : Fin k0_t4_loop.trips) (f g) (k : Fin k0_t7_loop.trips)
    (h : Upto c (Ring.sl 8 (14 * k0_t1.val + k0_t4.val)) ((islot (Ring.sl 9 (14 * k0_t1.val + k0_t4.val))).view.read (Elt F) f) g k.val 0) :
    iprop(islotP c (Ring.sl 9 (14 * k0_t1.val + k0_t4.val)) f ∗ oslotP c (Ring.sl 8 (14 * k0_t1.val + k0_t4.val)) g) ⊢ wp frame (wpE (defs₀ (F := F)) 𝒱₀ (c : Thread nD τ) none) Set.univ (t7B k0_t1 k0_t4 k) (t7Inv c k0_t1 k0_t4 f (k.val + 1)) := by
  refine (t7Run c k0_t1 k0_t4 k f g h).trans (wp_mono _ _ _ (fun _ => ?_))
  unfold t7Inv
  iintro ⟨Hi, ⟨%g', Ho, %h'⟩⟩
  isplitl [Hi]; · iexact Hi
  iexists g'
  isplitl [Ho]; · iexact Ho
  ipureintro; exact upto_next c h'
theorem t7_step (k0_t1 : Fin k0_t1_loop.trips) (k0_t4 : Fin k0_t4_loop.trips) (f) (k : Fin k0_t7_loop.trips) (acc : Unit) :
    t7Inv c k0_t1 k0_t4 f k.val acc ⊢ wp frame (wpE (defs₀ (F := F)) 𝒱₀ (c : Thread nD τ) none) Set.univ (t7B k0_t1 k0_t4 k) (t7Inv c k0_t1 k0_t4 f (k.val + 1)) := by
  have h0 : t7Inv c k0_t1 k0_t4 f k.val acc ⊢ iprop(∃ g, ⌜Upto c (Ring.sl 8 (14 * k0_t1.val + k0_t4.val)) ((islot (Ring.sl 9 (14 * k0_t1.val + k0_t4.val))).view.read (Elt F) f) g k.val 0⌝
      ∗ (islotP c (Ring.sl 9 (14 * k0_t1.val + k0_t4.val)) f ∗ oslotP c (Ring.sl 8 (14 * k0_t1.val + k0_t4.val)) g)) := by
    unfold t7Inv
    iintro ⟨Hi, ⟨%g, Ho, %h⟩⟩
    iexists g
    isplitr; · ipureintro; exact h
    isplitl [Hi]; · iexact Hi
    iexact Ho
  refine h0.trans ?_
  iintro ⟨%g, %h, H⟩
  iapply (t7_run c k0_t1 k0_t4 f g k h)
  iexact H

/-- A slot that a copy has filled holds the block. -/
theorem landed (s : Fin 9) (b : Fin 28) (f : Buf (Elt F) ((islot s).view.loc (c : Thread nD τ))) :
    islotP c s (landI c XA s b f) ⊢ iprop(∃ f', islotP c s f' ∗ ⌜(islot s).view.read (Elt F) f' = inB c XA b⌝) := by
  iintro H
  iexists _
  isplitl [H]; · iexact H
  ipureintro; exact read_landI ..
theorem landedO (s : Fin 8) (b : Fin 28) (g : Buf (Elt F) ((oslot s).view.loc (c : Thread nD τ))) (x : Buf (Elt F) ((oblk b).view.loc (c : Thread nD τ)))
    (h : (oslot s).view.read (Elt F) g = outB c XA b) :
    oblkP c b (landO c s b g x) ⊢ iprop(∃ x', oblkP c b x' ∗ ⌜(oblk b).view.read (Elt F) x' = outB c XA b⌝) := by
  iintro H
  iexists _
  isplitl [H]; · iexact H
  ipureintro; exact (read_landO ..).trans h
theorem landedS (b : Fin 2) (f : Buf (Elt F) (sbM.view.loc (c : Thread nD τ))) :
    sbufP c (landS c XS b f) ⊢ iprop(∃ f', sbufP c f' ∗ ⌜sbM.view.read (Elt F) f' = (sblk b).view.read (Elt F) XS⌝) := by
  iintro H
  iexists _
  isplitl [H]; · iexact H
  ipureintro; exact View.read_writes_whole ..
theorem landedT (b : Fin 2) (f : Buf (Elt F) (sbM.view.loc (c : Thread nD τ))) (x : Buf (Elt F) ((tsblk b).view.loc (c : Thread nD τ)))
    (h : sbM.view.read (Elt F) f = (sblk b).view.read (Elt F) XS) :
    tsblkP c b (landT c b f x) ⊢ iprop(∃ x', tsblkP c b x' ∗ ⌜(tsblk b).view.read (Elt F) x' = (sblk b).view.read (Elt F) XS⌝) := by
  iintro H
  iexists _
  isplitl [H]; · iexact H
  ipureintro; exact (View.read_writes_whole ..).trans h

theorem cond1_of : ∀ k : Fin k0_t4_loop.trips, 1 ≤ k.val → k.val ≤ 5 → k0_cond1 k = 1#1 := by decide +kernel
theorem cond1_not : ∀ k : Fin k0_t4_loop.trips, ¬ (1 ≤ k.val ∧ k.val ≤ 5) → ¬ k0_cond1 k = 1#1 := by decide +kernel
theorem cond2_of : ∀ k : Fin k0_t4_loop.trips, k.val = 8 → k0_cond2 k = 1#1 := by decide +kernel
theorem cond2_not : ∀ k : Fin k0_t4_loop.trips, ¬ k.val = 8 → ¬ k0_cond2 k = 1#1 := by decide +kernel
theorem cond3_of : ∀ k : Fin k0_t4_loop.trips, 8 < k.val → k0_cond3 k = 1#1 := by decide +kernel
theorem cond3_not : ∀ k : Fin k0_t4_loop.trips, ¬ 8 < k.val → ¬ k0_cond3 k = 1#1 := by decide +kernel
theorem cond4_of : ∀ k : Fin k0_t4_loop.trips, 8 ≤ k.val → k0_cond4 k = 1#1 := by decide +kernel
theorem cond4_not : ∀ k : Fin k0_t4_loop.trips, ¬ 8 ≤ k.val → ¬ k0_cond4 k = 1#1 := by decide +kernel

abbrev t4B (k0_t1 : Fin k0_t1_loop.trips) (k : Fin k0_t4_loop.trips) (acc : Unit) : Prog (TpuEff nD τ sig (Elt F) Λ₀ .tc) Unit :=
  k0_t4_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k acc
end Cycle

end Cert.Proof.KernelP
-- ==== Proof.Kernel.Early.lean ====
/-
  THE EARLY STEPS OF A CYCLE: those before the first copy out starts.
-/
module

public import proofs.«01_k».proof.Proof.Kernel.Cycle

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

/-- A step that only repacks. -/
theorem stepA (k0_t1 : Fin k0_t1_loop.trips) (k : Fin k0_t4_loop.trips) (acc : Unit) (hi lo : ℕ) (S : sProp 𝕄) (hk : k.val = 0 ∨ k.val = 6 ∨ k.val = 7) (hhi : k.val < hi) (hlo : lo ≤ k.val) :
    iprop(cyc c XA (14 * k0_t1.val) k.val hi lo 0 0 ∗ S) ⊢ wp frame (wpE (defs₀ (F := F)) 𝒱₀ (c : Thread nD τ) none) Set.univ (t4B k0_t1 k acc)
      (fun _ => iprop(cyc c XA (14 * k0_t1.val) (k.val + 1) hi lo 0 0 ∗ S)) := by
  have h1 := t1_lt k0_t1
  have h4 := t4_lt k
  have k0_h1 := cond1_not k (by omega)
  have k0_h2 := cond2_not k (by omega)
  have k0_h3 := cond3_not k (by omega)
  have k0_h4 := cond4_not k (by omega)
  unfold cyc
  iintro ⟨⟨⟨%W, Hw⟩, Ha, Hb, Hf, Hi, Hr, Hwr, Hfo, Hd, Hn⟩, HS⟩
  ihave Hf' := (fam_head (fl c XA) (14 * k0_t1.val) (show k.val < hi by omega)) $$ Hf
  icases Hf' with ⟨⟨%f, Hf0⟩, Hf⟩
  ihave Hr' := (fam_head (fro c) (14 * k0_t1.val) (show k.val < 8 by omega)) $$ Hr
  icases Hr' with ⟨⟨%g, Ho, Hoc⟩, Hr⟩
  dsimp only [t4B]
  sl_unfold [k0_t4_body]
  sl_exec
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepA.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) hlo)
      isplitl [Hsl Hf0]
      · iexists _; isplitl [Hsl]; · iexact Hsl
        iexact Hf0
      iexact Hi
    isplitl [Hr]; · iexact Hr
    isplitl [Hwr Ho Hoc]
    · iapply (fam_snoc (wr c XA) (14 * k0_t1.val) (Nat.zero_le k.val))
      isplitl [Ho Hoc]
      · iexists g2; isplitl [Ho]; · iexact Ho
        isplitl [Hoc]; · iexact Hoc
        ipureintro; exact he2
      iexact Hwr
    isplitl [Hfo]; · iexact Hfo
    isplitl [Hd]; · iexact Hd
    iexact Hn
  · iexact HS

/-- A step that starts another copy in and repacks. -/
theorem stepB (k0_t1 : Fin k0_t1_loop.trips) (k : Fin k0_t4_loop.trips) (acc : Unit) (S : sProp 𝕄) (hk : 1 ≤ k.val) (hk5 : k.val ≤ 5) :
    iprop(cyc c XA (14 * k0_t1.val) k.val (k.val + 8) (k.val - 1) 0 0 ∗ S) ⊢ wp frame (wpE (defs₀ (F := F)) 𝒱₀ (c : Thread nD τ) none) Set.univ (t4B k0_t1 k acc)
      (fun _ => iprop(cyc c XA (14 * k0_t1.val) (k.val + 1) (k.val + 9) k.val 0 0 ∗ S)) := by
  have h1 := t1_lt k0_t1
  have h4 := t4_lt k
  have k0_h1 := cond1_of k hk hk5
  have k0_h2 := cond2_not k (by omega)
  have k0_h3 := cond3_not k (by omega)
  have k0_h4 := cond4_not k (by omega)
  unfold cyc
  iintro ⟨⟨⟨%W, Hw⟩, Ha, Hb, Hf, Hi, Hr, Hwr, Hfo, Hd, Hn⟩, HS⟩
  ihave Hf' := (fam_head (fl c XA) (14 * k0_t1.val) (show k.val < k.val + 8 by omega)) $$ Hf
  icases Hf' with ⟨⟨%f, Hf0⟩, Hf⟩
  ihave Hb' := (fam_head (hm c XA) (14 * k0_t1.val) (show k.val + 8 < 14 by omega)) $$ Hb
  icases Hb' with ⟨Hbn, Hb⟩
  ihave Hi' := (fam_head (idl c) (14 * k0_t1.val) (show k.val - 1 < k.val by omega)) $$ Hi
  icases Hi' with ⟨Hin, Hi⟩
  ihave Hin' := (idl_next c (14 * k0_t1.val) k.val hk) $$ Hin
  icases Hin' with ⟨%fn, Hns, Hnc⟩
  ihave Hr' := (fam_head (fro c) (14 * k0_t1.val) (show k.val < 8 by omega)) $$ Hr
  icases Hr' with ⟨⟨%g, Ho, Hoc⟩, Hr⟩
  dsimp only [t4B]
  sl_unfold [k0_t4_body]
  sl_exec
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepB.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf Hnc]
    · iapply (fam_snoc (fl c XA) (14 * k0_t1.val) (show k.val + 1 ≤ k.val + 8 by omega))
      isplitl [Hnc]
      · iexists fn; iexact Hnc
      iexact Hf
    isplitl [Hi Hsl Hf0]
    · iapply (fam_snoc (idl c) (14 * k0_t1.val) (Nat.le_refl k.val))
      isplitl [Hsl Hf0]
      · iexists _; isplitl [Hsl]; · iexact Hsl
        iexact Hf0
      iapply (fam_eq (idl c) (14 * k0_t1.val) (show k.val - 1 + 1 = k.val by omega) rfl); iexact Hi
    isplitl [Hr]; · iexact Hr
    isplitl [Hwr Ho Hoc]
    · iapply (fam_snoc (wr c XA) (14 * k0_t1.val) (Nat.zero_le k.val))
      isplitl [Ho Hoc]
      · iexists g2; isplitl [Ho]; · iexact Ho
        isplitl [Hoc]; · iexact Hoc
        ipureintro; exact he2
      iexact Hwr
    isplitl [Hfo]; · iexact Hfo
    isplitl [Hd]; · iexact Hd
    iexact Hn
  · iexact HS

end Steps

end Cert.Proof.KernelP
-- ==== Proof.Kernel.Late.lean ====
/-
  THE LATER STEPS OF A CYCLE: the middle step and those after it.
-/
module

public import proofs.«01_k».proof.Proof.Kernel.Cycle

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

/-- The middle step: it starts the first eight copies out, turns the scales round, awaits the first copy out and repacks. -/
theorem stepD (k0_t1 : Fin k0_t1_loop.trips) (k : Fin k0_t4_loop.trips) (acc : Unit) (hk : k.val = 8) :
    iprop(cyc c XA (14 * k0_t1.val) k.val 14 5 0 (k.val - 8) ∗ scA c XS (Ring.bk 2 k0_t1.val)) ⊢ wp frame (wpE (defs₀ (F := F)) 𝒱₀ (c : Thread nD τ) none) Set.univ (t4B k0_t1 k acc)
      (fun _ => iprop(cyc c XA (14 * k0_t1.val) (k.val + 1) 14 5 8 1 ∗ scB c XS (Ring.bk 2 k0_t1.val))) := by
  have h1 := t1_lt k0_t1
  have h4 := t4_lt k
  have k0_h1 := cond1_not k (by omega)
  have k0_h2 := cond2_of k (by omega)
  have k0_h3 := cond3_not k (by omega)
  have k0_h4 := cond4_of k (by omega)
  unfold cyc
  iintro ⟨⟨⟨%W, Hw⟩, Ha, Hb, Hf, Hi, Hr, Hwr, Hfo, Hd, Hn⟩, HS⟩
  ihave HS' := (show scA c XS (Ring.bk 2 k0_t1.val) ⊢ iprop(sIn c XS (Ring.bk 2 k0_t1.val) ∗ (∃ x, tsblkP c (Ring.bk 2 k0_t1.val) x) ∗ soutP c) from .rfl) $$ HS
  icases HS' with ⟨⟨%fs, Hs⟩, ⟨%xs, Hts⟩, Hso⟩
  ihave Hf' := (fam_head (fl c XA) (14 * k0_t1.val) (show k.val < 14 by omega)) $$ Hf
  icases Hf' with ⟨⟨%f, Hf0⟩, Hf⟩
  dsimp only [t4B]
  sl_unfold [k0_t4_body]
  sl_exec
  sl_for (t5Inv c XA (14 * k0_t1.val)) $$ [Hw Hwr Hn Hfo]
  · intro k acc; dsimp only [stepD.sl.prog.body_1]; exact t5_step c XA k0_t1 _ k0_h2 k acc
  · unfold t5Inv
    isplitl [Hw]; · iexists W; iexact Hw
    isplitl [Hwr]; · iapply (fam_eq (wr c XA) _ rfl (show k.val = 8 by omega)); iexact Hwr
    isplitl [Hn]; · iexact Hn
    iapply (fam_eq (flO c XA) _ (show k.val - 8 = 0 by omega) rfl); iexact Hfo
  iintro %acc1 HL
  ihave HL' := (show t5Inv c XA (14 * k0_t1.val) (k0_t5_loop k0_t1).trips acc1 ⊢ iprop(ow c ∗ fam (nd c) (14 * k0_t1.val) 8 14 ∗ fam (flO c XA) (14 * k0_t1.val) 0 8) from by
    rw [t5_trips]; unfold t5Inv
    iintro ⟨H1, H2, H3, H4⟩
    isplitl [H1]; · iexact H1
    isplitl [H3]; · iexact H3
    iexact H4) $$ HL
  icases HL' with ⟨⟨%W', Hw⟩, Hn, Hfo⟩
  ihave Hfo' := (fam_head (flO c XA) (14 * k0_t1.val) (show 0 < 8 by omega)) $$ Hfo
  icases Hfo' with ⟨Hq0, Hfo⟩
  ihave Hq1 := (show flO c XA (14 * k0_t1.val + 0) ⊢ flO c XA (14 * k0_t1.val + (k.val - 8)) from by rw [show k.val - 8 = 0 from by omega]) $$ Hq0
  icases Hq1 with ⟨%gw, %xw, Hq, %heq⟩
  sl_for0 (t6_trips k0_t1)
  sl_exec
  ihave Hr1 := (show iprop(oslotP c (Ring.sl 8 (14 * k0_t1.val + (k.val - 8))) gw ∗ osmP c (Ring.sl 8 (14 * k0_t1.val + (k.val - 8)))) ⊢ fro c (14 * k0_t1.val + k.val) from
    Entails.trans (by iintro ⟨H1, H2⟩; iexists gw; isplitl [H1]; · iexact H1
                      iexact H2) (fro_next c (14 * k0_t1.val) k.val (by omega))) $$ [Hq_src Hq]
  · isplitl [Hq_src]; · iexact Hq_src
    iexact Hq
  icases Hr1 with ⟨%g, Ho, Hoc2⟩
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepD.sl.prog.body_3]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [Hs_src Hs Hso]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) (show 5 ≤ k.val by omega))
      isplitl [Hsl Hf0]
      · iexists _; isplitl [Hsl]; · iexact Hsl
        iexact Hf0
      iexact Hi
    isplitl [Hr]
    · iapply (Entails.of_eq ((fam_nil_eq (fro c) (14 * k0_t1.val) (show 8 ≤ k.val by omega)).trans (fam_nil_eq (fro c) (14 * k0_t1.val) (show 8 ≤ k.val + 1 by omega)).symm)); iexact Hr
    isplitl [Ho Hoc2]
    · iapply (fam_eq (wr c XA) (14 * k0_t1.val) (show k.val = 8 by omega) rfl)
      iapply (fam_snoc (wr c XA) (14 * k0_t1.val) (Nat.le_refl k.val))
      isplitl [Ho Hoc2]
      · iexists g2; isplitl [Ho]; · iexact Ho
        isplitl [Hoc2]; · iexact Hoc2
        ipureintro; exact he2
      iapply (fam_nil (wr c XA) (14 * k0_t1.val) (Nat.le_refl k.val)); iempintro
    isplitl [Hfo]; · iexact Hfo
    isplitl [Hd Hq_dst]
    · iapply (fam_eq (dn c XA) (14 * k0_t1.val) rfl (show k.val - 8 + 1 = 1 by omega))
      iapply (fam_snoc (dn c XA) (14 * k0_t1.val) (Nat.zero_le (k.val - 8)))
      isplitl [Hq_dst]
      · iapply (landedO c XA _ _ gw _ heq); iexact Hq_dst
      iapply (fam_eq (dn c XA) (14 * k0_t1.val) rfl (show k.val - 8 = k.val - 8 by omega)); iexact Hd
    iexact Hn
  · unfold scB
    isplitl [Hso]
    · iexists _; iexists xs
      isplitl [Hso]; · iexact Hso
      ipureintro; exact View.read_writes_whole ..
    isplitl [Hs_src]; · iexact Hs_src
    iexact Hs

/-- A later step: it starts a copy out, awaits one and repacks. -/
theorem stepE (k0_t1 : Fin k0_t1_loop.trips) (k : Fin k0_t4_loop.trips) (acc : Unit) (S : sProp 𝕄) (hk : 8 < k.val) :
    iprop(cyc c XA (14 * k0_t1.val) k.val 14 5 (k.val - 1) (k.val - 8) ∗ S) ⊢ wp frame (wpE (defs₀ (F := F)) 𝒱₀ (c : Thread nD τ) none) Set.univ (t4B k0_t1 k acc)
      (fun _ => iprop(cyc c XA (14 * k0_t1.val) (k.val + 1) 14 5 k.val (k.val - 7) ∗ S)) := by
  have h1 := t1_lt k0_t1
  have h4 := t4_lt k
  have k0_h1 := cond1_not k (by omega)
  have k0_h2 := cond2_not k (by omega)
  have k0_h3 := cond3_of k (by omega)
  have k0_h4 := cond4_of k (by omega)
  unfold cyc
  iintro ⟨⟨⟨%W, Hw⟩, Ha, Hb, Hf, Hi, Hr, Hwr, Hfo, Hd, Hn⟩, HS⟩
  ihave Hwr' := (fam_head (wr c XA) (14 * k0_t1.val) (show k.val - 1 < k.val by omega)) $$ Hwr
  icases Hwr' with ⟨⟨%go, Hos, Hoc, %heo⟩, Hwr⟩
  ihave Hn' := (fam_head (nd c) (14 * k0_t1.val) (show k.val - 1 < 14 by omega)) $$ Hn
  icases Hn' with ⟨⟨%xo, Hon⟩, Hn⟩
  ihave Hfo' := (fam_head (flO c XA) (14 * k0_t1.val) (show k.val - 8 < k.val - 1 by omega)) $$ Hfo
  icases Hfo' with ⟨⟨%gw, %xw, Hq, %heq⟩, Hfo⟩
  ihave Hf' := (fam_head (fl c XA) (14 * k0_t1.val) (show k.val < 14 by omega)) $$ Hf
  icases Hf' with ⟨⟨%f, Hf0⟩, Hf⟩
  dsimp only [t4B]
  sl_unfold [k0_t4_body]
  sl_exec
  ihave Hr1 := (show iprop(oslotP c (Ring.sl 8 (14 * k0_t1.val + (k.val - 8))) gw ∗ osmP c (Ring.sl 8 (14 * k0_t1.val + (k.val - 8)))) ⊢ fro c (14 * k0_t1.val + k.val) from
    Entails.trans (by iintro ⟨H1, H2⟩; iexists gw; isplitl [H1]; · iexact H1
                      iexact H2) (fro_next c (14 * k0_t1.val) k.val (by omega))) $$ [Hq_src Hq]
  · isplitl [Hq_src]; · iexact Hq_src
    iexact Hq
  icases Hr1 with ⟨%g, Ho, Hoc2⟩
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepE.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) (show 5 ≤ k.val by omega))
      isplitl [Hsl Hf0]
      · iexists _; isplitl [Hsl]; · iexact Hsl
        iexact Hf0
      iexact Hi
    isplitl [Hr]
    · iapply (Entails.of_eq ((fam_nil_eq (fro c) (14 * k0_t1.val) (show 8 ≤ k.val by omega)).trans (fam_nil_eq (fro c) (14 * k0_t1.val) (show 8 ≤ k.val + 1 by omega)).symm)); iexact Hr
    isplitl [Hwr Ho Hoc2]
    · iapply (fam_eq (wr c XA) (14 * k0_t1.val) (show k.val - 1 + 1 = k.val by omega) rfl)
      iapply (fam_snoc (wr c XA) (14 * k0_t1.val) (show k.val - 1 + 1 ≤ k.val by omega))
      isplitl [Ho Hoc2]
      · iexists g2; isplitl [Ho]; · iexact Ho
        isplitl [Hoc2]; · iexact Hoc2
        ipureintro; exact he2
      iexact Hwr
    isplitl [Hfo Hoc]
    · iapply (fam_eq (flO c XA) (14 * k0_t1.val) (show k.val - 8 + 1 = k.val - 7 by omega) (show k.val - 1 + 1 = k.val by omega))
      iapply (fam_snoc (flO c XA) (14 * k0_t1.val) (show k.val - 8 + 1 ≤ k.val - 1 by omega))
      isplitl [Hoc]
      · iexists go; iexists xo
        isplitl [Hoc]; · iexact Hoc
        ipureintro; exact heo
      iexact Hfo
    isplitl [Hd Hq_dst]
    · iapply (fam_eq (dn c XA) (14 * k0_t1.val) rfl (show k.val - 8 + 1 = k.val - 7 by omega))
      iapply (fam_snoc (dn c XA) (14 * k0_t1.val) (Nat.zero_le (k.val - 8)))
      isplitl [Hq_dst]
      · iapply (landedO c XA _ _ gw _ heq); iexact Hq_dst
      iexact Hd
    iapply (fam_eq (nd c) (14 * k0_t1.val) (show k.val - 1 + 1 = k.val by omega) rfl); iexact Hn
  · iexact HS
end Steps

end Cert.Proof.KernelP
-- ==== Proof.Kernel.Steps.lean ====
/-
  ONE CYCLE. The fourteen steps of a cycle, one after the other, from the four kinds of step; then the cycle as a whole:
  it starts the copies in, takes the steps, and awaits the last copies out.
-/
module

public import proofs.«01_k».proof.Proof.Kernel.Early
public import proofs.«01_k».proof.Proof.Kernel.Late

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

theorem cyc_eq (o : ℕ) {k k' hi hi' lo lo' st st' wt wt' : ℕ} (h1 : k = k') (h2 : hi = hi') (h3 : lo = lo') (h4 : st = st') (h5 : wt = wt') :
    cyc c XA o k hi lo st wt ⊢ cyc c XA o k' hi' lo' st' wt' := by
  subst h1; subst h2; subst h3; subst h4; subst h5; exact .rfl

/-- The scales before step `k`. -/
def scK (k : ℕ) (b : Fin 2) : sProp 𝕄 := if k ≤ 8 then scA c XS b else scB c XS b
theorem scK_early {k : ℕ} (h : k ≤ 8) (b : Fin 2) : scK c XS k b = scA c XS b := if_pos h
theorem scK_late {k : ℕ} (h : 8 < k) (b : Fin 2) : scK c XS k b = scB c XS b := if_neg (Nat.not_le.2 h)

/-- Before step `k` of the cycle. -/
def t4Inv (k0_t1 : Fin k0_t1_loop.trips) (k : ℕ) (_ : Unit) : sProp 𝕄 :=
  iprop(cyc c XA (14 * k0_t1.val) k (hiN k) (min 5 (k - 1)) (stN k) (k - 8) ∗ scK c XS k (Ring.bk 2 k0_t1.val))

theorem sep_left {P P' S : sProp 𝕄} (h : P ⊢ P') : iprop(P ∗ S) ⊢ iprop(P' ∗ S) := by
  iintro ⟨H1, H2⟩
  isplitl [H1]; · iapply h; iexact H1
  iexact H2

theorem t4_step (k0_t1 : Fin k0_t1_loop.trips) (k : Fin k0_t4_loop.trips) (acc : Unit) :
    t4Inv c XA XS k0_t1 k.val acc ⊢ wp frame (wpE (defs₀ (F := F)) 𝒱₀ (c : Thread nD τ) none) Set.univ (t4B k0_t1 k acc) (t4Inv c XA XS k0_t1 (k.val + 1)) := by
  have h4 := t4_lt k
  rcases (by omega : (k.val = 0 ∨ k.val = 6 ∨ k.val = 7) ∨ (1 ≤ k.val ∧ k.val ≤ 5) ∨ k.val = 8 ∨ 8 < k.val) with h | h | h | h
  · have e : hiN (k.val + 1) = hiN k.val ∧ min 5 (k.val + 1 - 1) = min 5 (k.val - 1) ∧ stN k.val = 0 ∧ stN (k.val + 1) = 0 ∧ k.val < hiN k.val := by
      unfold hiN stN; split_ifs <;> omega
    obtain ⟨e1, e2, e3, e4, e5⟩ := e
    unfold t4Inv
    rw [scK_early c XS (show k.val ≤ 8 by omega)]
    refine (sep_left (cyc_eq c XA _ rfl rfl rfl e3 (show k.val - 8 = 0 by omega))).trans ((stepA c XA k0_t1 k acc (hiN k.val) (min 5 (k.val - 1)) _ h e5 (by omega)).trans (wp_mono _ _ _ (fun _ => ?_)))
    rw [scK_early c XS (show k.val + 1 ≤ 8 by omega)]
    exact sep_left (cyc_eq c XA _ rfl e1.symm e2.symm e4.symm (by omega))
  · have e : hiN k.val = k.val + 8 ∧ hiN (k.val + 1) = k.val + 9 ∧ stN k.val = 0 ∧ stN (k.val + 1) = 0 := by
      unfold hiN stN; split_ifs <;> omega
    obtain ⟨e1, e2, e3, e4⟩ := e
    unfold t4Inv
    rw [scK_early c XS (show k.val ≤ 8 by omega)]
    refine (sep_left (cyc_eq c XA _ rfl e1 (show min 5 (k.val - 1) = k.val - 1 by omega) e3 (show k.val - 8 = 0 by omega))).trans ((stepB c XA k0_t1 k acc _ h.1 h.2).trans (wp_mono _ _ _ (fun _ => ?_)))
    rw [scK_early c XS (show k.val + 1 ≤ 8 by omega)]
    exact sep_left (cyc_eq c XA _ rfl e2.symm (by omega) e4.symm (by omega))
  · have e : hiN k.val = 14 ∧ hiN (k.val + 1) = 14 ∧ stN k.val = 0 ∧ stN (k.val + 1) = 8 := by
      unfold hiN stN; split_ifs <;> omega
    obtain ⟨e1, e2, e3, e4⟩ := e
    unfold t4Inv
    rw [scK_early c XS (show k.val ≤ 8 by omega)]
    refine (sep_left (cyc_eq c XA _ rfl e1 (show min 5 (k.val - 1) = 5 by omega) e3 rfl)).trans ((stepD c XA XS k0_t1 k acc h).trans (wp_mono _ _ _ (fun _ => ?_)))
    rw [scK_late c XS (show 8 < k.val + 1 by omega)]
    exact sep_left (cyc_eq c XA _ rfl e2.symm (by omega) e4.symm (by omega))
  · have e : hiN k.val = 14 ∧ hiN (k.val + 1) = 14 ∧ stN k.val = k.val - 1 ∧ stN (k.val + 1) = k.val := by
      unfold hiN stN; split_ifs <;> omega
    obtain ⟨e1, e2, e3, e4⟩ := e
    unfold t4Inv
    rw [scK_late c XS h]
    refine (sep_left (cyc_eq c XA _ rfl e1 (show min 5 (k.val - 1) = 5 by omega) e3 rfl)).trans ((stepE c XA k0_t1 k acc _ h).trans (wp_mono _ _ _ (fun _ => ?_)))
    rw [scK_late c XS (show 8 < k.val + 1 by omega)]
    exact sep_left (cyc_eq c XA _ rfl e2.symm (by omega) e4.symm (by omega))

/-- The scales' blocks: at their contents, written, and yet to be written. -/
abbrev scb (n : ℕ) : sProp 𝕄 := sblkP c XS (Ring.bk 2 n)
abbrev scd (n : ℕ) : sProp 𝕄 := iprop(∃ x, tsblkP c (Ring.bk 2 n) x ∗ ⌜(tsblk (Ring.bk 2 n)).view.read (Elt F) x = (sblk (Ring.bk 2 n)).view.read (Elt F) XS⌝)
abbrev scn (n : ℕ) : sProp 𝕄 := iprop(∃ x, tsblkP (F := F) c (Ring.bk 2 n) x)

abbrev t1B (k0_t1 : Fin k0_t1_loop.trips) (acc : Unit) : Prog (TpuEff nD τ sig (Elt F) Λ₀ .tc) Unit :=
  k0_t1_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 k0_t1 acc

/-- A whole cycle. -/
theorem cycleRun (k0_t1 : Fin k0_t1_loop.trips) (acc : Unit) (S : sProp 𝕄) :
    iprop(ow c ∗ fam (hm c XA) (14 * k0_t1.val) 0 14 ∗ fam (idl c) (14 * k0_t1.val) 0 9 ∗ fam (fro c) (14 * k0_t1.val) 0 8 ∗ fam (nd c) (14 * k0_t1.val) 0 14
        ∗ scb c XS k0_t1.val ∗ scn c k0_t1.val ∗ (∃ f, sbufP c f) ∗ sinP c ∗ soutP c ∗ S)
      ⊢ wp frame (wpE (defs₀ (F := F)) 𝒱₀ (c : Thread nD τ) none) Set.univ (t1B k0_t1 acc)
        (fun _ => iprop(ow c ∗ fam (hm c XA) (14 * k0_t1.val) 0 14 ∗ fam (idl c) (14 * k0_t1.val) 5 (5 + 9) ∗ fam (fro c) (14 * k0_t1.val) 6 (6 + 8) ∗ fam (dn c XA) (14 * k0_t1.val) 0 14
        ∗ scb c XS k0_t1.val ∗ scd c XS k0_t1.val ∗ (∃ f, sbufP c f) ∗ sinP c ∗ soutP c ∗ S)) := by
  have h1 := t1_lt k0_t1
  iintro ⟨⟨%W, Hw⟩, Hh, Hi, Hr, Hn, Hsb, ⟨%xs, Hts⟩, ⟨%fs, Hsf⟩, Hsi, Hso, HS⟩
  ihave Hh' := (fam_head (hm c XA) (14 * k0_t1.val) (show 0 < 14 by omega)) $$ Hh
  icases Hh' with ⟨Hh0, Hh⟩
  ihave Hh1 := (show hm c XA (14 * k0_t1.val + 0) ⊢ hm c XA (14 * k0_t1.val) from .rfl) $$ Hh0
  ihave Hi' := (fam_head (idl c) (14 * k0_t1.val) (show 0 < 9 by omega)) $$ Hi
  icases Hi' with ⟨Hi0, Hi⟩
  ihave Hi1 := (show idl (F := F) c (14 * k0_t1.val + 0) ⊢ idl c (14 * k0_t1.val) from .rfl) $$ Hi0
  icases Hi1 with ⟨%f, Hs0, Hc0⟩
  dsimp only [t1B]
  sl_unfold [k0_t1_body]
  sl_open_parts
  sl_exec
  simp only [bind_assoc]
  sl_for (t2Inv c XA (14 * k0_t1.val)) $$ [Hw Hi Hh Hc0]
  · intro k acc; have e := t2_step (F := F) c XA k0_t1 k acc; dsimp only [t2B] at e; dsimp only [cycleRun.sl.prog.body_1]; with_reducible exact e
  · unfold t2Inv
    isplitl [Hw]; · iexists _; iexact Hw
    isplitl [Hi]; · iexact Hi
    isplitl [Hh]; · iexact Hh
    iapply (fam_cons (fl c XA) (14 * k0_t1.val) (show 0 < 1 by omega))
    isplitl [Hc0]
    · iexists f; iexact Hc0
    iapply (fam_nil (fl c XA) (14 * k0_t1.val) (Nat.le_refl _)); iempintro
  iintro %acc1 HL
  ihave HL' := (show t2Inv c XA (14 * k0_t1.val) (k0_t2_loop k0_t1).trips acc1 ⊢ iprop(ow c ∗ fam (hm c XA) (14 * k0_t1.val) 9 14 ∗ fam (fl c XA) (14 * k0_t1.val) 0 9) from by
    rw [t2_trips]; unfold t2Inv
    iintro ⟨H1, H2, H3, H4⟩
    isplitl [H1]; · iexact H1
    isplitl [H3]; · iexact H3
    iexact H4) $$ HL
  icases HL' with ⟨Hw, Hh, Hf⟩
  sl_for0 (t3_trips k0_t1)
  sl_for (t4Inv c XA XS k0_t1) $$ [Hw Hh Hf Hr Hn Hts Hsi Hso]
  · intro k acc; have e := t4_step (F := F) c XA XS k0_t1 k acc; dsimp only [t4B] at e; dsimp only [cycleRun.sl.prog.body_3]; with_reducible exact e
  · unfold t4Inv cyc
    rw [scK_early c XS (Nat.zero_le 8)]
    isplitr [Hts Hsi Hso]
    · isplitl [Hw]; · iexact Hw
      isplitl []; · iapply (fam_nil (hm c XA) (14 * k0_t1.val) (Nat.le_refl 0)); iempintro
      isplitl [Hh]; · iexact Hh
      isplitl [Hf]; · iexact Hf
      isplitl []; · iapply (fam_nil (idl c) (14 * k0_t1.val) (Nat.le_refl 0)); iempintro
      isplitl [Hr]; · iexact Hr
      isplitl []; · iapply (fam_nil (wr c XA) (14 * k0_t1.val) (Nat.le_refl 0)); iempintro
      isplitl []; · iapply (fam_nil (flO c XA) (14 * k0_t1.val) (Nat.le_refl 0)); iempintro
      isplitl []; · iapply (fam_nil (dn c XA) (14 * k0_t1.val) (Nat.le_refl 0)); iempintro
      iexact Hn
    unfold scA
    isplitl [Hsi]; · iexists fs; iexact Hsi
    isplitl [Hts]; · iexists xs; iexact Hts
    iexact Hso
  iintro %acc2 HL
  ihave HL' := (show t4Inv c XA XS k0_t1 k0_t4_loop.trips acc2 ⊢ iprop(ow c ∗ fam (hm c XA) (14 * k0_t1.val) 0 14 ∗ fam (idl c) (14 * k0_t1.val) 5 14
      ∗ fam (wr c XA) (14 * k0_t1.val) 13 14 ∗ fam (flO c XA) (14 * k0_t1.val) 6 13 ∗ fam (dn c XA) (14 * k0_t1.val) 0 6 ∗ fam (nd c) (14 * k0_t1.val) 13 14
      ∗ scB c XS (Ring.bk 2 k0_t1.val)) from by
    rw [t4_trips]; unfold t4Inv cyc
    rw [scK_late c XS (show 8 < 14 by omega)]
    iintro ⟨⟨H1, H2, -, -, H5, -, H7, H8, H9, H10⟩, HS⟩
    isplitl [H1]; · iexact H1
    isplitl [H2]; · iexact H2
    isplitl [H5]; · iexact H5
    isplitl [H7]; · iexact H7
    isplitl [H8]; · iexact H8
    isplitl [H9]; · iexact H9
    isplitl [H10]; · iexact H10
    iexact HS) $$ HL
  icases HL' with ⟨⟨%W', Hw⟩, Hh, Hi, Hwr, Hfo, Hd, Hn, HB⟩
  ihave HB' := (show scB c XS (Ring.bk 2 k0_t1.val) ⊢ iprop(sOut c XS (Ring.bk 2 k0_t1.val) ∗ sblkP c XS (Ring.bk 2 k0_t1.val) ∗ sinP c) from .rfl) $$ HB
  icases HB' with ⟨⟨%fo, %xo, Hq, %hq⟩, Hsb, Hsi⟩
  ihave Hwr' := (fam_head (wr c XA) (14 * k0_t1.val) (show 13 < 14 by omega)) $$ Hwr
  icases Hwr' with ⟨⟨%go, Hos, Hoc, %heo⟩, -⟩
  ihave Hn' := (fam_head (nd c) (14 * k0_t1.val) (show 13 < 14 by omega)) $$ Hn
  icases Hn' with ⟨⟨%xn, Hon⟩, -⟩
  sl_exec
  sl_for (t8Inv c XA (14 * k0_t1.val)) $$ [Hw Hfo Hd Hoc]
  · intro k acc; have e := t8_step (F := F) c XA k0_t1 k acc; dsimp only [t8B] at e; dsimp only [cycleRun.sl.prog.body_4]; with_reducible exact e
  · unfold t8Inv
    isplitl [Hw]; · iexists _; iexact Hw
    isplitl [Hfo Hoc]
    · iapply (fam_snoc (flO c XA) (14 * k0_t1.val) (show 6 ≤ 13 by omega))
      isplitl [Hoc]
      · iexists go; iexists xn
        isplitl [Hoc]; · iexact Hoc
        ipureintro; exact heo
      iexact Hfo
    isplitl []; · iapply (fam_nil (fro c) (14 * k0_t1.val) (Nat.le_refl 6)); iempintro
    iexact Hd
  iintro %acc3 HL
  ihave HL' := (show t8Inv c XA (14 * k0_t1.val) (k0_t8_loop k0_t1).trips acc3 ⊢ iprop(ow c ∗ fam (fro c) (14 * k0_t1.val) 6 14 ∗ fam (dn c XA) (14 * k0_t1.val) 0 14) from by
    rw [t8_trips]; unfold t8Inv
    iintro ⟨H1, -, H3, H4⟩
    isplitl [H1]; · iexact H1
    isplitl [H3]; · iexact H3
    iexact H4) $$ HL
  icases HL' with ⟨Hw, Hr, Hd⟩
  sl_for0 (t9_trips k0_t1)
  sl_exec
  sl_step
  isplitl [Hw]; · iexact Hw
  isplitl [Hh]; · iexact Hh
  isplitl [Hi]; · iexact Hi
  isplitl [Hr]; · iexact Hr
  isplitl [Hd]; · iexact Hd
  isplitl [Hsb]; · iexact Hsb
  isplitl [Hq_dst]
  · iapply (landedT c XS _ fo _ hq); iexact Hq_dst
  isplitl [Hq_src]; · iexists fo; iexact Hq_src
  isplitl [Hsi]; · iexact Hsi
  isplitl [Hq]; · iexact Hq
  iexact HS
end Steps

end Cert.Proof.KernelP
-- ==== Proof.Kernel.Whole.lean ====
module

public import proofs.«01_k».proof.Proof.Kernel.Steps
public import proofs.«01_k».proof.Proof.Gen.Kernel.Frame

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Mid
/-- The middle of a family set apart. -/
theorem fam_mid (X : ℕ → sProp 𝕄) (o n N : ℕ) (h : o + n ≤ N) :
    fam X 0 0 N = iprop(fam X 0 0 o ∗ fam X o 0 n ∗ fam X 0 (o + n) N) := by
  have e : fam X o 0 n = fam X 0 o (o + n) := by
    have := fam_shift X o 0 n; rwa [Nat.zero_add, Nat.add_zero] at this
  rw [fam_split X 0 (Nat.zero_le o) (show o ≤ N by omega), fam_split X 0 (show o ≤ o + n by omega) h, e]
/-- A family of period `p` over any stretch of `p` is the family from 0. -/
theorem fam_any (X : ℕ → sProp 𝕄) {p : ℕ} (hp : 0 < p) (hX : ∀ n, X (n + p) = X n) (o a : ℕ) : fam X o a (a + p) = fam X 0 0 p := by
  rw [fam_shift, fam_rot X hp hX]
end Mid

section Whole
variable (c : Dev nD) (XA : Buf (Elt F) (wM.view.loc (c : Thread nD τ))) (XS : Buf (Elt F) (scM.view.loc (c : Thread nD τ)))

/-- Before cycle `b`: everything at home, the first `b` cycles' blocks written. -/
def t1Inv (b : ℕ) (_ : Unit) : sProp 𝕄 :=
  iprop(ow c ∗ fam (hm c XA) 0 0 28 ∗ fam (idl c) 0 0 9 ∗ fam (fro c) 0 0 8 ∗ fam (dn c XA) 0 0 (14 * b) ∗ fam (nd c) 0 (14 * b) 28
    ∗ fam (scb c XS) 0 0 2 ∗ fam (scd c XS) 0 0 b ∗ fam (scn c) 0 b 2 ∗ (∃ f, sbufP c f) ∗ sinP c ∗ soutP c)

/-- One cycle. -/
theorem t1_step (k : Fin k0_t1_loop.trips) (acc : Unit) :
    t1Inv c XA XS k.val acc ⊢ wp frame (wpE (defs₀ (F := F)) 𝒱₀ (c : Thread nD τ) none) Set.univ (t1B k acc) (t1Inv c XA XS (k.val + 1)) := by
  have h1 := t1_lt k
  have eN : fam (nd (F := F) c) 0 (14 * k.val) 28 = iprop(fam (nd c) (14 * k.val) 0 14 ∗ fam (nd c) 0 (14 * (k.val + 1)) 28) := by
    have e := fam_shift (nd (F := F) c) (14 * k.val) 0 14
    rw [Nat.zero_add, Nat.add_zero] at e
    rw [fam_split (nd c) 0 (show 14 * k.val ≤ 14 * k.val + 14 by omega) (show 14 * k.val + 14 ≤ 28 by omega), e]; rfl
  have eD : fam (dn c XA) 0 0 (14 * (k.val + 1)) = iprop(fam (dn c XA) 0 0 (14 * k.val) ∗ fam (dn c XA) (14 * k.val) 0 14) := by
    have e := fam_shift (dn c XA) (14 * k.val) 0 14
    rw [Nat.zero_add, Nat.add_zero] at e
    rw [fam_split (dn c XA) 0 (Nat.zero_le (14 * k.val)) (show 14 * k.val ≤ 14 * (k.val + 1) by omega), e]; rfl
  have eB : fam (scb c XS) 0 0 2 = iprop(fam (scb c XS) 0 0 k.val ∗ fam (scb c XS) k.val 0 1 ∗ fam (scb c XS) 0 (k.val + 1) 2) := fam_mid _ _ _ _ (by omega)
  have eb : fam (scb c XS) k.val 0 1 ⊢ scb c XS k.val := by
    refine (fam_head (scb c XS) k.val (show 0 < 1 by omega)).trans ?_
    iintro ⟨H, -⟩; iexact H
  have eb' : scb c XS k.val ⊢ fam (scb c XS) k.val 0 1 := by
    refine BIBase.Entails.trans ?_ (fam_cons (scb c XS) k.val (show 0 < 1 by omega))
    iintro H
    isplitl [H]; · iexact H
    iapply (fam_nil (scb c XS) k.val (Nat.le_refl 1)); iempintro
  have en : fam (scn (F := F) c) 0 k.val 2 ⊢ iprop(scn c k.val ∗ fam (scn c) 0 (k.val + 1) 2) := by
    have e := fam_head (scn (F := F) c) 0 (show k.val < 2 by omega)
    rwa [Nat.zero_add] at e
  have ed : iprop(scd c XS k.val ∗ fam (scd c XS) 0 0 k.val) ⊢ fam (scd c XS) 0 0 (k.val + 1) := by
    have e := fam_snoc (scd c XS) 0 (Nat.zero_le k.val)
    rwa [Nat.zero_add] at e
  unfold t1Inv
  rw [fam_mid (hm c XA) (14 * k.val) 14 28 (by omega), eN, eD, eB,
    ← fam_any (idl (F := F) c) (show 0 < 9 by omega) (idl_per c) (14 * k.val) 0, Nat.zero_add,
    ← fam_any (fro (F := F) c) (show 0 < 8 by omega) (fro_per c) (14 * k.val) 0, Nat.zero_add]
  refine BIBase.Entails.trans ?_ ((cycleRun c XA XS k acc iprop(fam (hm c XA) 0 0 (14 * k.val) ∗ fam (hm c XA) 0 (14 * k.val + 14) 28 ∗ fam (dn c XA) 0 0 (14 * k.val)
    ∗ fam (nd c) 0 (14 * (k.val + 1)) 28 ∗ fam (scb c XS) 0 0 k.val ∗ fam (scb c XS) 0 (k.val + 1) 2 ∗ fam (scd c XS) 0 0 k.val ∗ fam (scn c) 0 (k.val + 1) 2)).trans (wp_mono _ _ _ (fun _ => ?_)))
  · iintro ⟨Hw, ⟨Hh1, Hh, Hh2⟩, Hi, Hr, Hd, ⟨Hn, Hn2⟩, ⟨Hb1, Hb, Hb2⟩, Hsd, Hsn, Hsf, Hsi, Hso⟩
    ihave Hb' := eb $$ Hb
    ihave Hsn' := en $$ Hsn
    icases Hsn' with ⟨Hsn1, Hsn2⟩
    isplitl [Hw]; · iexact Hw
    isplitl [Hh]; · iexact Hh
    isplitl [Hi]; · iexact Hi
    isplitl [Hr]; · iexact Hr
    isplitl [Hn]; · iexact Hn
    isplitl [Hb']; · iexact Hb'
    isplitl [Hsn1]; · iexact Hsn1
    isplitl [Hsf]; · iexact Hsf
    isplitl [Hsi]; · iexact Hsi
    isplitl [Hso]; · iexact Hso
    isplitl [Hh1]; · iexact Hh1
    isplitl [Hh2]; · iexact Hh2
    isplitl [Hd]; · iexact Hd
    isplitl [Hn2]; · iexact Hn2
    isplitl [Hb1]; · iexact Hb1
    isplitl [Hb2]; · iexact Hb2
    isplitl [Hsd]; · iexact Hsd
    iexact Hsn2
  · rw [fam_any (idl (F := F) c) (show 0 < 9 by omega) (idl_per c) (14 * k.val) 5,
      fam_any (fro (F := F) c) (show 0 < 8 by omega) (fro_per c) (14 * k.val) 6,
      ← fam_any (idl (F := F) c) (show 0 < 9 by omega) (idl_per c) (14 * k.val) 0, Nat.zero_add,
      ← fam_any (fro (F := F) c) (show 0 < 8 by omega) (fro_per c) (14 * k.val) 0, Nat.zero_add]
    iintro ⟨Hw, Hh, Hi, Hr, Hd2, Hb, Hsd1, Hsf, Hsi, Hso, Hh1, Hh2, Hd, Hn2, Hb1, Hb2, Hsd, Hsn2⟩
    ihave Hb' := eb' $$ Hb
    isplitl [Hw]; · iexact Hw
    isplitl [Hh Hh1 Hh2]
    · isplitl [Hh1]; · iexact Hh1
      isplitl [Hh]; · iexact Hh
      iexact Hh2
    isplitl [Hi]; · iexact Hi
    isplitl [Hr]; · iexact Hr
    isplitl [Hd Hd2]
    · isplitl [Hd]; · iexact Hd
      iexact Hd2
    isplitl [Hn2]; · iexact Hn2
    isplitl [Hb' Hb1 Hb2]
    · isplitl [Hb1]; · iexact Hb1
      isplitl [Hb']; · iexact Hb'
      iexact Hb2
    isplitl [Hsd Hsd1]
    · iapply ed
      isplitl [Hsd1]; · iexact Hsd1
      iexact Hsd
    isplitl [Hsn2]; · iexact Hsn2
    isplitl [Hsf]; · iexact Hsf
    isplitl [Hsi]; · iexact Hsi
    iexact Hso

/-- The whole kernel: from everything at home to everything written. -/
theorem kernelRun (t : Fin cfg0.N) :
    t1Inv c XA XS 0 () ⊢ wp frame (wpE (defs₀ (F := F)) 𝒱₀ (c : Thread nD τ) none) Set.univ (bodyAt0 t) (fun _ => t1Inv c XA XS 2 ()) := by
  unfold bodyAt0
  rw [cc0_repack_eq_skeleton]
  unfold cc0_repack_skel
  iintro H
  sl_for (t1Inv c XA XS) $$ [H]
  · intro k acc; have e := t1_step (F := F) c XA XS k acc; dsimp only [t1B] at e; dsimp only [kernelRun.sl.prog.body_1]; with_reducible exact e
  · iexact H
  iintro %acc1 HL
  sl_exec
  sl_step
  iapply (show t1Inv c XA XS k0_t1_loop.trips acc1 ⊢ t1Inv c XA XS 2 () from by rw [t1_trips])
  iexact HL
end Whole

end Cert.Proof.KernelP
-- ==== Proof.Kernel.Blocks.lean ====
/-
  BLOCKS. Each buffer held whole is held block by block (the arrays) or slot by slot (the rings); the blocks written join
  to the results' closed forms.
-/
module

public import proofs.«01_k».proof.Proof.Kernel.Whole

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Index
theorem bk_self {N : ℕ} [NeZero N] (b : Fin N) : Ring.bk N b.val = b := Fin.ext (Ring.bk_val b.isLt)
theorem sl_self {N : ℕ} [NeZero N] (b : Fin N) : Ring.sl N b.val = b := Fin.ext (Nat.mod_eq_of_lt b.isLt)

abbrev iblkR (b : Fin 28) := (Rect.unit (s := S7x1536x8192) (iblkOff b) S1x1536x2048.size (iblkOff_inb b)).set
abbrev oblkR (b : Fin 28) := (Rect.unit (s := S7x4096x3072) (oblkOff b) S1x1024x3072.size (oblkOff_inb b)).set
abbrev islotR (s : Fin 9) := (Rect.unit (s := S9x1536x2048) (islotOff s) S1x1536x2048.size (islotOff_inb s)).set
abbrev oslotR (s : Fin 8) := (Rect.unit (s := S8x1024x3072) (oslotOff s) S1x1024x3072.size (oslotOff_inb s)).set
abbrev sblkR (b : Fin 2) := (Rect.unit (s := S168x2x8192) (sblkOff b) S84x2x8192.size (sblkOff_inb b)).set

theorem iblk_set (b : Fin 28) : (iblk b).view.set = iblkR b := (View.set_reshape _ _).trans (View.set_slice_whole _ _)
theorem oblk_set (b : Fin 28) : (oblk b).view.set = oblkR b := (View.set_reshape _ _).trans (View.set_slice_whole _ _)
theorem islot_set (s : Fin 9) : (islot s).view.set = islotR s := (View.set_reshape _ _).trans (View.set_slice_whole _ _)
theorem oslot_set (s : Fin 8) : (oslot s).view.set = oslotR s := (View.set_reshape _ _).trans (View.set_slice_whole _ _)
theorem sblk_set (b : Fin 2) : (sblk b).view.set = sblkR b := View.set_slice_whole _ _
theorem tsblk_set (b : Fin 2) : (tsblk b).view.set = sblkR b := View.set_slice_whole _ _

theorem iblk_disj (b b' : Fin 28) (h : b ≠ b') : Disjoint (iblkR b) (iblkR b') := by
  rw [Finset.disjoint_left]
  intro i hi hi'
  have hi := Rect.mem_set_unit.mp hi
  have hi' := Rect.mem_set_unit.mp hi'
  have a0 : b.val / 4 ≤ (i 0).val ∧ (i 0).val < b.val / 4 + 1 := hi 0
  have a2 : b.val % 4 * 2048 ≤ (i 2).val ∧ (i 2).val < b.val % 4 * 2048 + 2048 := hi 2
  have b0 : b'.val / 4 ≤ (i 0).val ∧ (i 0).val < b'.val / 4 + 1 := hi' 0
  have b2 : b'.val % 4 * 2048 ≤ (i 2).val ∧ (i 2).val < b'.val % 4 * 2048 + 2048 := hi' 2
  exact h (Fin.ext (by omega))
theorem iblk_cover : Finset.univ.biUnion iblkR = Finset.univ := by
  ext i
  simp only [Finset.mem_biUnion, Finset.mem_univ, true_and, iff_true]
  have h0 : (i 0).val < 7 := (i 0).isLt
  have h1 : (i 1).val < 1536 := (i 1).isLt
  have h2 : (i 2).val < 8192 := (i 2).isLt
  refine ⟨⟨(i 0).val * 4 + (i 2).val / 2048, by omega⟩, Rect.mem_set_unit.mpr fun a => ?_⟩
  fin_cases a
  · show ((i 0).val * 4 + (i 2).val / 2048) / 4 ≤ (i 0).val ∧ (i 0).val < ((i 0).val * 4 + (i 2).val / 2048) / 4 + 1; omega
  · show 0 ≤ (i 1).val ∧ (i 1).val < 0 + 1536; omega
  · show ((i 0).val * 4 + (i 2).val / 2048) % 4 * 2048 ≤ (i 2).val ∧ (i 2).val < ((i 0).val * 4 + (i 2).val / 2048) % 4 * 2048 + 2048; omega
theorem oblk_disj (b b' : Fin 28) (h : b ≠ b') : Disjoint (oblkR b) (oblkR b') := by
  rw [Finset.disjoint_left]
  intro i hi hi'
  have hi := Rect.mem_set_unit.mp hi
  have hi' := Rect.mem_set_unit.mp hi'
  have a0 : b.val / 4 ≤ (i 0).val ∧ (i 0).val < b.val / 4 + 1 := hi 0
  have a1 : b.val % 4 * 1024 ≤ (i 1).val ∧ (i 1).val < b.val % 4 * 1024 + 1024 := hi 1
  have b0 : b'.val / 4 ≤ (i 0).val ∧ (i 0).val < b'.val / 4 + 1 := hi' 0
  have b1 : b'.val % 4 * 1024 ≤ (i 1).val ∧ (i 1).val < b'.val % 4 * 1024 + 1024 := hi' 1
  exact h (Fin.ext (by omega))
theorem oblk_cover : Finset.univ.biUnion oblkR = Finset.univ := by
  ext i
  simp only [Finset.mem_biUnion, Finset.mem_univ, true_and, iff_true]
  have h0 : (i 0).val < 7 := (i 0).isLt
  have h1 : (i 1).val < 4096 := (i 1).isLt
  have h2 : (i 2).val < 3072 := (i 2).isLt
  refine ⟨⟨(i 0).val * 4 + (i 1).val / 1024, by omega⟩, Rect.mem_set_unit.mpr fun a => ?_⟩
  fin_cases a
  · show ((i 0).val * 4 + (i 1).val / 1024) / 4 ≤ (i 0).val ∧ (i 0).val < ((i 0).val * 4 + (i 1).val / 1024) / 4 + 1; omega
  · show ((i 0).val * 4 + (i 1).val / 1024) % 4 * 1024 ≤ (i 1).val ∧ (i 1).val < ((i 0).val * 4 + (i 1).val / 1024) % 4 * 1024 + 1024; omega
  · show 0 ≤ (i 2).val ∧ (i 2).val < 0 + 3072; omega
theorem islot_disj (b b' : Fin 9) (h : b ≠ b') : Disjoint (islotR b) (islotR b') := by
  rw [Finset.disjoint_left]
  intro i hi hi'
  have a0 : b.val ≤ (i 0).val ∧ (i 0).val < b.val + 1 := Rect.mem_set_unit.mp hi 0
  have b0 : b'.val ≤ (i 0).val ∧ (i 0).val < b'.val + 1 := Rect.mem_set_unit.mp hi' 0
  exact h (Fin.ext (by omega))
theorem islot_cover : Finset.univ.biUnion islotR = Finset.univ := by
  ext i
  simp only [Finset.mem_biUnion, Finset.mem_univ, true_and, iff_true]
  have h0 : (i 0).val < 9 := (i 0).isLt
  have h1 : (i 1).val < 1536 := (i 1).isLt
  have h2 : (i 2).val < 2048 := (i 2).isLt
  refine ⟨⟨(i 0).val / 1, by omega⟩, Rect.mem_set_unit.mpr fun a => ?_⟩
  fin_cases a
  · show (i 0).val / 1 ≤ (i 0).val ∧ (i 0).val < (i 0).val / 1 + 1; omega
  · show 0 ≤ (i 1).val ∧ (i 1).val < 0 + 1536; omega
  · show 0 ≤ (i 2).val ∧ (i 2).val < 0 + 2048; omega
theorem oslot_disj (b b' : Fin 8) (h : b ≠ b') : Disjoint (oslotR b) (oslotR b') := by
  rw [Finset.disjoint_left]
  intro i hi hi'
  have a0 : b.val ≤ (i 0).val ∧ (i 0).val < b.val + 1 := Rect.mem_set_unit.mp hi 0
  have b0 : b'.val ≤ (i 0).val ∧ (i 0).val < b'.val + 1 := Rect.mem_set_unit.mp hi' 0
  exact h (Fin.ext (by omega))
theorem oslot_cover : Finset.univ.biUnion oslotR = Finset.univ := by
  ext i
  simp only [Finset.mem_biUnion, Finset.mem_univ, true_and, iff_true]
  have h0 : (i 0).val < 8 := (i 0).isLt
  have h1 : (i 1).val < 1024 := (i 1).isLt
  have h2 : (i 2).val < 3072 := (i 2).isLt
  refine ⟨⟨(i 0).val / 1, by omega⟩, Rect.mem_set_unit.mpr fun a => ?_⟩
  fin_cases a
  · show (i 0).val / 1 ≤ (i 0).val ∧ (i 0).val < (i 0).val / 1 + 1; omega
  · show 0 ≤ (i 1).val ∧ (i 1).val < 0 + 1024; omega
  · show 0 ≤ (i 2).val ∧ (i 2).val < 0 + 3072; omega
theorem sblk_disj (b b' : Fin 2) (h : b ≠ b') : Disjoint (sblkR b) (sblkR b') := by
  rw [Finset.disjoint_left]
  intro i hi hi'
  have a0 : b.val * 84 ≤ (i 0).val ∧ (i 0).val < b.val * 84 + 84 := Rect.mem_set_unit.mp hi 0
  have b0 : b'.val * 84 ≤ (i 0).val ∧ (i 0).val < b'.val * 84 + 84 := Rect.mem_set_unit.mp hi' 0
  exact h (Fin.ext (by omega))
theorem sblk_cover : Finset.univ.biUnion sblkR = Finset.univ := by
  ext i
  simp only [Finset.mem_biUnion, Finset.mem_univ, true_and, iff_true]
  have h0 : (i 0).val < 168 := (i 0).isLt
  have h1 : (i 1).val < 2 := (i 1).isLt
  have h2 : (i 2).val < 8192 := (i 2).isLt
  refine ⟨⟨(i 0).val / 84, by omega⟩, Rect.mem_set_unit.mpr fun a => ?_⟩
  fin_cases a
  · show (i 0).val / 84 * 84 ≤ (i 0).val ∧ (i 0).val < (i 0).val / 84 * 84 + 84; omega
  · show 0 ≤ (i 1).val ∧ (i 1).val < 0 + 2; omega
  · show 0 ≤ (i 2).val ∧ (i 2).val < 0 + 8192; omega

/-- An input block's element as the array's. -/
theorem iblk_emb (b : Fin 28) (i : Fin 1536) (j : Fin 2048) :
    (iblk b).view.emb (ix2 i j) = (ix3 (⟨b.val / 4, by omega⟩ : Fin 7) i (⟨b.val % 4 * 2048 + j.val, by omega⟩ : Fin 8192) : S7x1536x8192.Idx) := by
  have hr : Shape.reshapeEquiv (squeezes_S1x1536x2048_S1536x2048).numel_eq (ix2 i j) = (ix3 (0 : Fin 1) i j : S1x1536x2048.Idx) :=
    Shape.reshapeEquiv_eq_of_rowMajor _ (by
      rw [Shape.rowMajor_val_three, Shape.rowMajor_val_two]
      show ((0 * 1536 + i.val) * 2048 + j.val) = i.val * 2048 + j.val
      omega)
  show (Rect.unit (s := S7x1536x8192) (iblkOff b) S1x1536x2048.size (iblkOff_inb b)).emb (Shape.reshapeEquiv _ (ix2 i j)) = _
  rw [hr]
  funext a
  apply Fin.ext
  fin_cases a
  · show b.val / 4 + 1 * 0 = b.val / 4; omega
  · show 0 + 1 * i.val = i.val; omega
  · show b.val % 4 * 2048 + 1 * j.val = b.val % 4 * 2048 + j.val; omega
/-- An output block's element as the array's. -/
theorem oblk_emb (b : Fin 28) (i : Fin 1024) (j : Fin 3072) :
    (oblk b).view.emb (ix2 i j) = (ix3 (⟨b.val / 4, by omega⟩ : Fin 7) (⟨b.val % 4 * 1024 + i.val, by omega⟩ : Fin 4096) j : S7x4096x3072.Idx) := by
  have hr : Shape.reshapeEquiv (squeezes_S1x1024x3072_S1024x3072).numel_eq (ix2 i j) = (ix3 (0 : Fin 1) i j : S1x1024x3072.Idx) :=
    Shape.reshapeEquiv_eq_of_rowMajor _ (by
      rw [Shape.rowMajor_val_three, Shape.rowMajor_val_two]
      show ((0 * 1024 + i.val) * 3072 + j.val) = i.val * 3072 + j.val
      omega)
  show (Rect.unit (s := S7x4096x3072) (oblkOff b) S1x1024x3072.size (oblkOff_inb b)).emb (Shape.reshapeEquiv _ (ix2 i j)) = _
  rw [hr]
  funext a
  apply Fin.ext
  fin_cases a
  · show b.val / 4 + 1 * 0 = b.val / 4; omega
  · show b.val % 4 * 1024 + 1 * i.val = b.val % 4 * 1024 + i.val; omega
  · show 0 + 1 * j.val = j.val; omega
end Index

section Final
variable (c : Dev nD)

/-- The repacked weights. -/
def outT (X : S7x1536x8192.Idx → BitVec 8) (i : S7x4096x3072.Idx) : BitVec 8 :=
  have h1 : (i 1).val < 4096 := (i 1).isLt
  have h2 : (i 2).val < 3072 := (i 2).isLt
  join (nib (i 2).val (X (ix3 (⟨(i 0).val, (i 0).isLt⟩ : Fin 7) (⟨(i 2).val / 2, by omega⟩ : Fin 1536) (⟨2 * (i 1).val, by omega⟩ : Fin 8192))))
    (nib (i 2).val (X (ix3 (⟨(i 0).val, (i 0).isLt⟩ : Fin 7) (⟨(i 2).val / 2, by omega⟩ : Fin 1536) (⟨2 * (i 1).val + 1, by omega⟩ : Fin 8192))))

theorem iix_eq (r q : ℕ) (hr : r < 1536) (hq : q < 2048) : iix r q hr hq = ix2 (⟨r, hr⟩ : Fin 1536) (⟨q, hq⟩ : Fin 2048) := by
  funext a; fin_cases a <;> rfl
theorem inB_at (XA : Buf (Elt F) (wM.view.loc (c : Thread nD τ))) (b : Fin 28) (r q : ℕ) (hr : r < 1536) (hq : q < 2048) :
    inB c XA b (iix r q hr hq) = (show S7x1536x8192.Idx → BitVec 8 from XA) (ix3 (⟨b.val / 4, by omega⟩ : Fin 7) (⟨r, hr⟩ : Fin 1536) (⟨b.val % 4 * 2048 + q, by omega⟩ : Fin 8192)) := by
  rw [iix_eq]
  show XA ((iblk b).view.emb (ix2 _ _)) = _
  rw [iblk_emb]

/-- Each output block is its part of the repacked weights. -/
theorem outT_read (XA : Buf (Elt F) (wM.view.loc (c : Thread nD τ))) (b : Fin 28) :
    (oblk b).view.read (Elt F) (outT XA) = outB c XA b := by
  funext i
  obtain ⟨y, j, rfl⟩ : ∃ (y : Fin 1024) (j : Fin 3072), i = ix2 y j := ⟨i 0, i 1, eq_ix2 i⟩
  show outT XA ((oblk b).view.emb (ix2 y j)) = tile (inB c XA b) (ix2 y j)
  rw [oblk_emb]
  have e : ∀ n : ℕ, ∀ h h', (⟨2 * (b.val % 4 * 1024 + y.val) + n, h⟩ : Fin 8192) = ⟨b.val % 4 * 2048 + (2 * y.val + n), h'⟩ := fun n h h' => Fin.ext (by
    show 2 * (b.val % 4 * 1024 + y.val) + n = b.val % 4 * 2048 + (2 * y.val + n); omega)
  refine congrArg₂ join (congrArg (nib j.val) ?_) (congrArg (nib j.val) ?_)
  · refine Eq.trans ?_ (inB_at c XA b (j.val / 2) (2 * y.val) (by omega) (by omega)).symm
    exact congrArg XA (congrArg (fun q : Fin 8192 => (ix3 (⟨b.val / 4, by omega⟩ : Fin 7) (⟨j.val / 2, by omega⟩ : Fin 1536) q : S7x1536x8192.Idx)) (e 0 _ _))
  · refine Eq.trans ?_ (inB_at c XA b (j.val / 2) (2 * y.val + 1) (by omega) (by omega)).symm
    exact congrArg XA (congrArg (fun q : Fin 8192 => (ix3 (⟨b.val / 4, by omega⟩ : Fin 7) (⟨j.val / 2, by omega⟩ : Fin 1536) q : S7x1536x8192.Idx)) (e 1 _ _))
end Final

section Own
theorem sep_bigSep {I : Type} (t : Finset I) (Φ Ψ : I → sProp 𝕄) : iprop(bigSep t Φ ∗ bigSep t Ψ) = bigSep t (fun i => iprop(Φ i ∗ Ψ i)) := (bigSep_sep t Φ Ψ).symm
theorem sep_emp' (P : sProp 𝕄) : iprop(P ∗ BI.emp) = P := equiv_iff.mp sep_emp
variable (c : Dev nD) (XA : Buf (Elt F) (wM.view.loc (c : Thread nD τ))) (XS : Buf (Elt F) (scM.view.loc (c : Thread nD τ)))

/-- The packed weights, whole and by blocks. -/
theorem hm_all : (wM.view.loc (c : Thread nD τ) ↦{fullShare} XA : sProp 𝕄) = fam (hm c XA) 0 0 28 := by
  rw [fam_fin, Ring.pointsTo_blocks iblkR iblk_disj iblk_cover]
  refine bigSep_congr fun b _ => ?_
  show _ = iblkP c XA (Ring.bk 28 b.val)
  rw [bk_self, iblkP, iblk_set]; rfl
/-- The scales, whole and by halves. -/
theorem scb_all : (scM.view.loc (c : Thread nD τ) ↦{fullShare} XS : sProp 𝕄) = fam (scb c XS) 0 0 2 := by
  rw [fam_fin, Ring.pointsTo_blocks sblkR sblk_disj sblk_cover]
  refine bigSep_congr fun b _ => ?_
  show _ = sblkP c XS (Ring.bk 2 b.val)
  rw [bk_self, sblkP, sblk_set]; rfl
/-- The result's array, by blocks. -/
theorem oblk_all (x : Buf (Elt F) (tM.view.loc (c : Thread nD τ))) :
    (tM.view.loc (c : Thread nD τ) ↦{fullShare} x : sProp 𝕄) = bigSep (Finset.univ : Finset (Fin 28)) fun b => oblkP c b x := by
  rw [Ring.pointsTo_blocks oblkR oblk_disj oblk_cover]
  refine bigSep_congr fun b _ => ?_
  show _ = (tM.view.loc (c : Thread nD τ) ↦[(oblk b).view.set]{fullShare} x : sProp 𝕄)
  rw [oblk_set]
/-- The scales' result's array, by halves. -/
theorem tsblk_all (x : Buf (Elt F) (tsM.view.loc (c : Thread nD τ))) :
    (tsM.view.loc (c : Thread nD τ) ↦{fullShare} x : sProp 𝕄) = bigSep (Finset.univ : Finset (Fin 2)) fun b => tsblkP c b x := by
  rw [Ring.pointsTo_blocks sblkR sblk_disj sblk_cover]
  refine bigSep_congr fun b _ => ?_
  show _ = (tsM.view.loc (c : Thread nD τ) ↦[(tsblk b).view.set]{fullShare} x : sProp 𝕄)
  rw [tsblk_set]
theorem nd_all (x : Buf (Elt F) (tM.view.loc (c : Thread nD τ))) : (tM.view.loc (c : Thread nD τ) ↦{fullShare} x : sProp 𝕄) ⊢ fam (nd c) 0 0 28 := by
  rw [fam_fin, oblk_all]
  refine bigSep_mono fun b _ => ?_
  show _ ⊢ iprop(∃ x, oblkP (F := F) c (Ring.bk 28 b.val) x)
  rw [bk_self]
  iintro H; iexists x; iexact H
theorem scn_all (x : Buf (Elt F) (tsM.view.loc (c : Thread nD τ))) : (tsM.view.loc (c : Thread nD τ) ↦{fullShare} x : sProp 𝕄) ⊢ fam (scn c) 0 0 2 := by
  rw [fam_fin, tsblk_all]
  refine bigSep_mono fun b _ => ?_
  show _ ⊢ iprop(∃ x, tsblkP (F := F) c (Ring.bk 2 b.val) x)
  rw [bk_self]
  iintro H; iexists x; iexact H

/-- A memref held at contents that read as `g` does is held at `g`. -/
theorem pt_of_read {sp : Space} {s : Shape} {e : EltTy} (M : Memref sig .tc sp s e) (x g : Buf (Elt F) (M.view.loc (c : Thread nD τ)))
    (h : M.view.read (Elt F) x = M.view.read (Elt F) g) :
    (M.view.loc (c : Thread nD τ) ↦[M.view.set]{fullShare} x : sProp 𝕄) ⊢ M.view.loc (c : Thread nD τ) ↦[M.view.set]{fullShare} g := by
  refine BIBase.Entails.trans (pointsTo_rep_entails (c : Thread nD τ) M x fullShare) ?_
  rw [h, ← pointsTo_rep]

/-- All blocks written: the array is the repacked weights. -/
theorem dn_all : fam (dn c XA) 0 0 28 ⊢ (tM.view.loc (c : Thread nD τ) ↦{fullShare} (outT XA : Buf (Elt F) (tM.view.loc (c : Thread nD τ))) : sProp 𝕄) := by
  rw [fam_fin, oblk_all]
  refine bigSep_mono fun b _ => ?_
  show iprop(∃ x, oblkP (F := F) c (Ring.bk 28 b.val) x ∗ ⌜(oblk (Ring.bk 28 b.val)).view.read (Elt F) x = outB c XA (Ring.bk 28 b.val)⌝) ⊢ _
  rw [bk_self]
  iintro ⟨%x, H, %hx⟩
  iapply (pt_of_read c (oblk b) x (outT XA) (hx.trans (outT_read c XA b).symm))
  iexact H
/-- Both halves written: the scales' result is the scales. -/
theorem scd_all : fam (scd c XS) 0 0 2 ⊢ (tsM.view.loc (c : Thread nD τ) ↦{fullShare} (show S168x2x8192.Idx → Elt F .f32 from XS) : sProp 𝕄) := by
  rw [fam_fin, tsblk_all]
  refine bigSep_mono fun b _ => ?_
  show iprop(∃ x, tsblkP (F := F) c (Ring.bk 2 b.val) x ∗ ⌜(tsblk (Ring.bk 2 b.val)).view.read (Elt F) x = (sblk (Ring.bk 2 b.val)).view.read (Elt F) XS⌝) ⊢ _
  rw [bk_self]
  iintro ⟨%x, H, %hx⟩
  iapply (pt_of_read c (tsblk b) x (show S168x2x8192.Idx → Elt F .f32 from XS) (hx.trans rfl))
  iexact H

/-- The input ring, whole and by slots. -/
theorem idl_in : iprop((∃ f : Buf (Elt F) (wbM.view.loc (c : Thread nD τ)), wbM.view.loc (c : Thread nD τ) ↦{fullShare} f) ∗ bigSep (Finset.univ : Finset (Fin 9)) (fun s => ismP (F := F) c s)) ⊢ fam (idl (F := F) c) 0 0 9 := by
  iintro ⟨⟨%f, H⟩, Hs⟩
  iapply (show iprop((wbM.view.loc (c : Thread nD τ) ↦{fullShare} f) ∗ bigSep (Finset.univ : Finset (Fin 9)) (fun s => ismP (F := F) c s)) ⊢ fam (idl (F := F) c) 0 0 9 from by
    rw [fam_fin, Ring.pointsTo_blocks islotR islot_disj islot_cover, sep_bigSep]
    refine bigSep_mono fun s _ => ?_
    show _ ⊢ iprop(∃ f, islotP (F := F) c (Ring.sl 9 s.val) f ∗ ismP c (Ring.sl 9 s.val))
    rw [sl_self, ← islot_set]
    iintro ⟨H1, H2⟩; iexists f
    isplitl [H1]; · iexact H1
    iexact H2)
  isplitl [H]; · iexact H
  iexact Hs
theorem idl_out : fam (idl (F := F) c) 0 0 9 ⊢ iprop((∃ f : Buf (Elt F) (wbM.view.loc (c : Thread nD τ)), wbM.view.loc (c : Thread nD τ) ↦{fullShare} f) ∗ bigSep (Finset.univ : Finset (Fin 9)) (fun s => ismP (F := F) c s)) := by
  have h : fam (idl (F := F) c) 0 0 9 ⊢ iprop(bigSep (Finset.univ : Finset (Fin 9)) (fun s => iprop(∃ f : Buf (Elt F) (wbM.view.loc (c : Thread nD τ)), wbM.view.loc (c : Thread nD τ) ↦[islotR s]{fullShare} f))
      ∗ bigSep (Finset.univ : Finset (Fin 9)) (fun s => ismP (F := F) c s)) := by
    rw [fam_fin, sep_bigSep]
    refine bigSep_mono fun s _ => ?_
    show iprop(∃ f, islotP (F := F) c (Ring.sl 9 s.val) f ∗ ismP c (Ring.sl 9 s.val)) ⊢ _
    rw [sl_self, ← islot_set]
    iintro ⟨%f, H1, H2⟩
    isplitl [H1]; · iexists f; iexact H1
    iexact H2
  refine h.trans (sep_left ?_)
  exact Ring.pointsTo_blocks_join_exists (ℓ := wbM.view.loc (c : Thread nD τ)) islotR islot_disj islot_cover (show S9x1536x2048.Idx → BitVec 8 from fun _ => 0#8)
/-- The output ring, whole and by slots. -/
theorem fro_in : iprop((∃ f : Buf (Elt F) (tbM.view.loc (c : Thread nD τ)), tbM.view.loc (c : Thread nD τ) ↦{fullShare} f) ∗ bigSep (Finset.univ : Finset (Fin 8)) (fun s => osmP (F := F) c s)) ⊢ fam (fro (F := F) c) 0 0 8 := by
  iintro ⟨⟨%f, H⟩, Hs⟩
  iapply (show iprop((tbM.view.loc (c : Thread nD τ) ↦{fullShare} f) ∗ bigSep (Finset.univ : Finset (Fin 8)) (fun s => osmP (F := F) c s)) ⊢ fam (fro (F := F) c) 0 0 8 from by
    rw [fam_fin, Ring.pointsTo_blocks oslotR oslot_disj oslot_cover, sep_bigSep]
    refine bigSep_mono fun s _ => ?_
    show _ ⊢ iprop(∃ f, oslotP (F := F) c (Ring.sl 8 s.val) f ∗ osmP c (Ring.sl 8 s.val))
    rw [sl_self, ← oslot_set]
    iintro ⟨H1, H2⟩; iexists f
    isplitl [H1]; · iexact H1
    iexact H2)
  isplitl [H]; · iexact H
  iexact Hs
theorem fro_out : fam (fro (F := F) c) 0 0 8 ⊢ iprop((∃ f : Buf (Elt F) (tbM.view.loc (c : Thread nD τ)), tbM.view.loc (c : Thread nD τ) ↦{fullShare} f) ∗ bigSep (Finset.univ : Finset (Fin 8)) (fun s => osmP (F := F) c s)) := by
  have h : fam (fro (F := F) c) 0 0 8 ⊢ iprop(bigSep (Finset.univ : Finset (Fin 8)) (fun s => iprop(∃ f : Buf (Elt F) (tbM.view.loc (c : Thread nD τ)), tbM.view.loc (c : Thread nD τ) ↦[oslotR s]{fullShare} f))
      ∗ bigSep (Finset.univ : Finset (Fin 8)) (fun s => osmP (F := F) c s)) := by
    rw [fam_fin, sep_bigSep]
    refine bigSep_mono fun s _ => ?_
    show iprop(∃ f, oslotP (F := F) c (Ring.sl 8 s.val) f ∗ osmP c (Ring.sl 8 s.val)) ⊢ _
    rw [sl_self, ← oslot_set]
    iintro ⟨%f, H1, H2⟩
    isplitl [H1]; · iexists f; iexact H1
    iexact H2
  refine h.trans (sep_left ?_)
  exact Ring.pointsTo_blocks_join_exists (ℓ := tbM.view.loc (c : Thread nD τ)) oslotR oslot_disj oslot_cover (show S8x1024x3072.Idx → BitVec 8 from fun _ => 0#8)

/-- The semaphores of the kernel: nine of the input ring, eight of the output ring, two of the scales. -/
def osem : Fin 19 → SemLoc sig := fun k => SemLoc.dma k
theorem ism_osem : ∀ s : Fin 9, SemLoc.dma (ism s).sem = osem (Ring.bk 19 s.val) := by decide
theorem osm_osem : ∀ s : Fin 8, SemLoc.dma (osm s).sem = osem (Ring.bk 19 (9 + s.val)) := by decide
theorem sems_all : (Pipeline.ownSems0 osem c : sProp 𝕄)
    = iprop(bigSep (Finset.univ : Finset (Fin 9)) (fun s => ismP (F := F) c s) ∗ bigSep (Finset.univ : Finset (Fin 8)) (fun s => osmP (F := F) c s) ∗ sinP c ∗ soutP c) := by
  have e0 : (Pipeline.ownSems0 osem c : sProp 𝕄) = fam (fun n => semVal ((c : Thread nD τ), osem (Ring.bk 19 n)) 0) 0 0 19 := by
    rw [fam_fin]; unfold Pipeline.ownSems0
    refine bigSep_congr fun k _ => ?_
    rw [bk_self]
  have e1 : fam (fun n => (semVal ((c : Thread nD τ), osem (Ring.bk 19 n)) 0 : sProp 𝕄)) 0 0 9 = bigSep (Finset.univ : Finset (Fin 9)) (fun s => ismP (F := F) c s) := by
    rw [fam_fin]
    refine bigSep_congr fun s _ => ?_
    dsimp only [ismP]; rw [ism_osem]
  have e2 : fam (fun n => (semVal ((c : Thread nD τ), osem (Ring.bk 19 n)) 0 : sProp 𝕄)) 0 9 17 = bigSep (Finset.univ : Finset (Fin 8)) (fun s => osmP (F := F) c s) := by
    have e := fam_shift (fun n => (semVal ((c : Thread nD τ), osem (Ring.bk 19 n)) 0 : sProp 𝕄)) 9 0 8
    rw [show 0 + 8 = 8 from rfl, show 9 + 0 = 9 from rfl, show 9 + 8 = 17 from rfl] at e
    rw [← e]
    have e' : fam (fun n => (semVal ((c : Thread nD τ), osem (Ring.bk 19 n)) 0 : sProp 𝕄)) 9 0 8 = fam (fun n => (semVal ((c : Thread nD τ), osem (Ring.bk 19 (9 + n))) 0 : sProp 𝕄)) 0 0 8 := by
      unfold fam; refine bigSep_congr fun j _ => ?_
      dsimp only; rw [Nat.zero_add]
    rw [e', fam_fin]
    refine bigSep_congr fun s _ => ?_
    dsimp only [osmP]; rw [osm_osem]
  have e3 : fam (fun n => (semVal ((c : Thread nD τ), osem (Ring.bk 19 n)) 0 : sProp 𝕄)) 0 17 19 = iprop(sinP (F := F) c ∗ soutP c) := by
    unfold fam
    rw [ico_head _ (show 17 < 19 by omega), ico_last _ (show 18 ≤ 18 by omega), ico_empty, sep_emp']
    rfl
  rw [e0, fam_split _ 0 (show 0 ≤ 9 by omega) (show 9 ≤ 19 by omega), fam_split _ 0 (show 9 ≤ 17 by omega) (show 17 ≤ 19 by omega), e1, e2, e3]

theorem sbuf_eq (f : Buf (Elt F) (sbM.view.loc (c : Thread nD τ))) : sbufP (F := F) c f = (sbM.view.loc (c : Thread nD τ) ↦{fullShare} f : sProp 𝕄) := by
  unfold sbufP; rw [View.set_whole]
end Own

end Cert.Proof.KernelP
-- ==== Proof.Kernel.Run.lean ====
/-
  THE RUN. The kernel's proof data, its body obligation, and the run of the whole program: the repacked weights and the
  scales in their places, the arguments unchanged, every semaphore at zero again.
-/
module

public import proofs.«01_k».proof.Proof.Kernel.Blocks

@[expose] public section

noncomputable section

namespace Cert.Proof.KernelP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-- The buffers the kernel reads, -/
def HH : Finset (Ref sig .tc) := {main_arg0, main_v1}
/-- and those it writes. -/
def RR : Finset (Ref sig .tc) := {main_v2_0, main_v2_1}
theorem HH_sub : HH ⊆ Pipeline.restRefs sig (cfg0.spec) := by decide
theorem RR_sub : RR ⊆ Pipeline.restRefs sig (cfg0.spec) \ HH := by decide
theorem ownSemFacts : Pipeline.OwnSemFacts cfg0.spec osem := by decide

/-- What the kernel leaves in each buffer. -/
def GG (c : Dev nD) (b : Ref sig .tc) : Buf (Elt F) ((c : Thread nD τ).loc b) :=
  if h : b = main_v2_0 then h ▸ (outT (V m c main_arg0) : Buf (Elt F) ((c : Thread nD τ).loc main_v2_0))
  else if h : b = main_v2_1 then h ▸ (show S168x2x8192.Idx → Elt F .f32 from V m c main_v1 : Buf (Elt F) ((c : Thread nD τ).loc main_v2_1))
  else V m c b
theorem GG_t (c : Dev nD) : GG m c main_v2_0 = (outT (V m c main_arg0) : Buf (Elt F) ((c : Thread nD τ).loc main_v2_0)) := by
  unfold GG; rw [dif_pos rfl]
theorem GG_s (c : Dev nD) : GG m c main_v2_1 = (show S168x2x8192.Idx → Elt F .f32 from V m c main_v1) := by
  unfold GG; rw [dif_neg (by decide), dif_pos rfl]

/-- The proof data: nothing windowed; before the body everything whole at its contents, after it the results written. -/
def dats (_ : Fin 1) (c : Dev nD) : Dat τ (Elt F) Unit ℕ (Pipeline.UD sig nD τ) ℕ cfg0 c where
  A w := w.elim0
  after w := w.elim0
  Φ t := if t.val = 0 then Pipeline.ΦDRV osem (cfg0.spec) HH RR (V m) (V m) c else Pipeline.ΦDRV osem (cfg0.spec) HH RR (V m) (GG m) c
  q _ := fullShare
  owed _ := 0

theorem bigSep_HH (Φ : Ref sig .tc → sProp 𝕄) : bigSep HH Φ = iprop(Φ main_arg0 ∗ Φ main_v1) := by
  unfold HH; rw [bigSep_insert (by decide), bigSep_singleton]; rfl
theorem bigSep_RR (Φ : Ref sig .tc → sProp 𝕄) : bigSep RR Φ = iprop(Φ main_v2_0 ∗ Φ main_v2_1) := by
  unfold RR; rw [bigSep_insert (by decide), bigSep_singleton]; rfl

/-- From the launch's pieces to everything at home. -/
theorem enter (c : Dev nD) :
    iprop(ow (F := F) c ∗ Pipeline.ΦDRV osem (cfg0.spec) HH RR (V m) (V m) c) ⊢ t1Inv c (V m c main_arg0) (V m c main_v1) 0 () := by
  unfold Pipeline.ΦDRV
  rw [bigSep_HH, bigSep_RR, sems_all, scopedRest0_eq]
  iintro ⟨Hw, ⟨Hwb, Htb, ⟨%fs, Hsb⟩⟩, ⟨Hi, Ho, Hsi, Hso⟩, ⟨Ha, Hs⟩, Ht, Hts⟩
  unfold t1Inv
  isplitl [Hw]; · iexact Hw
  isplitl [Ha]
  · iapply (show (wM.view.loc (c : Thread nD τ) ↦{fullShare} (V m c main_arg0) : sProp 𝕄) ⊢ fam (hm c (V m c main_arg0)) 0 0 28 from by rw [hm_all]); iexact Ha
  isplitl [Hwb Hi]
  · iapply (idl_in (F := F) c); isplitl [Hwb]; · iexact Hwb
    iexact Hi
  isplitl [Htb Ho]
  · iapply (fro_in (F := F) c); isplitl [Htb]; · iexact Htb
    iexact Ho
  isplitl []; · iapply (fam_nil (dn c (V m c main_arg0)) 0 (Nat.le_refl 0)); iempintro
  isplitl [Ht]; · iapply (nd_all (F := F) c (V m c main_v2_0)); iexact Ht
  isplitl [Hs]
  · iapply (show (scM.view.loc (c : Thread nD τ) ↦{fullShare} (V m c main_v1) : sProp 𝕄) ⊢ fam (scb c (V m c main_v1)) 0 0 2 from by rw [scb_all]); iexact Hs
  isplitl []; · iapply (fam_nil (scd c (V m c main_v1)) 0 (Nat.le_refl 0)); iempintro
  isplitl [Hts]; · iapply (scn_all (F := F) c (V m c main_v2_1)); iexact Hts
  isplitl [Hsb]
  · iexists fs
    iapply (show (sbM.view.loc (c : Thread nD τ) ↦{fullShare} fs : sProp 𝕄) ⊢ sbufP c fs from by rw [sbuf_eq]); iexact Hsb
  isplitl [Hsi]; · iexact Hsi
  iexact Hso

/-- From everything written to the launch's pieces. -/
theorem leave (c : Dev nD) :
    t1Inv c (V m c main_arg0) (V m c main_v1) 2 () ⊢ iprop(ow (F := F) c ∗ Pipeline.ΦDRV osem (cfg0.spec) HH RR (V m) (GG m) c) := by
  unfold Pipeline.ΦDRV
  rw [bigSep_HH, bigSep_RR, sems_all, scopedRest0_eq, GG_t, GG_s]
  unfold t1Inv
  iintro ⟨Hw, Ha, Hi, Ho, Hd, -, Hs, Hsd, -, ⟨%fs, Hsb⟩, Hsi, Hso⟩
  ihave Hi' := (idl_out (F := F) c) $$ Hi
  icases Hi' with ⟨Hwb, Hi⟩
  ihave Ho' := (fro_out (F := F) c) $$ Ho
  icases Ho' with ⟨Htb, Ho⟩
  isplitl [Hw]; · iexact Hw
  isplitl [Hwb Htb Hsb]
  · isplitl [Hwb]; · iexact Hwb
    isplitl [Htb]; · iexact Htb
    iexists fs
    iapply (show sbufP c fs ⊢ (sbM.view.loc (c : Thread nD τ) ↦{fullShare} fs : sProp 𝕄) from by rw [sbuf_eq]); iexact Hsb
  isplitl [Hi Ho Hsi Hso]
  · isplitl [Hi]; · iexact Hi
    isplitl [Ho]; · iexact Ho
    isplitl [Hsi]; · iexact Hsi
    iexact Hso
  isplitl [Ha Hs]
  · isplitl [Ha]
    · iapply (show fam (hm c (V m c main_arg0)) 0 0 28 ⊢ (wM.view.loc (c : Thread nD τ) ↦{fullShare} (V m c main_arg0) : sProp 𝕄) from by rw [hm_all]); iexact Ha
    iapply (show fam (scb c (V m c main_v1)) 0 0 2 ⊢ (scM.view.loc (c : Thread nD τ) ↦{fullShare} (V m c main_v1) : sProp 𝕄) from by rw [scb_all]); iexact Hs
  isplitl [Hd]; · iapply (dn_all c (V m c main_arg0)); iexact Hd
  iapply (scd_all c (V m c main_v1)); iexact Hsd

theorem Phi_first (c : Dev nD) : (dats m 0 c).Φ 0 = Pipeline.ΦDRV osem (cfg0.spec) HH RR (V m) (V m) c := by
  dsimp only [dats]; exact if_pos rfl
theorem Phi_last (c : Dev nD) : (dats m 0 c).Φ (Fin.last cfg0.N) = Pipeline.ΦDRV osem (cfg0.spec) HH RR (V m) (GG m) c := by
  dsimp only [dats]; exact if_neg (show (cfg0.N : ℕ) ≠ 0 from by rw [show (cfg0.N : ℕ) = 1 from N_0]; decide)

def bodyPre (c : Dev nD) (t : Fin cfg0.N) : sProp 𝕄 := iprop((dats m 0 c).Φ t.castSucc ∗ (dats m 0 c).owesAt () t.castSucc ∗ BI.emp)
def bodyPost (c : Dev nD) (t : Fin cfg0.N) : sProp 𝕄 := iprop((dats m 0 c).Φ t.succ ∗ (dats m 0 c).owesAt () t.succ ∗ BI.emp)

theorem sound_body (c : Dev nD) (t : Fin cfg0.N) :
    bodyPre m c t ⊢ wp frame (wpE (defs₀ (F := F)) 𝒱₀ (c : Thread nD τ) none) Set.univ (bodyAt0 t) (fun _ => bodyPost m c t) := by
  have ht : t.val = 0 := by
    have h : t.val < 1 := Nat.lt_of_lt_of_eq t.isLt N_0
    omega
  have e0 : (dats m 0 c).Φ t.castSucc = Pipeline.ΦDRV osem (cfg0.spec) HH RR (V m) (V m) c := by
    dsimp only [dats]; exact if_pos ht
  have e1 : (dats m 0 c).Φ t.succ = Pipeline.ΦDRV osem (cfg0.spec) HH RR (V m) (GG m) c := by
    dsimp only [dats]; exact if_neg (Nat.succ_ne_zero _)
  refine BIBase.Entails.trans ?_ ((kernelRun c (V m c main_arg0) (V m c main_v1) t).trans (wp_mono _ _ _ (fun _ => (leave m c).trans ?_)))
  · refine BIBase.Entails.trans ?_ (enter m c)
    unfold bodyPre Dat.owesAt Pipeline.owesWithin
    rw [show (dats m 0 c).owed t.castSucc = 0 from rfl, e0]
    iintro ⟨HΦ, ⟨%W, -, HW⟩, -⟩
    isplitl [HW]; · iexists W; iexact HW
    iexact HΦ
  · unfold bodyPost Dat.owesAt Pipeline.owesWithin
    rw [show (dats m 0 c).owed t.succ = 0 from rfl, e1]
    iintro ⟨⟨%W, HW⟩, HΦ⟩
    isplitl [HΦ]; · iexact HΦ
    isplitl [HW]
    · iexists W; isplitr; · ipureintro; exact fun _ _ => Or.inl trivial
      iexact HW
    iempintro

theorem defs₀_row (t : Fin cfg0.N) :
    defs₀ (F := F) .tc cfg0.body (cfg0.bodyArgs t (cfg0.slots t)) = bodyAt0 t := by
  unfold defs₀; rw [Defs.onTc_tc]

theorem bigSep_W0 (Φ : Fin cfg0.W → sProp 𝕄) : bigSep (Finset.univ : Finset (Fin cfg0.W)) Φ = BI.emp := by
  rw [show (Finset.univ : Finset (Fin cfg0.W)) = ∅ from rfl, BI.bigSep_empty]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Each buffer's contents when the program ends. -/
def Wend (c : Dev nD) (b : Ref sig .tc) : Buf (Elt F) ((c : Thread nD τ).loc b) :=
  StableHlo.after [hostOps1].flatten (Pipeline.withArrays (cfg0.spec) c (Pipeline.withR (V0 m c) RR c (GG m c)) fun w => (dats m 0 c).arrAt w cfg0.N) (Proc.devRef .tc b)

set_option backward.isDefEq.respectTransparency.types false in
theorem run_main : θ_run defs (onTc (τ := τ) (main (F := F))) (s₀ m ρ) (fun r => (∀ c : Dev nD, ∀ b ∈ Pipeline.restRefs sig (cfg0.spec),
      r.2.mem ((c.tc : Thread nD τ).loc b) = Wend m c b) ∧ r.2.sem = fun _ => 0) :=
  Pipeline.θ_run_frame_dmaR_aroundV cfgs (dats m) (0 : Fin 1) launch0 osem defs₀ Variants.none ownSemFacts HH RR HH_sub RR_sub m ρ main
    (fun c => (body_obligation m c).loose) (fun c => (dats m 0 c).share_full fun _ => rfl) (fun _ _ => rfl)
    (V0 m) [hostOps1] sfx_sub sfx_fresh sfx_keeps (GG m) (hmainD m) (fun c w => w.elim0)
    (fun c => Entails.of_eq (Phi_first m c).symm) (fun c => Entails.of_eq (Phi_last m c))
    (Q' := _) (hQ' := fun r h => ⟨fun c b hb => (h.1 c).2 b hb, h.2⟩)

theorem Wend_keep (c : Dev nD) (b : Ref sig .tc) (h3 : b ≠ main_v3) (h4 : b ≠ main_v4) :
    Wend m c b = Pipeline.withR (V0 m c) RR c (GG m c) (Proc.devRef .tc b) := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h3, StableHlo.devRef_ne_of_ne h4⟩)),
    Pipeline.withArrays_of_ne _ c _ _ b (fun w => w.elim0)]
theorem Wend_arg0 (c : Dev nD) : Wend m c main_arg0 = m ((c : Thread nD τ).loc main_arg0) := by
  rw [Wend_keep m c _ (by decide) (by decide), Pipeline.withR_of_not_mem _ _ _ _ _ (by decide)]
  exact V_main_arg0 m c
theorem Wend_arg1 (c : Dev nD) : Wend m c main_arg1 = m ((c : Thread nD τ).loc main_arg1) := by
  rw [Wend_keep m c _ (by decide) (by decide), Pipeline.withR_of_not_mem _ _ _ _ _ (by decide)]
  exact V_main_arg1 m c
/-- The repacked weights, at the end. -/
theorem Wend_t (c : Dev nD) : Wend m c main_v2_0 = outT (m ((c : Thread nD τ).loc main_arg0)) := by
  rw [Wend_keep m c _ (by decide) (by decide), Pipeline.withR_of_mem _ _ _ _ _ (by decide), GG_t, V_main_arg0]
theorem V_v1 (c : Dev nD) : V m c main_v1 = shapeCast S168x2x8192 (transpose S7x24x2x8192 [0, 1, 3, 2] (show S7x24x8192x2.Idx → Elt F .f32 from m ((c : Thread nD τ).loc main_arg1)) transposes_S7x24x8192x2_S7x24x2x8192_0_1_3_2) shapeCasts_S7x24x2x8192_S168x2x8192 := by
  unfold V V0
  simp only [List.flatten_cons, List.flatten_nil, List.append_nil]
  after_results
  rfl
/-- The scales, each tile's pair last. -/
def outS {α : Type} (X : S7x24x8192x2.Idx → α) (i : S7x8192x24x2.Idx) : α :=
  X (ix4 (⟨(i 0).val, (i 0).isLt⟩ : Fin 7) (⟨(i 2).val, (i 2).isLt⟩ : Fin 24) (⟨(i 1).val, (i 1).isLt⟩ : Fin 8192) (⟨(i 3).val, (i 3).isLt⟩ : Fin 2))
theorem transposes_outS {α : Type} (X : S7x24x8192x2.Idx → α) (h1 h2) :
    transpose S7x8192x24x2 [0, 3, 1, 2] (transpose S7x24x2x8192 [0, 1, 3, 2] X h1) h2 = outS X := by
  funext i
  rw [transpose_apply (s := S7x24x2x8192) (t := S7x8192x24x2) [0, 3, 1, 2] _ h2 i
    (ix4 (⟨(i 0).val, (i 0).isLt⟩ : Fin 7) (⟨(i 2).val, (i 2).isLt⟩ : Fin 24) (⟨(i 3).val, (i 3).isLt⟩ : Fin 2) (⟨(i 1).val, (i 1).isLt⟩ : Fin 8192)) (fun b => by fin_cases b <;> rfl)]
  exact transpose_apply (s := S7x24x8192x2) (t := S7x24x2x8192) [0, 1, 3, 2] X h1 _ _ (fun b => by fin_cases b <;> rfl)
/-- The scales' result, at the end. -/
theorem Wend_s (c : Dev nD) : Wend m c main_v4 = outS (show S7x24x8192x2.Idx → Elt F .f32 from m ((c : Thread nD τ).loc main_arg1)) := by
  have e : Pipeline.withArrays cfg0.spec c (Pipeline.withR (V0 m c) RR c (GG m c)) (fun w => (dats m 0 c).arrAt w cfg0.N) (Proc.devRef .tc main_v2_1)
      = (show S168x2x8192.Idx → Elt F .f32 from V m c main_v1) := by
    rw [Pipeline.withArrays_of_ne _ c _ _ main_v2_1 (fun w => w.elim0), Pipeline.withR_of_mem _ _ _ _ _ (by decide), GG_s]
  unfold Wend
  simp only [List.flatten_cons, List.flatten_nil, List.append_nil]
  after_results
  rw [e, V_v1]
  refine Eq.trans ?_ (transposes_outS _ transposes_S7x24x8192x2_S7x24x2x8192_0_1_3_2 transposes_S7x24x2x8192_S7x8192x24x2_0_3_1_2)
  refine congrArg (fun x => transpose S7x8192x24x2 [0, 3, 1, 2] x transposes_S7x24x2x8192_S7x8192x24x2_0_3_1_2) ?_
  exact shapeCast_shapeCast _ shapeCasts_S7x24x2x8192_S168x2x8192 shapeCasts_S168x2x8192_S7x24x2x8192

theorem mem_rest (b : Ref sig .tc) (h : b ∈ ({main_arg0, main_arg1, main_v2_0, main_v4} : Finset (Ref sig .tc))) : b ∈ Pipeline.restRefs sig (cfg0.spec) := by
  revert b; decide

/-- The whole program: what its results hold, its arguments unchanged, its semaphores at zero. -/
theorem run_value : θ_run defs (onTc (τ := τ) (main (F := F))) ⟨m, fun _ => 0, ρ⟩ (fun r => (∀ c : Dev nD,
      r.2.mem ((c.tc : Thread nD τ).loc main_v2_0) = outT (m ((c.tc : Thread nD τ).loc main_arg0))
      ∧ r.2.mem ((c.tc : Thread nD τ).loc main_v4) = outS (show S7x24x8192x2.Idx → Elt F .f32 from m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c main_v2_0 (mem_rest _ (by decide))).trans (Wend_t m c), (h.1 c main_v4 (mem_rest _ (by decide))).trans (Wend_s m c),
      (h.1 c main_arg0 (mem_rest _ (by decide))).trans (Wend_arg0 m c), (h.1 c main_arg1 (mem_rest _ (by decide))).trans (Wend_arg1 m c)⟩, h.2⟩) (run_main m ρ)

end Cert.Proof.KernelP
-- ==== Proof.KernelIdeal.Names.lean ====
/-
  NAMES. The kernel moves 28 blocks of the packed weights through a ring of nine input slots, writes each block's
  repacked form into a ring of eight output slots, and copies it to its place in the result; the scales pass through a
  single buffer in two halves. Here each slice that a copy, a wait, a load or a store names gets one canonical name:
  block, slot or semaphore cell, at the closed form of the offsets the kernel computes.
-/
module

public import proofs.«01_k».proof.Defs
public import proofs.«01_k».proof.Proof.Gen.KernelIdeal.Loops
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev wM : Memref sig .tc .hbm S7x1536x8192 .i8 := Memref.whole main_arg0
abbrev scM : Memref sig .tc .hbm S168x2x8192 .f32 := Memref.whole main_v1
abbrev tM : Memref sig .tc .hbm S7x4096x3072 .i8 := Memref.whole main_v2_0
abbrev tsM : Memref sig .tc .hbm S168x2x8192 .f32 := Memref.whole main_v2_1
abbrev wbM : Memref sig .tc .vmem S9x1536x2048 .i8 := Memref.whole cc0_scratch0
abbrev tbM : Memref sig .tc .vmem S8x1024x3072 .i8 := Memref.whole cc0_scratch1
abbrev sbM : Memref sig .tc .vmem S84x2x8192 .f32 := Memref.whole cc0_scratch2

abbrev iblkOff (b : Fin 28) : Fin 3 → Nat := ![b.val / 4, 0, b.val % 4 * 2048]
theorem iblkOff_inb (b : Fin 28) : ∀ a, iblkOff b a + S1x1536x2048.size a ≤ S7x1536x8192.size a := by
  have := b.isLt; intro a; fin_cases a
  · show b.val / 4 + 1 ≤ 7; omega
  · show 0 + 1536 ≤ 1536; omega
  · show b.val % 4 * 2048 + 2048 ≤ 8192; omega
instance (b : Fin 28) : ClosedOff (iblkOff b) := ⟨iblkOff b, rfl⟩
abbrev oblkOff (b : Fin 28) : Fin 3 → Nat := ![b.val / 4, b.val % 4 * 1024, 0]
theorem oblkOff_inb (b : Fin 28) : ∀ a, oblkOff b a + S1x1024x3072.size a ≤ S7x4096x3072.size a := by
  have := b.isLt; intro a; fin_cases a
  · show b.val / 4 + 1 ≤ 7; omega
  · show b.val % 4 * 1024 + 1024 ≤ 4096; omega
  · show 0 + 3072 ≤ 3072; omega
instance (b : Fin 28) : ClosedOff (oblkOff b) := ⟨oblkOff b, rfl⟩
abbrev islotOff (s : Fin 9) : Fin 3 → Nat := ![s.val, 0, 0]
theorem islotOff_inb (s : Fin 9) : ∀ a, islotOff s a + S1x1536x2048.size a ≤ S9x1536x2048.size a := by
  have := s.isLt; intro a; fin_cases a
  · show s.val + 1 ≤ 9; omega
  · show 0 + 1536 ≤ 1536; omega
  · show 0 + 2048 ≤ 2048; omega
instance (s : Fin 9) : ClosedOff (islotOff s) := ⟨islotOff s, rfl⟩
abbrev oslotOff (s : Fin 8) : Fin 3 → Nat := ![s.val, 0, 0]
theorem oslotOff_inb (s : Fin 8) : ∀ a, oslotOff s a + S1x1024x3072.size a ≤ S8x1024x3072.size a := by
  have := s.isLt; intro a; fin_cases a
  · show s.val + 1 ≤ 8; omega
  · show 0 + 1024 ≤ 1024; omega
  · show 0 + 3072 ≤ 3072; omega
instance (s : Fin 8) : ClosedOff (oslotOff s) := ⟨oslotOff s, rfl⟩
abbrev isemOff (s : Fin 9) : Fin 1 → Nat := ![s.val]
theorem isemOff_inb (s : Fin 9) : ∀ a, isemOff s a + S1.size a ≤ S9.size a := by
  have := s.isLt; intro a; fin_cases a
  · show s.val + 1 ≤ 9; omega
abbrev osemOff (s : Fin 8) : Fin 1 → Nat := ![s.val]
theorem osemOff_inb (s : Fin 8) : ∀ a, osemOff s a + S1.size a ≤ S8.size a := by
  have := s.isLt; intro a; fin_cases a
  · show s.val + 1 ≤ 8; omega
abbrev sblkOff (b : Fin 2) : Fin 3 → Nat := ![b.val * 84, 0, 0]
theorem sblkOff_inb (b : Fin 2) : ∀ a, sblkOff b a + S84x2x8192.size a ≤ S168x2x8192.size a := by
  have := b.isLt; intro a; fin_cases a
  · show b.val * 84 + 84 ≤ 168; omega
  · show 0 + 2 ≤ 2; omega
  · show 0 + 8192 ≤ 8192; omega
instance (b : Fin 2) : ClosedOff (sblkOff b) := ⟨sblkOff b, rfl⟩

/-- Block `b` of the packed weights. -/
def iblk (b : Fin 28) : Memref sig .tc .hbm S1536x2048 .i8 :=
  (wM.slice (Rect.unit (s := S7x1536x8192) (iblkOff b) S1x1536x2048.size (iblkOff_inb b)) (fun _ => rfl)).squeeze S1536x2048 squeezes_S1x1536x2048_S1536x2048
/-- Block `b` of the repacked weights. -/
def oblk (b : Fin 28) : Memref sig .tc .hbm S1024x3072 .i8 :=
  (tM.slice (Rect.unit (s := S7x4096x3072) (oblkOff b) S1x1024x3072.size (oblkOff_inb b)) (fun _ => rfl)).squeeze S1024x3072 squeezes_S1x1024x3072_S1024x3072
/-- Input slot `s`. -/
def islot (s : Fin 9) : Memref sig .tc .vmem S1536x2048 .i8 :=
  (wbM.slice (Rect.unit (s := S9x1536x2048) (islotOff s) S1x1536x2048.size (islotOff_inb s)) (fun _ => rfl)).squeeze S1536x2048 squeezes_S1x1536x2048_S1536x2048
/-- Output slot `s`. -/
def oslot (s : Fin 8) : Memref sig .tc .vmem S1024x3072 .i8 :=
  (tbM.slice (Rect.unit (s := S8x1024x3072) (oslotOff s) S1x1024x3072.size (oslotOff_inb s)) (fun _ => rfl)).squeeze S1024x3072 squeezes_S1x1024x3072_S1024x3072
/-- Input slot `s`'s semaphore. -/
def ism (s : Fin 9) : DmaSems sig S_ := (cc0_scratch3.slice (Rect.unit (s := S9) (isemOff s) S1.size (isemOff_inb s))).squeeze S_ squeezes_S1_S_
/-- Output slot `s`'s semaphore. -/
def osm (s : Fin 8) : DmaSems sig S_ := (cc0_scratch4.slice (Rect.unit (s := S8) (osemOff s) S1.size (osemOff_inb s))).squeeze S_ squeezes_S1_S_
/-- Half `b` of the scales, -/
def sblk (b : Fin 2) : Memref sig .tc .hbm S84x2x8192 .f32 :=
  scM.slice (Rect.unit (s := S168x2x8192) (sblkOff b) S84x2x8192.size (sblkOff_inb b)) (fun _ => rfl)
/-- and of their result. -/
def tsblk (b : Fin 2) : Memref sig .tc .hbm S84x2x8192 .f32 :=
  tsM.slice (Rect.unit (s := S168x2x8192) (sblkOff b) S84x2x8192.size (sblkOff_inb b)) (fun _ => rfl)

theorem ism_congr {off : Fin 1 → Nat} {s : Fin 9} (e : off = isemOff s) (hh) :
    (cc0_scratch3.slice (Rect.unit (s := S9) off S1.size hh)).squeeze S_ squeezes_S1_S_ = ism s :=
  congrArg (fun A : DmaSems sig S1 => A.squeeze S_ squeezes_S1_S_) (SemArray.slice_unit_congr _ e _ _)
theorem osm_congr {off : Fin 1 → Nat} {s : Fin 8} (e : off = osemOff s) (hh) :
    (cc0_scratch4.slice (Rect.unit (s := S8) off S1.size hh)).squeeze S_ squeezes_S1_S_ = osm s :=
  congrArg (fun A : DmaSems sig S1 => A.squeeze S_ squeezes_S1_S_) (SemArray.slice_unit_congr _ e _ _)
theorem islot_congr {off : Fin 3 → Nat} {s : Fin 9} (e : off = islotOff s) (hh hs) :
    (wbM.slice (Rect.unit (s := S9x1536x2048) off S1x1536x2048.size hh) hs).squeeze S1536x2048 squeezes_S1x1536x2048_S1536x2048 = islot s :=
  congrArg (fun M : Memref sig .tc .vmem S1x1536x2048 .i8 => M.squeeze S1536x2048 squeezes_S1x1536x2048_S1536x2048) (Memref.slice_unit_congr _ e _ _ _ _)
theorem oslot_congr {off : Fin 3 → Nat} {s : Fin 8} (e : off = oslotOff s) (hh hs) :
    (tbM.slice (Rect.unit (s := S8x1024x3072) off S1x1024x3072.size hh) hs).squeeze S1024x3072 squeezes_S1x1024x3072_S1024x3072 = oslot s :=
  congrArg (fun M : Memref sig .tc .vmem S1x1024x3072 .i8 => M.squeeze S1024x3072 squeezes_S1x1024x3072_S1024x3072) (Memref.slice_unit_congr _ e _ _ _ _)
theorem iblk_congr {off : Fin 3 → Nat} {b : Fin 28} (e : off = iblkOff b) (hh hs) :
    (wM.slice (Rect.unit (s := S7x1536x8192) off S1x1536x2048.size hh) hs).squeeze S1536x2048 squeezes_S1x1536x2048_S1536x2048 = iblk b :=
  congrArg (fun M : Memref sig .tc .hbm S1x1536x2048 .i8 => M.squeeze S1536x2048 squeezes_S1x1536x2048_S1536x2048) (Memref.slice_unit_congr _ e _ _ _ _)
theorem oblk_congr {off : Fin 3 → Nat} {b : Fin 28} (e : off = oblkOff b) (hh hs) :
    (tM.slice (Rect.unit (s := S7x4096x3072) off S1x1024x3072.size hh) hs).squeeze S1024x3072 squeezes_S1x1024x3072_S1024x3072 = oblk b :=
  congrArg (fun M : Memref sig .tc .hbm S1x1024x3072 .i8 => M.squeeze S1024x3072 squeezes_S1x1024x3072_S1024x3072) (Memref.slice_unit_congr _ e _ _ _ _)

/-! ## The loops' trip counts -/

theorem t1_lt (k : Fin k0_t1_loop.trips) : k.val < 2 := Nat.lt_of_lt_of_eq k.isLt (by decide)
theorem t4_lt (k : Fin k0_t4_loop.trips) : k.val < 14 := Nat.lt_of_lt_of_eq k.isLt (by decide)
theorem t7_lt (k : Fin k0_t7_loop.trips) : k.val < 4 := Nat.lt_of_lt_of_eq k.isLt (by decide)
theorem t1_trips : k0_t1_loop.trips = 2 := by decide
theorem t4_trips : k0_t4_loop.trips = 14 := by decide
theorem t7_trips : k0_t7_loop.trips = 4 := by decide
theorem t2_trips : ∀ t : Fin k0_t1_loop.trips, (k0_t2_loop t).trips = 8 := by decide +kernel
theorem t3_trips : ∀ t : Fin k0_t1_loop.trips, (k0_t3_loop t).trips = 0 := by decide +kernel
theorem t5_trips : ∀ t : Fin k0_t1_loop.trips, (k0_t5_loop t).trips = 8 := by decide +kernel
theorem t6_trips : ∀ t : Fin k0_t1_loop.trips, (k0_t6_loop t).trips = 0 := by decide +kernel
theorem t8_trips : ∀ t : Fin k0_t1_loop.trips, (k0_t8_loop t).trips = 8 := by decide +kernel
theorem t9_trips : ∀ t : Fin k0_t1_loop.trips, (k0_t9_loop t).trips = 0 := by decide +kernel

/-! ## The offsets in closed form -/

theorem off1_eq : ∀ (k0_t1 : Fin k0_t1_loop.trips), k0_off1 k0_t1 = isemOff (Ring.sl 9 (14 * k0_t1.val)) := by decide +kernel
@[sl_canon] theorem nm1 (k0_t1 : Fin k0_t1_loop.trips) (hh) :
    (cc0_scratch3.slice (Rect.unit (s := S9) (k0_off1 k0_t1) S1.size hh)).squeeze S_ squeezes_S1_S_ = ism (Ring.sl 9 (14 * k0_t1.val)) := ism_congr (off1_eq k0_t1) _
theorem off2_eq : ∀ (k0_t1 : Fin k0_t1_loop.trips), k0_off2 k0_t1 = islotOff (Ring.sl 9 (14 * k0_t1.val)) := by decide +kernel
@[sl_canon] theorem nm2 (k0_t1 : Fin k0_t1_loop.trips) (hh hs) :
    (wbM.slice (Rect.unit (s := S9x1536x2048) (k0_off2 k0_t1) S1x1536x2048.size hh) hs).squeeze S1536x2048 squeezes_S1x1536x2048_S1536x2048 = islot (Ring.sl 9 (14 * k0_t1.val)) := islot_congr (off2_eq k0_t1) _ _
theorem off3_eq : ∀ (k0_t1 : Fin k0_t1_loop.trips), k0_off3 k0_t1 = iblkOff (Ring.bk 28 (14 * k0_t1.val)) := by decide +kernel
@[sl_canon] theorem nm3 (k0_t1 : Fin k0_t1_loop.trips) (hh hs) :
    (wM.slice (Rect.unit (s := S7x1536x8192) (k0_off3 k0_t1) S1x1536x2048.size hh) hs).squeeze S1536x2048 squeezes_S1x1536x2048_S1536x2048 = iblk (Ring.bk 28 (14 * k0_t1.val)) := iblk_congr (off3_eq k0_t1) _ _
theorem off5_eq : ∀ (k0_t1 : Fin k0_t1_loop.trips) (k0_t2 : Fin (k0_t2_loop k0_t1).trips), k0_off5 k0_t1 k0_t2 = isemOff (Ring.sl 9 (14 * k0_t1.val + (k0_t2.val + 1))) := by decide +kernel
@[sl_canon] theorem nm5 (k0_t1 : Fin k0_t1_loop.trips) (k0_t2 : Fin (k0_t2_loop k0_t1).trips) (hh) :
    (cc0_scratch3.slice (Rect.unit (s := S9) (k0_off5 k0_t1 k0_t2) S1.size hh)).squeeze S_ squeezes_S1_S_ = ism (Ring.sl 9 (14 * k0_t1.val + (k0_t2.val + 1))) := ism_congr (off5_eq k0_t1 k0_t2) _
theorem off6_eq : ∀ (k0_t1 : Fin k0_t1_loop.trips) (k0_t2 : Fin (k0_t2_loop k0_t1).trips), k0_off6 k0_t1 k0_t2 = islotOff (Ring.sl 9 (14 * k0_t1.val + (k0_t2.val + 1))) := by decide +kernel
@[sl_canon] theorem nm6 (k0_t1 : Fin k0_t1_loop.trips) (k0_t2 : Fin (k0_t2_loop k0_t1).trips) (hh hs) :
    (wbM.slice (Rect.unit (s := S9x1536x2048) (k0_off6 k0_t1 k0_t2) S1x1536x2048.size hh) hs).squeeze S1536x2048 squeezes_S1x1536x2048_S1536x2048 = islot (Ring.sl 9 (14 * k0_t1.val + (k0_t2.val + 1))) := islot_congr (off6_eq k0_t1 k0_t2) _ _
theorem off7_eq : ∀ (k0_t1 : Fin k0_t1_loop.trips) (k0_t2 : Fin (k0_t2_loop k0_t1).trips), k0_off7 k0_t1 k0_t2 = iblkOff (Ring.bk 28 (14 * k0_t1.val + (k0_t2.val + 1))) := by decide +kernel
@[sl_canon] theorem nm7 (k0_t1 : Fin k0_t1_loop.trips) (k0_t2 : Fin (k0_t2_loop k0_t1).trips) (hh hs) :
    (wM.slice (Rect.unit (s := S7x1536x8192) (k0_off7 k0_t1 k0_t2) S1x1536x2048.size hh) hs).squeeze S1536x2048 squeezes_S1x1536x2048_S1536x2048 = iblk (Ring.bk 28 (14 * k0_t1.val + (k0_t2.val + 1))) := iblk_congr (off7_eq k0_t1 k0_t2) _ _
theorem off11_eq : ∀ (k0_t1 : Fin k0_t1_loop.trips) (k0_t4 : Fin k0_t4_loop.trips), k0_cond1 k0_t4 = 1#1 → k0_off11 k0_t1 k0_t4 = isemOff (Ring.sl 9 (14 * k0_t1.val + (k0_t4.val + 8))) := by decide +kernel
@[sl_canon] theorem nm11 (k0_t1 : Fin k0_t1_loop.trips) (k0_t4 : Fin k0_t4_loop.trips) (h : k0_cond1 k0_t4 = 1#1) (hh) :
    (cc0_scratch3.slice (Rect.unit (s := S9) (k0_off11 k0_t1 k0_t4) S1.size hh)).squeeze S_ squeezes_S1_S_ = ism (Ring.sl 9 (14 * k0_t1.val + (k0_t4.val + 8))) := ism_congr (off11_eq k0_t1 k0_t4 h) _
theorem off12_eq : ∀ (k0_t1 : Fin k0_t1_loop.trips) (k0_t4 : Fin k0_t4_loop.trips), k0_cond1 k0_t4 = 1#1 → k0_off12 k0_t1 k0_t4 = islotOff (Ring.sl 9 (14 * k0_t1.val + (k0_t4.val + 8))) := by decide +kernel
@[sl_canon] theorem nm12 (k0_t1 : Fin k0_t1_loop.trips) (k0_t4 : Fin k0_t4_loop.trips) (h : k0_cond1 k0_t4 = 1#1) (hh hs) :
    (wbM.slice (Rect.unit (s := S9x1536x2048) (k0_off12 k0_t1 k0_t4) S1x1536x2048.size hh) hs).squeeze S1536x2048 squeezes_S1x1536x2048_S1536x2048 = islot (Ring.sl 9 (14 * k0_t1.val + (k0_t4.val + 8))) := islot_congr (off12_eq k0_t1 k0_t4 h) _ _
theorem off13_eq : ∀ (k0_t1 : Fin k0_t1_loop.trips) (k0_t4 : Fin k0_t4_loop.trips), k0_cond1 k0_t4 = 1#1 → k0_off13 k0_t1 k0_t4 = iblkOff (Ring.bk 28 (14 * k0_t1.val + (k0_t4.val + 8))) := by decide +kernel
@[sl_canon] theorem nm13 (k0_t1 : Fin k0_t1_loop.trips) (k0_t4 : Fin k0_t4_loop.trips) (h : k0_cond1 k0_t4 = 1#1) (hh hs) :
    (wM.slice (Rect.unit (s := S7x1536x8192) (k0_off13 k0_t1 k0_t4) S1x1536x2048.size hh) hs).squeeze S1536x2048 squeezes_S1x1536x2048_S1536x2048 = iblk (Ring.bk 28 (14 * k0_t1.val + (k0_t4.val + 8))) := iblk_congr (off13_eq k0_t1 k0_t4 h) _ _
theorem off14_eq : ∀ (k0_t1 : Fin k0_t1_loop.trips) (k0_t5 : Fin (k0_t5_loop k0_t1).trips), k0_off14 k0_t1 k0_t5 = osemOff (Ring.sl 8 (14 * k0_t1.val + k0_t5.val)) := by decide +kernel
@[sl_canon] theorem nm14 (k0_t1 : Fin k0_t1_loop.trips) (k0_t5 : Fin (k0_t5_loop k0_t1).trips) (hh) :
    (cc0_scratch4.slice (Rect.unit (s := S8) (k0_off14 k0_t1 k0_t5) S1.size hh)).squeeze S_ squeezes_S1_S_ = osm (Ring.sl 8 (14 * k0_t1.val + k0_t5.val)) := osm_congr (off14_eq k0_t1 k0_t5) _
theorem off15_eq : ∀ (k0_t1 : Fin k0_t1_loop.trips) (k0_t5 : Fin (k0_t5_loop k0_t1).trips), k0_off15 k0_t1 k0_t5 = oblkOff (Ring.bk 28 (14 * k0_t1.val + k0_t5.val)) := by decide +kernel
@[sl_canon] theorem nm15 (k0_t1 : Fin k0_t1_loop.trips) (k0_t5 : Fin (k0_t5_loop k0_t1).trips) (hh hs) :
    (tM.slice (Rect.unit (s := S7x4096x3072) (k0_off15 k0_t1 k0_t5) S1x1024x3072.size hh) hs).squeeze S1024x3072 squeezes_S1x1024x3072_S1024x3072 = oblk (Ring.bk 28 (14 * k0_t1.val + k0_t5.val)) := oblk_congr (off15_eq k0_t1 k0_t5) _ _
theorem off16_eq : ∀ (k0_t1 : Fin k0_t1_loop.trips) (k0_t5 : Fin (k0_t5_loop k0_t1).trips), k0_off16 k0_t1 k0_t5 = oslotOff (Ring.sl 8 (14 * k0_t1.val + k0_t5.val)) := by decide +kernel
@[sl_canon] theorem nm16 (k0_t1 : Fin k0_t1_loop.trips) (k0_t5 : Fin (k0_t5_loop k0_t1).trips) (hh hs) :
    (tbM.slice (Rect.unit (s := S8x1024x3072) (k0_off16 k0_t1 k0_t5) S1x1024x3072.size hh) hs).squeeze S1024x3072 squeezes_S1x1024x3072_S1024x3072 = oslot (Ring.sl 8 (14 * k0_t1.val + k0_t5.val)) := oslot_congr (off16_eq k0_t1 k0_t5) _ _
theorem off21_eq : ∀ (k0_t1 : Fin k0_t1_loop.trips) (k0_t4 : Fin k0_t4_loop.trips), k0_cond3 k0_t4 = 1#1 → k0_off21 k0_t1 k0_t4 = osemOff (Ring.sl 8 (14 * k0_t1.val + (k0_t4.val - 1))) := by decide +kernel
@[sl_canon] theorem nm21 (k0_t1 : Fin k0_t1_loop.trips) (k0_t4 : Fin k0_t4_loop.trips) (h : k0_cond3 k0_t4 = 1#1) (hh) :
    (cc0_scratch4.slice (Rect.unit (s := S8) (k0_off21 k0_t1 k0_t4) S1.size hh)).squeeze S_ squeezes_S1_S_ = osm (Ring.sl 8 (14 * k0_t1.val + (k0_t4.val - 1))) := osm_congr (off21_eq k0_t1 k0_t4 h) _
theorem off22_eq : ∀ (k0_t1 : Fin k0_t1_loop.trips) (k0_t4 : Fin k0_t4_loop.trips), k0_cond3 k0_t4 = 1#1 → k0_off22 k0_t1 k0_t4 = oblkOff (Ring.bk 28 (14 * k0_t1.val + (k0_t4.val - 1))) := by decide +kernel
@[sl_canon] theorem nm22 (k0_t1 : Fin k0_t1_loop.trips) (k0_t4 : Fin k0_t4_loop.trips) (h : k0_cond3 k0_t4 = 1#1) (hh hs) :
    (tM.slice (Rect.unit (s := S7x4096x3072) (k0_off22 k0_t1 k0_t4) S1x1024x3072.size hh) hs).squeeze S1024x3072 squeezes_S1x1024x3072_S1024x3072 = oblk (Ring.bk 28 (14 * k0_t1.val + (k0_t4.val - 1))) := oblk_congr (off22_eq k0_t1 k0_t4 h) _ _
theorem off23_eq : ∀ (k0_t1 : Fin k0_t1_loop.trips) (k0_t4 : Fin k0_t4_loop.trips), k0_cond3 k0_t4 = 1#1 → k0_off23 k0_t1 k0_t4 = oslotOff (Ring.sl 8 (14 * k0_t1.val + (k0_t4.val - 1))) := by decide +kernel
@[sl_canon] theorem nm23 (k0_t1 : Fin k0_t1_loop.trips) (k0_t4 : Fin k0_t4_loop.trips) (h : k0_cond3 k0_t4 = 1#1) (hh hs) :
    (tbM.slice (Rect.unit (s := S8x1024x3072) (k0_off23 k0_t1 k0_t4) S1x1024x3072.size hh) hs).squeeze S1024x3072 squeezes_S1x1024x3072_S1024x3072 = oslot (Ring.sl 8 (14 * k0_t1.val + (k0_t4.val - 1))) := oslot_congr (off23_eq k0_t1 k0_t4 h) _ _
theorem off24_eq : ∀ (k0_t1 : Fin k0_t1_loop.trips) (k0_t4 : Fin k0_t4_loop.trips), k0_off24 k0_t1 k0_t4 = isemOff (Ring.sl 9 (14 * k0_t1.val + k0_t4.val)) := by decide +kernel
@[sl_canon] theorem nm24 (k0_t1 : Fin k0_t1_loop.trips) (k0_t4 : Fin k0_t4_loop.trips) (hh) :
    (cc0_scratch3.slice (Rect.unit (s := S9) (k0_off24 k0_t1 k0_t4) S1.size hh)).squeeze S_ squeezes_S1_S_ = ism (Ring.sl 9 (14 * k0_t1.val + k0_t4.val)) := ism_congr (off24_eq k0_t1 k0_t4) _
theorem off25_eq : ∀ (k0_t1 : Fin k0_t1_loop.trips) (k0_t4 : Fin k0_t4_loop.trips), k0_off25 k0_t1 k0_t4 = islotOff (Ring.sl 9 (14 * k0_t1.val + k0_t4.val)) := by decide +kernel
@[sl_canon] theorem nm25 (k0_t1 : Fin k0_t1_loop.trips) (k0_t4 : Fin k0_t4_loop.trips) (hh hs) :
    (wbM.slice (Rect.unit (s := S9x1536x2048) (k0_off25 k0_t1 k0_t4) S1x1536x2048.size hh) hs).squeeze S1536x2048 squeezes_S1x1536x2048_S1536x2048 = islot (Ring.sl 9 (14 * k0_t1.val + k0_t4.val)) := islot_congr (off25_eq k0_t1 k0_t4) _ _
theorem off26_eq : ∀ (k0_t1 : Fin k0_t1_loop.trips) (k0_t4 : Fin k0_t4_loop.trips), k0_off26 k0_t1 k0_t4 = iblkOff (Ring.bk 28 (14 * k0_t1.val + k0_t4.val)) := by decide +kernel
@[sl_canon] theorem nm26 (k0_t1 : Fin k0_t1_loop.trips) (k0_t4 : Fin k0_t4_loop.trips) (hh hs) :
    (wM.slice (Rect.unit (s := S7x1536x8192) (k0_off26 k0_t1 k0_t4) S1x1536x2048.size hh) hs).squeeze S1536x2048 squeezes_S1x1536x2048_S1536x2048 = iblk (Ring.bk 28 (14 * k0_t1.val + k0_t4.val)) := iblk_congr (off26_eq k0_t1 k0_t4) _ _
theorem off27_eq : ∀ (k0_t1 : Fin k0_t1_loop.trips) (k0_t4 : Fin k0_t4_loop.trips), k0_cond4 k0_t4 = 1#1 → k0_off27 k0_t1 k0_t4 = osemOff (Ring.sl 8 (14 * k0_t1.val + (k0_t4.val - 8))) := by decide +kernel
@[sl_canon] theorem nm27 (k0_t1 : Fin k0_t1_loop.trips) (k0_t4 : Fin k0_t4_loop.trips) (h : k0_cond4 k0_t4 = 1#1) (hh) :
    (cc0_scratch4.slice (Rect.unit (s := S8) (k0_off27 k0_t1 k0_t4) S1.size hh)).squeeze S_ squeezes_S1_S_ = osm (Ring.sl 8 (14 * k0_t1.val + (k0_t4.val - 8))) := osm_congr (off27_eq k0_t1 k0_t4 h) _
theorem off28_eq : ∀ (k0_t1 : Fin k0_t1_loop.trips) (k0_t4 : Fin k0_t4_loop.trips), k0_cond4 k0_t4 = 1#1 → k0_off28 k0_t1 k0_t4 = oblkOff (Ring.bk 28 (14 * k0_t1.val + (k0_t4.val - 8))) := by decide +kernel
@[sl_canon] theorem nm28 (k0_t1 : Fin k0_t1_loop.trips) (k0_t4 : Fin k0_t4_loop.trips) (h : k0_cond4 k0_t4 = 1#1) (hh hs) :
    (tM.slice (Rect.unit (s := S7x4096x3072) (k0_off28 k0_t1 k0_t4) S1x1024x3072.size hh) hs).squeeze S1024x3072 squeezes_S1x1024x3072_S1024x3072 = oblk (Ring.bk 28 (14 * k0_t1.val + (k0_t4.val - 8))) := oblk_congr (off28_eq k0_t1 k0_t4 h) _ _
theorem off29_eq : ∀ (k0_t1 : Fin k0_t1_loop.trips) (k0_t4 : Fin k0_t4_loop.trips), k0_cond4 k0_t4 = 1#1 → k0_off29 k0_t1 k0_t4 = oslotOff (Ring.sl 8 (14 * k0_t1.val + (k0_t4.val - 8))) := by decide +kernel
@[sl_canon] theorem nm29 (k0_t1 : Fin k0_t1_loop.trips) (k0_t4 : Fin k0_t4_loop.trips) (h : k0_cond4 k0_t4 = 1#1) (hh hs) :
    (tbM.slice (Rect.unit (s := S8x1024x3072) (k0_off29 k0_t1 k0_t4) S1x1024x3072.size hh) hs).squeeze S1024x3072 squeezes_S1x1024x3072_S1024x3072 = oslot (Ring.sl 8 (14 * k0_t1.val + (k0_t4.val - 8))) := oslot_congr (off29_eq k0_t1 k0_t4 h) _ _
theorem off30_eq : ∀ (k0_t1 : Fin k0_t1_loop.trips) (k0_t4 : Fin k0_t4_loop.trips), k0_off30 k0_t1 k0_t4 = islotOff (Ring.sl 9 (14 * k0_t1.val + k0_t4.val)) := by decide +kernel
@[sl_canon] theorem nm30 (k0_t1 : Fin k0_t1_loop.trips) (k0_t4 : Fin k0_t4_loop.trips) (hh hs) :
    (wbM.slice (Rect.unit (s := S9x1536x2048) (k0_off30 k0_t1 k0_t4) S1x1536x2048.size hh) hs).squeeze S1536x2048 squeezes_S1x1536x2048_S1536x2048 = islot (Ring.sl 9 (14 * k0_t1.val + k0_t4.val)) := islot_congr (off30_eq k0_t1 k0_t4) _ _
theorem off32_eq : ∀ (k0_t1 : Fin k0_t1_loop.trips) (k0_t4 : Fin k0_t4_loop.trips), k0_off32 k0_t1 k0_t4 = oslotOff (Ring.sl 8 (14 * k0_t1.val + k0_t4.val)) := by decide +kernel
@[sl_canon] theorem nm32 (k0_t1 : Fin k0_t1_loop.trips) (k0_t4 : Fin k0_t4_loop.trips) (hh hs) :
    (tbM.slice (Rect.unit (s := S8x1024x3072) (k0_off32 k0_t1 k0_t4) S1x1024x3072.size hh) hs).squeeze S1024x3072 squeezes_S1x1024x3072_S1024x3072 = oslot (Ring.sl 8 (14 * k0_t1.val + k0_t4.val)) := oslot_congr (off32_eq k0_t1 k0_t4) _ _
theorem off130_eq : ∀ (k0_t1 : Fin k0_t1_loop.trips), k0_off130 k0_t1 = osemOff (Ring.sl 8 (14 * k0_t1.val + 13)) := by decide +kernel
@[sl_canon] theorem nm130 (k0_t1 : Fin k0_t1_loop.trips) (hh) :
    (cc0_scratch4.slice (Rect.unit (s := S8) (k0_off130 k0_t1) S1.size hh)).squeeze S_ squeezes_S1_S_ = osm (Ring.sl 8 (14 * k0_t1.val + 13)) := osm_congr (off130_eq k0_t1) _
theorem off131_eq : ∀ (k0_t1 : Fin k0_t1_loop.trips), k0_off131 k0_t1 = oblkOff (Ring.bk 28 (14 * k0_t1.val + 13)) := by decide +kernel
@[sl_canon] theorem nm131 (k0_t1 : Fin k0_t1_loop.trips) (hh hs) :
    (tM.slice (Rect.unit (s := S7x4096x3072) (k0_off131 k0_t1) S1x1024x3072.size hh) hs).squeeze S1024x3072 squeezes_S1x1024x3072_S1024x3072 = oblk (Ring.bk 28 (14 * k0_t1.val + 13)) := oblk_congr (off131_eq k0_t1) _ _
theorem off132_eq : ∀ (k0_t1 : Fin k0_t1_loop.trips), k0_off132 k0_t1 = oslotOff (Ring.sl 8 (14 * k0_t1.val + 13)) := by decide +kernel
@[sl_canon] theorem nm132 (k0_t1 : Fin k0_t1_loop.trips) (hh hs) :
    (tbM.slice (Rect.unit (s := S8x1024x3072) (k0_off132 k0_t1) S1x1024x3072.size hh) hs).squeeze S1024x3072 squeezes_S1x1024x3072_S1024x3072 = oslot (Ring.sl 8 (14 * k0_t1.val + 13)) := oslot_congr (off132_eq k0_t1) _ _
theorem off133_eq : ∀ (k0_t1 : Fin k0_t1_loop.trips) (k0_t8 : Fin (k0_t8_loop k0_t1).trips), k0_off133 k0_t1 k0_t8 = osemOff (Ring.sl 8 (14 * k0_t1.val + (k0_t8.val + 6))) := by decide +kernel
@[sl_canon] theorem nm133 (k0_t1 : Fin k0_t1_loop.trips) (k0_t8 : Fin (k0_t8_loop k0_t1).trips) (hh) :
    (cc0_scratch4.slice (Rect.unit (s := S8) (k0_off133 k0_t1 k0_t8) S1.size hh)).squeeze S_ squeezes_S1_S_ = osm (Ring.sl 8 (14 * k0_t1.val + (k0_t8.val + 6))) := osm_congr (off133_eq k0_t1 k0_t8) _
theorem off134_eq : ∀ (k0_t1 : Fin k0_t1_loop.trips) (k0_t8 : Fin (k0_t8_loop k0_t1).trips), k0_off134 k0_t1 k0_t8 = oblkOff (Ring.bk 28 (14 * k0_t1.val + (k0_t8.val + 6))) := by decide +kernel
@[sl_canon] theorem nm134 (k0_t1 : Fin k0_t1_loop.trips) (k0_t8 : Fin (k0_t8_loop k0_t1).trips) (hh hs) :
    (tM.slice (Rect.unit (s := S7x4096x3072) (k0_off134 k0_t1 k0_t8) S1x1024x3072.size hh) hs).squeeze S1024x3072 squeezes_S1x1024x3072_S1024x3072 = oblk (Ring.bk 28 (14 * k0_t1.val + (k0_t8.val + 6))) := oblk_congr (off134_eq k0_t1 k0_t8) _ _
theorem off135_eq : ∀ (k0_t1 : Fin k0_t1_loop.trips) (k0_t8 : Fin (k0_t8_loop k0_t1).trips), k0_off135 k0_t1 k0_t8 = oslotOff (Ring.sl 8 (14 * k0_t1.val + (k0_t8.val + 6))) := by decide +kernel
@[sl_canon] theorem nm135 (k0_t1 : Fin k0_t1_loop.trips) (k0_t8 : Fin (k0_t8_loop k0_t1).trips) (hh hs) :
    (tbM.slice (Rect.unit (s := S8x1024x3072) (k0_off135 k0_t1 k0_t8) S1x1024x3072.size hh) hs).squeeze S1024x3072 squeezes_S1x1024x3072_S1024x3072 = oslot (Ring.sl 8 (14 * k0_t1.val + (k0_t8.val + 6))) := oslot_congr (off135_eq k0_t1 k0_t8) _ _

theorem off4_eq : ∀ k0_t1 : Fin k0_t1_loop.trips, k0_off4 k0_t1 = sblkOff (Ring.bk 2 k0_t1.val) := by decide +kernel
theorem off20_eq : ∀ k0_t1 : Fin k0_t1_loop.trips, k0_off20 k0_t1 = sblkOff (Ring.bk 2 k0_t1.val) := by decide +kernel
@[sl_canon] theorem nm4 (k0_t1 : Fin k0_t1_loop.trips) (hh hs) :
    scM.slice (Rect.unit (s := S168x2x8192) (k0_off4 k0_t1) S84x2x8192.size hh) hs = sblk (Ring.bk 2 k0_t1.val) := Memref.slice_unit_congr _ (off4_eq k0_t1) _ _ _ (fun _ => rfl)
@[sl_canon] theorem nm4' (k0_t1 : Fin k0_t1_loop.trips) (hh hs) :
    tsM.slice (Rect.unit (s := S168x2x8192) (k0_off4 k0_t1) S84x2x8192.size hh) hs = tsblk (Ring.bk 2 k0_t1.val) := Memref.slice_unit_congr _ (off4_eq k0_t1) _ _ _ (fun _ => rfl)
@[sl_canon] theorem nm20 (k0_t1 : Fin k0_t1_loop.trips) (hh hs) :
    scM.slice (Rect.unit (s := S168x2x8192) (k0_off20 k0_t1) S84x2x8192.size hh) hs = sblk (Ring.bk 2 k0_t1.val) := Memref.slice_unit_congr _ (off20_eq k0_t1) _ _ _ (fun _ => rfl)
@[sl_canon] theorem nm20' (k0_t1 : Fin k0_t1_loop.trips) (hh hs) :
    tsM.slice (Rect.unit (s := S168x2x8192) (k0_off20 k0_t1) S84x2x8192.size hh) hs = tsblk (Ring.bk 2 k0_t1.val) := Memref.slice_unit_congr _ (off20_eq k0_t1) _ _ _ (fun _ => rfl)

/-! ## Where a repacked tile is stored: rows `256 k + 64 a`, lanes `128 p` of the block's output slot -/

abbrev tOff (s : Fin 8) (k : Nat) (a p : Nat) : Fin 3 → Nat := ![s.val, k * 256 + a * 64, p * 128]
theorem off31_eq : ∀ k0_t7 : Fin k0_t7_loop.trips, k0_off31 k0_t7 = ![0, k0_t7.val * 512] := by decide +kernel
theorem off33_eq : ∀ k0_t7 : Fin k0_t7_loop.trips, k0_off33 k0_t7 = ![k0_t7.val * 256, 0] := by decide +kernel
instance (k0_t7 : Fin k0_t7_loop.trips) : ClosedOff (k0_off31 k0_t7) := ⟨_, off31_eq k0_t7⟩
instance (k0_t7 : Fin k0_t7_loop.trips) : ClosedOff (k0_off33 k0_t7) := ⟨_, off33_eq k0_t7⟩
instance (k0_t1 : Fin k0_t1_loop.trips) (k0_t4 : Fin k0_t4_loop.trips) : ClosedOff (k0_off30 k0_t1 k0_t4) := ⟨_, off30_eq k0_t1 k0_t4⟩
instance (k0_t1 : Fin k0_t1_loop.trips) (k0_t4 : Fin k0_t4_loop.trips) : ClosedOff (k0_off32 k0_t1 k0_t4) := ⟨_, off32_eq k0_t1 k0_t4⟩

theorem tile_slot : ∀ (k0_t1 : Fin k0_t1_loop.trips) (k0_t4 : Fin k0_t4_loop.trips),
    (Scalar.remsi (Scalar.addi (Scalar.muli (Scf.iv 0#32 1#32 k0_t1) 14#32) (Scf.iv 0#32 1#32 k0_t4)) 8#32).toNat = (Ring.sl 8 (14 * k0_t1.val + k0_t4.val)).val := by decide +kernel
theorem tile_row : ∀ k0_t7 : Fin k0_t7_loop.trips, (Scalar.muli (Scf.iv 0#32 1#32 k0_t7) 256#32).toNat = k0_t7.val * 256 := by decide +kernel
theorem tile_off (k0_t1 : Fin k0_t1_loop.trips) (k0_t4 : Fin k0_t4_loop.trips) (k0_t7 : Fin k0_t7_loop.trips) (a p : Nat) :
    (![(Scalar.remsi (Scalar.addi (Scalar.muli (Scf.iv 0#32 1#32 k0_t1) 14#32) (Scf.iv 0#32 1#32 k0_t4)) 8#32).toNat, Nat.add (Scalar.muli (Scf.iv 0#32 1#32 k0_t7) 256#32).toNat a, p] : Fin 3 → Nat)
      = ![(Ring.sl 8 (14 * k0_t1.val + k0_t4.val)).val, k0_t7.val * 256 + a, p] := by rw [tile_slot, tile_row]; rfl
theorem tile_off0 (k0_t1 : Fin k0_t1_loop.trips) (k0_t4 : Fin k0_t4_loop.trips) (k0_t7 : Fin k0_t7_loop.trips) (p : Nat) :
    (![(Scalar.remsi (Scalar.addi (Scalar.muli (Scf.iv 0#32 1#32 k0_t1) 14#32) (Scf.iv 0#32 1#32 k0_t4)) 8#32).toNat, (Scalar.muli (Scf.iv 0#32 1#32 k0_t7) 256#32).toNat, p] : Fin 3 → Nat)
      = ![(Ring.sl 8 (14 * k0_t1.val + k0_t4.val)).val, k0_t7.val * 256 + 0, p] := by rw [tile_slot, tile_row]; rfl
theorem off34_eq (k0_t1 : Fin k0_t1_loop.trips) (k0_t4 : Fin k0_t4_loop.trips) (k0_t7 : Fin k0_t7_loop.trips) : k0_off34 k0_t1 k0_t4 k0_t7 = ![(Ring.sl 8 (14 * k0_t1.val + k0_t4.val)).val, k0_t7.val * 256 + 0, 0] := tile_off0 k0_t1 k0_t4 k0_t7 0
instance (k0_t1 : Fin k0_t1_loop.trips) (k0_t4 : Fin k0_t4_loop.trips) (k0_t7 : Fin k0_t7_loop.trips) : ClosedOff (k0_off34 k0_t1 k0_t4 k0_t7) := ⟨_, off34_eq k0_t1 k0_t4 k0_t7⟩
theorem off35_eq (k0_t1 : Fin k0_t1_loop.trips) (k0_t4 : Fin k0_t4_loop.trips) (k0_t7 : Fin k0_t7_loop.trips) : k0_off35 k0_t1 k0_t4 k0_t7 = ![(Ring.sl 8 (14 * k0_t1.val + k0_t4.val)).val, k0_t7.val * 256 + 64, 0] := tile_off k0_t1 k0_t4 k0_t7 64 0
instance (k0_t1 : Fin k0_t1_loop.trips) (k0_t4 : Fin k0_t4_loop.trips) (k0_t7 : Fin k0_t7_loop.trips) : ClosedOff (k0_off35 k0_t1 k0_t4 k0_t7) := ⟨_, off35_eq k0_t1 k0_t4 k0_t7⟩
theorem off36_eq (k0_t1 : Fin k0_t1_loop.trips) (k0_t4 : Fin k0_t4_loop.trips) (k0_t7 : Fin k0_t7_loop.trips) : k0_off36 k0_t1 k0_t4 k0_t7 = ![(Ring.sl 8 (14 * k0_t1.val + k0_t4.val)).val, k0_t7.val * 256 + 128, 0] := tile_off k0_t1 k0_t4 k0_t7 128 0
instance (k0_t1 : Fin k0_t1_loop.trips) (k0_t4 : Fin k0_t4_loop.trips) (k0_t7 : Fin k0_t7_loop.trips) : ClosedOff (k0_off36 k0_t1 k0_t4 k0_t7) := ⟨_, off36_eq k0_t1 k0_t4 k0_t7⟩
theorem off37_eq (k0_t1 : Fin k0_t1_loop.trips) (k0_t4 : Fin k0_t4_loop.trips) (k0_t7 : Fin k0_t7_loop.trips) : k0_off37 k0_t1 k0_t4 k0_t7 = ![(Ring.sl 8 (14 * k0_t1.val + k0_t4.val)).val, k0_t7.val * 256 + 192, 0] := tile_off k0_t1 k0_t4 k0_t7 192 0
instance (k0_t1 : Fin k0_t1_loop.trips) (k0_t4 : Fin k0_t4_loop.trips) (k0_t7 : Fin k0_t7_loop.trips) : ClosedOff (k0_off37 k0_t1 k0_t4 k0_t7) := ⟨_, off37_eq k0_t1 k0_t4 k0_t7⟩
theorem off38_eq (k0_t1 : Fin k0_t1_loop.trips) (k0_t4 : Fin k0_t4_loop.trips) (k0_t7 : Fin k0_t7_loop.trips) : k0_off38 k0_t1 k0_t4 k0_t7 = ![(Ring.sl 8 (14 * k0_t1.val + k0_t4.val)).val, k0_t7.val * 256 + 0, 128] := tile_off0 k0_t1 k0_t4 k0_t7 128
instance (k0_t1 : Fin k0_t1_loop.trips) (k0_t4 : Fin k0_t4_loop.trips) (k0_t7 : Fin k0_t7_loop.trips) : ClosedOff (k0_off38 k0_t1 k0_t4 k0_t7) := ⟨_, off38_eq k0_t1 k0_t4 k0_t7⟩
theorem off39_eq (k0_t1 : Fin k0_t1_loop.trips) (k0_t4 : Fin k0_t4_loop.trips) (k0_t7 : Fin k0_t7_loop.trips) : k0_off39 k0_t1 k0_t4 k0_t7 = ![(Ring.sl 8 (14 * k0_t1.val + k0_t4.val)).val, k0_t7.val * 256 + 64, 128] := tile_off k0_t1 k0_t4 k0_t7 64 128
instance (k0_t1 : Fin k0_t1_loop.trips) (k0_t4 : Fin k0_t4_loop.trips) (k0_t7 : Fin k0_t7_loop.trips) : ClosedOff (k0_off39 k0_t1 k0_t4 k0_t7) := ⟨_, off39_eq k0_t1 k0_t4 k0_t7⟩
theorem off40_eq (k0_t1 : Fin k0_t1_loop.trips) (k0_t4 : Fin k0_t4_loop.trips) (k0_t7 : Fin k0_t7_loop.trips) : k0_off40 k0_t1 k0_t4 k0_t7 = ![(Ring.sl 8 (14 * k0_t1.val + k0_t4.val)).val, k0_t7.val * 256 + 128, 128] := tile_off k0_t1 k0_t4 k0_t7 128 128
instance (k0_t1 : Fin k0_t1_loop.trips) (k0_t4 : Fin k0_t4_loop.trips) (k0_t7 : Fin k0_t7_loop.trips) : ClosedOff (k0_off40 k0_t1 k0_t4 k0_t7) := ⟨_, off40_eq k0_t1 k0_t4 k0_t7⟩
theorem off41_eq (k0_t1 : Fin k0_t1_loop.trips) (k0_t4 : Fin k0_t4_loop.trips) (k0_t7 : Fin k0_t7_loop.trips) : k0_off41 k0_t1 k0_t4 k0_t7 = ![(Ring.sl 8 (14 * k0_t1.val + k0_t4.val)).val, k0_t7.val * 256 + 192, 128] := tile_off k0_t1 k0_t4 k0_t7 192 128
instance (k0_t1 : Fin k0_t1_loop.trips) (k0_t4 : Fin k0_t4_loop.trips) (k0_t7 : Fin k0_t7_loop.trips) : ClosedOff (k0_off41 k0_t1 k0_t4 k0_t7) := ⟨_, off41_eq k0_t1 k0_t4 k0_t7⟩
theorem off42_eq (k0_t1 : Fin k0_t1_loop.trips) (k0_t4 : Fin k0_t4_loop.trips) (k0_t7 : Fin k0_t7_loop.trips) : k0_off42 k0_t1 k0_t4 k0_t7 = ![(Ring.sl 8 (14 * k0_t1.val + k0_t4.val)).val, k0_t7.val * 256 + 0, 256] := tile_off0 k0_t1 k0_t4 k0_t7 256
instance (k0_t1 : Fin k0_t1_loop.trips) (k0_t4 : Fin k0_t4_loop.trips) (k0_t7 : Fin k0_t7_loop.trips) : ClosedOff (k0_off42 k0_t1 k0_t4 k0_t7) := ⟨_, off42_eq k0_t1 k0_t4 k0_t7⟩
theorem off43_eq (k0_t1 : Fin k0_t1_loop.trips) (k0_t4 : Fin k0_t4_loop.trips) (k0_t7 : Fin k0_t7_loop.trips) : k0_off43 k0_t1 k0_t4 k0_t7 = ![(Ring.sl 8 (14 * k0_t1.val + k0_t4.val)).val, k0_t7.val * 256 + 64, 256] := tile_off k0_t1 k0_t4 k0_t7 64 256
instance (k0_t1 : Fin k0_t1_loop.trips) (k0_t4 : Fin k0_t4_loop.trips) (k0_t7 : Fin k0_t7_loop.trips) : ClosedOff (k0_off43 k0_t1 k0_t4 k0_t7) := ⟨_, off43_eq k0_t1 k0_t4 k0_t7⟩
theorem off44_eq (k0_t1 : Fin k0_t1_loop.trips) (k0_t4 : Fin k0_t4_loop.trips) (k0_t7 : Fin k0_t7_loop.trips) : k0_off44 k0_t1 k0_t4 k0_t7 = ![(Ring.sl 8 (14 * k0_t1.val + k0_t4.val)).val, k0_t7.val * 256 + 128, 256] := tile_off k0_t1 k0_t4 k0_t7 128 256
instance (k0_t1 : Fin k0_t1_loop.trips) (k0_t4 : Fin k0_t4_loop.trips) (k0_t7 : Fin k0_t7_loop.trips) : ClosedOff (k0_off44 k0_t1 k0_t4 k0_t7) := ⟨_, off44_eq k0_t1 k0_t4 k0_t7⟩
theorem off45_eq (k0_t1 : Fin k0_t1_loop.trips) (k0_t4 : Fin k0_t4_loop.trips) (k0_t7 : Fin k0_t7_loop.trips) : k0_off45 k0_t1 k0_t4 k0_t7 = ![(Ring.sl 8 (14 * k0_t1.val + k0_t4.val)).val, k0_t7.val * 256 + 192, 256] := tile_off k0_t1 k0_t4 k0_t7 192 256
instance (k0_t1 : Fin k0_t1_loop.trips) (k0_t4 : Fin k0_t4_loop.trips) (k0_t7 : Fin k0_t7_loop.trips) : ClosedOff (k0_off45 k0_t1 k0_t4 k0_t7) := ⟨_, off45_eq k0_t1 k0_t4 k0_t7⟩
theorem off46_eq (k0_t1 : Fin k0_t1_loop.trips) (k0_t4 : Fin k0_t4_loop.trips) (k0_t7 : Fin k0_t7_loop.trips) : k0_off46 k0_t1 k0_t4 k0_t7 = ![(Ring.sl 8 (14 * k0_t1.val + k0_t4.val)).val, k0_t7.val * 256 + 0, 384] := tile_off0 k0_t1 k0_t4 k0_t7 384
instance (k0_t1 : Fin k0_t1_loop.trips) (k0_t4 : Fin k0_t4_loop.trips) (k0_t7 : Fin k0_t7_loop.trips) : ClosedOff (k0_off46 k0_t1 k0_t4 k0_t7) := ⟨_, off46_eq k0_t1 k0_t4 k0_t7⟩
theorem off47_eq (k0_t1 : Fin k0_t1_loop.trips) (k0_t4 : Fin k0_t4_loop.trips) (k0_t7 : Fin k0_t7_loop.trips) : k0_off47 k0_t1 k0_t4 k0_t7 = ![(Ring.sl 8 (14 * k0_t1.val + k0_t4.val)).val, k0_t7.val * 256 + 64, 384] := tile_off k0_t1 k0_t4 k0_t7 64 384
instance (k0_t1 : Fin k0_t1_loop.trips) (k0_t4 : Fin k0_t4_loop.trips) (k0_t7 : Fin k0_t7_loop.trips) : ClosedOff (k0_off47 k0_t1 k0_t4 k0_t7) := ⟨_, off47_eq k0_t1 k0_t4 k0_t7⟩
theorem off48_eq (k0_t1 : Fin k0_t1_loop.trips) (k0_t4 : Fin k0_t4_loop.trips) (k0_t7 : Fin k0_t7_loop.trips) : k0_off48 k0_t1 k0_t4 k0_t7 = ![(Ring.sl 8 (14 * k0_t1.val + k0_t4.val)).val, k0_t7.val * 256 + 128, 384] := tile_off k0_t1 k0_t4 k0_t7 128 384
instance (k0_t1 : Fin k0_t1_loop.trips) (k0_t4 : Fin k0_t4_loop.trips) (k0_t7 : Fin k0_t7_loop.trips) : ClosedOff (k0_off48 k0_t1 k0_t4 k0_t7) := ⟨_, off48_eq k0_t1 k0_t4 k0_t7⟩
theorem off49_eq (k0_t1 : Fin k0_t1_loop.trips) (k0_t4 : Fin k0_t4_loop.trips) (k0_t7 : Fin k0_t7_loop.trips) : k0_off49 k0_t1 k0_t4 k0_t7 = ![(Ring.sl 8 (14 * k0_t1.val + k0_t4.val)).val, k0_t7.val * 256 + 192, 384] := tile_off k0_t1 k0_t4 k0_t7 192 384
instance (k0_t1 : Fin k0_t1_loop.trips) (k0_t4 : Fin k0_t4_loop.trips) (k0_t7 : Fin k0_t7_loop.trips) : ClosedOff (k0_off49 k0_t1 k0_t4 k0_t7) := ⟨_, off49_eq k0_t1 k0_t4 k0_t7⟩
theorem off50_eq (k0_t1 : Fin k0_t1_loop.trips) (k0_t4 : Fin k0_t4_loop.trips) (k0_t7 : Fin k0_t7_loop.trips) : k0_off50 k0_t1 k0_t4 k0_t7 = ![(Ring.sl 8 (14 * k0_t1.val + k0_t4.val)).val, k0_t7.val * 256 + 0, 512] := tile_off0 k0_t1 k0_t4 k0_t7 512
instance (k0_t1 : Fin k0_t1_loop.trips) (k0_t4 : Fin k0_t4_loop.trips) (k0_t7 : Fin k0_t7_loop.trips) : ClosedOff (k0_off50 k0_t1 k0_t4 k0_t7) := ⟨_, off50_eq k0_t1 k0_t4 k0_t7⟩
theorem off51_eq (k0_t1 : Fin k0_t1_loop.trips) (k0_t4 : Fin k0_t4_loop.trips) (k0_t7 : Fin k0_t7_loop.trips) : k0_off51 k0_t1 k0_t4 k0_t7 = ![(Ring.sl 8 (14 * k0_t1.val + k0_t4.val)).val, k0_t7.val * 256 + 64, 512] := tile_off k0_t1 k0_t4 k0_t7 64 512
instance (k0_t1 : Fin k0_t1_loop.trips) (k0_t4 : Fin k0_t4_loop.trips) (k0_t7 : Fin k0_t7_loop.trips) : ClosedOff (k0_off51 k0_t1 k0_t4 k0_t7) := ⟨_, off51_eq k0_t1 k0_t4 k0_t7⟩
theorem off52_eq (k0_t1 : Fin k0_t1_loop.trips) (k0_t4 : Fin k0_t4_loop.trips) (k0_t7 : Fin k0_t7_loop.trips) : k0_off52 k0_t1 k0_t4 k0_t7 = ![(Ring.sl 8 (14 * k0_t1.val + k0_t4.val)).val, k0_t7.val * 256 + 128, 512] := tile_off k0_t1 k0_t4 k0_t7 128 512
instance (k0_t1 : Fin k0_t1_loop.trips) (k0_t4 : Fin k0_t4_loop.trips) (k0_t7 : Fin k0_t7_loop.trips) : ClosedOff (k0_off52 k0_t1 k0_t4 k0_t7) := ⟨_, off52_eq k0_t1 k0_t4 k0_t7⟩
theorem off53_eq (k0_t1 : Fin k0_t1_loop.trips) (k0_t4 : Fin k0_t4_loop.trips) (k0_t7 : Fin k0_t7_loop.trips) : k0_off53 k0_t1 k0_t4 k0_t7 = ![(Ring.sl 8 (14 * k0_t1.val + k0_t4.val)).val, k0_t7.val * 256 + 192, 512] := tile_off k0_t1 k0_t4 k0_t7 192 512
instance (k0_t1 : Fin k0_t1_loop.trips) (k0_t4 : Fin k0_t4_loop.trips) (k0_t7 : Fin k0_t7_loop.trips) : ClosedOff (k0_off53 k0_t1 k0_t4 k0_t7) := ⟨_, off53_eq k0_t1 k0_t4 k0_t7⟩
theorem off54_eq (k0_t1 : Fin k0_t1_loop.trips) (k0_t4 : Fin k0_t4_loop.trips) (k0_t7 : Fin k0_t7_loop.trips) : k0_off54 k0_t1 k0_t4 k0_t7 = ![(Ring.sl 8 (14 * k0_t1.val + k0_t4.val)).val, k0_t7.val * 256 + 0, 640] := tile_off0 k0_t1 k0_t4 k0_t7 640
instance (k0_t1 : Fin k0_t1_loop.trips) (k0_t4 : Fin k0_t4_loop.trips) (k0_t7 : Fin k0_t7_loop.trips) : ClosedOff (k0_off54 k0_t1 k0_t4 k0_t7) := ⟨_, off54_eq k0_t1 k0_t4 k0_t7⟩
theorem off55_eq (k0_t1 : Fin k0_t1_loop.trips) (k0_t4 : Fin k0_t4_loop.trips) (k0_t7 : Fin k0_t7_loop.trips) : k0_off55 k0_t1 k0_t4 k0_t7 = ![(Ring.sl 8 (14 * k0_t1.val + k0_t4.val)).val, k0_t7.val * 256 + 64, 640] := tile_off k0_t1 k0_t4 k0_t7 64 640
instance (k0_t1 : Fin k0_t1_loop.trips) (k0_t4 : Fin k0_t4_loop.trips) (k0_t7 : Fin k0_t7_loop.trips) : ClosedOff (k0_off55 k0_t1 k0_t4 k0_t7) := ⟨_, off55_eq k0_t1 k0_t4 k0_t7⟩
theorem off56_eq (k0_t1 : Fin k0_t1_loop.trips) (k0_t4 : Fin k0_t4_loop.trips) (k0_t7 : Fin k0_t7_loop.trips) : k0_off56 k0_t1 k0_t4 k0_t7 = ![(Ring.sl 8 (14 * k0_t1.val + k0_t4.val)).val, k0_t7.val * 256 + 128, 640] := tile_off k0_t1 k0_t4 k0_t7 128 640
instance (k0_t1 : Fin k0_t1_loop.trips) (k0_t4 : Fin k0_t4_loop.trips) (k0_t7 : Fin k0_t7_loop.trips) : ClosedOff (k0_off56 k0_t1 k0_t4 k0_t7) := ⟨_, off56_eq k0_t1 k0_t4 k0_t7⟩
theorem off57_eq (k0_t1 : Fin k0_t1_loop.trips) (k0_t4 : Fin k0_t4_loop.trips) (k0_t7 : Fin k0_t7_loop.trips) : k0_off57 k0_t1 k0_t4 k0_t7 = ![(Ring.sl 8 (14 * k0_t1.val + k0_t4.val)).val, k0_t7.val * 256 + 192, 640] := tile_off k0_t1 k0_t4 k0_t7 192 640
instance (k0_t1 : Fin k0_t1_loop.trips) (k0_t4 : Fin k0_t4_loop.trips) (k0_t7 : Fin k0_t7_loop.trips) : ClosedOff (k0_off57 k0_t1 k0_t4 k0_t7) := ⟨_, off57_eq k0_t1 k0_t4 k0_t7⟩
theorem off58_eq (k0_t1 : Fin k0_t1_loop.trips) (k0_t4 : Fin k0_t4_loop.trips) (k0_t7 : Fin k0_t7_loop.trips) : k0_off58 k0_t1 k0_t4 k0_t7 = ![(Ring.sl 8 (14 * k0_t1.val + k0_t4.val)).val, k0_t7.val * 256 + 0, 768] := tile_off0 k0_t1 k0_t4 k0_t7 768
instance (k0_t1 : Fin k0_t1_loop.trips) (k0_t4 : Fin k0_t4_loop.trips) (k0_t7 : Fin k0_t7_loop.trips) : ClosedOff (k0_off58 k0_t1 k0_t4 k0_t7) := ⟨_, off58_eq k0_t1 k0_t4 k0_t7⟩
theorem off59_eq (k0_t1 : Fin k0_t1_loop.trips) (k0_t4 : Fin k0_t4_loop.trips) (k0_t7 : Fin k0_t7_loop.trips) : k0_off59 k0_t1 k0_t4 k0_t7 = ![(Ring.sl 8 (14 * k0_t1.val + k0_t4.val)).val, k0_t7.val * 256 + 64, 768] := tile_off k0_t1 k0_t4 k0_t7 64 768
instance (k0_t1 : Fin k0_t1_loop.trips) (k0_t4 : Fin k0_t4_loop.trips) (k0_t7 : Fin k0_t7_loop.trips) : ClosedOff (k0_off59 k0_t1 k0_t4 k0_t7) := ⟨_, off59_eq k0_t1 k0_t4 k0_t7⟩
theorem off60_eq (k0_t1 : Fin k0_t1_loop.trips) (k0_t4 : Fin k0_t4_loop.trips) (k0_t7 : Fin k0_t7_loop.trips) : k0_off60 k0_t1 k0_t4 k0_t7 = ![(Ring.sl 8 (14 * k0_t1.val + k0_t4.val)).val, k0_t7.val * 256 + 128, 768] := tile_off k0_t1 k0_t4 k0_t7 128 768
instance (k0_t1 : Fin k0_t1_loop.trips) (k0_t4 : Fin k0_t4_loop.trips) (k0_t7 : Fin k0_t7_loop.trips) : ClosedOff (k0_off60 k0_t1 k0_t4 k0_t7) := ⟨_, off60_eq k0_t1 k0_t4 k0_t7⟩
theorem off61_eq (k0_t1 : Fin k0_t1_loop.trips) (k0_t4 : Fin k0_t4_loop.trips) (k0_t7 : Fin k0_t7_loop.trips) : k0_off61 k0_t1 k0_t4 k0_t7 = ![(Ring.sl 8 (14 * k0_t1.val + k0_t4.val)).val, k0_t7.val * 256 + 192, 768] := tile_off k0_t1 k0_t4 k0_t7 192 768
instance (k0_t1 : Fin k0_t1_loop.trips) (k0_t4 : Fin k0_t4_loop.trips) (k0_t7 : Fin k0_t7_loop.trips) : ClosedOff (k0_off61 k0_t1 k0_t4 k0_t7) := ⟨_, off61_eq k0_t1 k0_t4 k0_t7⟩
theorem off62_eq (k0_t1 : Fin k0_t1_loop.trips) (k0_t4 : Fin k0_t4_loop.trips) (k0_t7 : Fin k0_t7_loop.trips) : k0_off62 k0_t1 k0_t4 k0_t7 = ![(Ring.sl 8 (14 * k0_t1.val + k0_t4.val)).val, k0_t7.val * 256 + 0, 896] := tile_off0 k0_t1 k0_t4 k0_t7 896
instance (k0_t1 : Fin k0_t1_loop.trips) (k0_t4 : Fin k0_t4_loop.trips) (k0_t7 : Fin k0_t7_loop.trips) : ClosedOff (k0_off62 k0_t1 k0_t4 k0_t7) := ⟨_, off62_eq k0_t1 k0_t4 k0_t7⟩
theorem off63_eq (k0_t1 : Fin k0_t1_loop.trips) (k0_t4 : Fin k0_t4_loop.trips) (k0_t7 : Fin k0_t7_loop.trips) : k0_off63 k0_t1 k0_t4 k0_t7 = ![(Ring.sl 8 (14 * k0_t1.val + k0_t4.val)).val, k0_t7.val * 256 + 64, 896] := tile_off k0_t1 k0_t4 k0_t7 64 896
instance (k0_t1 : Fin k0_t1_loop.trips) (k0_t4 : Fin k0_t4_loop.trips) (k0_t7 : Fin k0_t7_loop.trips) : ClosedOff (k0_off63 k0_t1 k0_t4 k0_t7) := ⟨_, off63_eq k0_t1 k0_t4 k0_t7⟩
theorem off64_eq (k0_t1 : Fin k0_t1_loop.trips) (k0_t4 : Fin k0_t4_loop.trips) (k0_t7 : Fin k0_t7_loop.trips) : k0_off64 k0_t1 k0_t4 k0_t7 = ![(Ring.sl 8 (14 * k0_t1.val + k0_t4.val)).val, k0_t7.val * 256 + 128, 896] := tile_off k0_t1 k0_t4 k0_t7 128 896
instance (k0_t1 : Fin k0_t1_loop.trips) (k0_t4 : Fin k0_t4_loop.trips) (k0_t7 : Fin k0_t7_loop.trips) : ClosedOff (k0_off64 k0_t1 k0_t4 k0_t7) := ⟨_, off64_eq k0_t1 k0_t4 k0_t7⟩
theorem off65_eq (k0_t1 : Fin k0_t1_loop.trips) (k0_t4 : Fin k0_t4_loop.trips) (k0_t7 : Fin k0_t7_loop.trips) : k0_off65 k0_t1 k0_t4 k0_t7 = ![(Ring.sl 8 (14 * k0_t1.val + k0_t4.val)).val, k0_t7.val * 256 + 192, 896] := tile_off k0_t1 k0_t4 k0_t7 192 896
instance (k0_t1 : Fin k0_t1_loop.trips) (k0_t4 : Fin k0_t4_loop.trips) (k0_t7 : Fin k0_t7_loop.trips) : ClosedOff (k0_off65 k0_t1 k0_t4 k0_t7) := ⟨_, off65_eq k0_t1 k0_t4 k0_t7⟩
theorem off66_eq (k0_t1 : Fin k0_t1_loop.trips) (k0_t4 : Fin k0_t4_loop.trips) (k0_t7 : Fin k0_t7_loop.trips) : k0_off66 k0_t1 k0_t4 k0_t7 = ![(Ring.sl 8 (14 * k0_t1.val + k0_t4.val)).val, k0_t7.val * 256 + 0, 1024] := tile_off0 k0_t1 k0_t4 k0_t7 1024
instance (k0_t1 : Fin k0_t1_loop.trips) (k0_t4 : Fin k0_t4_loop.trips) (k0_t7 : Fin k0_t7_loop.trips) : ClosedOff (k0_off66 k0_t1 k0_t4 k0_t7) := ⟨_, off66_eq k0_t1 k0_t4 k0_t7⟩
theorem off67_eq (k0_t1 : Fin k0_t1_loop.trips) (k0_t4 : Fin k0_t4_loop.trips) (k0_t7 : Fin k0_t7_loop.trips) : k0_off67 k0_t1 k0_t4 k0_t7 = ![(Ring.sl 8 (14 * k0_t1.val + k0_t4.val)).val, k0_t7.val * 256 + 64, 1024] := tile_off k0_t1 k0_t4 k0_t7 64 1024
instance (k0_t1 : Fin k0_t1_loop.trips) (k0_t4 : Fin k0_t4_loop.trips) (k0_t7 : Fin k0_t7_loop.trips) : ClosedOff (k0_off67 k0_t1 k0_t4 k0_t7) := ⟨_, off67_eq k0_t1 k0_t4 k0_t7⟩
theorem off68_eq (k0_t1 : Fin k0_t1_loop.trips) (k0_t4 : Fin k0_t4_loop.trips) (k0_t7 : Fin k0_t7_loop.trips) : k0_off68 k0_t1 k0_t4 k0_t7 = ![(Ring.sl 8 (14 * k0_t1.val + k0_t4.val)).val, k0_t7.val * 256 + 128, 1024] := tile_off k0_t1 k0_t4 k0_t7 128 1024
instance (k0_t1 : Fin k0_t1_loop.trips) (k0_t4 : Fin k0_t4_loop.trips) (k0_t7 : Fin k0_t7_loop.trips) : ClosedOff (k0_off68 k0_t1 k0_t4 k0_t7) := ⟨_, off68_eq k0_t1 k0_t4 k0_t7⟩
theorem off69_eq (k0_t1 : Fin k0_t1_loop.trips) (k0_t4 : Fin k0_t4_loop.trips) (k0_t7 : Fin k0_t7_loop.trips) : k0_off69 k0_t1 k0_t4 k0_t7 = ![(Ring.sl 8 (14 * k0_t1.val + k0_t4.val)).val, k0_t7.val * 256 + 192, 1024] := tile_off k0_t1 k0_t4 k0_t7 192 1024
instance (k0_t1 : Fin k0_t1_loop.trips) (k0_t4 : Fin k0_t4_loop.trips) (k0_t7 : Fin k0_t7_loop.trips) : ClosedOff (k0_off69 k0_t1 k0_t4 k0_t7) := ⟨_, off69_eq k0_t1 k0_t4 k0_t7⟩
theorem off70_eq (k0_t1 : Fin k0_t1_loop.trips) (k0_t4 : Fin k0_t4_loop.trips) (k0_t7 : Fin k0_t7_loop.trips) : k0_off70 k0_t1 k0_t4 k0_t7 = ![(Ring.sl 8 (14 * k0_t1.val + k0_t4.val)).val, k0_t7.val * 256 + 0, 1152] := tile_off0 k0_t1 k0_t4 k0_t7 1152
instance (k0_t1 : Fin k0_t1_loop.trips) (k0_t4 : Fin k0_t4_loop.trips) (k0_t7 : Fin k0_t7_loop.trips) : ClosedOff (k0_off70 k0_t1 k0_t4 k0_t7) := ⟨_, off70_eq k0_t1 k0_t4 k0_t7⟩
theorem off71_eq (k0_t1 : Fin k0_t1_loop.trips) (k0_t4 : Fin k0_t4_loop.trips) (k0_t7 : Fin k0_t7_loop.trips) : k0_off71 k0_t1 k0_t4 k0_t7 = ![(Ring.sl 8 (14 * k0_t1.val + k0_t4.val)).val, k0_t7.val * 256 + 64, 1152] := tile_off k0_t1 k0_t4 k0_t7 64 1152
instance (k0_t1 : Fin k0_t1_loop.trips) (k0_t4 : Fin k0_t4_loop.trips) (k0_t7 : Fin k0_t7_loop.trips) : ClosedOff (k0_off71 k0_t1 k0_t4 k0_t7) := ⟨_, off71_eq k0_t1 k0_t4 k0_t7⟩
theorem off72_eq (k0_t1 : Fin k0_t1_loop.trips) (k0_t4 : Fin k0_t4_loop.trips) (k0_t7 : Fin k0_t7_loop.trips) : k0_off72 k0_t1 k0_t4 k0_t7 = ![(Ring.sl 8 (14 * k0_t1.val + k0_t4.val)).val, k0_t7.val * 256 + 128, 1152] := tile_off k0_t1 k0_t4 k0_t7 128 1152
instance (k0_t1 : Fin k0_t1_loop.trips) (k0_t4 : Fin k0_t4_loop.trips) (k0_t7 : Fin k0_t7_loop.trips) : ClosedOff (k0_off72 k0_t1 k0_t4 k0_t7) := ⟨_, off72_eq k0_t1 k0_t4 k0_t7⟩
theorem off73_eq (k0_t1 : Fin k0_t1_loop.trips) (k0_t4 : Fin k0_t4_loop.trips) (k0_t7 : Fin k0_t7_loop.trips) : k0_off73 k0_t1 k0_t4 k0_t7 = ![(Ring.sl 8 (14 * k0_t1.val + k0_t4.val)).val, k0_t7.val * 256 + 192, 1152] := tile_off k0_t1 k0_t4 k0_t7 192 1152
instance (k0_t1 : Fin k0_t1_loop.trips) (k0_t4 : Fin k0_t4_loop.trips) (k0_t7 : Fin k0_t7_loop.trips) : ClosedOff (k0_off73 k0_t1 k0_t4 k0_t7) := ⟨_, off73_eq k0_t1 k0_t4 k0_t7⟩
theorem off74_eq (k0_t1 : Fin k0_t1_loop.trips) (k0_t4 : Fin k0_t4_loop.trips) (k0_t7 : Fin k0_t7_loop.trips) : k0_off74 k0_t1 k0_t4 k0_t7 = ![(Ring.sl 8 (14 * k0_t1.val + k0_t4.val)).val, k0_t7.val * 256 + 0, 1280] := tile_off0 k0_t1 k0_t4 k0_t7 1280
instance (k0_t1 : Fin k0_t1_loop.trips) (k0_t4 : Fin k0_t4_loop.trips) (k0_t7 : Fin k0_t7_loop.trips) : ClosedOff (k0_off74 k0_t1 k0_t4 k0_t7) := ⟨_, off74_eq k0_t1 k0_t4 k0_t7⟩
theorem off75_eq (k0_t1 : Fin k0_t1_loop.trips) (k0_t4 : Fin k0_t4_loop.trips) (k0_t7 : Fin k0_t7_loop.trips) : k0_off75 k0_t1 k0_t4 k0_t7 = ![(Ring.sl 8 (14 * k0_t1.val + k0_t4.val)).val, k0_t7.val * 256 + 64, 1280] := tile_off k0_t1 k0_t4 k0_t7 64 1280
instance (k0_t1 : Fin k0_t1_loop.trips) (k0_t4 : Fin k0_t4_loop.trips) (k0_t7 : Fin k0_t7_loop.trips) : ClosedOff (k0_off75 k0_t1 k0_t4 k0_t7) := ⟨_, off75_eq k0_t1 k0_t4 k0_t7⟩
theorem off76_eq (k0_t1 : Fin k0_t1_loop.trips) (k0_t4 : Fin k0_t4_loop.trips) (k0_t7 : Fin k0_t7_loop.trips) : k0_off76 k0_t1 k0_t4 k0_t7 = ![(Ring.sl 8 (14 * k0_t1.val + k0_t4.val)).val, k0_t7.val * 256 + 128, 1280] := tile_off k0_t1 k0_t4 k0_t7 128 1280
instance (k0_t1 : Fin k0_t1_loop.trips) (k0_t4 : Fin k0_t4_loop.trips) (k0_t7 : Fin k0_t7_loop.trips) : ClosedOff (k0_off76 k0_t1 k0_t4 k0_t7) := ⟨_, off76_eq k0_t1 k0_t4 k0_t7⟩
theorem off77_eq (k0_t1 : Fin k0_t1_loop.trips) (k0_t4 : Fin k0_t4_loop.trips) (k0_t7 : Fin k0_t7_loop.trips) : k0_off77 k0_t1 k0_t4 k0_t7 = ![(Ring.sl 8 (14 * k0_t1.val + k0_t4.val)).val, k0_t7.val * 256 + 192, 1280] := tile_off k0_t1 k0_t4 k0_t7 192 1280
instance (k0_t1 : Fin k0_t1_loop.trips) (k0_t4 : Fin k0_t4_loop.trips) (k0_t7 : Fin k0_t7_loop.trips) : ClosedOff (k0_off77 k0_t1 k0_t4 k0_t7) := ⟨_, off77_eq k0_t1 k0_t4 k0_t7⟩
theorem off78_eq (k0_t1 : Fin k0_t1_loop.trips) (k0_t4 : Fin k0_t4_loop.trips) (k0_t7 : Fin k0_t7_loop.trips) : k0_off78 k0_t1 k0_t4 k0_t7 = ![(Ring.sl 8 (14 * k0_t1.val + k0_t4.val)).val, k0_t7.val * 256 + 0, 1408] := tile_off0 k0_t1 k0_t4 k0_t7 1408
instance (k0_t1 : Fin k0_t1_loop.trips) (k0_t4 : Fin k0_t4_loop.trips) (k0_t7 : Fin k0_t7_loop.trips) : ClosedOff (k0_off78 k0_t1 k0_t4 k0_t7) := ⟨_, off78_eq k0_t1 k0_t4 k0_t7⟩
theorem off79_eq (k0_t1 : Fin k0_t1_loop.trips) (k0_t4 : Fin k0_t4_loop.trips) (k0_t7 : Fin k0_t7_loop.trips) : k0_off79 k0_t1 k0_t4 k0_t7 = ![(Ring.sl 8 (14 * k0_t1.val + k0_t4.val)).val, k0_t7.val * 256 + 64, 1408] := tile_off k0_t1 k0_t4 k0_t7 64 1408
instance (k0_t1 : Fin k0_t1_loop.trips) (k0_t4 : Fin k0_t4_loop.trips) (k0_t7 : Fin k0_t7_loop.trips) : ClosedOff (k0_off79 k0_t1 k0_t4 k0_t7) := ⟨_, off79_eq k0_t1 k0_t4 k0_t7⟩
theorem off80_eq (k0_t1 : Fin k0_t1_loop.trips) (k0_t4 : Fin k0_t4_loop.trips) (k0_t7 : Fin k0_t7_loop.trips) : k0_off80 k0_t1 k0_t4 k0_t7 = ![(Ring.sl 8 (14 * k0_t1.val + k0_t4.val)).val, k0_t7.val * 256 + 128, 1408] := tile_off k0_t1 k0_t4 k0_t7 128 1408
instance (k0_t1 : Fin k0_t1_loop.trips) (k0_t4 : Fin k0_t4_loop.trips) (k0_t7 : Fin k0_t7_loop.trips) : ClosedOff (k0_off80 k0_t1 k0_t4 k0_t7) := ⟨_, off80_eq k0_t1 k0_t4 k0_t7⟩
theorem off81_eq (k0_t1 : Fin k0_t1_loop.trips) (k0_t4 : Fin k0_t4_loop.trips) (k0_t7 : Fin k0_t7_loop.trips) : k0_off81 k0_t1 k0_t4 k0_t7 = ![(Ring.sl 8 (14 * k0_t1.val + k0_t4.val)).val, k0_t7.val * 256 + 192, 1408] := tile_off k0_t1 k0_t4 k0_t7 192 1408
instance (k0_t1 : Fin k0_t1_loop.trips) (k0_t4 : Fin k0_t4_loop.trips) (k0_t7 : Fin k0_t7_loop.trips) : ClosedOff (k0_off81 k0_t1 k0_t4 k0_t7) := ⟨_, off81_eq k0_t1 k0_t4 k0_t7⟩
theorem off82_eq (k0_t1 : Fin k0_t1_loop.trips) (k0_t4 : Fin k0_t4_loop.trips) (k0_t7 : Fin k0_t7_loop.trips) : k0_off82 k0_t1 k0_t4 k0_t7 = ![(Ring.sl 8 (14 * k0_t1.val + k0_t4.val)).val, k0_t7.val * 256 + 0, 1536] := tile_off0 k0_t1 k0_t4 k0_t7 1536
instance (k0_t1 : Fin k0_t1_loop.trips) (k0_t4 : Fin k0_t4_loop.trips) (k0_t7 : Fin k0_t7_loop.trips) : ClosedOff (k0_off82 k0_t1 k0_t4 k0_t7) := ⟨_, off82_eq k0_t1 k0_t4 k0_t7⟩
theorem off83_eq (k0_t1 : Fin k0_t1_loop.trips) (k0_t4 : Fin k0_t4_loop.trips) (k0_t7 : Fin k0_t7_loop.trips) : k0_off83 k0_t1 k0_t4 k0_t7 = ![(Ring.sl 8 (14 * k0_t1.val + k0_t4.val)).val, k0_t7.val * 256 + 64, 1536] := tile_off k0_t1 k0_t4 k0_t7 64 1536
instance (k0_t1 : Fin k0_t1_loop.trips) (k0_t4 : Fin k0_t4_loop.trips) (k0_t7 : Fin k0_t7_loop.trips) : ClosedOff (k0_off83 k0_t1 k0_t4 k0_t7) := ⟨_, off83_eq k0_t1 k0_t4 k0_t7⟩
theorem off84_eq (k0_t1 : Fin k0_t1_loop.trips) (k0_t4 : Fin k0_t4_loop.trips) (k0_t7 : Fin k0_t7_loop.trips) : k0_off84 k0_t1 k0_t4 k0_t7 = ![(Ring.sl 8 (14 * k0_t1.val + k0_t4.val)).val, k0_t7.val * 256 + 128, 1536] := tile_off k0_t1 k0_t4 k0_t7 128 1536
instance (k0_t1 : Fin k0_t1_loop.trips) (k0_t4 : Fin k0_t4_loop.trips) (k0_t7 : Fin k0_t7_loop.trips) : ClosedOff (k0_off84 k0_t1 k0_t4 k0_t7) := ⟨_, off84_eq k0_t1 k0_t4 k0_t7⟩
theorem off85_eq (k0_t1 : Fin k0_t1_loop.trips) (k0_t4 : Fin k0_t4_loop.trips) (k0_t7 : Fin k0_t7_loop.trips) : k0_off85 k0_t1 k0_t4 k0_t7 = ![(Ring.sl 8 (14 * k0_t1.val + k0_t4.val)).val, k0_t7.val * 256 + 192, 1536] := tile_off k0_t1 k0_t4 k0_t7 192 1536
instance (k0_t1 : Fin k0_t1_loop.trips) (k0_t4 : Fin k0_t4_loop.trips) (k0_t7 : Fin k0_t7_loop.trips) : ClosedOff (k0_off85 k0_t1 k0_t4 k0_t7) := ⟨_, off85_eq k0_t1 k0_t4 k0_t7⟩
theorem off86_eq (k0_t1 : Fin k0_t1_loop.trips) (k0_t4 : Fin k0_t4_loop.trips) (k0_t7 : Fin k0_t7_loop.trips) : k0_off86 k0_t1 k0_t4 k0_t7 = ![(Ring.sl 8 (14 * k0_t1.val + k0_t4.val)).val, k0_t7.val * 256 + 0, 1664] := tile_off0 k0_t1 k0_t4 k0_t7 1664
instance (k0_t1 : Fin k0_t1_loop.trips) (k0_t4 : Fin k0_t4_loop.trips) (k0_t7 : Fin k0_t7_loop.trips) : ClosedOff (k0_off86 k0_t1 k0_t4 k0_t7) := ⟨_, off86_eq k0_t1 k0_t4 k0_t7⟩
theorem off87_eq (k0_t1 : Fin k0_t1_loop.trips) (k0_t4 : Fin k0_t4_loop.trips) (k0_t7 : Fin k0_t7_loop.trips) : k0_off87 k0_t1 k0_t4 k0_t7 = ![(Ring.sl 8 (14 * k0_t1.val + k0_t4.val)).val, k0_t7.val * 256 + 64, 1664] := tile_off k0_t1 k0_t4 k0_t7 64 1664
instance (k0_t1 : Fin k0_t1_loop.trips) (k0_t4 : Fin k0_t4_loop.trips) (k0_t7 : Fin k0_t7_loop.trips) : ClosedOff (k0_off87 k0_t1 k0_t4 k0_t7) := ⟨_, off87_eq k0_t1 k0_t4 k0_t7⟩
theorem off88_eq (k0_t1 : Fin k0_t1_loop.trips) (k0_t4 : Fin k0_t4_loop.trips) (k0_t7 : Fin k0_t7_loop.trips) : k0_off88 k0_t1 k0_t4 k0_t7 = ![(Ring.sl 8 (14 * k0_t1.val + k0_t4.val)).val, k0_t7.val * 256 + 128, 1664] := tile_off k0_t1 k0_t4 k0_t7 128 1664
instance (k0_t1 : Fin k0_t1_loop.trips) (k0_t4 : Fin k0_t4_loop.trips) (k0_t7 : Fin k0_t7_loop.trips) : ClosedOff (k0_off88 k0_t1 k0_t4 k0_t7) := ⟨_, off88_eq k0_t1 k0_t4 k0_t7⟩
theorem off89_eq (k0_t1 : Fin k0_t1_loop.trips) (k0_t4 : Fin k0_t4_loop.trips) (k0_t7 : Fin k0_t7_loop.trips) : k0_off89 k0_t1 k0_t4 k0_t7 = ![(Ring.sl 8 (14 * k0_t1.val + k0_t4.val)).val, k0_t7.val * 256 + 192, 1664] := tile_off k0_t1 k0_t4 k0_t7 192 1664
instance (k0_t1 : Fin k0_t1_loop.trips) (k0_t4 : Fin k0_t4_loop.trips) (k0_t7 : Fin k0_t7_loop.trips) : ClosedOff (k0_off89 k0_t1 k0_t4 k0_t7) := ⟨_, off89_eq k0_t1 k0_t4 k0_t7⟩
theorem off90_eq (k0_t1 : Fin k0_t1_loop.trips) (k0_t4 : Fin k0_t4_loop.trips) (k0_t7 : Fin k0_t7_loop.trips) : k0_off90 k0_t1 k0_t4 k0_t7 = ![(Ring.sl 8 (14 * k0_t1.val + k0_t4.val)).val, k0_t7.val * 256 + 0, 1792] := tile_off0 k0_t1 k0_t4 k0_t7 1792
instance (k0_t1 : Fin k0_t1_loop.trips) (k0_t4 : Fin k0_t4_loop.trips) (k0_t7 : Fin k0_t7_loop.trips) : ClosedOff (k0_off90 k0_t1 k0_t4 k0_t7) := ⟨_, off90_eq k0_t1 k0_t4 k0_t7⟩
theorem off91_eq (k0_t1 : Fin k0_t1_loop.trips) (k0_t4 : Fin k0_t4_loop.trips) (k0_t7 : Fin k0_t7_loop.trips) : k0_off91 k0_t1 k0_t4 k0_t7 = ![(Ring.sl 8 (14 * k0_t1.val + k0_t4.val)).val, k0_t7.val * 256 + 64, 1792] := tile_off k0_t1 k0_t4 k0_t7 64 1792
instance (k0_t1 : Fin k0_t1_loop.trips) (k0_t4 : Fin k0_t4_loop.trips) (k0_t7 : Fin k0_t7_loop.trips) : ClosedOff (k0_off91 k0_t1 k0_t4 k0_t7) := ⟨_, off91_eq k0_t1 k0_t4 k0_t7⟩
theorem off92_eq (k0_t1 : Fin k0_t1_loop.trips) (k0_t4 : Fin k0_t4_loop.trips) (k0_t7 : Fin k0_t7_loop.trips) : k0_off92 k0_t1 k0_t4 k0_t7 = ![(Ring.sl 8 (14 * k0_t1.val + k0_t4.val)).val, k0_t7.val * 256 + 128, 1792] := tile_off k0_t1 k0_t4 k0_t7 128 1792
instance (k0_t1 : Fin k0_t1_loop.trips) (k0_t4 : Fin k0_t4_loop.trips) (k0_t7 : Fin k0_t7_loop.trips) : ClosedOff (k0_off92 k0_t1 k0_t4 k0_t7) := ⟨_, off92_eq k0_t1 k0_t4 k0_t7⟩
theorem off93_eq (k0_t1 : Fin k0_t1_loop.trips) (k0_t4 : Fin k0_t4_loop.trips) (k0_t7 : Fin k0_t7_loop.trips) : k0_off93 k0_t1 k0_t4 k0_t7 = ![(Ring.sl 8 (14 * k0_t1.val + k0_t4.val)).val, k0_t7.val * 256 + 192, 1792] := tile_off k0_t1 k0_t4 k0_t7 192 1792
instance (k0_t1 : Fin k0_t1_loop.trips) (k0_t4 : Fin k0_t4_loop.trips) (k0_t7 : Fin k0_t7_loop.trips) : ClosedOff (k0_off93 k0_t1 k0_t4 k0_t7) := ⟨_, off93_eq k0_t1 k0_t4 k0_t7⟩
theorem off94_eq (k0_t1 : Fin k0_t1_loop.trips) (k0_t4 : Fin k0_t4_loop.trips) (k0_t7 : Fin k0_t7_loop.trips) : k0_off94 k0_t1 k0_t4 k0_t7 = ![(Ring.sl 8 (14 * k0_t1.val + k0_t4.val)).val, k0_t7.val * 256 + 0, 1920] := tile_off0 k0_t1 k0_t4 k0_t7 1920
instance (k0_t1 : Fin k0_t1_loop.trips) (k0_t4 : Fin k0_t4_loop.trips) (k0_t7 : Fin k0_t7_loop.trips) : ClosedOff (k0_off94 k0_t1 k0_t4 k0_t7) := ⟨_, off94_eq k0_t1 k0_t4 k0_t7⟩
theorem off95_eq (k0_t1 : Fin k0_t1_loop.trips) (k0_t4 : Fin k0_t4_loop.trips) (k0_t7 : Fin k0_t7_loop.trips) : k0_off95 k0_t1 k0_t4 k0_t7 = ![(Ring.sl 8 (14 * k0_t1.val + k0_t4.val)).val, k0_t7.val * 256 + 64, 1920] := tile_off k0_t1 k0_t4 k0_t7 64 1920
instance (k0_t1 : Fin k0_t1_loop.trips) (k0_t4 : Fin k0_t4_loop.trips) (k0_t7 : Fin k0_t7_loop.trips) : ClosedOff (k0_off95 k0_t1 k0_t4 k0_t7) := ⟨_, off95_eq k0_t1 k0_t4 k0_t7⟩
theorem off96_eq (k0_t1 : Fin k0_t1_loop.trips) (k0_t4 : Fin k0_t4_loop.trips) (k0_t7 : Fin k0_t7_loop.trips) : k0_off96 k0_t1 k0_t4 k0_t7 = ![(Ring.sl 8 (14 * k0_t1.val + k0_t4.val)).val, k0_t7.val * 256 + 128, 1920] := tile_off k0_t1 k0_t4 k0_t7 128 1920
instance (k0_t1 : Fin k0_t1_loop.trips) (k0_t4 : Fin k0_t4_loop.trips) (k0_t7 : Fin k0_t7_loop.trips) : ClosedOff (k0_off96 k0_t1 k0_t4 k0_t7) := ⟨_, off96_eq k0_t1 k0_t4 k0_t7⟩
theorem off97_eq (k0_t1 : Fin k0_t1_loop.trips) (k0_t4 : Fin k0_t4_loop.trips) (k0_t7 : Fin k0_t7_loop.trips) : k0_off97 k0_t1 k0_t4 k0_t7 = ![(Ring.sl 8 (14 * k0_t1.val + k0_t4.val)).val, k0_t7.val * 256 + 192, 1920] := tile_off k0_t1 k0_t4 k0_t7 192 1920
instance (k0_t1 : Fin k0_t1_loop.trips) (k0_t4 : Fin k0_t4_loop.trips) (k0_t7 : Fin k0_t7_loop.trips) : ClosedOff (k0_off97 k0_t1 k0_t4 k0_t7) := ⟨_, off97_eq k0_t1 k0_t4 k0_t7⟩
theorem off98_eq (k0_t1 : Fin k0_t1_loop.trips) (k0_t4 : Fin k0_t4_loop.trips) (k0_t7 : Fin k0_t7_loop.trips) : k0_off98 k0_t1 k0_t4 k0_t7 = ![(Ring.sl 8 (14 * k0_t1.val + k0_t4.val)).val, k0_t7.val * 256 + 0, 2048] := tile_off0 k0_t1 k0_t4 k0_t7 2048
instance (k0_t1 : Fin k0_t1_loop.trips) (k0_t4 : Fin k0_t4_loop.trips) (k0_t7 : Fin k0_t7_loop.trips) : ClosedOff (k0_off98 k0_t1 k0_t4 k0_t7) := ⟨_, off98_eq k0_t1 k0_t4 k0_t7⟩
theorem off99_eq (k0_t1 : Fin k0_t1_loop.trips) (k0_t4 : Fin k0_t4_loop.trips) (k0_t7 : Fin k0_t7_loop.trips) : k0_off99 k0_t1 k0_t4 k0_t7 = ![(Ring.sl 8 (14 * k0_t1.val + k0_t4.val)).val, k0_t7.val * 256 + 64, 2048] := tile_off k0_t1 k0_t4 k0_t7 64 2048
instance (k0_t1 : Fin k0_t1_loop.trips) (k0_t4 : Fin k0_t4_loop.trips) (k0_t7 : Fin k0_t7_loop.trips) : ClosedOff (k0_off99 k0_t1 k0_t4 k0_t7) := ⟨_, off99_eq k0_t1 k0_t4 k0_t7⟩
theorem off100_eq (k0_t1 : Fin k0_t1_loop.trips) (k0_t4 : Fin k0_t4_loop.trips) (k0_t7 : Fin k0_t7_loop.trips) : k0_off100 k0_t1 k0_t4 k0_t7 = ![(Ring.sl 8 (14 * k0_t1.val + k0_t4.val)).val, k0_t7.val * 256 + 128, 2048] := tile_off k0_t1 k0_t4 k0_t7 128 2048
instance (k0_t1 : Fin k0_t1_loop.trips) (k0_t4 : Fin k0_t4_loop.trips) (k0_t7 : Fin k0_t7_loop.trips) : ClosedOff (k0_off100 k0_t1 k0_t4 k0_t7) := ⟨_, off100_eq k0_t1 k0_t4 k0_t7⟩
theorem off101_eq (k0_t1 : Fin k0_t1_loop.trips) (k0_t4 : Fin k0_t4_loop.trips) (k0_t7 : Fin k0_t7_loop.trips) : k0_off101 k0_t1 k0_t4 k0_t7 = ![(Ring.sl 8 (14 * k0_t1.val + k0_t4.val)).val, k0_t7.val * 256 + 192, 2048] := tile_off k0_t1 k0_t4 k0_t7 192 2048
instance (k0_t1 : Fin k0_t1_loop.trips) (k0_t4 : Fin k0_t4_loop.trips) (k0_t7 : Fin k0_t7_loop.trips) : ClosedOff (k0_off101 k0_t1 k0_t4 k0_t7) := ⟨_, off101_eq k0_t1 k0_t4 k0_t7⟩
theorem off102_eq (k0_t1 : Fin k0_t1_loop.trips) (k0_t4 : Fin k0_t4_loop.trips) (k0_t7 : Fin k0_t7_loop.trips) : k0_off102 k0_t1 k0_t4 k0_t7 = ![(Ring.sl 8 (14 * k0_t1.val + k0_t4.val)).val, k0_t7.val * 256 + 0, 2176] := tile_off0 k0_t1 k0_t4 k0_t7 2176
instance (k0_t1 : Fin k0_t1_loop.trips) (k0_t4 : Fin k0_t4_loop.trips) (k0_t7 : Fin k0_t7_loop.trips) : ClosedOff (k0_off102 k0_t1 k0_t4 k0_t7) := ⟨_, off102_eq k0_t1 k0_t4 k0_t7⟩
theorem off103_eq (k0_t1 : Fin k0_t1_loop.trips) (k0_t4 : Fin k0_t4_loop.trips) (k0_t7 : Fin k0_t7_loop.trips) : k0_off103 k0_t1 k0_t4 k0_t7 = ![(Ring.sl 8 (14 * k0_t1.val + k0_t4.val)).val, k0_t7.val * 256 + 64, 2176] := tile_off k0_t1 k0_t4 k0_t7 64 2176
instance (k0_t1 : Fin k0_t1_loop.trips) (k0_t4 : Fin k0_t4_loop.trips) (k0_t7 : Fin k0_t7_loop.trips) : ClosedOff (k0_off103 k0_t1 k0_t4 k0_t7) := ⟨_, off103_eq k0_t1 k0_t4 k0_t7⟩
theorem off104_eq (k0_t1 : Fin k0_t1_loop.trips) (k0_t4 : Fin k0_t4_loop.trips) (k0_t7 : Fin k0_t7_loop.trips) : k0_off104 k0_t1 k0_t4 k0_t7 = ![(Ring.sl 8 (14 * k0_t1.val + k0_t4.val)).val, k0_t7.val * 256 + 128, 2176] := tile_off k0_t1 k0_t4 k0_t7 128 2176
instance (k0_t1 : Fin k0_t1_loop.trips) (k0_t4 : Fin k0_t4_loop.trips) (k0_t7 : Fin k0_t7_loop.trips) : ClosedOff (k0_off104 k0_t1 k0_t4 k0_t7) := ⟨_, off104_eq k0_t1 k0_t4 k0_t7⟩
theorem off105_eq (k0_t1 : Fin k0_t1_loop.trips) (k0_t4 : Fin k0_t4_loop.trips) (k0_t7 : Fin k0_t7_loop.trips) : k0_off105 k0_t1 k0_t4 k0_t7 = ![(Ring.sl 8 (14 * k0_t1.val + k0_t4.val)).val, k0_t7.val * 256 + 192, 2176] := tile_off k0_t1 k0_t4 k0_t7 192 2176
instance (k0_t1 : Fin k0_t1_loop.trips) (k0_t4 : Fin k0_t4_loop.trips) (k0_t7 : Fin k0_t7_loop.trips) : ClosedOff (k0_off105 k0_t1 k0_t4 k0_t7) := ⟨_, off105_eq k0_t1 k0_t4 k0_t7⟩
theorem off106_eq (k0_t1 : Fin k0_t1_loop.trips) (k0_t4 : Fin k0_t4_loop.trips) (k0_t7 : Fin k0_t7_loop.trips) : k0_off106 k0_t1 k0_t4 k0_t7 = ![(Ring.sl 8 (14 * k0_t1.val + k0_t4.val)).val, k0_t7.val * 256 + 0, 2304] := tile_off0 k0_t1 k0_t4 k0_t7 2304
instance (k0_t1 : Fin k0_t1_loop.trips) (k0_t4 : Fin k0_t4_loop.trips) (k0_t7 : Fin k0_t7_loop.trips) : ClosedOff (k0_off106 k0_t1 k0_t4 k0_t7) := ⟨_, off106_eq k0_t1 k0_t4 k0_t7⟩
theorem off107_eq (k0_t1 : Fin k0_t1_loop.trips) (k0_t4 : Fin k0_t4_loop.trips) (k0_t7 : Fin k0_t7_loop.trips) : k0_off107 k0_t1 k0_t4 k0_t7 = ![(Ring.sl 8 (14 * k0_t1.val + k0_t4.val)).val, k0_t7.val * 256 + 64, 2304] := tile_off k0_t1 k0_t4 k0_t7 64 2304
instance (k0_t1 : Fin k0_t1_loop.trips) (k0_t4 : Fin k0_t4_loop.trips) (k0_t7 : Fin k0_t7_loop.trips) : ClosedOff (k0_off107 k0_t1 k0_t4 k0_t7) := ⟨_, off107_eq k0_t1 k0_t4 k0_t7⟩
theorem off108_eq (k0_t1 : Fin k0_t1_loop.trips) (k0_t4 : Fin k0_t4_loop.trips) (k0_t7 : Fin k0_t7_loop.trips) : k0_off108 k0_t1 k0_t4 k0_t7 = ![(Ring.sl 8 (14 * k0_t1.val + k0_t4.val)).val, k0_t7.val * 256 + 128, 2304] := tile_off k0_t1 k0_t4 k0_t7 128 2304
instance (k0_t1 : Fin k0_t1_loop.trips) (k0_t4 : Fin k0_t4_loop.trips) (k0_t7 : Fin k0_t7_loop.trips) : ClosedOff (k0_off108 k0_t1 k0_t4 k0_t7) := ⟨_, off108_eq k0_t1 k0_t4 k0_t7⟩
theorem off109_eq (k0_t1 : Fin k0_t1_loop.trips) (k0_t4 : Fin k0_t4_loop.trips) (k0_t7 : Fin k0_t7_loop.trips) : k0_off109 k0_t1 k0_t4 k0_t7 = ![(Ring.sl 8 (14 * k0_t1.val + k0_t4.val)).val, k0_t7.val * 256 + 192, 2304] := tile_off k0_t1 k0_t4 k0_t7 192 2304
instance (k0_t1 : Fin k0_t1_loop.trips) (k0_t4 : Fin k0_t4_loop.trips) (k0_t7 : Fin k0_t7_loop.trips) : ClosedOff (k0_off109 k0_t1 k0_t4 k0_t7) := ⟨_, off109_eq k0_t1 k0_t4 k0_t7⟩
theorem off110_eq (k0_t1 : Fin k0_t1_loop.trips) (k0_t4 : Fin k0_t4_loop.trips) (k0_t7 : Fin k0_t7_loop.trips) : k0_off110 k0_t1 k0_t4 k0_t7 = ![(Ring.sl 8 (14 * k0_t1.val + k0_t4.val)).val, k0_t7.val * 256 + 0, 2432] := tile_off0 k0_t1 k0_t4 k0_t7 2432
instance (k0_t1 : Fin k0_t1_loop.trips) (k0_t4 : Fin k0_t4_loop.trips) (k0_t7 : Fin k0_t7_loop.trips) : ClosedOff (k0_off110 k0_t1 k0_t4 k0_t7) := ⟨_, off110_eq k0_t1 k0_t4 k0_t7⟩
theorem off111_eq (k0_t1 : Fin k0_t1_loop.trips) (k0_t4 : Fin k0_t4_loop.trips) (k0_t7 : Fin k0_t7_loop.trips) : k0_off111 k0_t1 k0_t4 k0_t7 = ![(Ring.sl 8 (14 * k0_t1.val + k0_t4.val)).val, k0_t7.val * 256 + 64, 2432] := tile_off k0_t1 k0_t4 k0_t7 64 2432
instance (k0_t1 : Fin k0_t1_loop.trips) (k0_t4 : Fin k0_t4_loop.trips) (k0_t7 : Fin k0_t7_loop.trips) : ClosedOff (k0_off111 k0_t1 k0_t4 k0_t7) := ⟨_, off111_eq k0_t1 k0_t4 k0_t7⟩
theorem off112_eq (k0_t1 : Fin k0_t1_loop.trips) (k0_t4 : Fin k0_t4_loop.trips) (k0_t7 : Fin k0_t7_loop.trips) : k0_off112 k0_t1 k0_t4 k0_t7 = ![(Ring.sl 8 (14 * k0_t1.val + k0_t4.val)).val, k0_t7.val * 256 + 128, 2432] := tile_off k0_t1 k0_t4 k0_t7 128 2432
instance (k0_t1 : Fin k0_t1_loop.trips) (k0_t4 : Fin k0_t4_loop.trips) (k0_t7 : Fin k0_t7_loop.trips) : ClosedOff (k0_off112 k0_t1 k0_t4 k0_t7) := ⟨_, off112_eq k0_t1 k0_t4 k0_t7⟩
theorem off113_eq (k0_t1 : Fin k0_t1_loop.trips) (k0_t4 : Fin k0_t4_loop.trips) (k0_t7 : Fin k0_t7_loop.trips) : k0_off113 k0_t1 k0_t4 k0_t7 = ![(Ring.sl 8 (14 * k0_t1.val + k0_t4.val)).val, k0_t7.val * 256 + 192, 2432] := tile_off k0_t1 k0_t4 k0_t7 192 2432
instance (k0_t1 : Fin k0_t1_loop.trips) (k0_t4 : Fin k0_t4_loop.trips) (k0_t7 : Fin k0_t7_loop.trips) : ClosedOff (k0_off113 k0_t1 k0_t4 k0_t7) := ⟨_, off113_eq k0_t1 k0_t4 k0_t7⟩
theorem off114_eq (k0_t1 : Fin k0_t1_loop.trips) (k0_t4 : Fin k0_t4_loop.trips) (k0_t7 : Fin k0_t7_loop.trips) : k0_off114 k0_t1 k0_t4 k0_t7 = ![(Ring.sl 8 (14 * k0_t1.val + k0_t4.val)).val, k0_t7.val * 256 + 0, 2560] := tile_off0 k0_t1 k0_t4 k0_t7 2560
instance (k0_t1 : Fin k0_t1_loop.trips) (k0_t4 : Fin k0_t4_loop.trips) (k0_t7 : Fin k0_t7_loop.trips) : ClosedOff (k0_off114 k0_t1 k0_t4 k0_t7) := ⟨_, off114_eq k0_t1 k0_t4 k0_t7⟩
theorem off115_eq (k0_t1 : Fin k0_t1_loop.trips) (k0_t4 : Fin k0_t4_loop.trips) (k0_t7 : Fin k0_t7_loop.trips) : k0_off115 k0_t1 k0_t4 k0_t7 = ![(Ring.sl 8 (14 * k0_t1.val + k0_t4.val)).val, k0_t7.val * 256 + 64, 2560] := tile_off k0_t1 k0_t4 k0_t7 64 2560
instance (k0_t1 : Fin k0_t1_loop.trips) (k0_t4 : Fin k0_t4_loop.trips) (k0_t7 : Fin k0_t7_loop.trips) : ClosedOff (k0_off115 k0_t1 k0_t4 k0_t7) := ⟨_, off115_eq k0_t1 k0_t4 k0_t7⟩
theorem off116_eq (k0_t1 : Fin k0_t1_loop.trips) (k0_t4 : Fin k0_t4_loop.trips) (k0_t7 : Fin k0_t7_loop.trips) : k0_off116 k0_t1 k0_t4 k0_t7 = ![(Ring.sl 8 (14 * k0_t1.val + k0_t4.val)).val, k0_t7.val * 256 + 128, 2560] := tile_off k0_t1 k0_t4 k0_t7 128 2560
instance (k0_t1 : Fin k0_t1_loop.trips) (k0_t4 : Fin k0_t4_loop.trips) (k0_t7 : Fin k0_t7_loop.trips) : ClosedOff (k0_off116 k0_t1 k0_t4 k0_t7) := ⟨_, off116_eq k0_t1 k0_t4 k0_t7⟩
theorem off117_eq (k0_t1 : Fin k0_t1_loop.trips) (k0_t4 : Fin k0_t4_loop.trips) (k0_t7 : Fin k0_t7_loop.trips) : k0_off117 k0_t1 k0_t4 k0_t7 = ![(Ring.sl 8 (14 * k0_t1.val + k0_t4.val)).val, k0_t7.val * 256 + 192, 2560] := tile_off k0_t1 k0_t4 k0_t7 192 2560
instance (k0_t1 : Fin k0_t1_loop.trips) (k0_t4 : Fin k0_t4_loop.trips) (k0_t7 : Fin k0_t7_loop.trips) : ClosedOff (k0_off117 k0_t1 k0_t4 k0_t7) := ⟨_, off117_eq k0_t1 k0_t4 k0_t7⟩
theorem off118_eq (k0_t1 : Fin k0_t1_loop.trips) (k0_t4 : Fin k0_t4_loop.trips) (k0_t7 : Fin k0_t7_loop.trips) : k0_off118 k0_t1 k0_t4 k0_t7 = ![(Ring.sl 8 (14 * k0_t1.val + k0_t4.val)).val, k0_t7.val * 256 + 0, 2688] := tile_off0 k0_t1 k0_t4 k0_t7 2688
instance (k0_t1 : Fin k0_t1_loop.trips) (k0_t4 : Fin k0_t4_loop.trips) (k0_t7 : Fin k0_t7_loop.trips) : ClosedOff (k0_off118 k0_t1 k0_t4 k0_t7) := ⟨_, off118_eq k0_t1 k0_t4 k0_t7⟩
theorem off119_eq (k0_t1 : Fin k0_t1_loop.trips) (k0_t4 : Fin k0_t4_loop.trips) (k0_t7 : Fin k0_t7_loop.trips) : k0_off119 k0_t1 k0_t4 k0_t7 = ![(Ring.sl 8 (14 * k0_t1.val + k0_t4.val)).val, k0_t7.val * 256 + 64, 2688] := tile_off k0_t1 k0_t4 k0_t7 64 2688
instance (k0_t1 : Fin k0_t1_loop.trips) (k0_t4 : Fin k0_t4_loop.trips) (k0_t7 : Fin k0_t7_loop.trips) : ClosedOff (k0_off119 k0_t1 k0_t4 k0_t7) := ⟨_, off119_eq k0_t1 k0_t4 k0_t7⟩
theorem off120_eq (k0_t1 : Fin k0_t1_loop.trips) (k0_t4 : Fin k0_t4_loop.trips) (k0_t7 : Fin k0_t7_loop.trips) : k0_off120 k0_t1 k0_t4 k0_t7 = ![(Ring.sl 8 (14 * k0_t1.val + k0_t4.val)).val, k0_t7.val * 256 + 128, 2688] := tile_off k0_t1 k0_t4 k0_t7 128 2688
instance (k0_t1 : Fin k0_t1_loop.trips) (k0_t4 : Fin k0_t4_loop.trips) (k0_t7 : Fin k0_t7_loop.trips) : ClosedOff (k0_off120 k0_t1 k0_t4 k0_t7) := ⟨_, off120_eq k0_t1 k0_t4 k0_t7⟩
theorem off121_eq (k0_t1 : Fin k0_t1_loop.trips) (k0_t4 : Fin k0_t4_loop.trips) (k0_t7 : Fin k0_t7_loop.trips) : k0_off121 k0_t1 k0_t4 k0_t7 = ![(Ring.sl 8 (14 * k0_t1.val + k0_t4.val)).val, k0_t7.val * 256 + 192, 2688] := tile_off k0_t1 k0_t4 k0_t7 192 2688
instance (k0_t1 : Fin k0_t1_loop.trips) (k0_t4 : Fin k0_t4_loop.trips) (k0_t7 : Fin k0_t7_loop.trips) : ClosedOff (k0_off121 k0_t1 k0_t4 k0_t7) := ⟨_, off121_eq k0_t1 k0_t4 k0_t7⟩
theorem off122_eq (k0_t1 : Fin k0_t1_loop.trips) (k0_t4 : Fin k0_t4_loop.trips) (k0_t7 : Fin k0_t7_loop.trips) : k0_off122 k0_t1 k0_t4 k0_t7 = ![(Ring.sl 8 (14 * k0_t1.val + k0_t4.val)).val, k0_t7.val * 256 + 0, 2816] := tile_off0 k0_t1 k0_t4 k0_t7 2816
instance (k0_t1 : Fin k0_t1_loop.trips) (k0_t4 : Fin k0_t4_loop.trips) (k0_t7 : Fin k0_t7_loop.trips) : ClosedOff (k0_off122 k0_t1 k0_t4 k0_t7) := ⟨_, off122_eq k0_t1 k0_t4 k0_t7⟩
theorem off123_eq (k0_t1 : Fin k0_t1_loop.trips) (k0_t4 : Fin k0_t4_loop.trips) (k0_t7 : Fin k0_t7_loop.trips) : k0_off123 k0_t1 k0_t4 k0_t7 = ![(Ring.sl 8 (14 * k0_t1.val + k0_t4.val)).val, k0_t7.val * 256 + 64, 2816] := tile_off k0_t1 k0_t4 k0_t7 64 2816
instance (k0_t1 : Fin k0_t1_loop.trips) (k0_t4 : Fin k0_t4_loop.trips) (k0_t7 : Fin k0_t7_loop.trips) : ClosedOff (k0_off123 k0_t1 k0_t4 k0_t7) := ⟨_, off123_eq k0_t1 k0_t4 k0_t7⟩
theorem off124_eq (k0_t1 : Fin k0_t1_loop.trips) (k0_t4 : Fin k0_t4_loop.trips) (k0_t7 : Fin k0_t7_loop.trips) : k0_off124 k0_t1 k0_t4 k0_t7 = ![(Ring.sl 8 (14 * k0_t1.val + k0_t4.val)).val, k0_t7.val * 256 + 128, 2816] := tile_off k0_t1 k0_t4 k0_t7 128 2816
instance (k0_t1 : Fin k0_t1_loop.trips) (k0_t4 : Fin k0_t4_loop.trips) (k0_t7 : Fin k0_t7_loop.trips) : ClosedOff (k0_off124 k0_t1 k0_t4 k0_t7) := ⟨_, off124_eq k0_t1 k0_t4 k0_t7⟩
theorem off125_eq (k0_t1 : Fin k0_t1_loop.trips) (k0_t4 : Fin k0_t4_loop.trips) (k0_t7 : Fin k0_t7_loop.trips) : k0_off125 k0_t1 k0_t4 k0_t7 = ![(Ring.sl 8 (14 * k0_t1.val + k0_t4.val)).val, k0_t7.val * 256 + 192, 2816] := tile_off k0_t1 k0_t4 k0_t7 192 2816
instance (k0_t1 : Fin k0_t1_loop.trips) (k0_t4 : Fin k0_t4_loop.trips) (k0_t7 : Fin k0_t7_loop.trips) : ClosedOff (k0_off125 k0_t1 k0_t4 k0_t7) := ⟨_, off125_eq k0_t1 k0_t4 k0_t7⟩
theorem off126_eq (k0_t1 : Fin k0_t1_loop.trips) (k0_t4 : Fin k0_t4_loop.trips) (k0_t7 : Fin k0_t7_loop.trips) : k0_off126 k0_t1 k0_t4 k0_t7 = ![(Ring.sl 8 (14 * k0_t1.val + k0_t4.val)).val, k0_t7.val * 256 + 0, 2944] := tile_off0 k0_t1 k0_t4 k0_t7 2944
instance (k0_t1 : Fin k0_t1_loop.trips) (k0_t4 : Fin k0_t4_loop.trips) (k0_t7 : Fin k0_t7_loop.trips) : ClosedOff (k0_off126 k0_t1 k0_t4 k0_t7) := ⟨_, off126_eq k0_t1 k0_t4 k0_t7⟩
theorem off127_eq (k0_t1 : Fin k0_t1_loop.trips) (k0_t4 : Fin k0_t4_loop.trips) (k0_t7 : Fin k0_t7_loop.trips) : k0_off127 k0_t1 k0_t4 k0_t7 = ![(Ring.sl 8 (14 * k0_t1.val + k0_t4.val)).val, k0_t7.val * 256 + 64, 2944] := tile_off k0_t1 k0_t4 k0_t7 64 2944
instance (k0_t1 : Fin k0_t1_loop.trips) (k0_t4 : Fin k0_t4_loop.trips) (k0_t7 : Fin k0_t7_loop.trips) : ClosedOff (k0_off127 k0_t1 k0_t4 k0_t7) := ⟨_, off127_eq k0_t1 k0_t4 k0_t7⟩
theorem off128_eq (k0_t1 : Fin k0_t1_loop.trips) (k0_t4 : Fin k0_t4_loop.trips) (k0_t7 : Fin k0_t7_loop.trips) : k0_off128 k0_t1 k0_t4 k0_t7 = ![(Ring.sl 8 (14 * k0_t1.val + k0_t4.val)).val, k0_t7.val * 256 + 128, 2944] := tile_off k0_t1 k0_t4 k0_t7 128 2944
instance (k0_t1 : Fin k0_t1_loop.trips) (k0_t4 : Fin k0_t4_loop.trips) (k0_t7 : Fin k0_t7_loop.trips) : ClosedOff (k0_off128 k0_t1 k0_t4 k0_t7) := ⟨_, off128_eq k0_t1 k0_t4 k0_t7⟩
theorem off129_eq (k0_t1 : Fin k0_t1_loop.trips) (k0_t4 : Fin k0_t4_loop.trips) (k0_t7 : Fin k0_t7_loop.trips) : k0_off129 k0_t1 k0_t4 k0_t7 = ![(Ring.sl 8 (14 * k0_t1.val + k0_t4.val)).val, k0_t7.val * 256 + 192, 2944] := tile_off k0_t1 k0_t4 k0_t7 192 2944
instance (k0_t1 : Fin k0_t1_loop.trips) (k0_t4 : Fin k0_t4_loop.trips) (k0_t7 : Fin k0_t7_loop.trips) : ClosedOff (k0_off129 k0_t1 k0_t4 k0_t7) := ⟨_, off129_eq k0_t1 k0_t4 k0_t7⟩

end Cert.Proof.KernelIdealP
-- ==== Proof.KernelIdeal.Pieces.lean ====
/-
  PIECES. What the run holds of each buffer: blocks of the arrays in HBM, slots of the two rings, semaphore cells at
  zero, and copies in flight. A block of the packed weights and the output block the kernel makes of it are related by
  `tile`: byte `(i, j)` of the output joins the four-bit codes at row `j / 2`, columns `2 i` and `2 i + 1` of the
  input block (the low codes for even `j`, the high codes for odd `j`).
-/
module

public import proofs.«01_k».proof.Proof.KernelIdeal.Names

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

abbrev 𝒱₀ : Variants := Variants.none

/-- The four-bit code of a byte: its low half for an even `j`, its high half for an odd one. -/
def nib (j : Nat) (b : BitVec 8) : BitVec 8 := if j % 2 = 0 then b &&& 15#8 else b >>> 4
/-- Two codes joined, the first in the low half. -/
def join (lo hi : BitVec 8) : BitVec 8 := lo ||| (hi <<< 4)
/-- The index of an input block's element at row `r`, column `q`. -/
def iix (r q : Nat) (hr : r < 1536) (hq : q < 2048) : S1536x2048.Idx
  | ⟨0, _⟩ => ⟨r, hr⟩
  | ⟨1, _⟩ => ⟨q, hq⟩
/-- The output block made of the input block `B`. -/
def tile (B : S1536x2048.Idx → BitVec 8) (i : S1024x3072.Idx) : BitVec 8 :=
  have h0 : (i 0).val < 1024 := (i 0).isLt
  have h1 : (i 1).val < 3072 := (i 1).isLt
  join (nib (i 1).val (B (iix ((i 1).val / 2) (2 * (i 0).val) (by omega) (by omega))))
    (nib (i 1).val (B (iix ((i 1).val / 2) (2 * (i 0).val + 1) (by omega) (by omega))))

section Pieces
variable (c : Dev nD)
  (XA : Buf (Elt F) (wM.view.loc (c : Thread nD τ))) (XS : Buf (Elt F) (scM.view.loc (c : Thread nD τ)))

abbrev ismP (s : Fin 9) : sProp 𝕄 := semVal ((c : Thread nD τ), SemLoc.dma (ism s).sem) 0
abbrev osmP (s : Fin 8) : sProp 𝕄 := semVal ((c : Thread nD τ), SemLoc.dma (osm s).sem) 0
abbrev islotP (s : Fin 9) (f : Buf (Elt F) ((islot s).view.loc (c : Thread nD τ))) : sProp 𝕄 :=
  (islot s).view.loc (c : Thread nD τ) ↦[(islot s).view.set]{fullShare} f
abbrev oslotP (s : Fin 8) (g : Buf (Elt F) ((oslot s).view.loc (c : Thread nD τ))) : sProp 𝕄 :=
  (oslot s).view.loc (c : Thread nD τ) ↦[(oslot s).view.set]{fullShare} g
/-- Block `b` of the packed weights, at the array's contents. -/
abbrev iblkP (b : Fin 28) : sProp 𝕄 := (iblk b).view.loc (c : Thread nD τ) ↦[(iblk b).view.set]{fullShare} XA
abbrev oblkP (b : Fin 28) (x : Buf (Elt F) ((oblk b).view.loc (c : Thread nD τ))) : sProp 𝕄 :=
  (oblk b).view.loc (c : Thread nD τ) ↦[(oblk b).view.set]{fullShare} x
abbrev sblkP (b : Fin 2) : sProp 𝕄 := (sblk b).view.loc (c : Thread nD τ) ↦[(sblk b).view.set]{fullShare} XS
abbrev tsblkP (b : Fin 2) (x : Buf (Elt F) ((tsblk b).view.loc (c : Thread nD τ))) : sProp 𝕄 :=
  (tsblk b).view.loc (c : Thread nD τ) ↦[(tsblk b).view.set]{fullShare} x
abbrev sbufP (f : Buf (Elt F) (sbM.view.loc (c : Thread nD τ))) : sProp 𝕄 := sbM.view.loc (c : Thread nD τ) ↦[sbM.view.set]{fullShare} f
abbrev sinP : sProp 𝕄 := semVal ((c : Thread nD τ), SemLoc.dma cc0_scratch5.sem) 0
abbrev soutP : sProp 𝕄 := semVal ((c : Thread nD τ), SemLoc.dma cc0_scratch6.sem) 0

/-- Input block `b`'s bytes. -/
abbrev inB (b : Fin 28) : S1536x2048.Idx → Elt F .i8 := (iblk b).view.read (Elt F) XA
/-- What the copy of block `b` into slot `s` leaves there. -/
abbrev landI (s : Fin 9) (b : Fin 28) (f : Buf (Elt F) ((islot s).view.loc (c : Thread nD τ))) : Buf (Elt F) ((islot s).view.loc (c : Thread nD τ)) :=
  (islot s).view.writes (Elt F) f [⟨Rect.whole S1536x2048, ReadAs.same.apply ((iblk b).view.read (Elt F) XA)⟩]
/-- What the copy out of slot `s` leaves in block `b`. -/
abbrev landO (s : Fin 8) (b : Fin 28) (g : Buf (Elt F) ((oslot s).view.loc (c : Thread nD τ))) (x : Buf (Elt F) ((oblk b).view.loc (c : Thread nD τ))) : Buf (Elt F) ((oblk b).view.loc (c : Thread nD τ)) :=
  (oblk b).view.writes (Elt F) x [⟨Rect.whole S1024x3072, ReadAs.same.apply ((oslot s).view.read (Elt F) g)⟩]

end Pieces

section Intervals
/-! ## Families over intervals of copy numbers -/
theorem ico_empty (Φ : ℕ → sProp 𝕄) (a : ℕ) : bigSep (Finset.Ico a a) Φ = (BI.emp : sProp 𝕄) := by
  rw [Finset.Ico_self]; exact bigSep_empty
theorem ico_head (Φ : ℕ → sProp 𝕄) {a b : ℕ} (h : a < b) : bigSep (Finset.Ico a b) Φ = iprop(Φ a ∗ bigSep (Finset.Ico (a + 1) b) Φ) := by
  have e : Finset.Ico a b = insert a (Finset.Ico (a + 1) b) := by ext x; simp only [Finset.mem_insert, Finset.mem_Ico]; omega
  rw [e, bigSep_insert (by simp)]; rfl
theorem ico_last (Φ : ℕ → sProp 𝕄) {a b : ℕ} (h : a ≤ b) : bigSep (Finset.Ico a (b + 1)) Φ = iprop(Φ b ∗ bigSep (Finset.Ico a b) Φ) := by
  have e : Finset.Ico a (b + 1) = insert b (Finset.Ico a b) := by ext x; simp only [Finset.mem_insert, Finset.mem_Ico]; omega
  rw [e, bigSep_insert (by simp)]; rfl
end Intervals

end Cert.Proof.KernelIdealP
-- ==== Proof.KernelIdeal.Fam.lean ====
/-
  FAMILIES OF COPIES. The copies of a cycle are numbered `o + j`, `o = 14 * cycle`. A state of a ring is a separating
  product over intervals of `j`: input blocks at home, input copies in flight, landed slots idle; output slots free,
  output slots written, output copies in flight, output blocks done and not yet done.
-/
module

public import proofs.«01_k».proof.Proof.KernelIdeal.Pieces

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Generic
/-- The product of `X (o + j)` over `a ≤ j < b`. -/
def fam (X : ℕ → sProp 𝕄) (o a b : ℕ) : sProp 𝕄 := bigSep (Finset.Ico a b) (fun j => X (o + j))
theorem fam_head (X : ℕ → sProp 𝕄) (o : ℕ) {a b : ℕ} (h : a < b) : fam X o a b ⊢ iprop(X (o + a) ∗ fam X o (a + 1) b) := Entails.of_eq (ico_head _ h)
theorem fam_cons (X : ℕ → sProp 𝕄) (o : ℕ) {a b : ℕ} (h : a < b) : iprop(X (o + a) ∗ fam X o (a + 1) b) ⊢ fam X o a b := Entails.of_eq (ico_head (fun j => X (o + j)) h).symm
theorem fam_snoc (X : ℕ → sProp 𝕄) (o : ℕ) {a b : ℕ} (h : a ≤ b) : iprop(X (o + b) ∗ fam X o a b) ⊢ fam X o a (b + 1) := Entails.of_eq (ico_last (fun j => X (o + j)) h).symm
theorem fam_last (X : ℕ → sProp 𝕄) (o : ℕ) {a b : ℕ} (h : a ≤ b) : fam X o a (b + 1) ⊢ iprop(X (o + b) ∗ fam X o a b) := Entails.of_eq (ico_last _ h)
theorem fam_nil_eq (X : ℕ → sProp 𝕄) (o : ℕ) {a b : ℕ} (h : b ≤ a) : fam X o a b = (BI.emp : sProp 𝕄) := by
  unfold fam; rw [Finset.Ico_eq_empty (by omega)]; exact bigSep_empty
theorem fam_nil (X : ℕ → sProp 𝕄) (o : ℕ) {a b : ℕ} (h : b ≤ a) : (BI.emp : sProp 𝕄) ⊢ fam X o a b := Entails.of_eq (fam_nil_eq X o h).symm
theorem fam_eq (X : ℕ → sProp 𝕄) (o : ℕ) {a b a' b' : ℕ} (ha : a = a') (hb : b = b') : fam X o a b ⊢ fam X o a' b' := by subst ha; subst hb; exact .rfl
theorem fam_split (X : ℕ → sProp 𝕄) (o : ℕ) {a m b : ℕ} (h : a ≤ m) (h' : m ≤ b) : fam X o a b = iprop(fam X o a m ∗ fam X o m b) := by
  unfold fam
  rw [← Finset.Ico_union_Ico_eq_Ico h h', bigSep_union (Finset.Ico_disjoint_Ico_consecutive _ _ _)]; rfl
theorem fam_shift (X : ℕ → sProp 𝕄) (o a k : ℕ) : fam X o a (a + k) = fam X 0 (o + a) (o + a + k) := by
  induction k with
  | zero => rw [fam_nil_eq X o (by omega), fam_nil_eq X 0 (by omega)]
  | succ k ih =>
    have e1 : fam X o a (a + (k + 1)) = iprop(X (o + (a + k)) ∗ fam X o a (a + k)) := ico_last _ (Nat.le_add_right _ _)
    have e2 : fam X 0 (o + a) (o + a + (k + 1)) = iprop(X (0 + (o + a + k)) ∗ fam X 0 (o + a) (o + a + k)) := ico_last _ (Nat.le_add_right _ _)
    rw [e1, e2, ih, show 0 + (o + a + k) = o + (a + k) from by omega]
/-- A family of period `p` is the same from wherever it starts. -/
theorem fam_rot (X : ℕ → sProp 𝕄) {p : ℕ} (hp : 0 < p) (hX : ∀ n, X (n + p) = X n) (o a : ℕ) : fam X o a (a + p) = fam X o 0 p := by
  induction a with
  | zero => rw [Nat.zero_add]
  | succ a ih =>
    have e1 : fam X o a (a + p) = iprop(X (o + a) ∗ fam X o (a + 1) (a + p)) := ico_head _ (by omega)
    have e2 : fam X o (a + 1) (a + p + 1) = iprop(X (o + (a + p)) ∗ fam X o (a + 1) (a + p)) := ico_last _ (by omega)
    rw [show a + 1 + p = a + p + 1 from by omega, e2, ← ih, e1, ← Nat.add_assoc, hX]
/-- A family over an interval from 0 is the product over `Fin N`. -/
theorem fam_fin (X : ℕ → sProp 𝕄) (N : ℕ) : fam X 0 0 N = bigSep (Finset.univ : Finset (Fin N)) (fun b => X b.val) := by
  have h : (Finset.Ico 0 N) = (Finset.univ : Finset (Fin N)).image (fun b : Fin N => b.val) := by
    ext x; simp only [Finset.mem_Ico, Finset.mem_image, Finset.mem_univ, true_and]
    constructor
    · intro hx; exact ⟨⟨x, hx.2⟩, rfl⟩
    · rintro ⟨b, rfl⟩; exact ⟨Nat.zero_le _, b.isLt⟩
  unfold fam
  rw [h]
  have hi : ∀ s : Finset (Fin N), bigSep (s.image (fun b : Fin N => b.val)) (fun j => X (0 + j)) = bigSep s (fun b => X b.val) := by
    intro s
    induction s using Finset.induction_on with
    | empty => rw [Finset.image_empty, BI.bigSep_empty, BI.bigSep_empty]
    | insert a s ha ih =>
      rw [Finset.image_insert, bigSep_insert, bigSep_insert ha, ih, Nat.zero_add]
      intro hm; obtain ⟨b, hb, he⟩ := Finset.mem_image.1 hm
      exact ha ((Fin.ext he : b = a) ▸ hb)
  exact hi _
end Generic

section Fam
variable (c : Dev nD)
  (XA : Buf (Elt F) (wM.view.loc (c : Thread nD τ))) (XS : Buf (Elt F) (scM.view.loc (c : Thread nD τ)))

/-- What output block `b` is to be. -/
abbrev outB (b : Fin 28) : S1024x3072.Idx → Elt F .i8 := tile (inB c XA b)

abbrev hm (n : ℕ) : sProp 𝕄 := iblkP c XA (Ring.bk 28 n)
abbrev idl (n : ℕ) : sProp 𝕄 := iprop(∃ f, islotP c (Ring.sl 9 n) f ∗ ismP c (Ring.sl 9 n))
abbrev fl (n : ℕ) : sProp 𝕄 := iprop(∃ f, Transfers.Flight countersEmb (c : Thread nD τ) (SemLoc.dma (ism (Ring.sl 9 n)).sem) () 98304
  iprop(islotP c (Ring.sl 9 n) (landI c XA (Ring.sl 9 n) (Ring.bk 28 n) f) ∗ iblkP c XA (Ring.bk 28 n)))
abbrev fro (n : ℕ) : sProp 𝕄 := iprop(∃ g, oslotP c (Ring.sl 8 n) g ∗ osmP c (Ring.sl 8 n))
abbrev wr (n : ℕ) : sProp 𝕄 := iprop(∃ g, oslotP c (Ring.sl 8 n) g ∗ osmP c (Ring.sl 8 n)
  ∗ ⌜(oslot (Ring.sl 8 n)).view.read (Elt F) g = outB c XA (Ring.bk 28 n)⌝)
abbrev flO (n : ℕ) : sProp 𝕄 := iprop(∃ g x, Transfers.Flight countersEmb (c : Thread nD τ) (SemLoc.dma (osm (Ring.sl 8 n)).sem) () 98304
  iprop(oblkP c (Ring.bk 28 n) (landO c (Ring.sl 8 n) (Ring.bk 28 n) g x) ∗ oslotP c (Ring.sl 8 n) g)
  ∗ ⌜(oslot (Ring.sl 8 n)).view.read (Elt F) g = outB c XA (Ring.bk 28 n)⌝)
abbrev nd (n : ℕ) : sProp 𝕄 := iprop(∃ x, oblkP c (Ring.bk 28 n) x)
abbrev dn (n : ℕ) : sProp 𝕄 := iprop(∃ x, oblkP c (Ring.bk 28 n) x ∗ ⌜(oblk (Ring.bk 28 n)).view.read (Elt F) x = outB c XA (Ring.bk 28 n)⌝)
abbrev ow : sProp 𝕄 := iprop(∃ W, owes (c : Thread nD τ) 0 W)
end Fam

theorem read_landI (c : Dev nD) (XA : Buf (Elt F) (wM.view.loc (c : Thread nD τ))) (s b f) :
    (islot s).view.read (Elt F) (landI c XA s b f) = inB c XA b := View.read_writes_whole ..
theorem read_landO (c : Dev nD) (s b g x) :
    (oblk b).view.read (Elt F) (landO (F := F) c s b g x) = (oslot s).view.read (Elt F) g := View.read_writes_whole ..

end Cert.Proof.KernelIdealP
-- ==== Proof.KernelIdeal.Small.lean ====
/-
  THE THREE COPY LOOPS. The loop that starts the copies of the first blocks in, the loop that starts the first copies
  out, and the loop that awaits the last copies out: one trip of each, against families of blocks and slots.
-/
module

public import proofs.«01_k».proof.Proof.KernelIdeal.Fam

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Small
variable (c : Dev nD) (XA : Buf (Elt F) (wM.view.loc (c : Thread nD τ)))

/-- Slots recur after nine copies in, after eight copies out. -/
theorem idl_per (n : ℕ) : idl (F := F) c (n + 9) = idl c n := by
  have e : Ring.sl 9 (n + 9) = Ring.sl 9 n := Ring.sl_add 9 n
  unfold idl; rw [e]
theorem fro_per (n : ℕ) : fro (F := F) c (n + 8) = fro c n := by
  have e : Ring.sl 8 (n + 8) = Ring.sl 8 n := Ring.sl_add 8 n
  unfold fro; rw [e]
theorem idl_next (o k : ℕ) (h : 1 ≤ k) : idl (F := F) c (o + (k - 1)) ⊢ idl c (o + (k + 8)) := by
  rw [show o + (k + 8) = o + (k - 1) + 9 from by omega, idl_per]
theorem fro_next (o k : ℕ) (h : 8 ≤ k) : fro (F := F) c (o + (k - 8)) ⊢ fro c (o + k) := by
  rw [show o + k = o + (k - 8) + 8 from by omega, fro_per]

/-- Before trip `k` of the loop that starts the copies in. -/
def t2Inv (o k : ℕ) (_ : Unit) : sProp 𝕄 :=
  iprop(ow c ∗ fam (idl c) o (k + 1) 9 ∗ fam (hm c XA) o (k + 1) 14 ∗ fam (fl c XA) o 0 (k + 1))
abbrev t2B (k0_t1 : Fin k0_t1_loop.trips) (k : Fin (k0_t2_loop k0_t1).trips) (acc : Unit) : Prog (TpuEff nD τ sig (Elt F) Λ₀ .tc) Unit :=
  k0_t2_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k acc
theorem t2_step (k0_t1 : Fin k0_t1_loop.trips) (k : Fin (k0_t2_loop k0_t1).trips) (acc : Unit) :
    t2Inv c XA (14 * k0_t1.val) k.val acc ⊢ wp frame (wpE (defs₀ (F := F)) 𝒱₀ (c : Thread nD τ) none) Set.univ (t2B k0_t1 k acc) (t2Inv c XA (14 * k0_t1.val) (k.val + 1)) := by
  have hk : k.val < 8 := Nat.lt_of_lt_of_eq k.isLt (t2_trips k0_t1)
  unfold t2Inv
  iintro ⟨⟨%W, Hw⟩, Hi, Hh, Hf⟩
  ihave Hi' := fam_head (idl c) (14 * k0_t1.val) (show k.val + 1 < 9 by omega) $$ Hi
  icases Hi' with ⟨⟨%f, Hs, Hc⟩, Hi⟩
  ihave Hh' := fam_head (hm c XA) (14 * k0_t1.val) (show k.val + 1 < 14 by omega) $$ Hh
  icases Hh' with ⟨Hb, Hh⟩
  dsimp only [t2B]
  sl_unfold [k0_t2_body]
  sl_exec
  sl_step
  isplitl [Hw]; · iexists _; iexact Hw
  isplitl [Hi]; · iexact Hi
  isplitl [Hh]; · iexact Hh
  iapply (fam_snoc (fl c XA) (14 * k0_t1.val) (Nat.zero_le (k.val + 1)))
  isplitl [Hc]
  · iexists f; iexact Hc
  · iexact Hf

/-- Before trip `k` of the loop that starts the first copies out. -/
def t5Inv (o k : ℕ) (_ : Unit) : sProp 𝕄 :=
  iprop(ow c ∗ fam (wr c XA) o k 8 ∗ fam (nd c) o k 14 ∗ fam (flO c XA) o 0 k)
abbrev t5B (k0_t1 : Fin k0_t1_loop.trips) (k0_t4 : Fin k0_t4_loop.trips) (k0_h2 : k0_cond2 k0_t4 = 1#1) (k : Fin (k0_t5_loop k0_t1).trips) (acc : Unit) : Prog (TpuEff nD τ sig (Elt F) Λ₀ .tc) Unit :=
  k0_t5_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k0_t4 k0_h2 k acc
theorem t5_step (k0_t1 : Fin k0_t1_loop.trips) (k0_t4 : Fin k0_t4_loop.trips) (k0_h2 : k0_cond2 k0_t4 = 1#1) (k : Fin (k0_t5_loop k0_t1).trips) (acc : Unit) :
    t5Inv c XA (14 * k0_t1.val) k.val acc ⊢ wp frame (wpE (defs₀ (F := F)) 𝒱₀ (c : Thread nD τ) none) Set.univ (t5B k0_t1 k0_t4 k0_h2 k acc) (t5Inv c XA (14 * k0_t1.val) (k.val + 1)) := by
  have hk : k.val < 8 := Nat.lt_of_lt_of_eq k.isLt (t5_trips k0_t1)
  unfold t5Inv
  iintro ⟨⟨%W, Hw⟩, Hi, Hh, Hf⟩
  ihave Hi' := fam_head (wr c XA) (14 * k0_t1.val) (show k.val < 8 by omega) $$ Hi
  icases Hi' with ⟨⟨%g, Hs, Hc, %he⟩, Hi⟩
  ihave Hh' := fam_head (nd c) (14 * k0_t1.val) (show k.val < 14 by omega) $$ Hh
  icases Hh' with ⟨⟨%x, Hb⟩, Hh⟩
  dsimp only [t5B]
  sl_unfold [k0_t5_body]
  sl_exec
  sl_step
  isplitl [Hw]; · iexists _; iexact Hw
  isplitl [Hi]; · iexact Hi
  isplitl [Hh]; · iexact Hh
  iapply (fam_snoc (flO c XA) (14 * k0_t1.val) (Nat.zero_le k.val))
  isplitl [Hc]
  · iexists g; iexists x
    isplitl [Hc]; · iexact Hc
    ipureintro; exact he
  · iexact Hf

/-- Before trip `k` of the loop that awaits the last copies out. -/
def t8Inv (o k : ℕ) (_ : Unit) : sProp 𝕄 :=
  iprop(ow c ∗ fam (flO c XA) o (k + 6) 14 ∗ fam (fro c) o 6 (k + 6) ∗ fam (dn c XA) o 0 (k + 6))
abbrev t8B (k0_t1 : Fin k0_t1_loop.trips) (k : Fin (k0_t8_loop k0_t1).trips) (acc : Unit) : Prog (TpuEff nD τ sig (Elt F) Λ₀ .tc) Unit :=
  k0_t8_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 k0_t1 k acc
theorem t8_step (k0_t1 : Fin k0_t1_loop.trips) (k : Fin (k0_t8_loop k0_t1).trips) (acc : Unit) :
    t8Inv c XA (14 * k0_t1.val) k.val acc ⊢ wp frame (wpE (defs₀ (F := F)) 𝒱₀ (c : Thread nD τ) none) Set.univ (t8B k0_t1 k acc) (t8Inv c XA (14 * k0_t1.val) (k.val + 1)) := by
  have hk : k.val < 8 := Nat.lt_of_lt_of_eq k.isLt (t8_trips k0_t1)
  unfold t8Inv
  iintro ⟨⟨%W, Hw⟩, Hi, Hh, Hf⟩
  ihave Hi' := fam_head (flO c XA) (14 * k0_t1.val) (show k.val + 6 < 14 by omega) $$ Hi
  icases Hi' with ⟨⟨%g, %x, Hc, %he⟩, Hi⟩
  dsimp only [t8B]
  sl_unfold [k0_t8_body]
  sl_exec
  sl_step
  rw [show k.val + 1 + 6 = k.val + 6 + 1 from by omega]
  isplitl [Hw]; · iexists _; iexact Hw
  isplitl [Hi]; · iexact Hi
  isplitl [Hh Hc Hc_src]
  · iapply (fam_snoc (fro c) (14 * k0_t1.val) (show 6 ≤ k.val + 6 by omega))
    isplitl [Hc Hc_src]
    · iexists g
      isplitl [Hc_src]; · iexact Hc_src
      iexact Hc
    · iexact Hh
  iapply (fam_snoc (dn c XA) (14 * k0_t1.val) (Nat.zero_le (k.val + 6)))
  isplitl [Hc_dst]
  · iexists _
    isplitl [Hc_dst]; · iexact Hc_dst
    ipureintro; exact (read_landO ..).trans he
  · iexact Hf
end Small

end Cert.Proof.KernelIdealP
-- ==== Proof.KernelIdeal.Pay.lean ====
/-
  THE TILE'S ARITHMETIC. A tile takes 64 rows of 128 packed bytes twice, `x` and `y`, 128 columns apart, and stores two
  tiles of 64 rows: `pLo` from `x`, `pHi` from `y`. Read at an index, each is two codes of its source joined.
-/
module

public import Idealize.ShloMosaic.Lib.PointwiseCore
public import Idealize.ShloMosaic.Lib.BitcastFour
public import proofs.«01_k».proof.Proof.KernelIdeal.Pieces

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

set_option maxRecDepth 16384

/-- The first tile's stored value. -/
def pLo (x y : S64x128.Idx → BitVec 8) : S1x64x128.Idx → BitVec 8 := k0_pay4 (F := F) (k0_pay1 (F := F) x) (k0_pay2 (F := F) y)
/-- The second tile's. -/
def pHi (x y : S64x128.Idx → BitVec 8) : S1x64x128.Idx → BitVec 8 := k0_pay6 (F := F) (k0_pay5 (k0_pay1 (F := F) x) (k0_pay2 (F := F) y))

/-- A byte's code as the kernel spells it: the half shifted to the top of a word and back with its sign. -/
def cde (r : ℕ) (b : BitVec 8) : BitVec 32 :=
  if r % 2 < 1 then IntOp.shrsi ArithUnit.vector (IntOp.shli ArithUnit.vector (BitVec.setWidth 32 b) 28#32) 28#32
  else IntOp.shrsi ArithUnit.vector (IntOp.shli ArithUnit.vector (BitVec.setWidth 32 b) 24#32) 28#32

theorem cde0_and : ∀ b : BitVec 8, (BitVec.setWidth 8 (IntOp.shrsi ArithUnit.vector (IntOp.shli ArithUnit.vector (BitVec.setWidth 32 b) 28#32) 28#32)) &&& 15#8 = b &&& 15#8 := by decide +kernel
theorem cde0_shl : ∀ b : BitVec 8, (BitVec.setWidth 8 (IntOp.shrsi ArithUnit.vector (IntOp.shli ArithUnit.vector (BitVec.setWidth 32 b) 28#32) 28#32)) <<< 4 = (b &&& 15#8) <<< 4 := by decide +kernel
theorem cde1_and : ∀ b : BitVec 8, (BitVec.setWidth 8 (IntOp.shrsi ArithUnit.vector (IntOp.shli ArithUnit.vector (BitVec.setWidth 32 b) 24#32) 28#32)) &&& 15#8 = b >>> 4 := by decide +kernel
theorem cde1_shl : ∀ b : BitVec 8, (BitVec.setWidth 8 (IntOp.shrsi ArithUnit.vector (IntOp.shli ArithUnit.vector (BitVec.setWidth 32 b) 24#32) 28#32)) <<< 4 = (b >>> 4) <<< 4 := by decide +kernel
theorem cde_and (r : ℕ) (b : BitVec 8) : BitVec.setWidth 8 (cde r b) &&& 15#8 = nib r b := by
  unfold cde nib
  by_cases h : r % 2 = 0
  · rw [if_pos h, if_pos (by omega)]; exact cde0_and b
  · rw [if_neg h, if_neg (by omega)]; exact cde1_and b
theorem cde_shl (r : ℕ) (b : BitVec 8) : BitVec.setWidth 8 (cde r b) <<< 4 = nib r b <<< 4 := by
  unfold cde nib
  by_cases h : r % 2 = 0
  · rw [if_pos h, if_pos (by omega)]; exact cde0_shl b
  · rw [if_neg h, if_neg (by omega)]; exact cde1_shl b

/-- Two codes packed in a byte. -/
theorem pack_eq (u v : BitVec 8) : BitVec.setWidth 8 (IntOp.ori (IntOp.andi (BitVec.signExtend 32 u) 15#32) (IntOp.shli ArithUnit.vector (BitVec.signExtend 32 v) 4#32))
    = (u &&& 15#8) ||| (v <<< 4) := by
  have e : IntOp.ori (IntOp.andi (BitVec.signExtend 32 u) 15#32) (IntOp.shli ArithUnit.vector (BitVec.signExtend 32 v) 4#32)
      = ((BitVec.signExtend 32 u) &&& 15#32) ||| ((BitVec.signExtend 32 v) <<< 4) := rfl
  rw [e]
  apply BitVec.eq_of_getLsbD_eq
  intro i hi
  interval_cases i <;> simp [BitVec.getLsbD_setWidth, BitVec.getElem_signExtend]
theorem pk_and (u v : BitVec 8) : ((u &&& 15#8) ||| (v <<< 4)) &&& 15#8 = u &&& 15#8 := by
  apply BitVec.eq_of_getLsbD_eq
  intro i hi
  interval_cases i <;> simp
theorem pk_shl (u v : BitVec 8) : ((u &&& 15#8) ||| (v <<< 4)) <<< 4 = u <<< 4 := by
  apply BitVec.eq_of_getLsbD_eq
  intro i hi
  interval_cases i <;> simp
theorem pk_shr (u v : BitVec 8) : ((u &&& 15#8) ||| (v <<< 4)) >>> 4 = v &&& 15#8 := by
  apply BitVec.eq_of_getLsbD_eq
  intro i hi
  interval_cases i <;> simp
theorem sh_and (z : BitVec 8) : (z >>> 4) <<< 4 = (z >>> 4 &&& 15#8) <<< 4 := by
  apply BitVec.eq_of_getLsbD_eq
  intro i hi
  interval_cases i <;> simp
theorem and_shl (z : BitVec 8) : (z &&& 15#8) <<< 4 = z <<< 4 := by
  apply BitVec.eq_of_getLsbD_eq
  intro i hi
  interval_cases i <;> simp

theorem pay1_apply (x : S64x128.Idx → BitVec 8) (r l : Fin 128) :
    k0_pay1 (F := F) x (ix2 r l) = BitVec.setWidth 8 (cde r.val (x (ix2 ⟨r.val / 2, by omega⟩ l))) := by
  pointwise [k0_pay1]; rfl
theorem pay2_apply (x : S64x128.Idx → BitVec 8) (r l : Fin 128) :
    k0_pay2 (F := F) x (ix2 r l) = cde r.val (x (ix2 ⟨r.val / 2, by omega⟩ l)) := by
  pointwise [k0_pay2]; rfl
theorem pay3_apply (x : S128x128.Idx → BitVec 8) (y : S128x128.Idx → BitVec 32) (r l : Fin 128) :
    k0_pay3 x y (ix2 r l) = (x (ix2 l r) &&& 15#8) ||| (BitVec.setWidth 8 (y (ix2 l r)) <<< 4) := by
  rw [← pack_eq]
  pointwise [k0_pay3]
theorem pLo_apply (x y : S64x128.Idx → BitVec 8) (r : Fin 64) (l : Fin 128) :
    pLo (F := F) x y (ix3 0 r l) = join (nib l.val (x (ix2 ⟨l.val / 2, by omega⟩ ⟨2 * r.val, by omega⟩)))
      (nib l.val (x (ix2 ⟨l.val / 2, by omega⟩ ⟨2 * r.val + 1, by omega⟩))) := by
  unfold pLo join
  pointwise [k0_pay4]
  rw [pack_eq, pay3_apply, pay3_apply, pk_and, pk_shl, pay1_apply, pay1_apply, cde_and, cde_shl]
  simp only [Nat.mul_comm r.val 2]

/-- A word of four bytes shifted right by four: each byte's low half is its old high half. -/
theorem hi_bit (z : S128x128.Idx → BitVec 8) (r l : Fin 128) (i : ℕ) (hi : i < 4) :
    (bitcast S128x128 8 (shrui (bitcast S32x128 32 z bitcasts_S128x128_w8_S32x128_w32) (broadcast S32x128 4#32)) bitcasts_S32x128_w32_S128x128_w8 (ix2 r l)).getLsbD i
      = (z (ix2 r l)).getLsbD (i + 4) := by
  have hr := r.isLt
  rw [bitcast_getLsbD _ _ _ i (by omega) (by decide)]
  have es : (bitcasts_S32x128_w32_S128x128_w8).srcIdx (ix2 r l) ((S128x128.row (ix2 r l) * 8 + i) / 32) (fun a ha =>
          (Nat.div_lt_iff_lt_mul (by decide)).2 ((bitcasts_S32x128_w32_S128x128_w8).pos_lt (ix2 r l) i (by omega) a ha)) = (ix2 ⟨r.val / 4, by omega⟩ l : S32x128.Idx) := by
    have e : S128x128.row (ix2 r l) = r.val := rfl
    funext a
    fin_cases a
    · apply Fin.ext; show (S128x128.row (ix2 r l) * 8 + i) / 32 = r.val / 4; rw [e]; omega
    · rfl
  rw [es]
  have e : S128x128.row (ix2 r l) = r.val := rfl
  rw [e]
  have eb : shrui (bitcast S32x128 32 z bitcasts_S128x128_w8_S32x128_w32) (broadcast S32x128 4#32) (ix2 ⟨r.val / 4, by omega⟩ l)
      = (bitcast S32x128 32 z bitcasts_S128x128_w8_S32x128_w32 (ix2 ⟨r.val / 4, by omega⟩ l)) >>> 4 := rfl
  rw [eb, BitVec.getLsbD_ushiftRight]
  refine (bitcast_8_32_getLsbD_ix2 z _ _ _ _ (by omega) r (by show r.val = 4 * (r.val / 4) + _; omega)).trans ?_
  congr 1; omega
theorem hi_and (z : S128x128.Idx → BitVec 8) (r l : Fin 128) :
    bitcast S128x128 8 (shrui (bitcast S32x128 32 z bitcasts_S128x128_w8_S32x128_w32) (broadcast S32x128 4#32)) bitcasts_S32x128_w32_S128x128_w8 (ix2 r l) &&& 15#8
      = z (ix2 r l) >>> 4 := by
  apply BitVec.eq_of_getLsbD_eq
  intro i hi
  rw [BitVec.getLsbD_and, BitVec.getLsbD_ushiftRight]
  by_cases h : i < 4
  · rw [hi_bit z r l i h, Nat.add_comm 4 i]
    interval_cases i <;> simp
  · rw [BitVec.getLsbD_of_ge (z (ix2 r l)) (4 + i) (by omega)]
    interval_cases i <;> simp at h ⊢
theorem pHi_apply (x y : S64x128.Idx → BitVec 8) (r : Fin 64) (l : Fin 128) :
    pHi (F := F) x y (ix3 0 r l) = join (nib l.val (y (ix2 ⟨l.val / 2, by omega⟩ ⟨2 * r.val, by omega⟩)))
      (nib l.val (y (ix2 ⟨l.val / 2, by omega⟩ ⟨2 * r.val + 1, by omega⟩))) := by
  unfold pHi join
  pointwise [k0_pay6, k0_pay5]
  rw [pack_eq, ← and_shl, hi_and, hi_and, pay3_apply, pay3_apply, pk_shr, pk_shr, pay2_apply, pay2_apply, cde_and, cde_and]
  simp only [Nat.mul_comm r.val 2]

end Cert.Proof.KernelIdealP
-- ==== Proof.KernelIdeal.Val.lean ====
/-
  THE VALUES OF A PART. Before part `k`, `q` tiles of it stored (`Upto`): the output slot holds the output block in its
  rows below `256 k`, and in the first `q` tiles of the 256 rows from there; tile `4 p + a` is rows `64 a`, columns
  `128 p`. One store advances `q` by one (`upto_step`), its payload being two codes joined at every index.
-/
module

public import proofs.«01_k».proof.Proof.KernelIdeal.Pay
public import proofs.«01_k».proof.Proof.KernelIdeal.Fam

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Val
variable (c : Dev nD)

/-- The first `k` parts done, and `q` tiles of the next. -/
def Upto (s : Fin 8) (B : S1536x2048.Idx → BitVec 8) (g : Buf (Elt F) ((oslot s).view.loc (c : Thread nD τ))) (k q : ℕ) : Prop :=
  ∀ (i : Fin 1024) (j : Fin 3072), (i.val < 256 * k ∨ (i.val < 256 * (k + 1) ∧ 4 * (j.val / 128) + (i.val - 256 * k) / 64 < q)) →
    (oslot s).view.read (Elt F) g (ix2 i j) = tile B (ix2 i j)

/-- The output slot's element as the ring buffer's. -/
theorem oslot_emb (s : Fin 8) (i : Fin 1024) (j : Fin 3072) : (oslot s).view.emb (ix2 i j) = ix3 (⟨s.val, s.isLt⟩ : Fin 8) i j := by
  have hr : Shape.reshapeEquiv (squeezes_S1x1024x3072_S1024x3072).numel_eq (ix2 i j) = (ix3 (0 : Fin 1) i j : S1x1024x3072.Idx) :=
    Shape.reshapeEquiv_eq_of_rowMajor _ (by
      rw [Shape.rowMajor_val_three, Shape.rowMajor_val_two]
      show ((0 * 1024 + i.val) * 3072 + j.val) = i.val * 3072 + j.val
      omega)
  show (Rect.unit (s := S8x1024x3072) (oslotOff s) S1x1024x3072.size (oslotOff_inb s)).emb (Shape.reshapeEquiv _ (ix2 i j)) = _
  rw [hr]
  funext a
  apply Fin.ext
  fin_cases a
  · show s.val + 1 * 0 = s.val; omega
  · show 0 + 1 * i.val = i.val; omega
  · show 0 + 1 * j.val = j.val; omega

theorem oslot_read (s : Fin 8) (g : Buf (Elt F) ((oslot s).view.loc (c : Thread nD τ))) (i : Fin 1024) (j : Fin 3072) :
    (oslot s).view.read (Elt F) g (ix2 i j) = tbM.view.read (Elt F) g (ix3 (⟨s.val, s.isLt⟩ : Fin 8) i j) := by
  show g ((oslot s).view.emb (ix2 i j)) = _
  rw [oslot_emb]; rfl

theorem upto_step {s : Fin 8} {B : S1536x2048.Idx → BitVec 8} {g : Buf (Elt F) ((oslot s).view.loc (c : Thread nD τ))} {k : ℕ} (p a q : ℕ)
    {off : Fin 3 → ℕ} {inb} (hoff : off = ![s.val, k * 256 + 64 * a, 128 * p]) (hq : q = 4 * p + a) (ha : a < 4) (hp : p < 24) (hk : k < 4) (w : S1x64x128.Idx → BitVec 8)
    (hw : ∀ (r : Fin 64) (l : Fin 128), w (ix3 0 r l) = tile B (ix2 ⟨256 * k + 64 * a + r.val, by omega⟩ ⟨128 * p + l.val, by omega⟩))
    (h : Upto c s B g k q) :
    Upto (F := F) c s B (View.write (Elt F) (tbM.access (Rect.unit (s := S8x1024x3072) off S1x64x128.size inb)) g w Finset.univ) k (q + 1) := by
  subst hoff hq
  intro i j hij
  by_cases hin : 256 * k + 64 * a ≤ i.val ∧ i.val < 256 * k + 64 * a + 64 ∧ 128 * p ≤ j.val ∧ j.val < 128 * p + 128
  · obtain ⟨h1, h2, h3, h4⟩ := hin
    have e : (ix3 (⟨s.val, s.isLt⟩ : Fin 8) i j : S8x1024x3072.Idx)
        = (Rect.unit (s := S8x1024x3072) ![s.val, k * 256 + 64 * a, 128 * p] S1x64x128.size inb).emb (ix3 (0 : Fin 1) (⟨i.val - (256 * k + 64 * a), by omega⟩ : Fin 64) (⟨j.val - 128 * p, by omega⟩ : Fin 128) : S1x64x128.Idx) := by
      funext b
      apply Fin.ext
      fin_cases b
      · show s.val = s.val + 1 * 0; omega
      · show i.val = k * 256 + 64 * a + 1 * (i.val - (256 * k + 64 * a)); omega
      · show j.val = 128 * p + 1 * (j.val - 128 * p); omega
    refine (oslot_read c s _ i j).trans ?_
    refine (congrArg _ e).trans ?_
    refine (View.read_slice_write_emb (v := tbM.view) _ _ _ (Finset.mem_univ _)).trans ?_
    rw [hw]
    congr 1
    funext b
    apply Fin.ext
    fin_cases b
    · show 256 * k + 64 * a + (i.val - (256 * k + 64 * a)) = i.val; omega
    · show 128 * p + (j.val - 128 * p) = j.val; omega
  · have hh : i.val < 256 * k ∨ (i.val < 256 * (k + 1) ∧ 4 * (j.val / 128) + (i.val - 256 * k) / 64 < 4 * p + a) := by
      rcases hij with h1 | ⟨h1, h2⟩
      · exact .inl h1
      · by_cases h3 : i.val < 256 * k
        · exact .inl h3
        · refine .inr ⟨h1, ?_⟩
          rcases Nat.lt_or_ge (4 * (j.val / 128) + (i.val - 256 * k) / 64) (4 * p + a) with h4 | h4
          · exact h4
          · exfalso; apply hin; omega
    rw [← h i j hh]
    refine (oslot_read c s _ i j).trans (Eq.trans ?_ (oslot_read c s g i j).symm)
    refine View.read_slice_write_of_not_mem (v := tbM.view) _ _ _ _ ?_
    intro hm
    obtain ⟨z, -, hz⟩ := Finset.mem_map.1 hm
    have z1 : (z 1).val < 64 := (z 1).isLt
    have z2 : (z 2).val < 128 := (z 2).isLt
    have m1 : k * 256 + 64 * a + 1 * (z 1).val = i.val := congrArg (fun t : S8x1024x3072.Idx => (t 1).val) hz
    have m2 : 128 * p + 1 * (z 2).val = j.val := congrArg (fun t : S8x1024x3072.Idx => (t 2).val) hz
    apply hin
    omega

/-- A tile's load: 64 rows of 128 bytes of the input slot. -/
def ld (s : Fin 9) (k0_t7 : Fin k0_t7_loop.trips) (f : Buf (Elt F) ((islot s).view.loc (c : Thread nD τ))) (r0 c0 : ℕ)
    (inb₁ : ∀ a, k0_off31 k0_t7 a + S1536x512.size a ≤ S1536x2048.size a) (inb₂ : ∀ a, (![r0, c0] : Fin 2 → ℕ) a + S64x128.size a ≤ S1536x512.size a) : S64x128.Idx → BitVec 8 :=
  View.readAt (Elt F) (islot s).view ((Rect.unit (s := S1536x2048) (k0_off31 k0_t7) S1536x512.size inb₁).withinL (Rect.unit (s := S1536x512) ![r0, c0] S64x128.size inb₂).toLoadRect (fun _ => rfl)) f

theorem iix_congr {r q r' q' : ℕ} {hr hq hr' hq'} (h1 : r = r') (h2 : q = q') : iix r q hr hq = iix r' q' hr' hq' := by subst h1 h2; rfl
theorem tile_at (B : S1536x2048.Idx → BitVec 8) (i : Fin 1024) (j : Fin 3072) :
    tile B (ix2 i j) = join (nib j.val (B (iix (j.val / 2) (2 * i.val) (by omega) (by omega)))) (nib j.val (B (iix (j.val / 2) (2 * i.val + 1) (by omega) (by omega)))) := rfl

theorem ld_apply (s : Fin 9) (k0_t7 : Fin k0_t7_loop.trips) (f : Buf (Elt F) ((islot s).view.loc (c : Thread nD τ))) (r0 c0 : ℕ) (inb₁ inb₂)
    (r : Fin 64) (l : Fin 128) (hr : r0 + r.val < 1536) (hc : k0_t7.val * 512 + c0 + l.val < 2048) :
    ld c s k0_t7 f r0 c0 inb₁ inb₂ (ix2 r l) = (islot s).view.read (Elt F) f (iix (r0 + r.val) (k0_t7.val * 512 + c0 + l.val) hr hc) := by
  refine congrArg ((islot s).view.read (Elt F) f) ?_
  funext b
  apply Fin.ext
  fin_cases b
  · show k0_off31 k0_t7 0 + r0 + 1 * r.val = r0 + r.val
    rw [off31_eq]; show 0 + r0 + 1 * r.val = r0 + r.val; omega
  · show k0_off31 k0_t7 1 + c0 + 1 * l.val = k0_t7.val * 512 + c0 + l.val
    rw [off31_eq]; show k0_t7.val * 512 + c0 + 1 * l.val = k0_t7.val * 512 + c0 + l.val; omega

theorem join_tile (s : Fin 9) (k0_t7 : Fin k0_t7_loop.trips) (f : Buf (Elt F) ((islot s).view.loc (c : Thread nD τ))) (p a r0 c0 : ℕ) (hp : p < 24) (ha : a < 4)
    (hr0 : r0 = 64 * p) (hc0 : c0 = 128 * a) (inb₁ inb₂) (r : Fin 64) (l : Fin 128) (h7 : k0_t7.val < 4) :
    join (nib l.val (ld c s k0_t7 f r0 c0 inb₁ inb₂ (ix2 ⟨l.val / 2, by omega⟩ ⟨2 * r.val, by omega⟩)))
      (nib l.val (ld c s k0_t7 f r0 c0 inb₁ inb₂ (ix2 ⟨l.val / 2, by omega⟩ ⟨2 * r.val + 1, by omega⟩)))
      = tile ((islot s).view.read (Elt F) f) (ix2 ⟨256 * k0_t7.val + 64 * a + r.val, by omega⟩ ⟨128 * p + l.val, by omega⟩) := by
  subst hr0 hc0
  have hn : ∀ b, nib (128 * p + l.val) b = nib l.val b := fun b => by unfold nib; rw [show (128 * p + l.val) % 2 = l.val % 2 from by omega]
  rw [ld_apply c s k0_t7 f (64 * p) (128 * a) inb₁ inb₂ ⟨l.val / 2, by omega⟩ ⟨2 * r.val, by omega⟩ (by show 64 * p + l.val / 2 < 1536; omega) (by show k0_t7.val * 512 + 128 * a + 2 * r.val < 2048; omega),
    ld_apply c s k0_t7 f (64 * p) (128 * a) inb₁ inb₂ ⟨l.val / 2, by omega⟩ ⟨2 * r.val + 1, by omega⟩ (by show 64 * p + l.val / 2 < 1536; omega) (by show k0_t7.val * 512 + 128 * a + (2 * r.val + 1) < 2048; omega),
    tile_at, hn, hn]
  exact congrArg₂ (fun u v => join (nib l.val u) (nib l.val v))
    (congrArg _ (iix_congr (by show 64 * p + l.val / 2 = (128 * p + l.val) / 2; omega) (by show k0_t7.val * 512 + 128 * a + 2 * r.val = 2 * (256 * k0_t7.val + 64 * a + r.val); omega)))
    (congrArg _ (iix_congr (by show 64 * p + l.val / 2 = (128 * p + l.val) / 2; omega) (by show k0_t7.val * 512 + 128 * a + (2 * r.val + 1) = 2 * (256 * k0_t7.val + 64 * a + r.val) + 1; omega)))

/-- The first tile of a pair, from its own load. -/
theorem lo_tile (s : Fin 9) (k0_t7 : Fin k0_t7_loop.trips) (h7 : k0_t7.val < 4) (f : Buf (Elt F) ((islot s).view.loc (c : Thread nD τ))) (p a r0 c0 : ℕ) (hp : p < 24) (ha : a < 4)
    (hr0 : r0 = 64 * p) (hc0 : c0 = 128 * a) (inb₁ inb₂) (y : S64x128.Idx → BitVec 8) (r : Fin 64) (l : Fin 128) :
    pLo (F := F) (ld c s k0_t7 f r0 c0 inb₁ inb₂) y (ix3 0 r l)
      = tile ((islot s).view.read (Elt F) f) (ix2 ⟨256 * k0_t7.val + 64 * a + r.val, by omega⟩ ⟨128 * p + l.val, by omega⟩) := by
  rw [pLo_apply]; exact join_tile c s k0_t7 f p a r0 c0 hp ha hr0 hc0 inb₁ inb₂ r l h7
/-- The second. -/
theorem hi_tile (s : Fin 9) (k0_t7 : Fin k0_t7_loop.trips) (h7 : k0_t7.val < 4) (f : Buf (Elt F) ((islot s).view.loc (c : Thread nD τ))) (p a r0 c0 : ℕ) (hp : p < 24) (ha : a < 4)
    (hr0 : r0 = 64 * p) (hc0 : c0 = 128 * a) (inb₁ inb₂) (x : S64x128.Idx → BitVec 8) (r : Fin 64) (l : Fin 128) :
    pHi (F := F) x (ld c s k0_t7 f r0 c0 inb₁ inb₂) (ix3 0 r l)
      = tile ((islot s).view.read (Elt F) f) (ix2 ⟨256 * k0_t7.val + 64 * a + r.val, by omega⟩ ⟨128 * p + l.val, by omega⟩) := by
  rw [pHi_apply]; exact join_tile c s k0_t7 f p a r0 c0 hp ha hr0 hc0 inb₁ inb₂ r l h7

theorem upto_zero (s : Fin 8) (B : S1536x2048.Idx → BitVec 8) (g : Buf (Elt F) ((oslot s).view.loc (c : Thread nD τ))) : Upto c s B g 0 0 := by
  intro i j h; omega
theorem upto_next {s : Fin 8} {B : S1536x2048.Idx → BitVec 8} {g : Buf (Elt F) ((oslot s).view.loc (c : Thread nD τ))} {k : ℕ} (h : Upto c s B g k 96) : Upto c s B g (k + 1) 0 := by
  intro i j hij
  refine h i j ?_
  rcases hij with h1 | ⟨_, h2⟩
  · refine .inr ⟨h1, ?_⟩
    have := i.isLt; have := j.isLt; omega
  · omega
theorem upto_full {s : Fin 8} {B : S1536x2048.Idx → BitVec 8} {g : Buf (Elt F) ((oslot s).view.loc (c : Thread nD τ))} (h : Upto c s B g 4 0) : (oslot s).view.read (Elt F) g = tile B := by
  funext x
  have e : x = ix2 (x 0 : Fin 1024) (x 1 : Fin 3072) := by funext b; fin_cases b <;> rfl
  rw [e]
  exact h (x 0 : Fin 1024) (x 1 : Fin 3072) (.inl (x 0 : Fin 1024).isLt)
end Val

end Cert.Proof.KernelIdealP
-- ==== Proof.KernelIdeal.Part.lean ====
/-
  ONE PART OF A BLOCK. A block is repacked in four parts of 512 input columns, giving 256 output rows each; a part is
  96 tiles. Here one run of a part: from the input slot's contents `f` and an output slot filled up to the part, the
  output slot is filled up to the next part after the part's 96 stores.
-/
module

public import proofs.«01_k».proof.Proof.KernelIdeal.Val

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Part
variable (c : Dev nD) (k0_t1 : Fin k0_t1_loop.trips) (k0_t4 : Fin k0_t4_loop.trips) (k0_t7 : Fin k0_t7_loop.trips)
/-- The region of the part loop. -/
abbrev t7B : Prog (TpuEff nD τ sig (Elt F) Λ₀ .tc) Unit :=
  k0_t7_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k0_t4 k0_t7 ()

set_option maxHeartbeats 0 in
/-- One part's run: the output slot is filled up to the part's last tile. -/
theorem t7Run (f : Buf (Elt F) ((islot (Ring.sl 9 (14 * k0_t1.val + k0_t4.val))).view.loc (c : Thread nD τ)))
    (g : Buf (Elt F) ((oslot (Ring.sl 8 (14 * k0_t1.val + k0_t4.val))).view.loc (c : Thread nD τ)))
    (h : Upto c (Ring.sl 8 (14 * k0_t1.val + k0_t4.val)) ((islot (Ring.sl 9 (14 * k0_t1.val + k0_t4.val))).view.read (Elt F) f) g k0_t7.val 0) :
      iprop(islotP c (Ring.sl 9 (14 * k0_t1.val + k0_t4.val)) f ∗ oslotP c (Ring.sl 8 (14 * k0_t1.val + k0_t4.val)) g)
        ⊢ wp frame (wpE (defs₀ (F := F)) 𝒱₀ (c : Thread nD τ) none) Set.univ (t7B k0_t1 k0_t4 k0_t7)
          (fun _ => iprop(islotP c (Ring.sl 9 (14 * k0_t1.val + k0_t4.val)) f ∗ ∃ g', oslotP c (Ring.sl 8 (14 * k0_t1.val + k0_t4.val)) g'
            ∗ ⌜Upto c (Ring.sl 8 (14 * k0_t1.val + k0_t4.val)) ((islot (Ring.sl 9 (14 * k0_t1.val + k0_t4.val))).view.read (Elt F) f) g' k0_t7.val 96⌝)) := by
    have h7 := t7_lt k0_t7
    have h4 := t4_lt k0_t4
    have h1 := t1_lt k0_t1
    iintro ⟨Hi, Ho⟩
    dsimp only [t7B]
    sl_unfold [k0_t7_body]
    sl_exec
    sl_step
    isplitl [Hi]; · iexact Hi
    iexists _
    isplitl [Ho]; · iexact Ho
    ipureintro
    refine upto_step c 23 3 95 (off129_eq k0_t1 k0_t4 k0_t7) rfl (by decide) (by decide) h7 _ (fun r l => hi_tile c _ k0_t7 h7 f 23 3 1472 384 (by decide) (by decide) rfl rfl _ _ _ r l) ?_
    refine upto_step c 23 2 94 (off128_eq k0_t1 k0_t4 k0_t7) rfl (by decide) (by decide) h7 _ (fun r l => lo_tile c _ k0_t7 h7 f 23 2 1472 256 (by decide) (by decide) rfl rfl _ _ _ r l) ?_
    refine upto_step c 23 1 93 (off127_eq k0_t1 k0_t4 k0_t7) rfl (by decide) (by decide) h7 _ (fun r l => hi_tile c _ k0_t7 h7 f 23 1 1472 128 (by decide) (by decide) rfl rfl _ _ _ r l) ?_
    refine upto_step c 23 0 92 (off126_eq k0_t1 k0_t4 k0_t7) rfl (by decide) (by decide) h7 _ (fun r l => lo_tile c _ k0_t7 h7 f 23 0 1472 0 (by decide) (by decide) rfl rfl _ _ _ r l) ?_
    refine upto_step c 22 3 91 (off125_eq k0_t1 k0_t4 k0_t7) rfl (by decide) (by decide) h7 _ (fun r l => hi_tile c _ k0_t7 h7 f 22 3 1408 384 (by decide) (by decide) rfl rfl _ _ _ r l) ?_
    refine upto_step c 22 2 90 (off124_eq k0_t1 k0_t4 k0_t7) rfl (by decide) (by decide) h7 _ (fun r l => lo_tile c _ k0_t7 h7 f 22 2 1408 256 (by decide) (by decide) rfl rfl _ _ _ r l) ?_
    refine upto_step c 22 1 89 (off123_eq k0_t1 k0_t4 k0_t7) rfl (by decide) (by decide) h7 _ (fun r l => hi_tile c _ k0_t7 h7 f 22 1 1408 128 (by decide) (by decide) rfl rfl _ _ _ r l) ?_
    refine upto_step c 22 0 88 (off122_eq k0_t1 k0_t4 k0_t7) rfl (by decide) (by decide) h7 _ (fun r l => lo_tile c _ k0_t7 h7 f 22 0 1408 0 (by decide) (by decide) rfl rfl _ _ _ r l) ?_
    refine upto_step c 21 3 87 (off121_eq k0_t1 k0_t4 k0_t7) rfl (by decide) (by decide) h7 _ (fun r l => hi_tile c _ k0_t7 h7 f 21 3 1344 384 (by decide) (by decide) rfl rfl _ _ _ r l) ?_
    refine upto_step c 21 2 86 (off120_eq k0_t1 k0_t4 k0_t7) rfl (by decide) (by decide) h7 _ (fun r l => lo_tile c _ k0_t7 h7 f 21 2 1344 256 (by decide) (by decide) rfl rfl _ _ _ r l) ?_
    refine upto_step c 21 1 85 (off119_eq k0_t1 k0_t4 k0_t7) rfl (by decide) (by decide) h7 _ (fun r l => hi_tile c _ k0_t7 h7 f 21 1 1344 128 (by decide) (by decide) rfl rfl _ _ _ r l) ?_
    refine upto_step c 21 0 84 (off118_eq k0_t1 k0_t4 k0_t7) rfl (by decide) (by decide) h7 _ (fun r l => lo_tile c _ k0_t7 h7 f 21 0 1344 0 (by decide) (by decide) rfl rfl _ _ _ r l) ?_
    refine upto_step c 20 3 83 (off117_eq k0_t1 k0_t4 k0_t7) rfl (by decide) (by decide) h7 _ (fun r l => hi_tile c _ k0_t7 h7 f 20 3 1280 384 (by decide) (by decide) rfl rfl _ _ _ r l) ?_
    refine upto_step c 20 2 82 (off116_eq k0_t1 k0_t4 k0_t7) rfl (by decide) (by decide) h7 _ (fun r l => lo_tile c _ k0_t7 h7 f 20 2 1280 256 (by decide) (by decide) rfl rfl _ _ _ r l) ?_
    refine upto_step c 20 1 81 (off115_eq k0_t1 k0_t4 k0_t7) rfl (by decide) (by decide) h7 _ (fun r l => hi_tile c _ k0_t7 h7 f 20 1 1280 128 (by decide) (by decide) rfl rfl _ _ _ r l) ?_
    refine upto_step c 20 0 80 (off114_eq k0_t1 k0_t4 k0_t7) rfl (by decide) (by decide) h7 _ (fun r l => lo_tile c _ k0_t7 h7 f 20 0 1280 0 (by decide) (by decide) rfl rfl _ _ _ r l) ?_
    refine upto_step c 19 3 79 (off113_eq k0_t1 k0_t4 k0_t7) rfl (by decide) (by decide) h7 _ (fun r l => hi_tile c _ k0_t7 h7 f 19 3 1216 384 (by decide) (by decide) rfl rfl _ _ _ r l) ?_
    refine upto_step c 19 2 78 (off112_eq k0_t1 k0_t4 k0_t7) rfl (by decide) (by decide) h7 _ (fun r l => lo_tile c _ k0_t7 h7 f 19 2 1216 256 (by decide) (by decide) rfl rfl _ _ _ r l) ?_
    refine upto_step c 19 1 77 (off111_eq k0_t1 k0_t4 k0_t7) rfl (by decide) (by decide) h7 _ (fun r l => hi_tile c _ k0_t7 h7 f 19 1 1216 128 (by decide) (by decide) rfl rfl _ _ _ r l) ?_
    refine upto_step c 19 0 76 (off110_eq k0_t1 k0_t4 k0_t7) rfl (by decide) (by decide) h7 _ (fun r l => lo_tile c _ k0_t7 h7 f 19 0 1216 0 (by decide) (by decide) rfl rfl _ _ _ r l) ?_
    refine upto_step c 18 3 75 (off109_eq k0_t1 k0_t4 k0_t7) rfl (by decide) (by decide) h7 _ (fun r l => hi_tile c _ k0_t7 h7 f 18 3 1152 384 (by decide) (by decide) rfl rfl _ _ _ r l) ?_
    refine upto_step c 18 2 74 (off108_eq k0_t1 k0_t4 k0_t7) rfl (by decide) (by decide) h7 _ (fun r l => lo_tile c _ k0_t7 h7 f 18 2 1152 256 (by decide) (by decide) rfl rfl _ _ _ r l) ?_
    refine upto_step c 18 1 73 (off107_eq k0_t1 k0_t4 k0_t7) rfl (by decide) (by decide) h7 _ (fun r l => hi_tile c _ k0_t7 h7 f 18 1 1152 128 (by decide) (by decide) rfl rfl _ _ _ r l) ?_
    refine upto_step c 18 0 72 (off106_eq k0_t1 k0_t4 k0_t7) rfl (by decide) (by decide) h7 _ (fun r l => lo_tile c _ k0_t7 h7 f 18 0 1152 0 (by decide) (by decide) rfl rfl _ _ _ r l) ?_
    refine upto_step c 17 3 71 (off105_eq k0_t1 k0_t4 k0_t7) rfl (by decide) (by decide) h7 _ (fun r l => hi_tile c _ k0_t7 h7 f 17 3 1088 384 (by decide) (by decide) rfl rfl _ _ _ r l) ?_
    refine upto_step c 17 2 70 (off104_eq k0_t1 k0_t4 k0_t7) rfl (by decide) (by decide) h7 _ (fun r l => lo_tile c _ k0_t7 h7 f 17 2 1088 256 (by decide) (by decide) rfl rfl _ _ _ r l) ?_
    refine upto_step c 17 1 69 (off103_eq k0_t1 k0_t4 k0_t7) rfl (by decide) (by decide) h7 _ (fun r l => hi_tile c _ k0_t7 h7 f 17 1 1088 128 (by decide) (by decide) rfl rfl _ _ _ r l) ?_
    refine upto_step c 17 0 68 (off102_eq k0_t1 k0_t4 k0_t7) rfl (by decide) (by decide) h7 _ (fun r l => lo_tile c _ k0_t7 h7 f 17 0 1088 0 (by decide) (by decide) rfl rfl _ _ _ r l) ?_
    refine upto_step c 16 3 67 (off101_eq k0_t1 k0_t4 k0_t7) rfl (by decide) (by decide) h7 _ (fun r l => hi_tile c _ k0_t7 h7 f 16 3 1024 384 (by decide) (by decide) rfl rfl _ _ _ r l) ?_
    refine upto_step c 16 2 66 (off100_eq k0_t1 k0_t4 k0_t7) rfl (by decide) (by decide) h7 _ (fun r l => lo_tile c _ k0_t7 h7 f 16 2 1024 256 (by decide) (by decide) rfl rfl _ _ _ r l) ?_
    refine upto_step c 16 1 65 (off99_eq k0_t1 k0_t4 k0_t7) rfl (by decide) (by decide) h7 _ (fun r l => hi_tile c _ k0_t7 h7 f 16 1 1024 128 (by decide) (by decide) rfl rfl _ _ _ r l) ?_
    refine upto_step c 16 0 64 (off98_eq k0_t1 k0_t4 k0_t7) rfl (by decide) (by decide) h7 _ (fun r l => lo_tile c _ k0_t7 h7 f 16 0 1024 0 (by decide) (by decide) rfl rfl _ _ _ r l) ?_
    refine upto_step c 15 3 63 (off97_eq k0_t1 k0_t4 k0_t7) rfl (by decide) (by decide) h7 _ (fun r l => hi_tile c _ k0_t7 h7 f 15 3 960 384 (by decide) (by decide) rfl rfl _ _ _ r l) ?_
    refine upto_step c 15 2 62 (off96_eq k0_t1 k0_t4 k0_t7) rfl (by decide) (by decide) h7 _ (fun r l => lo_tile c _ k0_t7 h7 f 15 2 960 256 (by decide) (by decide) rfl rfl _ _ _ r l) ?_
    refine upto_step c 15 1 61 (off95_eq k0_t1 k0_t4 k0_t7) rfl (by decide) (by decide) h7 _ (fun r l => hi_tile c _ k0_t7 h7 f 15 1 960 128 (by decide) (by decide) rfl rfl _ _ _ r l) ?_
    refine upto_step c 15 0 60 (off94_eq k0_t1 k0_t4 k0_t7) rfl (by decide) (by decide) h7 _ (fun r l => lo_tile c _ k0_t7 h7 f 15 0 960 0 (by decide) (by decide) rfl rfl _ _ _ r l) ?_
    refine upto_step c 14 3 59 (off93_eq k0_t1 k0_t4 k0_t7) rfl (by decide) (by decide) h7 _ (fun r l => hi_tile c _ k0_t7 h7 f 14 3 896 384 (by decide) (by decide) rfl rfl _ _ _ r l) ?_
    refine upto_step c 14 2 58 (off92_eq k0_t1 k0_t4 k0_t7) rfl (by decide) (by decide) h7 _ (fun r l => lo_tile c _ k0_t7 h7 f 14 2 896 256 (by decide) (by decide) rfl rfl _ _ _ r l) ?_
    refine upto_step c 14 1 57 (off91_eq k0_t1 k0_t4 k0_t7) rfl (by decide) (by decide) h7 _ (fun r l => hi_tile c _ k0_t7 h7 f 14 1 896 128 (by decide) (by decide) rfl rfl _ _ _ r l) ?_
    refine upto_step c 14 0 56 (off90_eq k0_t1 k0_t4 k0_t7) rfl (by decide) (by decide) h7 _ (fun r l => lo_tile c _ k0_t7 h7 f 14 0 896 0 (by decide) (by decide) rfl rfl _ _ _ r l) ?_
    refine upto_step c 13 3 55 (off89_eq k0_t1 k0_t4 k0_t7) rfl (by decide) (by decide) h7 _ (fun r l => hi_tile c _ k0_t7 h7 f 13 3 832 384 (by decide) (by decide) rfl rfl _ _ _ r l) ?_
    refine upto_step c 13 2 54 (off88_eq k0_t1 k0_t4 k0_t7) rfl (by decide) (by decide) h7 _ (fun r l => lo_tile c _ k0_t7 h7 f 13 2 832 256 (by decide) (by decide) rfl rfl _ _ _ r l) ?_
    refine upto_step c 13 1 53 (off87_eq k0_t1 k0_t4 k0_t7) rfl (by decide) (by decide) h7 _ (fun r l => hi_tile c _ k0_t7 h7 f 13 1 832 128 (by decide) (by decide) rfl rfl _ _ _ r l) ?_
    refine upto_step c 13 0 52 (off86_eq k0_t1 k0_t4 k0_t7) rfl (by decide) (by decide) h7 _ (fun r l => lo_tile c _ k0_t7 h7 f 13 0 832 0 (by decide) (by decide) rfl rfl _ _ _ r l) ?_
    refine upto_step c 12 3 51 (off85_eq k0_t1 k0_t4 k0_t7) rfl (by decide) (by decide) h7 _ (fun r l => hi_tile c _ k0_t7 h7 f 12 3 768 384 (by decide) (by decide) rfl rfl _ _ _ r l) ?_
    refine upto_step c 12 2 50 (off84_eq k0_t1 k0_t4 k0_t7) rfl (by decide) (by decide) h7 _ (fun r l => lo_tile c _ k0_t7 h7 f 12 2 768 256 (by decide) (by decide) rfl rfl _ _ _ r l) ?_
    refine upto_step c 12 1 49 (off83_eq k0_t1 k0_t4 k0_t7) rfl (by decide) (by decide) h7 _ (fun r l => hi_tile c _ k0_t7 h7 f 12 1 768 128 (by decide) (by decide) rfl rfl _ _ _ r l) ?_
    refine upto_step c 12 0 48 (off82_eq k0_t1 k0_t4 k0_t7) rfl (by decide) (by decide) h7 _ (fun r l => lo_tile c _ k0_t7 h7 f 12 0 768 0 (by decide) (by decide) rfl rfl _ _ _ r l) ?_
    refine upto_step c 11 3 47 (off81_eq k0_t1 k0_t4 k0_t7) rfl (by decide) (by decide) h7 _ (fun r l => hi_tile c _ k0_t7 h7 f 11 3 704 384 (by decide) (by decide) rfl rfl _ _ _ r l) ?_
    refine upto_step c 11 2 46 (off80_eq k0_t1 k0_t4 k0_t7) rfl (by decide) (by decide) h7 _ (fun r l => lo_tile c _ k0_t7 h7 f 11 2 704 256 (by decide) (by decide) rfl rfl _ _ _ r l) ?_
    refine upto_step c 11 1 45 (off79_eq k0_t1 k0_t4 k0_t7) rfl (by decide) (by decide) h7 _ (fun r l => hi_tile c _ k0_t7 h7 f 11 1 704 128 (by decide) (by decide) rfl rfl _ _ _ r l) ?_
    refine upto_step c 11 0 44 (off78_eq k0_t1 k0_t4 k0_t7) rfl (by decide) (by decide) h7 _ (fun r l => lo_tile c _ k0_t7 h7 f 11 0 704 0 (by decide) (by decide) rfl rfl _ _ _ r l) ?_
    refine upto_step c 10 3 43 (off77_eq k0_t1 k0_t4 k0_t7) rfl (by decide) (by decide) h7 _ (fun r l => hi_tile c _ k0_t7 h7 f 10 3 640 384 (by decide) (by decide) rfl rfl _ _ _ r l) ?_
    refine upto_step c 10 2 42 (off76_eq k0_t1 k0_t4 k0_t7) rfl (by decide) (by decide) h7 _ (fun r l => lo_tile c _ k0_t7 h7 f 10 2 640 256 (by decide) (by decide) rfl rfl _ _ _ r l) ?_
    refine upto_step c 10 1 41 (off75_eq k0_t1 k0_t4 k0_t7) rfl (by decide) (by decide) h7 _ (fun r l => hi_tile c _ k0_t7 h7 f 10 1 640 128 (by decide) (by decide) rfl rfl _ _ _ r l) ?_
    refine upto_step c 10 0 40 (off74_eq k0_t1 k0_t4 k0_t7) rfl (by decide) (by decide) h7 _ (fun r l => lo_tile c _ k0_t7 h7 f 10 0 640 0 (by decide) (by decide) rfl rfl _ _ _ r l) ?_
    refine upto_step c 9 3 39 (off73_eq k0_t1 k0_t4 k0_t7) rfl (by decide) (by decide) h7 _ (fun r l => hi_tile c _ k0_t7 h7 f 9 3 576 384 (by decide) (by decide) rfl rfl _ _ _ r l) ?_
    refine upto_step c 9 2 38 (off72_eq k0_t1 k0_t4 k0_t7) rfl (by decide) (by decide) h7 _ (fun r l => lo_tile c _ k0_t7 h7 f 9 2 576 256 (by decide) (by decide) rfl rfl _ _ _ r l) ?_
    refine upto_step c 9 1 37 (off71_eq k0_t1 k0_t4 k0_t7) rfl (by decide) (by decide) h7 _ (fun r l => hi_tile c _ k0_t7 h7 f 9 1 576 128 (by decide) (by decide) rfl rfl _ _ _ r l) ?_
    refine upto_step c 9 0 36 (off70_eq k0_t1 k0_t4 k0_t7) rfl (by decide) (by decide) h7 _ (fun r l => lo_tile c _ k0_t7 h7 f 9 0 576 0 (by decide) (by decide) rfl rfl _ _ _ r l) ?_
    refine upto_step c 8 3 35 (off69_eq k0_t1 k0_t4 k0_t7) rfl (by decide) (by decide) h7 _ (fun r l => hi_tile c _ k0_t7 h7 f 8 3 512 384 (by decide) (by decide) rfl rfl _ _ _ r l) ?_
    refine upto_step c 8 2 34 (off68_eq k0_t1 k0_t4 k0_t7) rfl (by decide) (by decide) h7 _ (fun r l => lo_tile c _ k0_t7 h7 f 8 2 512 256 (by decide) (by decide) rfl rfl _ _ _ r l) ?_
    refine upto_step c 8 1 33 (off67_eq k0_t1 k0_t4 k0_t7) rfl (by decide) (by decide) h7 _ (fun r l => hi_tile c _ k0_t7 h7 f 8 1 512 128 (by decide) (by decide) rfl rfl _ _ _ r l) ?_
    refine upto_step c 8 0 32 (off66_eq k0_t1 k0_t4 k0_t7) rfl (by decide) (by decide) h7 _ (fun r l => lo_tile c _ k0_t7 h7 f 8 0 512 0 (by decide) (by decide) rfl rfl _ _ _ r l) ?_
    refine upto_step c 7 3 31 (off65_eq k0_t1 k0_t4 k0_t7) rfl (by decide) (by decide) h7 _ (fun r l => hi_tile c _ k0_t7 h7 f 7 3 448 384 (by decide) (by decide) rfl rfl _ _ _ r l) ?_
    refine upto_step c 7 2 30 (off64_eq k0_t1 k0_t4 k0_t7) rfl (by decide) (by decide) h7 _ (fun r l => lo_tile c _ k0_t7 h7 f 7 2 448 256 (by decide) (by decide) rfl rfl _ _ _ r l) ?_
    refine upto_step c 7 1 29 (off63_eq k0_t1 k0_t4 k0_t7) rfl (by decide) (by decide) h7 _ (fun r l => hi_tile c _ k0_t7 h7 f 7 1 448 128 (by decide) (by decide) rfl rfl _ _ _ r l) ?_
    refine upto_step c 7 0 28 (off62_eq k0_t1 k0_t4 k0_t7) rfl (by decide) (by decide) h7 _ (fun r l => lo_tile c _ k0_t7 h7 f 7 0 448 0 (by decide) (by decide) rfl rfl _ _ _ r l) ?_
    refine upto_step c 6 3 27 (off61_eq k0_t1 k0_t4 k0_t7) rfl (by decide) (by decide) h7 _ (fun r l => hi_tile c _ k0_t7 h7 f 6 3 384 384 (by decide) (by decide) rfl rfl _ _ _ r l) ?_
    refine upto_step c 6 2 26 (off60_eq k0_t1 k0_t4 k0_t7) rfl (by decide) (by decide) h7 _ (fun r l => lo_tile c _ k0_t7 h7 f 6 2 384 256 (by decide) (by decide) rfl rfl _ _ _ r l) ?_
    refine upto_step c 6 1 25 (off59_eq k0_t1 k0_t4 k0_t7) rfl (by decide) (by decide) h7 _ (fun r l => hi_tile c _ k0_t7 h7 f 6 1 384 128 (by decide) (by decide) rfl rfl _ _ _ r l) ?_
    refine upto_step c 6 0 24 (off58_eq k0_t1 k0_t4 k0_t7) rfl (by decide) (by decide) h7 _ (fun r l => lo_tile c _ k0_t7 h7 f 6 0 384 0 (by decide) (by decide) rfl rfl _ _ _ r l) ?_
    refine upto_step c 5 3 23 (off57_eq k0_t1 k0_t4 k0_t7) rfl (by decide) (by decide) h7 _ (fun r l => hi_tile c _ k0_t7 h7 f 5 3 320 384 (by decide) (by decide) rfl rfl _ _ _ r l) ?_
    refine upto_step c 5 2 22 (off56_eq k0_t1 k0_t4 k0_t7) rfl (by decide) (by decide) h7 _ (fun r l => lo_tile c _ k0_t7 h7 f 5 2 320 256 (by decide) (by decide) rfl rfl _ _ _ r l) ?_
    refine upto_step c 5 1 21 (off55_eq k0_t1 k0_t4 k0_t7) rfl (by decide) (by decide) h7 _ (fun r l => hi_tile c _ k0_t7 h7 f 5 1 320 128 (by decide) (by decide) rfl rfl _ _ _ r l) ?_
    refine upto_step c 5 0 20 (off54_eq k0_t1 k0_t4 k0_t7) rfl (by decide) (by decide) h7 _ (fun r l => lo_tile c _ k0_t7 h7 f 5 0 320 0 (by decide) (by decide) rfl rfl _ _ _ r l) ?_
    refine upto_step c 4 3 19 (off53_eq k0_t1 k0_t4 k0_t7) rfl (by decide) (by decide) h7 _ (fun r l => hi_tile c _ k0_t7 h7 f 4 3 256 384 (by decide) (by decide) rfl rfl _ _ _ r l) ?_
    refine upto_step c 4 2 18 (off52_eq k0_t1 k0_t4 k0_t7) rfl (by decide) (by decide) h7 _ (fun r l => lo_tile c _ k0_t7 h7 f 4 2 256 256 (by decide) (by decide) rfl rfl _ _ _ r l) ?_
    refine upto_step c 4 1 17 (off51_eq k0_t1 k0_t4 k0_t7) rfl (by decide) (by decide) h7 _ (fun r l => hi_tile c _ k0_t7 h7 f 4 1 256 128 (by decide) (by decide) rfl rfl _ _ _ r l) ?_
    refine upto_step c 4 0 16 (off50_eq k0_t1 k0_t4 k0_t7) rfl (by decide) (by decide) h7 _ (fun r l => lo_tile c _ k0_t7 h7 f 4 0 256 0 (by decide) (by decide) rfl rfl _ _ _ r l) ?_
    refine upto_step c 3 3 15 (off49_eq k0_t1 k0_t4 k0_t7) rfl (by decide) (by decide) h7 _ (fun r l => hi_tile c _ k0_t7 h7 f 3 3 192 384 (by decide) (by decide) rfl rfl _ _ _ r l) ?_
    refine upto_step c 3 2 14 (off48_eq k0_t1 k0_t4 k0_t7) rfl (by decide) (by decide) h7 _ (fun r l => lo_tile c _ k0_t7 h7 f 3 2 192 256 (by decide) (by decide) rfl rfl _ _ _ r l) ?_
    refine upto_step c 3 1 13 (off47_eq k0_t1 k0_t4 k0_t7) rfl (by decide) (by decide) h7 _ (fun r l => hi_tile c _ k0_t7 h7 f 3 1 192 128 (by decide) (by decide) rfl rfl _ _ _ r l) ?_
    refine upto_step c 3 0 12 (off46_eq k0_t1 k0_t4 k0_t7) rfl (by decide) (by decide) h7 _ (fun r l => lo_tile c _ k0_t7 h7 f 3 0 192 0 (by decide) (by decide) rfl rfl _ _ _ r l) ?_
    refine upto_step c 2 3 11 (off45_eq k0_t1 k0_t4 k0_t7) rfl (by decide) (by decide) h7 _ (fun r l => hi_tile c _ k0_t7 h7 f 2 3 128 384 (by decide) (by decide) rfl rfl _ _ _ r l) ?_
    refine upto_step c 2 2 10 (off44_eq k0_t1 k0_t4 k0_t7) rfl (by decide) (by decide) h7 _ (fun r l => lo_tile c _ k0_t7 h7 f 2 2 128 256 (by decide) (by decide) rfl rfl _ _ _ r l) ?_
    refine upto_step c 2 1 9 (off43_eq k0_t1 k0_t4 k0_t7) rfl (by decide) (by decide) h7 _ (fun r l => hi_tile c _ k0_t7 h7 f 2 1 128 128 (by decide) (by decide) rfl rfl _ _ _ r l) ?_
    refine upto_step c 2 0 8 (off42_eq k0_t1 k0_t4 k0_t7) rfl (by decide) (by decide) h7 _ (fun r l => lo_tile c _ k0_t7 h7 f 2 0 128 0 (by decide) (by decide) rfl rfl _ _ _ r l) ?_
    refine upto_step c 1 3 7 (off41_eq k0_t1 k0_t4 k0_t7) rfl (by decide) (by decide) h7 _ (fun r l => hi_tile c _ k0_t7 h7 f 1 3 64 384 (by decide) (by decide) rfl rfl _ _ _ r l) ?_
    refine upto_step c 1 2 6 (off40_eq k0_t1 k0_t4 k0_t7) rfl (by decide) (by decide) h7 _ (fun r l => lo_tile c _ k0_t7 h7 f 1 2 64 256 (by decide) (by decide) rfl rfl _ _ _ r l) ?_
    refine upto_step c 1 1 5 (off39_eq k0_t1 k0_t4 k0_t7) rfl (by decide) (by decide) h7 _ (fun r l => hi_tile c _ k0_t7 h7 f 1 1 64 128 (by decide) (by decide) rfl rfl _ _ _ r l) ?_
    refine upto_step c 1 0 4 (off38_eq k0_t1 k0_t4 k0_t7) rfl (by decide) (by decide) h7 _ (fun r l => lo_tile c _ k0_t7 h7 f 1 0 64 0 (by decide) (by decide) rfl rfl _ _ _ r l) ?_
    refine upto_step c 0 3 3 (off37_eq k0_t1 k0_t4 k0_t7) rfl (by decide) (by decide) h7 _ (fun r l => hi_tile c _ k0_t7 h7 f 0 3 0 384 (by decide) (by decide) rfl rfl _ _ _ r l) ?_
    refine upto_step c 0 2 2 (off36_eq k0_t1 k0_t4 k0_t7) rfl (by decide) (by decide) h7 _ (fun r l => lo_tile c _ k0_t7 h7 f 0 2 0 256 (by decide) (by decide) rfl rfl _ _ _ r l) ?_
    refine upto_step c 0 1 1 (off35_eq k0_t1 k0_t4 k0_t7) rfl (by decide) (by decide) h7 _ (fun r l => hi_tile c _ k0_t7 h7 f 0 1 0 128 (by decide) (by decide) rfl rfl _ _ _ r l) ?_
    refine upto_step c 0 0 0 (off34_eq k0_t1 k0_t4 k0_t7) rfl (by decide) (by decide) h7 _ (fun r l => lo_tile c _ k0_t7 h7 f 0 0 0 0 (by decide) (by decide) rfl rfl _ _ _ r l) ?_
    exact h
end Part

end Cert.Proof.KernelIdealP
-- ==== Proof.KernelIdeal.Cycle.lean ====
/-
  THE STATE OF A CYCLE. A cycle of fourteen blocks copies each block in, repacks it and copies it out; copies in run
  ahead of the repacking and copies out behind it. Here what is held before step `k` of a cycle.
-/
module

public import proofs.«01_k».proof.Proof.KernelIdeal.Small
public import proofs.«01_k».proof.Proof.KernelIdeal.Part

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Cycle
variable (c : Dev nD) (XA : Buf (Elt F) (wM.view.loc (c : Thread nD τ))) (XS : Buf (Elt F) (scM.view.loc (c : Thread nD τ)))

/-- Copies in started before step `k`. -/
def hiN (k : ℕ) : ℕ := min 14 (max 9 (k + 8))
/-- Copies out started before step `k`. -/
def stN (k : ℕ) : ℕ := if k ≤ 8 then 0 else k - 1

/-- The blocks and slots of the cycle whose first block is `o`, before step `k`: `hi` copies in started, slots from
    `lo` on not yet in use again, `st` copies out started, `wt` of them awaited. -/
def cyc (o k hi lo st wt : ℕ) : sProp 𝕄 :=
  iprop(ow c ∗ fam (hm c XA) o 0 k ∗ fam (hm c XA) o hi 14 ∗ fam (fl c XA) o k hi ∗ fam (idl c) o lo k ∗ fam (fro c) o k 8
    ∗ fam (wr c XA) o st k ∗ fam (flO c XA) o wt st ∗ fam (dn c XA) o 0 wt ∗ fam (nd c) o st 14)

/-- What the copy of the scales into the buffer leaves there. -/
abbrev landS (b : Fin 2) (f : Buf (Elt F) (sbM.view.loc (c : Thread nD τ))) : Buf (Elt F) (sbM.view.loc (c : Thread nD τ)) :=
  sbM.view.writes (Elt F) f [⟨Rect.whole S84x2x8192, ReadAs.same.apply ((sblk b).view.read (Elt F) XS)⟩]
/-- What the copy of the buffer out leaves in the result. -/
abbrev landT (b : Fin 2) (f : Buf (Elt F) (sbM.view.loc (c : Thread nD τ))) (x : Buf (Elt F) ((tsblk b).view.loc (c : Thread nD τ))) : Buf (Elt F) ((tsblk b).view.loc (c : Thread nD τ)) :=
  (tsblk b).view.writes (Elt F) x [⟨Rect.whole S84x2x8192, ReadAs.same.apply (sbM.view.read (Elt F) f)⟩]
/-- The scales' copy in on its way. -/
abbrev sIn (b : Fin 2) : sProp 𝕄 := iprop(∃ f, Transfers.Flight countersEmb (c : Thread nD τ) (SemLoc.dma cc0_scratch5.sem) () 172032
  iprop(sbufP c (landS c XS b f) ∗ sblkP c XS b))
/-- The scales' copy out on its way. -/
abbrev sOut (b : Fin 2) : sProp 𝕄 := iprop(∃ f x, Transfers.Flight countersEmb (c : Thread nD τ) (SemLoc.dma cc0_scratch6.sem) () 172032
  iprop(tsblkP c b (landT c b f x) ∗ sbufP c f) ∗ ⌜sbM.view.read (Elt F) f = (sblk b).view.read (Elt F) XS⌝)
/-- The scales before the middle of the cycle, and after it. -/
def scA (b : Fin 2) : sProp 𝕄 := iprop(sIn c XS b ∗ (∃ x, tsblkP c b x) ∗ soutP c)
def scB (b : Fin 2) : sProp 𝕄 := iprop(sOut c XS b ∗ sblkP c XS b ∗ sinP c)

/-- Before trip `k` of the part loop. -/
def t7Inv (k0_t1 : Fin k0_t1_loop.trips) (k0_t4 : Fin k0_t4_loop.trips) (f : Buf (Elt F) ((islot (Ring.sl 9 (14 * k0_t1.val + k0_t4.val))).view.loc (c : Thread nD τ)))
    (k : ℕ) (_ : Unit) : sProp 𝕄 :=
  iprop(islotP c (Ring.sl 9 (14 * k0_t1.val + k0_t4.val)) f ∗ ∃ g, oslotP c (Ring.sl 8 (14 * k0_t1.val + k0_t4.val)) g
    ∗ ⌜Upto c (Ring.sl 8 (14 * k0_t1.val + k0_t4.val)) ((islot (Ring.sl 9 (14 * k0_t1.val + k0_t4.val))).view.read (Elt F) f) g k 0⌝)
theorem t7_run (k0_t1 : Fin k0_t1_loop.trips) (k0_t4 : Fin k0_t4_loop.trips) (f g) (k : Fin k0_t7_loop.trips)
    (h : Upto c (Ring.sl 8 (14 * k0_t1.val + k0_t4.val)) ((islot (Ring.sl 9 (14 * k0_t1.val + k0_t4.val))).view.read (Elt F) f) g k.val 0) :
    iprop(islotP c (Ring.sl 9 (14 * k0_t1.val + k0_t4.val)) f ∗ oslotP c (Ring.sl 8 (14 * k0_t1.val + k0_t4.val)) g) ⊢ wp frame (wpE (defs₀ (F := F)) 𝒱₀ (c : Thread nD τ) none) Set.univ (t7B k0_t1 k0_t4 k) (t7Inv c k0_t1 k0_t4 f (k.val + 1)) := by
  refine (t7Run c k0_t1 k0_t4 k f g h).trans (wp_mono _ _ _ (fun _ => ?_))
  unfold t7Inv
  iintro ⟨Hi, ⟨%g', Ho, %h'⟩⟩
  isplitl [Hi]; · iexact Hi
  iexists g'
  isplitl [Ho]; · iexact Ho
  ipureintro; exact upto_next c h'
theorem t7_step (k0_t1 : Fin k0_t1_loop.trips) (k0_t4 : Fin k0_t4_loop.trips) (f) (k : Fin k0_t7_loop.trips) (acc : Unit) :
    t7Inv c k0_t1 k0_t4 f k.val acc ⊢ wp frame (wpE (defs₀ (F := F)) 𝒱₀ (c : Thread nD τ) none) Set.univ (t7B k0_t1 k0_t4 k) (t7Inv c k0_t1 k0_t4 f (k.val + 1)) := by
  have h0 : t7Inv c k0_t1 k0_t4 f k.val acc ⊢ iprop(∃ g, ⌜Upto c (Ring.sl 8 (14 * k0_t1.val + k0_t4.val)) ((islot (Ring.sl 9 (14 * k0_t1.val + k0_t4.val))).view.read (Elt F) f) g k.val 0⌝
      ∗ (islotP c (Ring.sl 9 (14 * k0_t1.val + k0_t4.val)) f ∗ oslotP c (Ring.sl 8 (14 * k0_t1.val + k0_t4.val)) g)) := by
    unfold t7Inv
    iintro ⟨Hi, ⟨%g, Ho, %h⟩⟩
    iexists g
    isplitr; · ipureintro; exact h
    isplitl [Hi]; · iexact Hi
    iexact Ho
  refine h0.trans ?_
  iintro ⟨%g, %h, H⟩
  iapply (t7_run c k0_t1 k0_t4 f g k h)
  iexact H

/-- A slot that a copy has filled holds the block. -/
theorem landed (s : Fin 9) (b : Fin 28) (f : Buf (Elt F) ((islot s).view.loc (c : Thread nD τ))) :
    islotP c s (landI c XA s b f) ⊢ iprop(∃ f', islotP c s f' ∗ ⌜(islot s).view.read (Elt F) f' = inB c XA b⌝) := by
  iintro H
  iexists _
  isplitl [H]; · iexact H
  ipureintro; exact read_landI ..
theorem landedO (s : Fin 8) (b : Fin 28) (g : Buf (Elt F) ((oslot s).view.loc (c : Thread nD τ))) (x : Buf (Elt F) ((oblk b).view.loc (c : Thread nD τ)))
    (h : (oslot s).view.read (Elt F) g = outB c XA b) :
    oblkP c b (landO c s b g x) ⊢ iprop(∃ x', oblkP c b x' ∗ ⌜(oblk b).view.read (Elt F) x' = outB c XA b⌝) := by
  iintro H
  iexists _
  isplitl [H]; · iexact H
  ipureintro; exact (read_landO ..).trans h
theorem landedS (b : Fin 2) (f : Buf (Elt F) (sbM.view.loc (c : Thread nD τ))) :
    sbufP c (landS c XS b f) ⊢ iprop(∃ f', sbufP c f' ∗ ⌜sbM.view.read (Elt F) f' = (sblk b).view.read (Elt F) XS⌝) := by
  iintro H
  iexists _
  isplitl [H]; · iexact H
  ipureintro; exact View.read_writes_whole ..
theorem landedT (b : Fin 2) (f : Buf (Elt F) (sbM.view.loc (c : Thread nD τ))) (x : Buf (Elt F) ((tsblk b).view.loc (c : Thread nD τ)))
    (h : sbM.view.read (Elt F) f = (sblk b).view.read (Elt F) XS) :
    tsblkP c b (landT c b f x) ⊢ iprop(∃ x', tsblkP c b x' ∗ ⌜(tsblk b).view.read (Elt F) x' = (sblk b).view.read (Elt F) XS⌝) := by
  iintro H
  iexists _
  isplitl [H]; · iexact H
  ipureintro; exact (View.read_writes_whole ..).trans h

theorem cond1_of : ∀ k : Fin k0_t4_loop.trips, 1 ≤ k.val → k.val ≤ 5 → k0_cond1 k = 1#1 := by decide +kernel
theorem cond1_not : ∀ k : Fin k0_t4_loop.trips, ¬ (1 ≤ k.val ∧ k.val ≤ 5) → ¬ k0_cond1 k = 1#1 := by decide +kernel
theorem cond2_of : ∀ k : Fin k0_t4_loop.trips, k.val = 8 → k0_cond2 k = 1#1 := by decide +kernel
theorem cond2_not : ∀ k : Fin k0_t4_loop.trips, ¬ k.val = 8 → ¬ k0_cond2 k = 1#1 := by decide +kernel
theorem cond3_of : ∀ k : Fin k0_t4_loop.trips, 8 < k.val → k0_cond3 k = 1#1 := by decide +kernel
theorem cond3_not : ∀ k : Fin k0_t4_loop.trips, ¬ 8 < k.val → ¬ k0_cond3 k = 1#1 := by decide +kernel
theorem cond4_of : ∀ k : Fin k0_t4_loop.trips, 8 ≤ k.val → k0_cond4 k = 1#1 := by decide +kernel
theorem cond4_not : ∀ k : Fin k0_t4_loop.trips, ¬ 8 ≤ k.val → ¬ k0_cond4 k = 1#1 := by decide +kernel

abbrev t4B (k0_t1 : Fin k0_t1_loop.trips) (k : Fin k0_t4_loop.trips) (acc : Unit) : Prog (TpuEff nD τ sig (Elt F) Λ₀ .tc) Unit :=
  k0_t4_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 0#32 1#32 k0_t1 k acc
end Cycle

end Cert.Proof.KernelIdealP
-- ==== Proof.KernelIdeal.Early.lean ====
/-
  THE EARLY STEPS OF A CYCLE: those before the first copy out starts.
-/
module

public import proofs.«01_k».proof.Proof.KernelIdeal.Cycle

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

/-- A step that only repacks. -/
theorem stepA (k0_t1 : Fin k0_t1_loop.trips) (k : Fin k0_t4_loop.trips) (acc : Unit) (hi lo : ℕ) (S : sProp 𝕄) (hk : k.val = 0 ∨ k.val = 6 ∨ k.val = 7) (hhi : k.val < hi) (hlo : lo ≤ k.val) :
    iprop(cyc c XA (14 * k0_t1.val) k.val hi lo 0 0 ∗ S) ⊢ wp frame (wpE (defs₀ (F := F)) 𝒱₀ (c : Thread nD τ) none) Set.univ (t4B k0_t1 k acc)
      (fun _ => iprop(cyc c XA (14 * k0_t1.val) (k.val + 1) hi lo 0 0 ∗ S)) := by
  have h1 := t1_lt k0_t1
  have h4 := t4_lt k
  have k0_h1 := cond1_not k (by omega)
  have k0_h2 := cond2_not k (by omega)
  have k0_h3 := cond3_not k (by omega)
  have k0_h4 := cond4_not k (by omega)
  unfold cyc
  iintro ⟨⟨⟨%W, Hw⟩, Ha, Hb, Hf, Hi, Hr, Hwr, Hfo, Hd, Hn⟩, HS⟩
  ihave Hf' := (fam_head (fl c XA) (14 * k0_t1.val) (show k.val < hi by omega)) $$ Hf
  icases Hf' with ⟨⟨%f, Hf0⟩, Hf⟩
  ihave Hr' := (fam_head (fro c) (14 * k0_t1.val) (show k.val < 8 by omega)) $$ Hr
  icases Hr' with ⟨⟨%g, Ho, Hoc⟩, Hr⟩
  dsimp only [t4B]
  sl_unfold [k0_t4_body]
  sl_exec
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepA.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) hlo)
      isplitl [Hsl Hf0]
      · iexists _; isplitl [Hsl]; · iexact Hsl
        iexact Hf0
      iexact Hi
    isplitl [Hr]; · iexact Hr
    isplitl [Hwr Ho Hoc]
    · iapply (fam_snoc (wr c XA) (14 * k0_t1.val) (Nat.zero_le k.val))
      isplitl [Ho Hoc]
      · iexists g2; isplitl [Ho]; · iexact Ho
        isplitl [Hoc]; · iexact Hoc
        ipureintro; exact he2
      iexact Hwr
    isplitl [Hfo]; · iexact Hfo
    isplitl [Hd]; · iexact Hd
    iexact Hn
  · iexact HS

/-- A step that starts another copy in and repacks. -/
theorem stepB (k0_t1 : Fin k0_t1_loop.trips) (k : Fin k0_t4_loop.trips) (acc : Unit) (S : sProp 𝕄) (hk : 1 ≤ k.val) (hk5 : k.val ≤ 5) :
    iprop(cyc c XA (14 * k0_t1.val) k.val (k.val + 8) (k.val - 1) 0 0 ∗ S) ⊢ wp frame (wpE (defs₀ (F := F)) 𝒱₀ (c : Thread nD τ) none) Set.univ (t4B k0_t1 k acc)
      (fun _ => iprop(cyc c XA (14 * k0_t1.val) (k.val + 1) (k.val + 9) k.val 0 0 ∗ S)) := by
  have h1 := t1_lt k0_t1
  have h4 := t4_lt k
  have k0_h1 := cond1_of k hk hk5
  have k0_h2 := cond2_not k (by omega)
  have k0_h3 := cond3_not k (by omega)
  have k0_h4 := cond4_not k (by omega)
  unfold cyc
  iintro ⟨⟨⟨%W, Hw⟩, Ha, Hb, Hf, Hi, Hr, Hwr, Hfo, Hd, Hn⟩, HS⟩
  ihave Hf' := (fam_head (fl c XA) (14 * k0_t1.val) (show k.val < k.val + 8 by omega)) $$ Hf
  icases Hf' with ⟨⟨%f, Hf0⟩, Hf⟩
  ihave Hb' := (fam_head (hm c XA) (14 * k0_t1.val) (show k.val + 8 < 14 by omega)) $$ Hb
  icases Hb' with ⟨Hbn, Hb⟩
  ihave Hi' := (fam_head (idl c) (14 * k0_t1.val) (show k.val - 1 < k.val by omega)) $$ Hi
  icases Hi' with ⟨Hin, Hi⟩
  ihave Hin' := (idl_next c (14 * k0_t1.val) k.val hk) $$ Hin
  icases Hin' with ⟨%fn, Hns, Hnc⟩
  ihave Hr' := (fam_head (fro c) (14 * k0_t1.val) (show k.val < 8 by omega)) $$ Hr
  icases Hr' with ⟨⟨%g, Ho, Hoc⟩, Hr⟩
  dsimp only [t4B]
  sl_unfold [k0_t4_body]
  sl_exec
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepB.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf Hnc]
    · iapply (fam_snoc (fl c XA) (14 * k0_t1.val) (show k.val + 1 ≤ k.val + 8 by omega))
      isplitl [Hnc]
      · iexists fn; iexact Hnc
      iexact Hf
    isplitl [Hi Hsl Hf0]
    · iapply (fam_snoc (idl c) (14 * k0_t1.val) (Nat.le_refl k.val))
      isplitl [Hsl Hf0]
      · iexists _; isplitl [Hsl]; · iexact Hsl
        iexact Hf0
      iapply (fam_eq (idl c) (14 * k0_t1.val) (show k.val - 1 + 1 = k.val by omega) rfl); iexact Hi
    isplitl [Hr]; · iexact Hr
    isplitl [Hwr Ho Hoc]
    · iapply (fam_snoc (wr c XA) (14 * k0_t1.val) (Nat.zero_le k.val))
      isplitl [Ho Hoc]
      · iexists g2; isplitl [Ho]; · iexact Ho
        isplitl [Hoc]; · iexact Hoc
        ipureintro; exact he2
      iexact Hwr
    isplitl [Hfo]; · iexact Hfo
    isplitl [Hd]; · iexact Hd
    iexact Hn
  · iexact HS

end Steps

end Cert.Proof.KernelIdealP
-- ==== Proof.KernelIdeal.Late.lean ====
/-
  THE LATER STEPS OF A CYCLE: the middle step and those after it.
-/
module

public import proofs.«01_k».proof.Proof.KernelIdeal.Cycle

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

/-- The middle step: it starts the first eight copies out, turns the scales round, awaits the first copy out and repacks. -/
theorem stepD (k0_t1 : Fin k0_t1_loop.trips) (k : Fin k0_t4_loop.trips) (acc : Unit) (hk : k.val = 8) :
    iprop(cyc c XA (14 * k0_t1.val) k.val 14 5 0 (k.val - 8) ∗ scA c XS (Ring.bk 2 k0_t1.val)) ⊢ wp frame (wpE (defs₀ (F := F)) 𝒱₀ (c : Thread nD τ) none) Set.univ (t4B k0_t1 k acc)
      (fun _ => iprop(cyc c XA (14 * k0_t1.val) (k.val + 1) 14 5 8 1 ∗ scB c XS (Ring.bk 2 k0_t1.val))) := by
  have h1 := t1_lt k0_t1
  have h4 := t4_lt k
  have k0_h1 := cond1_not k (by omega)
  have k0_h2 := cond2_of k (by omega)
  have k0_h3 := cond3_not k (by omega)
  have k0_h4 := cond4_of k (by omega)
  unfold cyc
  iintro ⟨⟨⟨%W, Hw⟩, Ha, Hb, Hf, Hi, Hr, Hwr, Hfo, Hd, Hn⟩, HS⟩
  ihave HS' := (show scA c XS (Ring.bk 2 k0_t1.val) ⊢ iprop(sIn c XS (Ring.bk 2 k0_t1.val) ∗ (∃ x, tsblkP c (Ring.bk 2 k0_t1.val) x) ∗ soutP c) from .rfl) $$ HS
  icases HS' with ⟨⟨%fs, Hs⟩, ⟨%xs, Hts⟩, Hso⟩
  ihave Hf' := (fam_head (fl c XA) (14 * k0_t1.val) (show k.val < 14 by omega)) $$ Hf
  icases Hf' with ⟨⟨%f, Hf0⟩, Hf⟩
  dsimp only [t4B]
  sl_unfold [k0_t4_body]
  sl_exec
  sl_for (t5Inv c XA (14 * k0_t1.val)) $$ [Hw Hwr Hn Hfo]
  · intro k acc; dsimp only [stepD.sl.prog.body_1]; exact t5_step c XA k0_t1 _ k0_h2 k acc
  · unfold t5Inv
    isplitl [Hw]; · iexists W; iexact Hw
    isplitl [Hwr]; · iapply (fam_eq (wr c XA) _ rfl (show k.val = 8 by omega)); iexact Hwr
    isplitl [Hn]; · iexact Hn
    iapply (fam_eq (flO c XA) _ (show k.val - 8 = 0 by omega) rfl); iexact Hfo
  iintro %acc1 HL
  ihave HL' := (show t5Inv c XA (14 * k0_t1.val) (k0_t5_loop k0_t1).trips acc1 ⊢ iprop(ow c ∗ fam (nd c) (14 * k0_t1.val) 8 14 ∗ fam (flO c XA) (14 * k0_t1.val) 0 8) from by
    rw [t5_trips]; unfold t5Inv
    iintro ⟨H1, H2, H3, H4⟩
    isplitl [H1]; · iexact H1
    isplitl [H3]; · iexact H3
    iexact H4) $$ HL
  icases HL' with ⟨⟨%W', Hw⟩, Hn, Hfo⟩
  ihave Hfo' := (fam_head (flO c XA) (14 * k0_t1.val) (show 0 < 8 by omega)) $$ Hfo
  icases Hfo' with ⟨Hq0, Hfo⟩
  ihave Hq1 := (show flO c XA (14 * k0_t1.val + 0) ⊢ flO c XA (14 * k0_t1.val + (k.val - 8)) from by rw [show k.val - 8 = 0 from by omega]) $$ Hq0
  icases Hq1 with ⟨%gw, %xw, Hq, %heq⟩
  sl_for0 (t6_trips k0_t1)
  sl_exec
  ihave Hr1 := (show iprop(oslotP c (Ring.sl 8 (14 * k0_t1.val + (k.val - 8))) gw ∗ osmP c (Ring.sl 8 (14 * k0_t1.val + (k.val - 8)))) ⊢ fro c (14 * k0_t1.val + k.val) from
    Entails.trans (by iintro ⟨H1, H2⟩; iexists gw; isplitl [H1]; · iexact H1
                      iexact H2) (fro_next c (14 * k0_t1.val) k.val (by omega))) $$ [Hq_src Hq]
  · isplitl [Hq_src]; · iexact Hq_src
    iexact Hq
  icases Hr1 with ⟨%g, Ho, Hoc2⟩
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepD.sl.prog.body_3]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [Hs_src Hs Hso]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) (show 5 ≤ k.val by omega))
      isplitl [Hsl Hf0]
      · iexists _; isplitl [Hsl]; · iexact Hsl
        iexact Hf0
      iexact Hi
    isplitl [Hr]
    · iapply (Entails.of_eq ((fam_nil_eq (fro c) (14 * k0_t1.val) (show 8 ≤ k.val by omega)).trans (fam_nil_eq (fro c) (14 * k0_t1.val) (show 8 ≤ k.val + 1 by omega)).symm)); iexact Hr
    isplitl [Ho Hoc2]
    · iapply (fam_eq (wr c XA) (14 * k0_t1.val) (show k.val = 8 by omega) rfl)
      iapply (fam_snoc (wr c XA) (14 * k0_t1.val) (Nat.le_refl k.val))
      isplitl [Ho Hoc2]
      · iexists g2; isplitl [Ho]; · iexact Ho
        isplitl [Hoc2]; · iexact Hoc2
        ipureintro; exact he2
      iapply (fam_nil (wr c XA) (14 * k0_t1.val) (Nat.le_refl k.val)); iempintro
    isplitl [Hfo]; · iexact Hfo
    isplitl [Hd Hq_dst]
    · iapply (fam_eq (dn c XA) (14 * k0_t1.val) rfl (show k.val - 8 + 1 = 1 by omega))
      iapply (fam_snoc (dn c XA) (14 * k0_t1.val) (Nat.zero_le (k.val - 8)))
      isplitl [Hq_dst]
      · iapply (landedO c XA _ _ gw _ heq); iexact Hq_dst
      iapply (fam_eq (dn c XA) (14 * k0_t1.val) rfl (show k.val - 8 = k.val - 8 by omega)); iexact Hd
    iexact Hn
  · unfold scB
    isplitl [Hso]
    · iexists _; iexists xs
      isplitl [Hso]; · iexact Hso
      ipureintro; exact View.read_writes_whole ..
    isplitl [Hs_src]; · iexact Hs_src
    iexact Hs

/-- A later step: it starts a copy out, awaits one and repacks. -/
theorem stepE (k0_t1 : Fin k0_t1_loop.trips) (k : Fin k0_t4_loop.trips) (acc : Unit) (S : sProp 𝕄) (hk : 8 < k.val) :
    iprop(cyc c XA (14 * k0_t1.val) k.val 14 5 (k.val - 1) (k.val - 8) ∗ S) ⊢ wp frame (wpE (defs₀ (F := F)) 𝒱₀ (c : Thread nD τ) none) Set.univ (t4B k0_t1 k acc)
      (fun _ => iprop(cyc c XA (14 * k0_t1.val) (k.val + 1) 14 5 k.val (k.val - 7) ∗ S)) := by
  have h1 := t1_lt k0_t1
  have h4 := t4_lt k
  have k0_h1 := cond1_not k (by omega)
  have k0_h2 := cond2_not k (by omega)
  have k0_h3 := cond3_of k (by omega)
  have k0_h4 := cond4_of k (by omega)
  unfold cyc
  iintro ⟨⟨⟨%W, Hw⟩, Ha, Hb, Hf, Hi, Hr, Hwr, Hfo, Hd, Hn⟩, HS⟩
  ihave Hwr' := (fam_head (wr c XA) (14 * k0_t1.val) (show k.val - 1 < k.val by omega)) $$ Hwr
  icases Hwr' with ⟨⟨%go, Hos, Hoc, %heo⟩, Hwr⟩
  ihave Hn' := (fam_head (nd c) (14 * k0_t1.val) (show k.val - 1 < 14 by omega)) $$ Hn
  icases Hn' with ⟨⟨%xo, Hon⟩, Hn⟩
  ihave Hfo' := (fam_head (flO c XA) (14 * k0_t1.val) (show k.val - 8 < k.val - 1 by omega)) $$ Hfo
  icases Hfo' with ⟨⟨%gw, %xw, Hq, %heq⟩, Hfo⟩
  ihave Hf' := (fam_head (fl c XA) (14 * k0_t1.val) (show k.val < 14 by omega)) $$ Hf
  icases Hf' with ⟨⟨%f, Hf0⟩, Hf⟩
  dsimp only [t4B]
  sl_unfold [k0_t4_body]
  sl_exec
  ihave Hr1 := (show iprop(oslotP c (Ring.sl 8 (14 * k0_t1.val + (k.val - 8))) gw ∗ osmP c (Ring.sl 8 (14 * k0_t1.val + (k.val - 8)))) ⊢ fro c (14 * k0_t1.val + k.val) from
    Entails.trans (by iintro ⟨H1, H2⟩; iexists gw; isplitl [H1]; · iexact H1
                      iexact H2) (fro_next c (14 * k0_t1.val) k.val (by omega))) $$ [Hq_src Hq]
  · isplitl [Hq_src]; · iexact Hq_src
    iexact Hq
  icases Hr1 with ⟨%g, Ho, Hoc2⟩
  ihave Hl := (landed c XA (Ring.sl 9 (14 * k0_t1.val + k.val)) (Ring.bk 28 (14 * k0_t1.val + k.val)) (islot (Ring.sl 9 (14 * k0_t1.val + k.val))).view.junk) $$ Hf0_dst
  icases Hl with ⟨%f2, Hsl, %hf2⟩
  sl_for (t7Inv c k0_t1 k f2) $$ [Hsl Ho]
  · intro k' acc; cases acc; dsimp only [stepE.sl.prog.body_1]; have e := t7_step (F := F) c k0_t1 k f2 k' (); dsimp only [t7B] at e; with_reducible exact e
  · unfold t7Inv
    isplitl [Hsl]; · iexact Hsl
    iexists g
    isplitl [Ho]; · iexact Ho
    ipureintro; exact upto_zero c _ _ g
  iintro %acc2 HL
  ihave HL' := (show t7Inv c k0_t1 k f2 k0_t7_loop.trips acc2 ⊢
      iprop(islotP c (Ring.sl 9 (14 * k0_t1.val + k.val)) f2
        ∗ ∃ g, oslotP c (Ring.sl 8 (14 * k0_t1.val + k.val)) g ∗ ⌜(oslot (Ring.sl 8 (14 * k0_t1.val + k.val))).view.read (Elt F) g = outB c XA (Ring.bk 28 (14 * k0_t1.val + k.val))⌝) from by
    rw [t7_trips]; unfold t7Inv
    iintro ⟨H1, ⟨%g2, H2, %h2⟩⟩
    isplitl [H1]; · iexact H1
    iexists g2
    isplitl [H2]; · iexact H2
    ipureintro; exact (upto_full c h2).trans (congrArg tile hf2)) $$ HL
  icases HL' with ⟨Hsl, ⟨%g2, Ho, %he2⟩⟩
  sl_exec
  sl_step
  isplitr [HS]
  · isplitl [Hw]; · iexists _; iexact Hw
    isplitl [Ha Hf0_src]
    · iapply (fam_snoc (hm c XA) (14 * k0_t1.val) (Nat.zero_le k.val))
      isplitl [Hf0_src]; · iexact Hf0_src
      iexact Ha
    isplitl [Hb]; · iexact Hb
    isplitl [Hf]; · iexact Hf
    isplitl [Hi Hsl Hf0]
    · iapply (fam_snoc (idl c) (14 * k0_t1.val) (show 5 ≤ k.val by omega))
      isplitl [Hsl Hf0]
      · iexists _; isplitl [Hsl]; · iexact Hsl
        iexact Hf0
      iexact Hi
    isplitl [Hr]
    · iapply (Entails.of_eq ((fam_nil_eq (fro c) (14 * k0_t1.val) (show 8 ≤ k.val by omega)).trans (fam_nil_eq (fro c) (14 * k0_t1.val) (show 8 ≤ k.val + 1 by omega)).symm)); iexact Hr
    isplitl [Hwr Ho Hoc2]
    · iapply (fam_eq (wr c XA) (14 * k0_t1.val) (show k.val - 1 + 1 = k.val by omega) rfl)
      iapply (fam_snoc (wr c XA) (14 * k0_t1.val) (show k.val - 1 + 1 ≤ k.val by omega))
      isplitl [Ho Hoc2]
      · iexists g2; isplitl [Ho]; · iexact Ho
        isplitl [Hoc2]; · iexact Hoc2
        ipureintro; exact he2
      iexact Hwr
    isplitl [Hfo Hoc]
    · iapply (fam_eq (flO c XA) (14 * k0_t1.val) (show k.val - 8 + 1 = k.val - 7 by omega) (show k.val - 1 + 1 = k.val by omega))
      iapply (fam_snoc (flO c XA) (14 * k0_t1.val) (show k.val - 8 + 1 ≤ k.val - 1 by omega))
      isplitl [Hoc]
      · iexists go; iexists xo
        isplitl [Hoc]; · iexact Hoc
        ipureintro; exact heo
      iexact Hfo
    isplitl [Hd Hq_dst]
    · iapply (fam_eq (dn c XA) (14 * k0_t1.val) rfl (show k.val - 8 + 1 = k.val - 7 by omega))
      iapply (fam_snoc (dn c XA) (14 * k0_t1.val) (Nat.zero_le (k.val - 8)))
      isplitl [Hq_dst]
      · iapply (landedO c XA _ _ gw _ heq); iexact Hq_dst
      iexact Hd
    iapply (fam_eq (nd c) (14 * k0_t1.val) (show k.val - 1 + 1 = k.val by omega) rfl); iexact Hn
  · iexact HS
end Steps

end Cert.Proof.KernelIdealP
-- ==== Proof.KernelIdeal.Steps.lean ====
/-
  ONE CYCLE. The fourteen steps of a cycle, one after the other, from the four kinds of step; then the cycle as a whole:
  it starts the copies in, takes the steps, and awaits the last copies out.
-/
module

public import proofs.«01_k».proof.Proof.KernelIdeal.Early
public import proofs.«01_k».proof.Proof.KernelIdeal.Late

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Steps
variable (c : Dev nD) (XA : Buf (Elt F) (wM.view.loc (c : Thread nD τ))) (XS : Buf (Elt F) (scM.view.loc (c : Thread nD τ)))

theorem cyc_eq (o : ℕ) {k k' hi hi' lo lo' st st' wt wt' : ℕ} (h1 : k = k') (h2 : hi = hi') (h3 : lo = lo') (h4 : st = st') (h5 : wt = wt') :
    cyc c XA o k hi lo st wt ⊢ cyc c XA o k' hi' lo' st' wt' := by
  subst h1; subst h2; subst h3; subst h4; subst h5; exact .rfl

/-- The scales before step `k`. -/
def scK (k : ℕ) (b : Fin 2) : sProp 𝕄 := if k ≤ 8 then scA c XS b else scB c XS b
theorem scK_early {k : ℕ} (h : k ≤ 8) (b : Fin 2) : scK c XS k b = scA c XS b := if_pos h
theorem scK_late {k : ℕ} (h : 8 < k) (b : Fin 2) : scK c XS k b = scB c XS b := if_neg (Nat.not_le.2 h)

/-- Before step `k` of the cycle. -/
def t4Inv (k0_t1 : Fin k0_t1_loop.trips) (k : ℕ) (_ : Unit) : sProp 𝕄 :=
  iprop(cyc c XA (14 * k0_t1.val) k (hiN k) (min 5 (k - 1)) (stN k) (k - 8) ∗ scK c XS k (Ring.bk 2 k0_t1.val))

theorem sep_left {P P' S : sProp 𝕄} (h : P ⊢ P') : iprop(P ∗ S) ⊢ iprop(P' ∗ S) := by
  iintro ⟨H1, H2⟩
  isplitl [H1]; · iapply h; iexact H1
  iexact H2

theorem t4_step (k0_t1 : Fin k0_t1_loop.trips) (k : Fin k0_t4_loop.trips) (acc : Unit) :
    t4Inv c XA XS k0_t1 k.val acc ⊢ wp frame (wpE (defs₀ (F := F)) 𝒱₀ (c : Thread nD τ) none) Set.univ (t4B k0_t1 k acc) (t4Inv c XA XS k0_t1 (k.val + 1)) := by
  have h4 := t4_lt k
  rcases (by omega : (k.val = 0 ∨ k.val = 6 ∨ k.val = 7) ∨ (1 ≤ k.val ∧ k.val ≤ 5) ∨ k.val = 8 ∨ 8 < k.val) with h | h | h | h
  · have e : hiN (k.val + 1) = hiN k.val ∧ min 5 (k.val + 1 - 1) = min 5 (k.val - 1) ∧ stN k.val = 0 ∧ stN (k.val + 1) = 0 ∧ k.val < hiN k.val := by
      unfold hiN stN; split_ifs <;> omega
    obtain ⟨e1, e2, e3, e4, e5⟩ := e
    unfold t4Inv
    rw [scK_early c XS (show k.val ≤ 8 by omega)]
    refine (sep_left (cyc_eq c XA _ rfl rfl rfl e3 (show k.val - 8 = 0 by omega))).trans ((stepA c XA k0_t1 k acc (hiN k.val) (min 5 (k.val - 1)) _ h e5 (by omega)).trans (wp_mono _ _ _ (fun _ => ?_)))
    rw [scK_early c XS (show k.val + 1 ≤ 8 by omega)]
    exact sep_left (cyc_eq c XA _ rfl e1.symm e2.symm e4.symm (by omega))
  · have e : hiN k.val = k.val + 8 ∧ hiN (k.val + 1) = k.val + 9 ∧ stN k.val = 0 ∧ stN (k.val + 1) = 0 := by
      unfold hiN stN; split_ifs <;> omega
    obtain ⟨e1, e2, e3, e4⟩ := e
    unfold t4Inv
    rw [scK_early c XS (show k.val ≤ 8 by omega)]
    refine (sep_left (cyc_eq c XA _ rfl e1 (show min 5 (k.val - 1) = k.val - 1 by omega) e3 (show k.val - 8 = 0 by omega))).trans ((stepB c XA k0_t1 k acc _ h.1 h.2).trans (wp_mono _ _ _ (fun _ => ?_)))
    rw [scK_early c XS (show k.val + 1 ≤ 8 by omega)]
    exact sep_left (cyc_eq c XA _ rfl e2.symm (by omega) e4.symm (by omega))
  · have e : hiN k.val = 14 ∧ hiN (k.val + 1) = 14 ∧ stN k.val = 0 ∧ stN (k.val + 1) = 8 := by
      unfold hiN stN; split_ifs <;> omega
    obtain ⟨e1, e2, e3, e4⟩ := e
    unfold t4Inv
    rw [scK_early c XS (show k.val ≤ 8 by omega)]
    refine (sep_left (cyc_eq c XA _ rfl e1 (show min 5 (k.val - 1) = 5 by omega) e3 rfl)).trans ((stepD c XA XS k0_t1 k acc h).trans (wp_mono _ _ _ (fun _ => ?_)))
    rw [scK_late c XS (show 8 < k.val + 1 by omega)]
    exact sep_left (cyc_eq c XA _ rfl e2.symm (by omega) e4.symm (by omega))
  · have e : hiN k.val = 14 ∧ hiN (k.val + 1) = 14 ∧ stN k.val = k.val - 1 ∧ stN (k.val + 1) = k.val := by
      unfold hiN stN; split_ifs <;> omega
    obtain ⟨e1, e2, e3, e4⟩ := e
    unfold t4Inv
    rw [scK_late c XS h]
    refine (sep_left (cyc_eq c XA _ rfl e1 (show min 5 (k.val - 1) = 5 by omega) e3 rfl)).trans ((stepE c XA k0_t1 k acc _ h).trans (wp_mono _ _ _ (fun _ => ?_)))
    rw [scK_late c XS (show 8 < k.val + 1 by omega)]
    exact sep_left (cyc_eq c XA _ rfl e2.symm (by omega) e4.symm (by omega))

/-- The scales' blocks: at their contents, written, and yet to be written. -/
abbrev scb (n : ℕ) : sProp 𝕄 := sblkP c XS (Ring.bk 2 n)
abbrev scd (n : ℕ) : sProp 𝕄 := iprop(∃ x, tsblkP c (Ring.bk 2 n) x ∗ ⌜(tsblk (Ring.bk 2 n)).view.read (Elt F) x = (sblk (Ring.bk 2 n)).view.read (Elt F) XS⌝)
abbrev scn (n : ℕ) : sProp 𝕄 := iprop(∃ x, tsblkP (F := F) c (Ring.bk 2 n) x)

abbrev t1B (k0_t1 : Fin k0_t1_loop.trips) (acc : Unit) : Prog (TpuEff nD τ sig (Elt F) Λ₀ .tc) Unit :=
  k0_t1_body (F := F) wM (Memref.isWhole_whole _) scM (Memref.isWhole_whole _) tM (Memref.isWhole_whole _) tsM (Memref.isWhole_whole _) wbM (Memref.isWhole_whole _) tbM (Memref.isWhole_whole _) sbM (Memref.isWhole_whole _) cc0_scratch3 cc0_scratch4 cc0_scratch5 cc0_scratch6 k0_t1 acc

/-- A whole cycle. -/
theorem cycleRun (k0_t1 : Fin k0_t1_loop.trips) (acc : Unit) (S : sProp 𝕄) :
    iprop(ow c ∗ fam (hm c XA) (14 * k0_t1.val) 0 14 ∗ fam (idl c) (14 * k0_t1.val) 0 9 ∗ fam (fro c) (14 * k0_t1.val) 0 8 ∗ fam (nd c) (14 * k0_t1.val) 0 14
        ∗ scb c XS k0_t1.val ∗ scn c k0_t1.val ∗ (∃ f, sbufP c f) ∗ sinP c ∗ soutP c ∗ S)
      ⊢ wp frame (wpE (defs₀ (F := F)) 𝒱₀ (c : Thread nD τ) none) Set.univ (t1B k0_t1 acc)
        (fun _ => iprop(ow c ∗ fam (hm c XA) (14 * k0_t1.val) 0 14 ∗ fam (idl c) (14 * k0_t1.val) 5 (5 + 9) ∗ fam (fro c) (14 * k0_t1.val) 6 (6 + 8) ∗ fam (dn c XA) (14 * k0_t1.val) 0 14
        ∗ scb c XS k0_t1.val ∗ scd c XS k0_t1.val ∗ (∃ f, sbufP c f) ∗ sinP c ∗ soutP c ∗ S)) := by
  have h1 := t1_lt k0_t1
  iintro ⟨⟨%W, Hw⟩, Hh, Hi, Hr, Hn, Hsb, ⟨%xs, Hts⟩, ⟨%fs, Hsf⟩, Hsi, Hso, HS⟩
  ihave Hh' := (fam_head (hm c XA) (14 * k0_t1.val) (show 0 < 14 by omega)) $$ Hh
  icases Hh' with ⟨Hh0, Hh⟩
  ihave Hh1 := (show hm c XA (14 * k0_t1.val + 0) ⊢ hm c XA (14 * k0_t1.val) from .rfl) $$ Hh0
  ihave Hi' := (fam_head (idl c) (14 * k0_t1.val) (show 0 < 9 by omega)) $$ Hi
  icases Hi' with ⟨Hi0, Hi⟩
  ihave Hi1 := (show idl (F := F) c (14 * k0_t1.val + 0) ⊢ idl c (14 * k0_t1.val) from .rfl) $$ Hi0
  icases Hi1 with ⟨%f, Hs0, Hc0⟩
  dsimp only [t1B]
  sl_unfold [k0_t1_body]
  sl_open_parts
  sl_exec
  simp only [bind_assoc]
  sl_for (t2Inv c XA (14 * k0_t1.val)) $$ [Hw Hi Hh Hc0]
  · intro k acc; have e := t2_step (F := F) c XA k0_t1 k acc; dsimp only [t2B] at e; dsimp only [cycleRun.sl.prog.body_1]; with_reducible exact e
  · unfold t2Inv
    isplitl [Hw]; · iexists _; iexact Hw
    isplitl [Hi]; · iexact Hi
    isplitl [Hh]; · iexact Hh
    iapply (fam_cons (fl c XA) (14 * k0_t1.val) (show 0 < 1 by omega))
    isplitl [Hc0]
    · iexists f; iexact Hc0
    iapply (fam_nil (fl c XA) (14 * k0_t1.val) (Nat.le_refl _)); iempintro
  iintro %acc1 HL
  ihave HL' := (show t2Inv c XA (14 * k0_t1.val) (k0_t2_loop k0_t1).trips acc1 ⊢ iprop(ow c ∗ fam (hm c XA) (14 * k0_t1.val) 9 14 ∗ fam (fl c XA) (14 * k0_t1.val) 0 9) from by
    rw [t2_trips]; unfold t2Inv
    iintro ⟨H1, H2, H3, H4⟩
    isplitl [H1]; · iexact H1
    isplitl [H3]; · iexact H3
    iexact H4) $$ HL
  icases HL' with ⟨Hw, Hh, Hf⟩
  sl_for0 (t3_trips k0_t1)
  sl_for (t4Inv c XA XS k0_t1) $$ [Hw Hh Hf Hr Hn Hts Hsi Hso]
  · intro k acc; have e := t4_step (F := F) c XA XS k0_t1 k acc; dsimp only [t4B] at e; dsimp only [cycleRun.sl.prog.body_3]; with_reducible exact e
  · unfold t4Inv cyc
    rw [scK_early c XS (Nat.zero_le 8)]
    isplitr [Hts Hsi Hso]
    · isplitl [Hw]; · iexact Hw
      isplitl []; · iapply (fam_nil (hm c XA) (14 * k0_t1.val) (Nat.le_refl 0)); iempintro
      isplitl [Hh]; · iexact Hh
      isplitl [Hf]; · iexact Hf
      isplitl []; · iapply (fam_nil (idl c) (14 * k0_t1.val) (Nat.le_refl 0)); iempintro
      isplitl [Hr]; · iexact Hr
      isplitl []; · iapply (fam_nil (wr c XA) (14 * k0_t1.val) (Nat.le_refl 0)); iempintro
      isplitl []; · iapply (fam_nil (flO c XA) (14 * k0_t1.val) (Nat.le_refl 0)); iempintro
      isplitl []; · iapply (fam_nil (dn c XA) (14 * k0_t1.val) (Nat.le_refl 0)); iempintro
      iexact Hn
    unfold scA
    isplitl [Hsi]; · iexists fs; iexact Hsi
    isplitl [Hts]; · iexists xs; iexact Hts
    iexact Hso
  iintro %acc2 HL
  ihave HL' := (show t4Inv c XA XS k0_t1 k0_t4_loop.trips acc2 ⊢ iprop(ow c ∗ fam (hm c XA) (14 * k0_t1.val) 0 14 ∗ fam (idl c) (14 * k0_t1.val) 5 14
      ∗ fam (wr c XA) (14 * k0_t1.val) 13 14 ∗ fam (flO c XA) (14 * k0_t1.val) 6 13 ∗ fam (dn c XA) (14 * k0_t1.val) 0 6 ∗ fam (nd c) (14 * k0_t1.val) 13 14
      ∗ scB c XS (Ring.bk 2 k0_t1.val)) from by
    rw [t4_trips]; unfold t4Inv cyc
    rw [scK_late c XS (show 8 < 14 by omega)]
    iintro ⟨⟨H1, H2, -, -, H5, -, H7, H8, H9, H10⟩, HS⟩
    isplitl [H1]; · iexact H1
    isplitl [H2]; · iexact H2
    isplitl [H5]; · iexact H5
    isplitl [H7]; · iexact H7
    isplitl [H8]; · iexact H8
    isplitl [H9]; · iexact H9
    isplitl [H10]; · iexact H10
    iexact HS) $$ HL
  icases HL' with ⟨⟨%W', Hw⟩, Hh, Hi, Hwr, Hfo, Hd, Hn, HB⟩
  ihave HB' := (show scB c XS (Ring.bk 2 k0_t1.val) ⊢ iprop(sOut c XS (Ring.bk 2 k0_t1.val) ∗ sblkP c XS (Ring.bk 2 k0_t1.val) ∗ sinP c) from .rfl) $$ HB
  icases HB' with ⟨⟨%fo, %xo, Hq, %hq⟩, Hsb, Hsi⟩
  ihave Hwr' := (fam_head (wr c XA) (14 * k0_t1.val) (show 13 < 14 by omega)) $$ Hwr
  icases Hwr' with ⟨⟨%go, Hos, Hoc, %heo⟩, -⟩
  ihave Hn' := (fam_head (nd c) (14 * k0_t1.val) (show 13 < 14 by omega)) $$ Hn
  icases Hn' with ⟨⟨%xn, Hon⟩, -⟩
  sl_exec
  sl_for (t8Inv c XA (14 * k0_t1.val)) $$ [Hw Hfo Hd Hoc]
  · intro k acc; have e := t8_step (F := F) c XA k0_t1 k acc; dsimp only [t8B] at e; dsimp only [cycleRun.sl.prog.body_4]; with_reducible exact e
  · unfold t8Inv
    isplitl [Hw]; · iexists _; iexact Hw
    isplitl [Hfo Hoc]
    · iapply (fam_snoc (flO c XA) (14 * k0_t1.val) (show 6 ≤ 13 by omega))
      isplitl [Hoc]
      · iexists go; iexists xn
        isplitl [Hoc]; · iexact Hoc
        ipureintro; exact heo
      iexact Hfo
    isplitl []; · iapply (fam_nil (fro c) (14 * k0_t1.val) (Nat.le_refl 6)); iempintro
    iexact Hd
  iintro %acc3 HL
  ihave HL' := (show t8Inv c XA (14 * k0_t1.val) (k0_t8_loop k0_t1).trips acc3 ⊢ iprop(ow c ∗ fam (fro c) (14 * k0_t1.val) 6 14 ∗ fam (dn c XA) (14 * k0_t1.val) 0 14) from by
    rw [t8_trips]; unfold t8Inv
    iintro ⟨H1, -, H3, H4⟩
    isplitl [H1]; · iexact H1
    isplitl [H3]; · iexact H3
    iexact H4) $$ HL
  icases HL' with ⟨Hw, Hr, Hd⟩
  sl_for0 (t9_trips k0_t1)
  sl_exec
  sl_step
  isplitl [Hw]; · iexact Hw
  isplitl [Hh]; · iexact Hh
  isplitl [Hi]; · iexact Hi
  isplitl [Hr]; · iexact Hr
  isplitl [Hd]; · iexact Hd
  isplitl [Hsb]; · iexact Hsb
  isplitl [Hq_dst]
  · iapply (landedT c XS _ fo _ hq); iexact Hq_dst
  isplitl [Hq_src]; · iexists fo; iexact Hq_src
  isplitl [Hsi]; · iexact Hsi
  isplitl [Hq]; · iexact Hq
  iexact HS
end Steps

end Cert.Proof.KernelIdealP
-- ==== Proof.KernelIdeal.Whole.lean ====
module

public import proofs.«01_k».proof.Proof.KernelIdeal.Steps
public import proofs.«01_k».proof.Proof.Gen.KernelIdeal.Frame

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Mid
/-- The middle of a family set apart. -/
theorem fam_mid (X : ℕ → sProp 𝕄) (o n N : ℕ) (h : o + n ≤ N) :
    fam X 0 0 N = iprop(fam X 0 0 o ∗ fam X o 0 n ∗ fam X 0 (o + n) N) := by
  have e : fam X o 0 n = fam X 0 o (o + n) := by
    have := fam_shift X o 0 n; rwa [Nat.zero_add, Nat.add_zero] at this
  rw [fam_split X 0 (Nat.zero_le o) (show o ≤ N by omega), fam_split X 0 (show o ≤ o + n by omega) h, e]
/-- A family of period `p` over any stretch of `p` is the family from 0. -/
theorem fam_any (X : ℕ → sProp 𝕄) {p : ℕ} (hp : 0 < p) (hX : ∀ n, X (n + p) = X n) (o a : ℕ) : fam X o a (a + p) = fam X 0 0 p := by
  rw [fam_shift, fam_rot X hp hX]
end Mid

section Whole
variable (c : Dev nD) (XA : Buf (Elt F) (wM.view.loc (c : Thread nD τ))) (XS : Buf (Elt F) (scM.view.loc (c : Thread nD τ)))

/-- Before cycle `b`: everything at home, the first `b` cycles' blocks written. -/
def t1Inv (b : ℕ) (_ : Unit) : sProp 𝕄 :=
  iprop(ow c ∗ fam (hm c XA) 0 0 28 ∗ fam (idl c) 0 0 9 ∗ fam (fro c) 0 0 8 ∗ fam (dn c XA) 0 0 (14 * b) ∗ fam (nd c) 0 (14 * b) 28
    ∗ fam (scb c XS) 0 0 2 ∗ fam (scd c XS) 0 0 b ∗ fam (scn c) 0 b 2 ∗ (∃ f, sbufP c f) ∗ sinP c ∗ soutP c)

/-- One cycle. -/
theorem t1_step (k : Fin k0_t1_loop.trips) (acc : Unit) :
    t1Inv c XA XS k.val acc ⊢ wp frame (wpE (defs₀ (F := F)) 𝒱₀ (c : Thread nD τ) none) Set.univ (t1B k acc) (t1Inv c XA XS (k.val + 1)) := by
  have h1 := t1_lt k
  have eN : fam (nd (F := F) c) 0 (14 * k.val) 28 = iprop(fam (nd c) (14 * k.val) 0 14 ∗ fam (nd c) 0 (14 * (k.val + 1)) 28) := by
    have e := fam_shift (nd (F := F) c) (14 * k.val) 0 14
    rw [Nat.zero_add, Nat.add_zero] at e
    rw [fam_split (nd c) 0 (show 14 * k.val ≤ 14 * k.val + 14 by omega) (show 14 * k.val + 14 ≤ 28 by omega), e]; rfl
  have eD : fam (dn c XA) 0 0 (14 * (k.val + 1)) = iprop(fam (dn c XA) 0 0 (14 * k.val) ∗ fam (dn c XA) (14 * k.val) 0 14) := by
    have e := fam_shift (dn c XA) (14 * k.val) 0 14
    rw [Nat.zero_add, Nat.add_zero] at e
    rw [fam_split (dn c XA) 0 (Nat.zero_le (14 * k.val)) (show 14 * k.val ≤ 14 * (k.val + 1) by omega), e]; rfl
  have eB : fam (scb c XS) 0 0 2 = iprop(fam (scb c XS) 0 0 k.val ∗ fam (scb c XS) k.val 0 1 ∗ fam (scb c XS) 0 (k.val + 1) 2) := fam_mid _ _ _ _ (by omega)
  have eb : fam (scb c XS) k.val 0 1 ⊢ scb c XS k.val := by
    refine (fam_head (scb c XS) k.val (show 0 < 1 by omega)).trans ?_
    iintro ⟨H, -⟩; iexact H
  have eb' : scb c XS k.val ⊢ fam (scb c XS) k.val 0 1 := by
    refine BIBase.Entails.trans ?_ (fam_cons (scb c XS) k.val (show 0 < 1 by omega))
    iintro H
    isplitl [H]; · iexact H
    iapply (fam_nil (scb c XS) k.val (Nat.le_refl 1)); iempintro
  have en : fam (scn (F := F) c) 0 k.val 2 ⊢ iprop(scn c k.val ∗ fam (scn c) 0 (k.val + 1) 2) := by
    have e := fam_head (scn (F := F) c) 0 (show k.val < 2 by omega)
    rwa [Nat.zero_add] at e
  have ed : iprop(scd c XS k.val ∗ fam (scd c XS) 0 0 k.val) ⊢ fam (scd c XS) 0 0 (k.val + 1) := by
    have e := fam_snoc (scd c XS) 0 (Nat.zero_le k.val)
    rwa [Nat.zero_add] at e
  unfold t1Inv
  rw [fam_mid (hm c XA) (14 * k.val) 14 28 (by omega), eN, eD, eB,
    ← fam_any (idl (F := F) c) (show 0 < 9 by omega) (idl_per c) (14 * k.val) 0, Nat.zero_add,
    ← fam_any (fro (F := F) c) (show 0 < 8 by omega) (fro_per c) (14 * k.val) 0, Nat.zero_add]
  refine BIBase.Entails.trans ?_ ((cycleRun c XA XS k acc iprop(fam (hm c XA) 0 0 (14 * k.val) ∗ fam (hm c XA) 0 (14 * k.val + 14) 28 ∗ fam (dn c XA) 0 0 (14 * k.val)
    ∗ fam (nd c) 0 (14 * (k.val + 1)) 28 ∗ fam (scb c XS) 0 0 k.val ∗ fam (scb c XS) 0 (k.val + 1) 2 ∗ fam (scd c XS) 0 0 k.val ∗ fam (scn c) 0 (k.val + 1) 2)).trans (wp_mono _ _ _ (fun _ => ?_)))
  · iintro ⟨Hw, ⟨Hh1, Hh, Hh2⟩, Hi, Hr, Hd, ⟨Hn, Hn2⟩, ⟨Hb1, Hb, Hb2⟩, Hsd, Hsn, Hsf, Hsi, Hso⟩
    ihave Hb' := eb $$ Hb
    ihave Hsn' := en $$ Hsn
    icases Hsn' with ⟨Hsn1, Hsn2⟩
    isplitl [Hw]; · iexact Hw
    isplitl [Hh]; · iexact Hh
    isplitl [Hi]; · iexact Hi
    isplitl [Hr]; · iexact Hr
    isplitl [Hn]; · iexact Hn
    isplitl [Hb']; · iexact Hb'
    isplitl [Hsn1]; · iexact Hsn1
    isplitl [Hsf]; · iexact Hsf
    isplitl [Hsi]; · iexact Hsi
    isplitl [Hso]; · iexact Hso
    isplitl [Hh1]; · iexact Hh1
    isplitl [Hh2]; · iexact Hh2
    isplitl [Hd]; · iexact Hd
    isplitl [Hn2]; · iexact Hn2
    isplitl [Hb1]; · iexact Hb1
    isplitl [Hb2]; · iexact Hb2
    isplitl [Hsd]; · iexact Hsd
    iexact Hsn2
  · rw [fam_any (idl (F := F) c) (show 0 < 9 by omega) (idl_per c) (14 * k.val) 5,
      fam_any (fro (F := F) c) (show 0 < 8 by omega) (fro_per c) (14 * k.val) 6,
      ← fam_any (idl (F := F) c) (show 0 < 9 by omega) (idl_per c) (14 * k.val) 0, Nat.zero_add,
      ← fam_any (fro (F := F) c) (show 0 < 8 by omega) (fro_per c) (14 * k.val) 0, Nat.zero_add]
    iintro ⟨Hw, Hh, Hi, Hr, Hd2, Hb, Hsd1, Hsf, Hsi, Hso, Hh1, Hh2, Hd, Hn2, Hb1, Hb2, Hsd, Hsn2⟩
    ihave Hb' := eb' $$ Hb
    isplitl [Hw]; · iexact Hw
    isplitl [Hh Hh1 Hh2]
    · isplitl [Hh1]; · iexact Hh1
      isplitl [Hh]; · iexact Hh
      iexact Hh2
    isplitl [Hi]; · iexact Hi
    isplitl [Hr]; · iexact Hr
    isplitl [Hd Hd2]
    · isplitl [Hd]; · iexact Hd
      iexact Hd2
    isplitl [Hn2]; · iexact Hn2
    isplitl [Hb' Hb1 Hb2]
    · isplitl [Hb1]; · iexact Hb1
      isplitl [Hb']; · iexact Hb'
      iexact Hb2
    isplitl [Hsd Hsd1]
    · iapply ed
      isplitl [Hsd1]; · iexact Hsd1
      iexact Hsd
    isplitl [Hsn2]; · iexact Hsn2
    isplitl [Hsf]; · iexact Hsf
    isplitl [Hsi]; · iexact Hsi
    iexact Hso

/-- The whole kernel: from everything at home to everything written. -/
theorem kernelRun (t : Fin cfg0.N) :
    t1Inv c XA XS 0 () ⊢ wp frame (wpE (defs₀ (F := F)) 𝒱₀ (c : Thread nD τ) none) Set.univ (bodyAt0 t) (fun _ => t1Inv c XA XS 2 ()) := by
  unfold bodyAt0
  rw [cc0_repack_eq_skeleton]
  unfold cc0_repack_skel
  iintro H
  sl_for (t1Inv c XA XS) $$ [H]
  · intro k acc; have e := t1_step (F := F) c XA XS k acc; dsimp only [t1B] at e; dsimp only [kernelRun.sl.prog.body_1]; with_reducible exact e
  · iexact H
  iintro %acc1 HL
  sl_exec
  sl_step
  iapply (show t1Inv c XA XS k0_t1_loop.trips acc1 ⊢ t1Inv c XA XS 2 () from by rw [t1_trips])
  iexact HL
end Whole

end Cert.Proof.KernelIdealP
-- ==== Proof.KernelIdeal.Blocks.lean ====
/-
  BLOCKS. Each buffer held whole is held block by block (the arrays) or slot by slot (the rings); the blocks written join
  to the results' closed forms.
-/
module

public import proofs.«01_k».proof.Proof.KernelIdeal.Whole

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

section Index
theorem bk_self {N : ℕ} [NeZero N] (b : Fin N) : Ring.bk N b.val = b := Fin.ext (Ring.bk_val b.isLt)
theorem sl_self {N : ℕ} [NeZero N] (b : Fin N) : Ring.sl N b.val = b := Fin.ext (Nat.mod_eq_of_lt b.isLt)

abbrev iblkR (b : Fin 28) := (Rect.unit (s := S7x1536x8192) (iblkOff b) S1x1536x2048.size (iblkOff_inb b)).set
abbrev oblkR (b : Fin 28) := (Rect.unit (s := S7x4096x3072) (oblkOff b) S1x1024x3072.size (oblkOff_inb b)).set
abbrev islotR (s : Fin 9) := (Rect.unit (s := S9x1536x2048) (islotOff s) S1x1536x2048.size (islotOff_inb s)).set
abbrev oslotR (s : Fin 8) := (Rect.unit (s := S8x1024x3072) (oslotOff s) S1x1024x3072.size (oslotOff_inb s)).set
abbrev sblkR (b : Fin 2) := (Rect.unit (s := S168x2x8192) (sblkOff b) S84x2x8192.size (sblkOff_inb b)).set

theorem iblk_set (b : Fin 28) : (iblk b).view.set = iblkR b := (View.set_reshape _ _).trans (View.set_slice_whole _ _)
theorem oblk_set (b : Fin 28) : (oblk b).view.set = oblkR b := (View.set_reshape _ _).trans (View.set_slice_whole _ _)
theorem islot_set (s : Fin 9) : (islot s).view.set = islotR s := (View.set_reshape _ _).trans (View.set_slice_whole _ _)
theorem oslot_set (s : Fin 8) : (oslot s).view.set = oslotR s := (View.set_reshape _ _).trans (View.set_slice_whole _ _)
theorem sblk_set (b : Fin 2) : (sblk b).view.set = sblkR b := View.set_slice_whole _ _
theorem tsblk_set (b : Fin 2) : (tsblk b).view.set = sblkR b := View.set_slice_whole _ _

theorem iblk_disj (b b' : Fin 28) (h : b ≠ b') : Disjoint (iblkR b) (iblkR b') := by
  rw [Finset.disjoint_left]
  intro i hi hi'
  have hi := Rect.mem_set_unit.mp hi
  have hi' := Rect.mem_set_unit.mp hi'
  have a0 : b.val / 4 ≤ (i 0).val ∧ (i 0).val < b.val / 4 + 1 := hi 0
  have a2 : b.val % 4 * 2048 ≤ (i 2).val ∧ (i 2).val < b.val % 4 * 2048 + 2048 := hi 2
  have b0 : b'.val / 4 ≤ (i 0).val ∧ (i 0).val < b'.val / 4 + 1 := hi' 0
  have b2 : b'.val % 4 * 2048 ≤ (i 2).val ∧ (i 2).val < b'.val % 4 * 2048 + 2048 := hi' 2
  exact h (Fin.ext (by omega))
theorem iblk_cover : Finset.univ.biUnion iblkR = Finset.univ := by
  ext i
  simp only [Finset.mem_biUnion, Finset.mem_univ, true_and, iff_true]
  have h0 : (i 0).val < 7 := (i 0).isLt
  have h1 : (i 1).val < 1536 := (i 1).isLt
  have h2 : (i 2).val < 8192 := (i 2).isLt
  refine ⟨⟨(i 0).val * 4 + (i 2).val / 2048, by omega⟩, Rect.mem_set_unit.mpr fun a => ?_⟩
  fin_cases a
  · show ((i 0).val * 4 + (i 2).val / 2048) / 4 ≤ (i 0).val ∧ (i 0).val < ((i 0).val * 4 + (i 2).val / 2048) / 4 + 1; omega
  · show 0 ≤ (i 1).val ∧ (i 1).val < 0 + 1536; omega
  · show ((i 0).val * 4 + (i 2).val / 2048) % 4 * 2048 ≤ (i 2).val ∧ (i 2).val < ((i 0).val * 4 + (i 2).val / 2048) % 4 * 2048 + 2048; omega
theorem oblk_disj (b b' : Fin 28) (h : b ≠ b') : Disjoint (oblkR b) (oblkR b') := by
  rw [Finset.disjoint_left]
  intro i hi hi'
  have hi := Rect.mem_set_unit.mp hi
  have hi' := Rect.mem_set_unit.mp hi'
  have a0 : b.val / 4 ≤ (i 0).val ∧ (i 0).val < b.val / 4 + 1 := hi 0
  have a1 : b.val % 4 * 1024 ≤ (i 1).val ∧ (i 1).val < b.val % 4 * 1024 + 1024 := hi 1
  have b0 : b'.val / 4 ≤ (i 0).val ∧ (i 0).val < b'.val / 4 + 1 := hi' 0
  have b1 : b'.val % 4 * 1024 ≤ (i 1).val ∧ (i 1).val < b'.val % 4 * 1024 + 1024 := hi' 1
  exact h (Fin.ext (by omega))
theorem oblk_cover : Finset.univ.biUnion oblkR = Finset.univ := by
  ext i
  simp only [Finset.mem_biUnion, Finset.mem_univ, true_and, iff_true]
  have h0 : (i 0).val < 7 := (i 0).isLt
  have h1 : (i 1).val < 4096 := (i 1).isLt
  have h2 : (i 2).val < 3072 := (i 2).isLt
  refine ⟨⟨(i 0).val * 4 + (i 1).val / 1024, by omega⟩, Rect.mem_set_unit.mpr fun a => ?_⟩
  fin_cases a
  · show ((i 0).val * 4 + (i 1).val / 1024) / 4 ≤ (i 0).val ∧ (i 0).val < ((i 0).val * 4 + (i 1).val / 1024) / 4 + 1; omega
  · show ((i 0).val * 4 + (i 1).val / 1024) % 4 * 1024 ≤ (i 1).val ∧ (i 1).val < ((i 0).val * 4 + (i 1).val / 1024) % 4 * 1024 + 1024; omega
  · show 0 ≤ (i 2).val ∧ (i 2).val < 0 + 3072; omega
theorem islot_disj (b b' : Fin 9) (h : b ≠ b') : Disjoint (islotR b) (islotR b') := by
  rw [Finset.disjoint_left]
  intro i hi hi'
  have a0 : b.val ≤ (i 0).val ∧ (i 0).val < b.val + 1 := Rect.mem_set_unit.mp hi 0
  have b0 : b'.val ≤ (i 0).val ∧ (i 0).val < b'.val + 1 := Rect.mem_set_unit.mp hi' 0
  exact h (Fin.ext (by omega))
theorem islot_cover : Finset.univ.biUnion islotR = Finset.univ := by
  ext i
  simp only [Finset.mem_biUnion, Finset.mem_univ, true_and, iff_true]
  have h0 : (i 0).val < 9 := (i 0).isLt
  have h1 : (i 1).val < 1536 := (i 1).isLt
  have h2 : (i 2).val < 2048 := (i 2).isLt
  refine ⟨⟨(i 0).val / 1, by omega⟩, Rect.mem_set_unit.mpr fun a => ?_⟩
  fin_cases a
  · show (i 0).val / 1 ≤ (i 0).val ∧ (i 0).val < (i 0).val / 1 + 1; omega
  · show 0 ≤ (i 1).val ∧ (i 1).val < 0 + 1536; omega
  · show 0 ≤ (i 2).val ∧ (i 2).val < 0 + 2048; omega
theorem oslot_disj (b b' : Fin 8) (h : b ≠ b') : Disjoint (oslotR b) (oslotR b') := by
  rw [Finset.disjoint_left]
  intro i hi hi'
  have a0 : b.val ≤ (i 0).val ∧ (i 0).val < b.val + 1 := Rect.mem_set_unit.mp hi 0
  have b0 : b'.val ≤ (i 0).val ∧ (i 0).val < b'.val + 1 := Rect.mem_set_unit.mp hi' 0
  exact h (Fin.ext (by omega))
theorem oslot_cover : Finset.univ.biUnion oslotR = Finset.univ := by
  ext i
  simp only [Finset.mem_biUnion, Finset.mem_univ, true_and, iff_true]
  have h0 : (i 0).val < 8 := (i 0).isLt
  have h1 : (i 1).val < 1024 := (i 1).isLt
  have h2 : (i 2).val < 3072 := (i 2).isLt
  refine ⟨⟨(i 0).val / 1, by omega⟩, Rect.mem_set_unit.mpr fun a => ?_⟩
  fin_cases a
  · show (i 0).val / 1 ≤ (i 0).val ∧ (i 0).val < (i 0).val / 1 + 1; omega
  · show 0 ≤ (i 1).val ∧ (i 1).val < 0 + 1024; omega
  · show 0 ≤ (i 2).val ∧ (i 2).val < 0 + 3072; omega
theorem sblk_disj (b b' : Fin 2) (h : b ≠ b') : Disjoint (sblkR b) (sblkR b') := by
  rw [Finset.disjoint_left]
  intro i hi hi'
  have a0 : b.val * 84 ≤ (i 0).val ∧ (i 0).val < b.val * 84 + 84 := Rect.mem_set_unit.mp hi 0
  have b0 : b'.val * 84 ≤ (i 0).val ∧ (i 0).val < b'.val * 84 + 84 := Rect.mem_set_unit.mp hi' 0
  exact h (Fin.ext (by omega))
theorem sblk_cover : Finset.univ.biUnion sblkR = Finset.univ := by
  ext i
  simp only [Finset.mem_biUnion, Finset.mem_univ, true_and, iff_true]
  have h0 : (i 0).val < 168 := (i 0).isLt
  have h1 : (i 1).val < 2 := (i 1).isLt
  have h2 : (i 2).val < 8192 := (i 2).isLt
  refine ⟨⟨(i 0).val / 84, by omega⟩, Rect.mem_set_unit.mpr fun a => ?_⟩
  fin_cases a
  · show (i 0).val / 84 * 84 ≤ (i 0).val ∧ (i 0).val < (i 0).val / 84 * 84 + 84; omega
  · show 0 ≤ (i 1).val ∧ (i 1).val < 0 + 2; omega
  · show 0 ≤ (i 2).val ∧ (i 2).val < 0 + 8192; omega

/-- An input block's element as the array's. -/
theorem iblk_emb (b : Fin 28) (i : Fin 1536) (j : Fin 2048) :
    (iblk b).view.emb (ix2 i j) = (ix3 (⟨b.val / 4, by omega⟩ : Fin 7) i (⟨b.val % 4 * 2048 + j.val, by omega⟩ : Fin 8192) : S7x1536x8192.Idx) := by
  have hr : Shape.reshapeEquiv (squeezes_S1x1536x2048_S1536x2048).numel_eq (ix2 i j) = (ix3 (0 : Fin 1) i j : S1x1536x2048.Idx) :=
    Shape.reshapeEquiv_eq_of_rowMajor _ (by
      rw [Shape.rowMajor_val_three, Shape.rowMajor_val_two]
      show ((0 * 1536 + i.val) * 2048 + j.val) = i.val * 2048 + j.val
      omega)
  show (Rect.unit (s := S7x1536x8192) (iblkOff b) S1x1536x2048.size (iblkOff_inb b)).emb (Shape.reshapeEquiv _ (ix2 i j)) = _
  rw [hr]
  funext a
  apply Fin.ext
  fin_cases a
  · show b.val / 4 + 1 * 0 = b.val / 4; omega
  · show 0 + 1 * i.val = i.val; omega
  · show b.val % 4 * 2048 + 1 * j.val = b.val % 4 * 2048 + j.val; omega
/-- An output block's element as the array's. -/
theorem oblk_emb (b : Fin 28) (i : Fin 1024) (j : Fin 3072) :
    (oblk b).view.emb (ix2 i j) = (ix3 (⟨b.val / 4, by omega⟩ : Fin 7) (⟨b.val % 4 * 1024 + i.val, by omega⟩ : Fin 4096) j : S7x4096x3072.Idx) := by
  have hr : Shape.reshapeEquiv (squeezes_S1x1024x3072_S1024x3072).numel_eq (ix2 i j) = (ix3 (0 : Fin 1) i j : S1x1024x3072.Idx) :=
    Shape.reshapeEquiv_eq_of_rowMajor _ (by
      rw [Shape.rowMajor_val_three, Shape.rowMajor_val_two]
      show ((0 * 1024 + i.val) * 3072 + j.val) = i.val * 3072 + j.val
      omega)
  show (Rect.unit (s := S7x4096x3072) (oblkOff b) S1x1024x3072.size (oblkOff_inb b)).emb (Shape.reshapeEquiv _ (ix2 i j)) = _
  rw [hr]
  funext a
  apply Fin.ext
  fin_cases a
  · show b.val / 4 + 1 * 0 = b.val / 4; omega
  · show b.val % 4 * 1024 + 1 * i.val = b.val % 4 * 1024 + i.val; omega
  · show 0 + 1 * j.val = j.val; omega
end Index

section Final
variable (c : Dev nD)

/-- The repacked weights. -/
def outT (X : S7x1536x8192.Idx → BitVec 8) (i : S7x4096x3072.Idx) : BitVec 8 :=
  have h1 : (i 1).val < 4096 := (i 1).isLt
  have h2 : (i 2).val < 3072 := (i 2).isLt
  join (nib (i 2).val (X (ix3 (⟨(i 0).val, (i 0).isLt⟩ : Fin 7) (⟨(i 2).val / 2, by omega⟩ : Fin 1536) (⟨2 * (i 1).val, by omega⟩ : Fin 8192))))
    (nib (i 2).val (X (ix3 (⟨(i 0).val, (i 0).isLt⟩ : Fin 7) (⟨(i 2).val / 2, by omega⟩ : Fin 1536) (⟨2 * (i 1).val + 1, by omega⟩ : Fin 8192))))

theorem iix_eq (r q : ℕ) (hr : r < 1536) (hq : q < 2048) : iix r q hr hq = ix2 (⟨r, hr⟩ : Fin 1536) (⟨q, hq⟩ : Fin 2048) := by
  funext a; fin_cases a <;> rfl
theorem inB_at (XA : Buf (Elt F) (wM.view.loc (c : Thread nD τ))) (b : Fin 28) (r q : ℕ) (hr : r < 1536) (hq : q < 2048) :
    inB c XA b (iix r q hr hq) = (show S7x1536x8192.Idx → BitVec 8 from XA) (ix3 (⟨b.val / 4, by omega⟩ : Fin 7) (⟨r, hr⟩ : Fin 1536) (⟨b.val % 4 * 2048 + q, by omega⟩ : Fin 8192)) := by
  rw [iix_eq]
  show XA ((iblk b).view.emb (ix2 _ _)) = _
  rw [iblk_emb]

/-- Each output block is its part of the repacked weights. -/
theorem outT_read (XA : Buf (Elt F) (wM.view.loc (c : Thread nD τ))) (b : Fin 28) :
    (oblk b).view.read (Elt F) (outT XA) = outB c XA b := by
  funext i
  obtain ⟨y, j, rfl⟩ : ∃ (y : Fin 1024) (j : Fin 3072), i = ix2 y j := ⟨i 0, i 1, eq_ix2 i⟩
  show outT XA ((oblk b).view.emb (ix2 y j)) = tile (inB c XA b) (ix2 y j)
  rw [oblk_emb]
  have e : ∀ n : ℕ, ∀ h h', (⟨2 * (b.val % 4 * 1024 + y.val) + n, h⟩ : Fin 8192) = ⟨b.val % 4 * 2048 + (2 * y.val + n), h'⟩ := fun n h h' => Fin.ext (by
    show 2 * (b.val % 4 * 1024 + y.val) + n = b.val % 4 * 2048 + (2 * y.val + n); omega)
  refine congrArg₂ join (congrArg (nib j.val) ?_) (congrArg (nib j.val) ?_)
  · refine Eq.trans ?_ (inB_at c XA b (j.val / 2) (2 * y.val) (by omega) (by omega)).symm
    exact congrArg XA (congrArg (fun q : Fin 8192 => (ix3 (⟨b.val / 4, by omega⟩ : Fin 7) (⟨j.val / 2, by omega⟩ : Fin 1536) q : S7x1536x8192.Idx)) (e 0 _ _))
  · refine Eq.trans ?_ (inB_at c XA b (j.val / 2) (2 * y.val + 1) (by omega) (by omega)).symm
    exact congrArg XA (congrArg (fun q : Fin 8192 => (ix3 (⟨b.val / 4, by omega⟩ : Fin 7) (⟨j.val / 2, by omega⟩ : Fin 1536) q : S7x1536x8192.Idx)) (e 1 _ _))
end Final

section Own
theorem sep_bigSep {I : Type} (t : Finset I) (Φ Ψ : I → sProp 𝕄) : iprop(bigSep t Φ ∗ bigSep t Ψ) = bigSep t (fun i => iprop(Φ i ∗ Ψ i)) := (bigSep_sep t Φ Ψ).symm
theorem sep_emp' (P : sProp 𝕄) : iprop(P ∗ BI.emp) = P := equiv_iff.mp sep_emp
variable (c : Dev nD) (XA : Buf (Elt F) (wM.view.loc (c : Thread nD τ))) (XS : Buf (Elt F) (scM.view.loc (c : Thread nD τ)))

/-- The packed weights, whole and by blocks. -/
theorem hm_all : (wM.view.loc (c : Thread nD τ) ↦{fullShare} XA : sProp 𝕄) = fam (hm c XA) 0 0 28 := by
  rw [fam_fin, Ring.pointsTo_blocks iblkR iblk_disj iblk_cover]
  refine bigSep_congr fun b _ => ?_
  show _ = iblkP c XA (Ring.bk 28 b.val)
  rw [bk_self, iblkP, iblk_set]; rfl
/-- The scales, whole and by halves. -/
theorem scb_all : (scM.view.loc (c : Thread nD τ) ↦{fullShare} XS : sProp 𝕄) = fam (scb c XS) 0 0 2 := by
  rw [fam_fin, Ring.pointsTo_blocks sblkR sblk_disj sblk_cover]
  refine bigSep_congr fun b _ => ?_
  show _ = sblkP c XS (Ring.bk 2 b.val)
  rw [bk_self, sblkP, sblk_set]; rfl
/-- The result's array, by blocks. -/
theorem oblk_all (x : Buf (Elt F) (tM.view.loc (c : Thread nD τ))) :
    (tM.view.loc (c : Thread nD τ) ↦{fullShare} x : sProp 𝕄) = bigSep (Finset.univ : Finset (Fin 28)) fun b => oblkP c b x := by
  rw [Ring.pointsTo_blocks oblkR oblk_disj oblk_cover]
  refine bigSep_congr fun b _ => ?_
  show _ = (tM.view.loc (c : Thread nD τ) ↦[(oblk b).view.set]{fullShare} x : sProp 𝕄)
  rw [oblk_set]
/-- The scales' result's array, by halves. -/
theorem tsblk_all (x : Buf (Elt F) (tsM.view.loc (c : Thread nD τ))) :
    (tsM.view.loc (c : Thread nD τ) ↦{fullShare} x : sProp 𝕄) = bigSep (Finset.univ : Finset (Fin 2)) fun b => tsblkP c b x := by
  rw [Ring.pointsTo_blocks sblkR sblk_disj sblk_cover]
  refine bigSep_congr fun b _ => ?_
  show _ = (tsM.view.loc (c : Thread nD τ) ↦[(tsblk b).view.set]{fullShare} x : sProp 𝕄)
  rw [tsblk_set]
theorem nd_all (x : Buf (Elt F) (tM.view.loc (c : Thread nD τ))) : (tM.view.loc (c : Thread nD τ) ↦{fullShare} x : sProp 𝕄) ⊢ fam (nd c) 0 0 28 := by
  rw [fam_fin, oblk_all]
  refine bigSep_mono fun b _ => ?_
  show _ ⊢ iprop(∃ x, oblkP (F := F) c (Ring.bk 28 b.val) x)
  rw [bk_self]
  iintro H; iexists x; iexact H
theorem scn_all (x : Buf (Elt F) (tsM.view.loc (c : Thread nD τ))) : (tsM.view.loc (c : Thread nD τ) ↦{fullShare} x : sProp 𝕄) ⊢ fam (scn c) 0 0 2 := by
  rw [fam_fin, tsblk_all]
  refine bigSep_mono fun b _ => ?_
  show _ ⊢ iprop(∃ x, tsblkP (F := F) c (Ring.bk 2 b.val) x)
  rw [bk_self]
  iintro H; iexists x; iexact H

/-- A memref held at contents that read as `g` does is held at `g`. -/
theorem pt_of_read {sp : Space} {s : Shape} {e : EltTy} (M : Memref sig .tc sp s e) (x g : Buf (Elt F) (M.view.loc (c : Thread nD τ)))
    (h : M.view.read (Elt F) x = M.view.read (Elt F) g) :
    (M.view.loc (c : Thread nD τ) ↦[M.view.set]{fullShare} x : sProp 𝕄) ⊢ M.view.loc (c : Thread nD τ) ↦[M.view.set]{fullShare} g := by
  refine BIBase.Entails.trans (pointsTo_rep_entails (c : Thread nD τ) M x fullShare) ?_
  rw [h, ← pointsTo_rep]

/-- All blocks written: the array is the repacked weights. -/
theorem dn_all : fam (dn c XA) 0 0 28 ⊢ (tM.view.loc (c : Thread nD τ) ↦{fullShare} (outT XA : Buf (Elt F) (tM.view.loc (c : Thread nD τ))) : sProp 𝕄) := by
  rw [fam_fin, oblk_all]
  refine bigSep_mono fun b _ => ?_
  show iprop(∃ x, oblkP (F := F) c (Ring.bk 28 b.val) x ∗ ⌜(oblk (Ring.bk 28 b.val)).view.read (Elt F) x = outB c XA (Ring.bk 28 b.val)⌝) ⊢ _
  rw [bk_self]
  iintro ⟨%x, H, %hx⟩
  iapply (pt_of_read c (oblk b) x (outT XA) (hx.trans (outT_read c XA b).symm))
  iexact H
/-- Both halves written: the scales' result is the scales. -/
theorem scd_all : fam (scd c XS) 0 0 2 ⊢ (tsM.view.loc (c : Thread nD τ) ↦{fullShare} (show S168x2x8192.Idx → Elt F .f32 from XS) : sProp 𝕄) := by
  rw [fam_fin, tsblk_all]
  refine bigSep_mono fun b _ => ?_
  show iprop(∃ x, tsblkP (F := F) c (Ring.bk 2 b.val) x ∗ ⌜(tsblk (Ring.bk 2 b.val)).view.read (Elt F) x = (sblk (Ring.bk 2 b.val)).view.read (Elt F) XS⌝) ⊢ _
  rw [bk_self]
  iintro ⟨%x, H, %hx⟩
  iapply (pt_of_read c (tsblk b) x (show S168x2x8192.Idx → Elt F .f32 from XS) (hx.trans rfl))
  iexact H

/-- The input ring, whole and by slots. -/
theorem idl_in : iprop((∃ f : Buf (Elt F) (wbM.view.loc (c : Thread nD τ)), wbM.view.loc (c : Thread nD τ) ↦{fullShare} f) ∗ bigSep (Finset.univ : Finset (Fin 9)) (fun s => ismP (F := F) c s)) ⊢ fam (idl (F := F) c) 0 0 9 := by
  iintro ⟨⟨%f, H⟩, Hs⟩
  iapply (show iprop((wbM.view.loc (c : Thread nD τ) ↦{fullShare} f) ∗ bigSep (Finset.univ : Finset (Fin 9)) (fun s => ismP (F := F) c s)) ⊢ fam (idl (F := F) c) 0 0 9 from by
    rw [fam_fin, Ring.pointsTo_blocks islotR islot_disj islot_cover, sep_bigSep]
    refine bigSep_mono fun s _ => ?_
    show _ ⊢ iprop(∃ f, islotP (F := F) c (Ring.sl 9 s.val) f ∗ ismP c (Ring.sl 9 s.val))
    rw [sl_self, ← islot_set]
    iintro ⟨H1, H2⟩; iexists f
    isplitl [H1]; · iexact H1
    iexact H2)
  isplitl [H]; · iexact H
  iexact Hs
theorem idl_out : fam (idl (F := F) c) 0 0 9 ⊢ iprop((∃ f : Buf (Elt F) (wbM.view.loc (c : Thread nD τ)), wbM.view.loc (c : Thread nD τ) ↦{fullShare} f) ∗ bigSep (Finset.univ : Finset (Fin 9)) (fun s => ismP (F := F) c s)) := by
  have h : fam (idl (F := F) c) 0 0 9 ⊢ iprop(bigSep (Finset.univ : Finset (Fin 9)) (fun s => iprop(∃ f : Buf (Elt F) (wbM.view.loc (c : Thread nD τ)), wbM.view.loc (c : Thread nD τ) ↦[islotR s]{fullShare} f))
      ∗ bigSep (Finset.univ : Finset (Fin 9)) (fun s => ismP (F := F) c s)) := by
    rw [fam_fin, sep_bigSep]
    refine bigSep_mono fun s _ => ?_
    show iprop(∃ f, islotP (F := F) c (Ring.sl 9 s.val) f ∗ ismP c (Ring.sl 9 s.val)) ⊢ _
    rw [sl_self, ← islot_set]
    iintro ⟨%f, H1, H2⟩
    isplitl [H1]; · iexists f; iexact H1
    iexact H2
  refine h.trans (sep_left ?_)
  exact Ring.pointsTo_blocks_join_exists (ℓ := wbM.view.loc (c : Thread nD τ)) islotR islot_disj islot_cover (show S9x1536x2048.Idx → BitVec 8 from fun _ => 0#8)
/-- The output ring, whole and by slots. -/
theorem fro_in : iprop((∃ f : Buf (Elt F) (tbM.view.loc (c : Thread nD τ)), tbM.view.loc (c : Thread nD τ) ↦{fullShare} f) ∗ bigSep (Finset.univ : Finset (Fin 8)) (fun s => osmP (F := F) c s)) ⊢ fam (fro (F := F) c) 0 0 8 := by
  iintro ⟨⟨%f, H⟩, Hs⟩
  iapply (show iprop((tbM.view.loc (c : Thread nD τ) ↦{fullShare} f) ∗ bigSep (Finset.univ : Finset (Fin 8)) (fun s => osmP (F := F) c s)) ⊢ fam (fro (F := F) c) 0 0 8 from by
    rw [fam_fin, Ring.pointsTo_blocks oslotR oslot_disj oslot_cover, sep_bigSep]
    refine bigSep_mono fun s _ => ?_
    show _ ⊢ iprop(∃ f, oslotP (F := F) c (Ring.sl 8 s.val) f ∗ osmP c (Ring.sl 8 s.val))
    rw [sl_self, ← oslot_set]
    iintro ⟨H1, H2⟩; iexists f
    isplitl [H1]; · iexact H1
    iexact H2)
  isplitl [H]; · iexact H
  iexact Hs
theorem fro_out : fam (fro (F := F) c) 0 0 8 ⊢ iprop((∃ f : Buf (Elt F) (tbM.view.loc (c : Thread nD τ)), tbM.view.loc (c : Thread nD τ) ↦{fullShare} f) ∗ bigSep (Finset.univ : Finset (Fin 8)) (fun s => osmP (F := F) c s)) := by
  have h : fam (fro (F := F) c) 0 0 8 ⊢ iprop(bigSep (Finset.univ : Finset (Fin 8)) (fun s => iprop(∃ f : Buf (Elt F) (tbM.view.loc (c : Thread nD τ)), tbM.view.loc (c : Thread nD τ) ↦[oslotR s]{fullShare} f))
      ∗ bigSep (Finset.univ : Finset (Fin 8)) (fun s => osmP (F := F) c s)) := by
    rw [fam_fin, sep_bigSep]
    refine bigSep_mono fun s _ => ?_
    show iprop(∃ f, oslotP (F := F) c (Ring.sl 8 s.val) f ∗ osmP c (Ring.sl 8 s.val)) ⊢ _
    rw [sl_self, ← oslot_set]
    iintro ⟨%f, H1, H2⟩
    isplitl [H1]; · iexists f; iexact H1
    iexact H2
  refine h.trans (sep_left ?_)
  exact Ring.pointsTo_blocks_join_exists (ℓ := tbM.view.loc (c : Thread nD τ)) oslotR oslot_disj oslot_cover (show S8x1024x3072.Idx → BitVec 8 from fun _ => 0#8)

/-- The semaphores of the kernel: nine of the input ring, eight of the output ring, two of the scales. -/
def osem : Fin 19 → SemLoc sig := fun k => SemLoc.dma k
theorem ism_osem : ∀ s : Fin 9, SemLoc.dma (ism s).sem = osem (Ring.bk 19 s.val) := by decide
theorem osm_osem : ∀ s : Fin 8, SemLoc.dma (osm s).sem = osem (Ring.bk 19 (9 + s.val)) := by decide
theorem sems_all : (Pipeline.ownSems0 osem c : sProp 𝕄)
    = iprop(bigSep (Finset.univ : Finset (Fin 9)) (fun s => ismP (F := F) c s) ∗ bigSep (Finset.univ : Finset (Fin 8)) (fun s => osmP (F := F) c s) ∗ sinP c ∗ soutP c) := by
  have e0 : (Pipeline.ownSems0 osem c : sProp 𝕄) = fam (fun n => semVal ((c : Thread nD τ), osem (Ring.bk 19 n)) 0) 0 0 19 := by
    rw [fam_fin]; unfold Pipeline.ownSems0
    refine bigSep_congr fun k _ => ?_
    rw [bk_self]
  have e1 : fam (fun n => (semVal ((c : Thread nD τ), osem (Ring.bk 19 n)) 0 : sProp 𝕄)) 0 0 9 = bigSep (Finset.univ : Finset (Fin 9)) (fun s => ismP (F := F) c s) := by
    rw [fam_fin]
    refine bigSep_congr fun s _ => ?_
    dsimp only [ismP]; rw [ism_osem]
  have e2 : fam (fun n => (semVal ((c : Thread nD τ), osem (Ring.bk 19 n)) 0 : sProp 𝕄)) 0 9 17 = bigSep (Finset.univ : Finset (Fin 8)) (fun s => osmP (F := F) c s) := by
    have e := fam_shift (fun n => (semVal ((c : Thread nD τ), osem (Ring.bk 19 n)) 0 : sProp 𝕄)) 9 0 8
    rw [show 0 + 8 = 8 from rfl, show 9 + 0 = 9 from rfl, show 9 + 8 = 17 from rfl] at e
    rw [← e]
    have e' : fam (fun n => (semVal ((c : Thread nD τ), osem (Ring.bk 19 n)) 0 : sProp 𝕄)) 9 0 8 = fam (fun n => (semVal ((c : Thread nD τ), osem (Ring.bk 19 (9 + n))) 0 : sProp 𝕄)) 0 0 8 := by
      unfold fam; refine bigSep_congr fun j _ => ?_
      dsimp only; rw [Nat.zero_add]
    rw [e', fam_fin]
    refine bigSep_congr fun s _ => ?_
    dsimp only [osmP]; rw [osm_osem]
  have e3 : fam (fun n => (semVal ((c : Thread nD τ), osem (Ring.bk 19 n)) 0 : sProp 𝕄)) 0 17 19 = iprop(sinP (F := F) c ∗ soutP c) := by
    unfold fam
    rw [ico_head _ (show 17 < 19 by omega), ico_last _ (show 18 ≤ 18 by omega), ico_empty, sep_emp']
    rfl
  rw [e0, fam_split _ 0 (show 0 ≤ 9 by omega) (show 9 ≤ 19 by omega), fam_split _ 0 (show 9 ≤ 17 by omega) (show 17 ≤ 19 by omega), e1, e2, e3]

theorem sbuf_eq (f : Buf (Elt F) (sbM.view.loc (c : Thread nD τ))) : sbufP (F := F) c f = (sbM.view.loc (c : Thread nD τ) ↦{fullShare} f : sProp 𝕄) := by
  unfold sbufP; rw [View.set_whole]
end Own

end Cert.Proof.KernelIdealP
-- ==== Proof.KernelIdeal.Run.lean ====
/-
  THE RUN. The kernel's proof data, its body obligation, and the run of the whole program: the repacked weights and the
  scales in their places, the arguments unchanged, every semaphore at zero again.
-/
module

public import proofs.«01_k».proof.Proof.KernelIdeal.Blocks

@[expose] public section

noncomputable section

namespace Cert.Proof.KernelIdealP

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-- The buffers the kernel reads, -/
def HH : Finset (Ref sig .tc) := {main_arg0, main_v1}
/-- and those it writes. -/
def RR : Finset (Ref sig .tc) := {main_v2_0, main_v2_1}
theorem HH_sub : HH ⊆ Pipeline.restRefs sig (cfg0.spec) := by decide
theorem RR_sub : RR ⊆ Pipeline.restRefs sig (cfg0.spec) \ HH := by decide
theorem ownSemFacts : Pipeline.OwnSemFacts cfg0.spec osem := by decide

/-- What the kernel leaves in each buffer. -/
def GG (c : Dev nD) (b : Ref sig .tc) : Buf (Elt F) ((c : Thread nD τ).loc b) :=
  if h : b = main_v2_0 then h ▸ (outT (V m c main_arg0) : Buf (Elt F) ((c : Thread nD τ).loc main_v2_0))
  else if h : b = main_v2_1 then h ▸ (show S168x2x8192.Idx → Elt F .f32 from V m c main_v1 : Buf (Elt F) ((c : Thread nD τ).loc main_v2_1))
  else V m c b
theorem GG_t (c : Dev nD) : GG m c main_v2_0 = (outT (V m c main_arg0) : Buf (Elt F) ((c : Thread nD τ).loc main_v2_0)) := by
  unfold GG; rw [dif_pos rfl]
theorem GG_s (c : Dev nD) : GG m c main_v2_1 = (show S168x2x8192.Idx → Elt F .f32 from V m c main_v1) := by
  unfold GG; rw [dif_neg (by decide), dif_pos rfl]

/-- The proof data: nothing windowed; before the body everything whole at its contents, after it the results written. -/
def dats (_ : Fin 1) (c : Dev nD) : Dat τ (Elt F) Unit ℕ (Pipeline.UD sig nD τ) ℕ cfg0 c where
  A w := w.elim0
  after w := w.elim0
  Φ t := if t.val = 0 then Pipeline.ΦDRV osem (cfg0.spec) HH RR (V m) (V m) c else Pipeline.ΦDRV osem (cfg0.spec) HH RR (V m) (GG m) c
  q _ := fullShare
  owed _ := 0

theorem bigSep_HH (Φ : Ref sig .tc → sProp 𝕄) : bigSep HH Φ = iprop(Φ main_arg0 ∗ Φ main_v1) := by
  unfold HH; rw [bigSep_insert (by decide), bigSep_singleton]; rfl
theorem bigSep_RR (Φ : Ref sig .tc → sProp 𝕄) : bigSep RR Φ = iprop(Φ main_v2_0 ∗ Φ main_v2_1) := by
  unfold RR; rw [bigSep_insert (by decide), bigSep_singleton]; rfl

/-- From the launch's pieces to everything at home. -/
theorem enter (c : Dev nD) :
    iprop(ow (F := F) c ∗ Pipeline.ΦDRV osem (cfg0.spec) HH RR (V m) (V m) c) ⊢ t1Inv c (V m c main_arg0) (V m c main_v1) 0 () := by
  unfold Pipeline.ΦDRV
  rw [bigSep_HH, bigSep_RR, sems_all, scopedRest0_eq]
  iintro ⟨Hw, ⟨Hwb, Htb, ⟨%fs, Hsb⟩⟩, ⟨Hi, Ho, Hsi, Hso⟩, ⟨Ha, Hs⟩, Ht, Hts⟩
  unfold t1Inv
  isplitl [Hw]; · iexact Hw
  isplitl [Ha]
  · iapply (show (wM.view.loc (c : Thread nD τ) ↦{fullShare} (V m c main_arg0) : sProp 𝕄) ⊢ fam (hm c (V m c main_arg0)) 0 0 28 from by rw [hm_all]); iexact Ha
  isplitl [Hwb Hi]
  · iapply (idl_in (F := F) c); isplitl [Hwb]; · iexact Hwb
    iexact Hi
  isplitl [Htb Ho]
  · iapply (fro_in (F := F) c); isplitl [Htb]; · iexact Htb
    iexact Ho
  isplitl []; · iapply (fam_nil (dn c (V m c main_arg0)) 0 (Nat.le_refl 0)); iempintro
  isplitl [Ht]; · iapply (nd_all (F := F) c (V m c main_v2_0)); iexact Ht
  isplitl [Hs]
  · iapply (show (scM.view.loc (c : Thread nD τ) ↦{fullShare} (V m c main_v1) : sProp 𝕄) ⊢ fam (scb c (V m c main_v1)) 0 0 2 from by rw [scb_all]); iexact Hs
  isplitl []; · iapply (fam_nil (scd c (V m c main_v1)) 0 (Nat.le_refl 0)); iempintro
  isplitl [Hts]; · iapply (scn_all (F := F) c (V m c main_v2_1)); iexact Hts
  isplitl [Hsb]
  · iexists fs
    iapply (show (sbM.view.loc (c : Thread nD τ) ↦{fullShare} fs : sProp 𝕄) ⊢ sbufP c fs from by rw [sbuf_eq]); iexact Hsb
  isplitl [Hsi]; · iexact Hsi
  iexact Hso

/-- From everything written to the launch's pieces. -/
theorem leave (c : Dev nD) :
    t1Inv c (V m c main_arg0) (V m c main_v1) 2 () ⊢ iprop(ow (F := F) c ∗ Pipeline.ΦDRV osem (cfg0.spec) HH RR (V m) (GG m) c) := by
  unfold Pipeline.ΦDRV
  rw [bigSep_HH, bigSep_RR, sems_all, scopedRest0_eq, GG_t, GG_s]
  unfold t1Inv
  iintro ⟨Hw, Ha, Hi, Ho, Hd, -, Hs, Hsd, -, ⟨%fs, Hsb⟩, Hsi, Hso⟩
  ihave Hi' := (idl_out (F := F) c) $$ Hi
  icases Hi' with ⟨Hwb, Hi⟩
  ihave Ho' := (fro_out (F := F) c) $$ Ho
  icases Ho' with ⟨Htb, Ho⟩
  isplitl [Hw]; · iexact Hw
  isplitl [Hwb Htb Hsb]
  · isplitl [Hwb]; · iexact Hwb
    isplitl [Htb]; · iexact Htb
    iexists fs
    iapply (show sbufP c fs ⊢ (sbM.view.loc (c : Thread nD τ) ↦{fullShare} fs : sProp 𝕄) from by rw [sbuf_eq]); iexact Hsb
  isplitl [Hi Ho Hsi Hso]
  · isplitl [Hi]; · iexact Hi
    isplitl [Ho]; · iexact Ho
    isplitl [Hsi]; · iexact Hsi
    iexact Hso
  isplitl [Ha Hs]
  · isplitl [Ha]
    · iapply (show fam (hm c (V m c main_arg0)) 0 0 28 ⊢ (wM.view.loc (c : Thread nD τ) ↦{fullShare} (V m c main_arg0) : sProp 𝕄) from by rw [hm_all]); iexact Ha
    iapply (show fam (scb c (V m c main_v1)) 0 0 2 ⊢ (scM.view.loc (c : Thread nD τ) ↦{fullShare} (V m c main_v1) : sProp 𝕄) from by rw [scb_all]); iexact Hs
  isplitl [Hd]; · iapply (dn_all c (V m c main_arg0)); iexact Hd
  iapply (scd_all c (V m c main_v1)); iexact Hsd

theorem Phi_first (c : Dev nD) : (dats m 0 c).Φ 0 = Pipeline.ΦDRV osem (cfg0.spec) HH RR (V m) (V m) c := by
  dsimp only [dats]; exact if_pos rfl
theorem Phi_last (c : Dev nD) : (dats m 0 c).Φ (Fin.last cfg0.N) = Pipeline.ΦDRV osem (cfg0.spec) HH RR (V m) (GG m) c := by
  dsimp only [dats]; exact if_neg (show (cfg0.N : ℕ) ≠ 0 from by rw [show (cfg0.N : ℕ) = 1 from N_0]; decide)

def bodyPre (c : Dev nD) (t : Fin cfg0.N) : sProp 𝕄 := iprop((dats m 0 c).Φ t.castSucc ∗ (dats m 0 c).owesAt () t.castSucc ∗ BI.emp)
def bodyPost (c : Dev nD) (t : Fin cfg0.N) : sProp 𝕄 := iprop((dats m 0 c).Φ t.succ ∗ (dats m 0 c).owesAt () t.succ ∗ BI.emp)

theorem sound_body (c : Dev nD) (t : Fin cfg0.N) :
    bodyPre m c t ⊢ wp frame (wpE (defs₀ (F := F)) 𝒱₀ (c : Thread nD τ) none) Set.univ (bodyAt0 t) (fun _ => bodyPost m c t) := by
  have ht : t.val = 0 := by
    have h : t.val < 1 := Nat.lt_of_lt_of_eq t.isLt N_0
    omega
  have e0 : (dats m 0 c).Φ t.castSucc = Pipeline.ΦDRV osem (cfg0.spec) HH RR (V m) (V m) c := by
    dsimp only [dats]; exact if_pos ht
  have e1 : (dats m 0 c).Φ t.succ = Pipeline.ΦDRV osem (cfg0.spec) HH RR (V m) (GG m) c := by
    dsimp only [dats]; exact if_neg (Nat.succ_ne_zero _)
  refine BIBase.Entails.trans ?_ ((kernelRun c (V m c main_arg0) (V m c main_v1) t).trans (wp_mono _ _ _ (fun _ => (leave m c).trans ?_)))
  · refine BIBase.Entails.trans ?_ (enter m c)
    unfold bodyPre Dat.owesAt Pipeline.owesWithin
    rw [show (dats m 0 c).owed t.castSucc = 0 from rfl, e0]
    iintro ⟨HΦ, ⟨%W, -, HW⟩, -⟩
    isplitl [HW]; · iexists W; iexact HW
    iexact HΦ
  · unfold bodyPost Dat.owesAt Pipeline.owesWithin
    rw [show (dats m 0 c).owed t.succ = 0 from rfl, e1]
    iintro ⟨⟨%W, HW⟩, HΦ⟩
    isplitl [HΦ]; · iexact HΦ
    isplitl [HW]
    · iexists W; isplitr; · ipureintro; exact fun _ _ => Or.inl trivial
      iexact HW
    iempintro

theorem defs₀_row (t : Fin cfg0.N) :
    defs₀ (F := F) .tc cfg0.body (cfg0.bodyArgs t (cfg0.slots t)) = bodyAt0 t := by
  unfold defs₀; rw [Defs.onTc_tc]

theorem bigSep_W0 (Φ : Fin cfg0.W → sProp 𝕄) : bigSep (Finset.univ : Finset (Fin cfg0.W)) Φ = BI.emp := by
  rw [show (Finset.univ : Finset (Fin cfg0.W)) = ∅ from rfl, BI.bigSep_empty]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Each buffer's contents when the program ends. -/
def Wend (c : Dev nD) (b : Ref sig .tc) : Buf (Elt F) ((c : Thread nD τ).loc b) :=
  StableHlo.after [hostOps1].flatten (Pipeline.withArrays (cfg0.spec) c (Pipeline.withR (V0 m c) RR c (GG m c)) fun w => (dats m 0 c).arrAt w cfg0.N) (Proc.devRef .tc b)

set_option backward.isDefEq.respectTransparency.types false in
theorem run_main : θ_run defs (onTc (τ := τ) (main (F := F))) (s₀ m ρ) (fun r => (∀ c : Dev nD, ∀ b ∈ Pipeline.restRefs sig (cfg0.spec),
      r.2.mem ((c.tc : Thread nD τ).loc b) = Wend m c b) ∧ r.2.sem = fun _ => 0) :=
  Pipeline.θ_run_frame_dmaR_aroundV cfgs (dats m) (0 : Fin 1) launch0 osem defs₀ Variants.none ownSemFacts HH RR HH_sub RR_sub m ρ main
    (fun c => (body_obligation m c).loose) (fun c => (dats m 0 c).share_full fun _ => rfl) (fun _ _ => rfl)
    (V0 m) [hostOps1] sfx_sub sfx_fresh sfx_keeps (GG m) (hmainD m) (fun c w => w.elim0)
    (fun c => Entails.of_eq (Phi_first m c).symm) (fun c => Entails.of_eq (Phi_last m c))
    (Q' := _) (hQ' := fun r h => ⟨fun c b hb => (h.1 c).2 b hb, h.2⟩)

theorem Wend_keep (c : Dev nD) (b : Ref sig .tc) (h3 : b ≠ main_v3) (h4 : b ≠ main_v4) :
    Wend m c b = Pipeline.withR (V0 m c) RR c (GG m c) (Proc.devRef .tc b) := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h3, StableHlo.devRef_ne_of_ne h4⟩)),
    Pipeline.withArrays_of_ne _ c _ _ b (fun w => w.elim0)]
theorem Wend_arg0 (c : Dev nD) : Wend m c main_arg0 = m ((c : Thread nD τ).loc main_arg0) := by
  rw [Wend_keep m c _ (by decide) (by decide), Pipeline.withR_of_not_mem _ _ _ _ _ (by decide)]
  exact V_main_arg0 m c
theorem Wend_arg1 (c : Dev nD) : Wend m c main_arg1 = m ((c : Thread nD τ).loc main_arg1) := by
  rw [Wend_keep m c _ (by decide) (by decide), Pipeline.withR_of_not_mem _ _ _ _ _ (by decide)]
  exact V_main_arg1 m c
/-- The repacked weights, at the end. -/
theorem Wend_t (c : Dev nD) : Wend m c main_v2_0 = outT (m ((c : Thread nD τ).loc main_arg0)) := by
  rw [Wend_keep m c _ (by decide) (by decide), Pipeline.withR_of_mem _ _ _ _ _ (by decide), GG_t, V_main_arg0]
theorem V_v1 (c : Dev nD) : V m c main_v1 = shapeCast S168x2x8192 (transpose S7x24x2x8192 [0, 1, 3, 2] (show S7x24x8192x2.Idx → Elt F .f32 from m ((c : Thread nD τ).loc main_arg1)) transposes_S7x24x8192x2_S7x24x2x8192_0_1_3_2) shapeCasts_S7x24x2x8192_S168x2x8192 := by
  unfold V V0
  simp only [List.flatten_cons, List.flatten_nil, List.append_nil]
  after_results
  rfl
/-- The scales, each tile's pair last. -/
def outS {α : Type} (X : S7x24x8192x2.Idx → α) (i : S7x8192x24x2.Idx) : α :=
  X (ix4 (⟨(i 0).val, (i 0).isLt⟩ : Fin 7) (⟨(i 2).val, (i 2).isLt⟩ : Fin 24) (⟨(i 1).val, (i 1).isLt⟩ : Fin 8192) (⟨(i 3).val, (i 3).isLt⟩ : Fin 2))
theorem transposes_outS {α : Type} (X : S7x24x8192x2.Idx → α) (h1 h2) :
    transpose S7x8192x24x2 [0, 3, 1, 2] (transpose S7x24x2x8192 [0, 1, 3, 2] X h1) h2 = outS X := by
  funext i
  rw [transpose_apply (s := S7x24x2x8192) (t := S7x8192x24x2) [0, 3, 1, 2] _ h2 i
    (ix4 (⟨(i 0).val, (i 0).isLt⟩ : Fin 7) (⟨(i 2).val, (i 2).isLt⟩ : Fin 24) (⟨(i 3).val, (i 3).isLt⟩ : Fin 2) (⟨(i 1).val, (i 1).isLt⟩ : Fin 8192)) (fun b => by fin_cases b <;> rfl)]
  exact transpose_apply (s := S7x24x8192x2) (t := S7x24x2x8192) [0, 1, 3, 2] X h1 _ _ (fun b => by fin_cases b <;> rfl)
/-- The scales' result, at the end. -/
theorem Wend_s (c : Dev nD) : Wend m c main_v4 = outS (show S7x24x8192x2.Idx → Elt F .f32 from m ((c : Thread nD τ).loc main_arg1)) := by
  have e : Pipeline.withArrays cfg0.spec c (Pipeline.withR (V0 m c) RR c (GG m c)) (fun w => (dats m 0 c).arrAt w cfg0.N) (Proc.devRef .tc main_v2_1)
      = (show S168x2x8192.Idx → Elt F .f32 from V m c main_v1) := by
    rw [Pipeline.withArrays_of_ne _ c _ _ main_v2_1 (fun w => w.elim0), Pipeline.withR_of_mem _ _ _ _ _ (by decide), GG_s]
  unfold Wend
  simp only [List.flatten_cons, List.flatten_nil, List.append_nil]
  after_results
  rw [e, V_v1]
  refine Eq.trans ?_ (transposes_outS _ transposes_S7x24x8192x2_S7x24x2x8192_0_1_3_2 transposes_S7x24x2x8192_S7x8192x24x2_0_3_1_2)
  refine congrArg (fun x => transpose S7x8192x24x2 [0, 3, 1, 2] x transposes_S7x24x2x8192_S7x8192x24x2_0_3_1_2) ?_
  exact shapeCast_shapeCast _ shapeCasts_S7x24x2x8192_S168x2x8192 shapeCasts_S168x2x8192_S7x24x2x8192

theorem mem_rest (b : Ref sig .tc) (h : b ∈ ({main_arg0, main_arg1, main_v2_0, main_v4} : Finset (Ref sig .tc))) : b ∈ Pipeline.restRefs sig (cfg0.spec) := by
  revert b; decide

/-- The whole program: what its results hold, its arguments unchanged, its semaphores at zero. -/
theorem run_value : θ_run defs (onTc (τ := τ) (main (F := F))) ⟨m, fun _ => 0, ρ⟩ (fun r => (∀ c : Dev nD,
      r.2.mem ((c.tc : Thread nD τ).loc main_v2_0) = outT (m ((c.tc : Thread nD τ).loc main_arg0))
      ∧ r.2.mem ((c.tc : Thread nD τ).loc main_v4) = outS (show S7x24x8192x2.Idx → Elt F .f32 from m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c main_v2_0 (mem_rest _ (by decide))).trans (Wend_t m c), (h.1 c main_v4 (mem_rest _ (by decide))).trans (Wend_s m c),
      (h.1 c main_arg0 (mem_rest _ (by decide))).trans (Wend_arg0 m c), (h.1 c main_arg1 (mem_rest _ (by decide))).trans (Wend_arg1 m c)⟩, h.2⟩) (run_main m ρ)

end Cert.Proof.KernelIdealP
-- ==== Proof.Reference.lean ====
/-
  REFERENCE. The reference's run, its results read at an index: byte `(e, i, j)` of the codes joins two four-bit codes of
  row `j / 2`, columns `2 i` and `2 i + 1`; the scales are the argument with its middle axes exchanged.
-/
module

public import proofs.«01_k».proof.Proof.KernelIdeal.Run
public import proofs.«01_k».proof.Proof.Gen.ReferenceIdeal.Run
public import Idealize.ShloMosaic.Lib.Quiescent

@[expose] public section

noncomputable section

namespace Cert.Proof.ReferenceP

open Cert.ReferenceIdeal Cert.ReferenceIdeal.Gen
open Idealize.ShloMosaic Idealize.ShloMosaic.TcCoe Idealize.ShloMosaic.Pipeline
open Idealize.SL.Sem
open Cert.Proof.KernelIdealP (join nib outT outS)

variable {F : FTy → Type} [FloatOps F]

section Bytes
/-- Two low codes joined in a word and narrowed to a byte. -/
theorem narrow_low (x y : BitVec 8) :
    BitVec.setWidth 8 ((BitVec.setWidth 32 x &&& 15#32) ||| ((BitVec.setWidth 32 y &&& 15#32) <<< 4)) = join (x &&& 15#8) (y &&& 15#8) := by
  unfold join
  apply BitVec.eq_of_getElem_eq
  intro i hi
  interval_cases i <;> simp
/-- Two high codes joined in a word and narrowed to a byte. -/
theorem narrow_high (x y : BitVec 8) :
    BitVec.setWidth 8 ((BitVec.setWidth 32 x >>> 4) ||| ((BitVec.setWidth 32 y >>> 4) <<< 4)) = join (x >>> 4) (y >>> 4) := by
  unfold join
  apply BitVec.eq_of_getElem_eq
  intro i hi
  interval_cases i <;> simp
end Bytes

section Value
/-- Neighbouring columns joined, the odd one shifted up by a code. -/
def pairT (Y : IVec S7x1536x8192 32) : IVec S7x1536x4096x1 32 :=
  broadcastInDim S7x1536x4096x1 ![0, 1, 2] bcast_S7x1536x4096_S7x1536x4096x1_0_1_2 (ori
    (shapeCast _ (extractStridedSlice S7x1536x4096x1 ![0, 0, 0, 0] (shapeCast _ Y shapeCasts_S7x1536x8192_S7x1536x4096x2) slices_S7x1536x4096x2_S7x1536x4096x1_0_0_0_0) shapeCasts_S7x1536x4096x1_S7x1536x4096)
    (Host.shli (shapeCast _ (extractStridedSlice S7x1536x4096x1 ![0, 0, 0, 1] (shapeCast _ Y shapeCasts_S7x1536x8192_S7x1536x4096x2) slices_S7x1536x4096x2_S7x1536x4096x1_0_0_0_1) shapeCasts_S7x1536x4096x1_S7x1536x4096)
      (broadcastInDim S7x1536x4096 ![] bcast_S_S7x1536x4096 (constantI S_ 32 4#32))))

theorem pairT_apply (Y : IVec S7x1536x8192 32) (e : Fin 7) (k : Fin 1536) (n : Fin 4096) :
    pairT Y (ix4 e k n 0) = Y (ix3 e k ⟨2 * n.val, by omega⟩) ||| (Y (ix3 e k ⟨2 * n.val + 1, by omega⟩) <<< 4) := by
  unfold pairT
  rw [broadcastInDim_apply _ _ _ (ix4 e k n 0) (ix3 e k n) (fun a => by fin_cases a <;> rfl)]
  have h5 : ∀ p : Fin 2, shapeCast S7x1536x4096x2 Y shapeCasts_S7x1536x8192_S7x1536x4096x2 (ix4 e k n p) = Y (ix3 e k ⟨2 * n.val + p.val, by omega⟩) :=
    fun p => shapeCast_apply _ _ _ _ (by
      rw [Shape.rowMajor_val_three, Shape.rowMajor_val_four]
      show (e.val * 1536 + k.val) * 8192 + (2 * n.val + p.val) = ((e.val * 1536 + k.val) * 4096 + n.val) * 2 + p.val
      omega)
  have hc : ∀ Z : IVec S7x1536x4096x1 32, shapeCast S7x1536x4096 Z shapeCasts_S7x1536x4096x1_S7x1536x4096 (ix3 e k n) = Z (ix4 e k n 0) :=
    fun Z => shapeCast_apply _ _ _ _ (by
      rw [Shape.rowMajor_val_three, Shape.rowMajor_val_four]
      show ((e.val * 1536 + k.val) * 4096 + n.val) * 1 + 0 = (e.val * 1536 + k.val) * 4096 + n.val
      omega)
  show IntOp.ori (shapeCast S7x1536x4096 _ _ (ix3 e k n)) (IntOp.shli .host (shapeCast S7x1536x4096 _ _ (ix3 e k n)) 4#32) = _
  rw [hc, hc, extractStridedSlice_apply _ _ _ (ix4 e k n 0) (ix4 e k n 0) (fun a => by fin_cases a <;> simp [ix4]),
    extractStridedSlice_apply _ _ _ (ix4 e k n 0) (ix4 e k n 1) (fun a => by fin_cases a <;> simp [ix4]), h5, h5]
  rfl

/-- The two planes stacked, read at an even and at an odd place. -/
theorem cat_left (A B : IVec S7x1536x4096x1 32) (e : Fin 7) (k : Fin 1536) (n : Fin 4096) (p : Fin 2) (hp : p.val = 0) :
    concatenate S7x1536x4096x2 3 [⟨S7x1536x4096x1, A⟩, ⟨S7x1536x4096x1, B⟩] concatenates_S7x1536x4096x1_S7x1536x4096x1_S7x1536x4096x2_d3 (ix4 e k n p)
      = A (ix4 e k n 0) := by
  obtain rfl : p = 0 := Fin.ext hp
  have hi : ∀ b : Fin S7x1536x4096x1.rank, ((ix4 e k n 0 : S7x1536x4096x1.Idx) b).val
      = ((ix4 e k n 0 : S7x1536x4096x2.Idx) (b.cast (rfl : S7x1536x4096x1.rank = S7x1536x4096x2.rank))).val := fun b =>
    match b with
    | ⟨0, _⟩ => rfl
    | ⟨1, _⟩ => rfl
    | ⟨2, _⟩ => rfl
    | ⟨3, _⟩ => rfl
  exact concatenate_pair_apply_left 3 A B _ (ix4 e k n (0 : Fin 2) : S7x1536x4096x2.Idx) rfl (ix4 e k n 0) hi
theorem cat_right (A B : IVec S7x1536x4096x1 32) (e : Fin 7) (k : Fin 1536) (n : Fin 4096) (p : Fin 2) (hp : p.val = 1) :
    concatenate S7x1536x4096x2 3 [⟨S7x1536x4096x1, A⟩, ⟨S7x1536x4096x1, B⟩] concatenates_S7x1536x4096x1_S7x1536x4096x1_S7x1536x4096x2_d3 (ix4 e k n p)
      = B (ix4 e k n 0) := by
  obtain rfl : p = 1 := Fin.ext hp
  have hi : ∀ b : Fin S7x1536x4096x1.rank, b.cast (rfl : S7x1536x4096x1.rank = S7x1536x4096x2.rank) ≠ 3 →
      ((ix4 e k n 0 : S7x1536x4096x1.Idx) b).val = ((ix4 e k n 1 : S7x1536x4096x2.Idx) (b.cast rfl)).val := fun b hb =>
    match b, hb with
    | ⟨0, _⟩, _ => rfl
    | ⟨1, _⟩, _ => rfl
    | ⟨2, _⟩, _ => rfl
    | ⟨3, _⟩, hb => absurd rfl hb
  exact concatenate_pair_apply_right 3 A B _ (ix4 e k n (1 : Fin 2) : S7x1536x4096x2.Idx) rfl rfl (ix4 e k n 0) hi rfl

/-- The codes the reference computes from the packed bytes. -/
def refT (X : IVec S7x1536x8192 8) : IVec S7x4096x3072 8 :=
  trunci 8 (shapeCast _ (transpose S7x4096x1536x2 [0, 2, 1, 3] (concatenate S7x1536x4096x2 3
    [⟨S7x1536x4096x1, pairT (andi (extui 32 X natLt_8_32) (broadcastInDim S7x1536x8192 ![] bcast_S_S7x1536x8192 (constantI S_ 32 15#32)))⟩,
     ⟨S7x1536x4096x1, pairT (Host.shrui (extui 32 X natLt_8_32) (broadcastInDim S7x1536x8192 ![] bcast_S_S7x1536x8192 (constantI S_ 32 4#32)))⟩]
    concatenates_S7x1536x4096x1_S7x1536x4096x1_S7x1536x4096x2_d3) transposes_S7x1536x4096x2_S7x4096x1536x2_0_2_1_3) shapeCasts_S7x4096x1536x2_S7x4096x3072) natLt_8_32

theorem refT_eq (X : IVec S7x1536x8192 8) : refT X = outT X := by
  funext i
  obtain ⟨e, n, j, rfl⟩ : ∃ (e : Fin 7) (n : Fin 4096) (j : Fin 3072), i = ix3 e n j := ⟨i 0, i 1, i 2, eq_ix3 i⟩
  have ho : outT X (ix3 e n j) = join (nib j.val (X (ix3 e ⟨j.val / 2, by omega⟩ ⟨2 * n.val, by omega⟩)))
    (nib j.val (X (ix3 e ⟨j.val / 2, by omega⟩ ⟨2 * n.val + 1, by omega⟩))) := rfl
  rw [ho]
  unfold refT trunci
  dsimp only
  rw [shapeCast_apply _ _ (ix3 e n j) (ix4 e n (⟨j.val / 2, by omega⟩ : Fin 1536) (⟨j.val % 2, by omega⟩ : Fin 2)) (by
      rw [Shape.rowMajor_val_three, Shape.rowMajor_val_four]
      show ((e.val * 4096 + n.val) * 1536 + j.val / 2) * 2 + j.val % 2 = (e.val * 4096 + n.val) * 3072 + j.val
      omega),
    transpose_apply _ _ _ _ (ix4 e (⟨j.val / 2, by omega⟩ : Fin 1536) n (⟨j.val % 2, by omega⟩ : Fin 2)) (fun b => by fin_cases b <;> rfl)]
  rcases Nat.mod_two_eq_zero_or_one j.val with hj | hj
  · rw [cat_left _ _ _ _ _ _ hj, pairT_apply]
    simp only [nib, hj, if_true]
    exact narrow_low _ _
  · rw [cat_right _ _ _ _ _ _ hj, pairT_apply]
    simp only [nib, hj, Nat.one_ne_zero, if_false]
    exact narrow_high _ _

theorem refS_eq {α : Type} (X : S7x24x8192x2.Idx → α) :
    transpose S7x8192x24x2 [0, 2, 1, 3] X transposes_S7x24x8192x2_S7x8192x24x2_0_2_1_3 = outS X := by
  funext i
  exact transpose_apply _ _ _ _ _ (fun b => by fin_cases b <;> rfl)
end Value

section Run
variable (m : (ℓ : Loc nD τ sig) → Buf (Elt F) ℓ) (ρ : Dev nD → PrngReg)

/-- The reference's run: both results in closed form, the arguments unchanged, no counter left standing. -/
theorem run_value : θ_run defs (onTc (τ := τ) (main (F := F))) ⟨m, fun _ => 0, ρ⟩ fun r =>
    (∀ c : Dev nD, r.2.mem ((c.tc : Thread nD τ).loc main_v26) = outT (m ((c.tc : Thread nD τ).loc main_arg0))
      ∧ r.2.mem ((c.tc : Thread nD τ).loc main_v27) = outS (show S7x24x8192x2.Idx → Elt F .f32 from m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => ⟨(h c).1.trans (refT_eq _), (h c).2.1.trans (refS_eq _), (h c).2.2⟩,
    sem_eq_zero_of_no_sems rfl r.2⟩) (Cert.ReferenceIdeal.Value.run m ρ)
end Run

end Cert.Proof.ReferenceP

end
-- ==== Proof.lean ====
module

public import proofs.«01_k».proof.Defs
public import proofs.«01_k».proof.Proof.Kernel.Run
public import proofs.«01_k».proof.Proof.KernelIdeal.Run
public import proofs.«01_k».proof.Proof.Reference

@[expose] public section

namespace Cert.Proof

open Idealize.ShloMosaic Idealize.ShloMosaic.TcCoe Idealize.SL.Sem

theorem claim : Cert.Claim := by
  refine ⟨Cert.Kernel.Gen.facts, Cert.KernelIdeal.Gen.facts, Cert.ReferenceIdeal.Gen.facts, ?_, ?_, ?_, trivial, ?_⟩
  · intro m g _
    exact (θ_run _ _ _).mono (fun r h => ⟨fun c => (h.1 c).2.2, h.2⟩) (KernelP.run_value m g)
  · intro m g _
    exact (θ_run _ _ _).mono (fun r h => ⟨fun c => (h.1 c).2.2, h.2⟩) (KernelIdealP.run_value m g)
  · intro m g _
    exact (θ_run _ _ _).mono (fun r h => ⟨fun c => (h.1 c).2.2, h.2⟩) (ReferenceP.run_value m g)
  · intro m g m' g' _ hm
    refine ⟨_, _, (θ_run _ _ _).mono (fun r h => h.1) (KernelIdealP.run_value m g), ?_⟩
    refine (θ_run _ _ _).mono (fun r h c => ⟨(h.1 c).1.trans ?_, (h.1 c).2.1.trans ?_, (h.1 c).2.2⟩) (ReferenceP.run_value m' g')
    · rw [(hm c).1]
    · rw [(hm c).2]

end Cert.Proof

end
